-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)) (v5 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_v1_4) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_v80) = v4 c
          ∧ r.2.mem ((c.tc : Thread Cert.ReferenceIdeal.nD Cert.ReferenceIdeal.τ).loc Cert.ReferenceIdeal.main_v55) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)) (v1 : (c : Dev Cert.Kernel2Ideal.nD) → Buf (Elt Ideal) ((c.tc : Thread Cert.Kernel2Ideal.nD Cert.Kernel2Ideal.τ).loc Cert.Kernel2Ideal.main_v4)) (v2 : (c : Dev Cert.Kernel2Ideal.nD) → Buf (Elt Ideal) ((c.tc : Thread Cert.Kernel2Ideal.nD Cert.Kernel2Ideal.τ).loc Cert.Kernel2Ideal.main_v9_0)) (v3 : (c : Dev Cert.Kernel2Ideal.nD) → Buf (Elt Ideal) ((c.tc : Thread Cert.Kernel2Ideal.nD Cert.Kernel2Ideal.τ).loc Cert.Kernel2Ideal.main_v9_1)) (v4 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_v4) = v1 c
          ∧ r.2.mem ((c.tc : Thread Cert.Kernel2Ideal.nD Cert.Kernel2Ideal.τ).loc Cert.Kernel2Ideal.main_v9_0) = v2 c
          ∧ r.2.mem ((c.tc : Thread Cert.Kernel2Ideal.nD Cert.Kernel2Ideal.τ).loc Cert.Kernel2Ideal.main_v9_1) = v3 c
          ∧ r.2.mem ((c.tc : Thread Cert.Kernel2Ideal.nD Cert.Kernel2Ideal.τ).loc Cert.Kernel2Ideal.main_v11) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_v22) = v3 c
          ∧ r.2.mem ((c.tc : Thread Cert.Reference2Ideal.nD Cert.Reference2Ideal.τ).loc Cert.Reference2Ideal.main_v17) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)) →
    ∃ (v0 : (c : Dev Cert.Kernel5Ideal.nD) → Buf (Elt Ideal) ((c.tc : Thread Cert.Kernel5Ideal.nD Cert.Kernel5Ideal.τ).loc Cert.Kernel5Ideal.main_v0)) (v1 : (c : Dev Cert.Kernel5Ideal.nD) → Buf (Elt Ideal) ((c.tc : Thread Cert.Kernel5Ideal.nD Cert.Kernel5Ideal.τ).loc Cert.Kernel5Ideal.main_v1)) (v2 : (c : Dev Cert.Kernel5Ideal.nD) → Buf (Elt Ideal) ((c.tc : Thread Cert.Kernel5Ideal.nD Cert.Kernel5Ideal.τ).loc Cert.Kernel5Ideal.main_v2)) (v3 : (c : Dev Cert.Kernel5Ideal.nD) → Buf (Elt Ideal) ((c.tc : Thread Cert.Kernel5Ideal.nD Cert.Kernel5Ideal.τ).loc Cert.Kernel5Ideal.main_v3)) (v4 : (c : Dev Cert.Kernel5Ideal.nD) → Buf (Elt Ideal) ((c.tc : Thread Cert.Kernel5Ideal.nD Cert.Kernel5Ideal.τ).loc Cert.Kernel5Ideal.main_v4)) (v5 : (c : Dev Cert.Kernel5Ideal.nD) → Buf (Elt Ideal) ((c.tc : Thread Cert.Kernel5Ideal.nD Cert.Kernel5Ideal.τ).loc Cert.Kernel5Ideal.main_v5)) (v6 : (c : Dev Cert.Kernel5Ideal.nD) → Buf (Elt Ideal) ((c.tc : Thread Cert.Kernel5Ideal.nD Cert.Kernel5Ideal.τ).loc Cert.Kernel5Ideal.main_v6)) (v7 : (c : Dev Cert.Kernel5Ideal.nD) → Buf (Elt Ideal) ((c.tc : Thread Cert.Kernel5Ideal.nD Cert.Kernel5Ideal.τ).loc Cert.Kernel5Ideal.main_v7)) (v8 : (c : Dev Cert.Kernel5Ideal.nD) → Buf (Elt Ideal) ((c.tc : Thread Cert.Kernel5Ideal.nD Cert.Kernel5Ideal.τ).loc Cert.Kernel5Ideal.main_v15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_v1) = v1 c
          ∧ r.2.mem ((c.tc : Thread Cert.Kernel5Ideal.nD Cert.Kernel5Ideal.τ).loc Cert.Kernel5Ideal.main_v2) = v2 c
          ∧ r.2.mem ((c.tc : Thread Cert.Kernel5Ideal.nD Cert.Kernel5Ideal.τ).loc Cert.Kernel5Ideal.main_v3) = v3 c
          ∧ r.2.mem ((c.tc : Thread Cert.Kernel5Ideal.nD Cert.Kernel5Ideal.τ).loc Cert.Kernel5Ideal.main_v4) = v4 c
          ∧ r.2.mem ((c.tc : Thread Cert.Kernel5Ideal.nD Cert.Kernel5Ideal.τ).loc Cert.Kernel5Ideal.main_v5) = v5 c
          ∧ r.2.mem ((c.tc : Thread Cert.Kernel5Ideal.nD Cert.Kernel5Ideal.τ).loc Cert.Kernel5Ideal.main_v6) = v6 c
          ∧ r.2.mem ((c.tc : Thread Cert.Kernel5Ideal.nD Cert.Kernel5Ideal.τ).loc Cert.Kernel5Ideal.main_v7) = v7 c
          ∧ r.2.mem ((c.tc : Thread Cert.Kernel5Ideal.nD Cert.Kernel5Ideal.τ).loc Cert.Kernel5Ideal.main_v15) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_v17) = v2 c
          ∧ r.2.mem ((c.tc : Thread Cert.Reference5Ideal.nD Cert.Reference5Ideal.τ).loc Cert.Reference5Ideal.main_v18) = v3 c
          ∧ r.2.mem ((c.tc : Thread Cert.Reference5Ideal.nD Cert.Reference5Ideal.τ).loc Cert.Reference5Ideal.main_v19) = v4 c
          ∧ r.2.mem ((c.tc : Thread Cert.Reference5Ideal.nD Cert.Reference5Ideal.τ).loc Cert.Reference5Ideal.main_v20) = v5 c
          ∧ r.2.mem ((c.tc : Thread Cert.Reference5Ideal.nD Cert.Reference5Ideal.τ).loc Cert.Reference5Ideal.main_v21) = v6 c
          ∧ r.2.mem ((c.tc : Thread Cert.Reference5Ideal.nD Cert.Reference5Ideal.τ).loc Cert.Reference5Ideal.main_v22) = v7 c
          ∧ r.2.mem ((c.tc : Thread Cert.Reference5Ideal.nD Cert.Reference5Ideal.τ).loc Cert.Reference5Ideal.main_v37) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v0)) (v1 : (c : Dev Cert.Kernel10Ideal.nD) → Buf (Elt Ideal) ((c.tc : Thread Cert.Kernel10Ideal.nD Cert.Kernel10Ideal.τ).loc Cert.Kernel10Ideal.main_v1)) (v2 : (c : Dev Cert.Kernel10Ideal.nD) → Buf (Elt Ideal) ((c.tc : Thread Cert.Kernel10Ideal.nD Cert.Kernel10Ideal.τ).loc Cert.Kernel10Ideal.main_v2)) (v3 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_v1) = v1 c
          ∧ r.2.mem ((c.tc : Thread Cert.Kernel10Ideal.nD Cert.Kernel10Ideal.τ).loc Cert.Kernel10Ideal.main_v2) = v2 c
          ∧ r.2.mem ((c.tc : Thread Cert.Kernel10Ideal.nD Cert.Kernel10Ideal.τ).loc Cert.Kernel10Ideal.main_v3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v7) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v8) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)) →
    ∃ (v0 : (c : Dev Cert.Kernel13Ideal.nD) → Buf (Elt Ideal) ((c.tc : Thread Cert.Kernel13Ideal.nD Cert.Kernel13Ideal.τ).loc Cert.Kernel13Ideal.main_v0)) (v1 : (c : Dev Cert.Kernel13Ideal.nD) → Buf (Elt Ideal) ((c.tc : Thread Cert.Kernel13Ideal.nD Cert.Kernel13Ideal.τ).loc Cert.Kernel13Ideal.main_v1)) (v2 : (c : Dev Cert.Kernel13Ideal.nD) → Buf (Elt Ideal) ((c.tc : Thread Cert.Kernel13Ideal.nD Cert.Kernel13Ideal.τ).loc Cert.Kernel13Ideal.main_v3)) (v3 : (c : Dev Cert.Kernel13Ideal.nD) → Buf (Elt Ideal) ((c.tc : Thread Cert.Kernel13Ideal.nD Cert.Kernel13Ideal.τ).loc Cert.Kernel13Ideal.main_v4)) (v4 : (c : Dev Cert.Kernel13Ideal.nD) → Buf (Elt Ideal) ((c.tc : Thread Cert.Kernel13Ideal.nD Cert.Kernel13Ideal.τ).loc Cert.Kernel13Ideal.main_v5)) (v5 : (c : Dev Cert.Kernel13Ideal.nD) → Buf (Elt Ideal) ((c.tc : Thread Cert.Kernel13Ideal.nD Cert.Kernel13Ideal.τ).loc Cert.Kernel13Ideal.main_v7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_v1) = v1 c
          ∧ r.2.mem ((c.tc : Thread Cert.Kernel13Ideal.nD Cert.Kernel13Ideal.τ).loc Cert.Kernel13Ideal.main_v3) = v2 c
          ∧ r.2.mem ((c.tc : Thread Cert.Kernel13Ideal.nD Cert.Kernel13Ideal.τ).loc Cert.Kernel13Ideal.main_v4) = v3 c
          ∧ r.2.mem ((c.tc : Thread Cert.Kernel13Ideal.nD Cert.Kernel13Ideal.τ).loc Cert.Kernel13Ideal.main_v5) = v4 c
          ∧ r.2.mem ((c.tc : Thread Cert.Kernel13Ideal.nD Cert.Kernel13Ideal.τ).loc Cert.Kernel13Ideal.main_v7) = v5 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_v10) = v1 c
          ∧ r.2.mem ((c.tc : Thread Cert.Reference13Ideal.nD Cert.Reference13Ideal.τ).loc Cert.Reference13Ideal.main_v15) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_v12) = v4 c
          ∧ r.2.mem ((c.tc : Thread Cert.Reference13Ideal.nD Cert.Reference13Ideal.τ).loc Cert.Reference13Ideal.main_v18) = v5 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0)) (v1 : (c : Dev Cert.Kernel21Ideal.nD) → Buf (Elt Ideal) ((c.tc : Thread Cert.Kernel21Ideal.nD Cert.Kernel21Ideal.τ).loc Cert.Kernel21Ideal.main_v1)) (v2 : (c : Dev Cert.Kernel21Ideal.nD) → Buf (Elt Ideal) ((c.tc : Thread Cert.Kernel21Ideal.nD Cert.Kernel21Ideal.τ).loc Cert.Kernel21Ideal.main_v3)) (v3 : (c : Dev Cert.Kernel21Ideal.nD) → Buf (Elt Ideal) ((c.tc : Thread Cert.Kernel21Ideal.nD Cert.Kernel21Ideal.τ).loc Cert.Kernel21Ideal.main_v4)) (v4 : (c : Dev Cert.Kernel21Ideal.nD) → Buf (Elt Ideal) ((c.tc : Thread Cert.Kernel21Ideal.nD Cert.Kernel21Ideal.τ).loc Cert.Kernel21Ideal.main_v5)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_v1) = v1 c
          ∧ r.2.mem ((c.tc : Thread Cert.Kernel21Ideal.nD Cert.Kernel21Ideal.τ).loc Cert.Kernel21Ideal.main_v3) = v2 c
          ∧ r.2.mem ((c.tc : Thread Cert.Kernel21Ideal.nD Cert.Kernel21Ideal.τ).loc Cert.Kernel21Ideal.main_v4) = v3 c
          ∧ r.2.mem ((c.tc : Thread Cert.Kernel21Ideal.nD Cert.Kernel21Ideal.τ).loc Cert.Kernel21Ideal.main_v5) = v4 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v11) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_v13) = v4 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)) →
    ∃ (v0 : (c : Dev Cert.Kernel22Ideal.nD) → Buf (Elt Ideal) ((c.tc : Thread Cert.Kernel22Ideal.nD Cert.Kernel22Ideal.τ).loc Cert.Kernel22Ideal.main_v1)) (v1 : (c : Dev Cert.Kernel22Ideal.nD) → Buf (Elt Ideal) ((c.tc : Thread Cert.Kernel22Ideal.nD Cert.Kernel22Ideal.τ).loc Cert.Kernel22Ideal.main_v6)) (v2 : (c : Dev Cert.Kernel22Ideal.nD) → Buf (Elt Ideal) ((c.tc : Thread Cert.Kernel22Ideal.nD Cert.Kernel22Ideal.τ).loc Cert.Kernel22Ideal.main_v2)) (v3 : (c : Dev Cert.Kernel22Ideal.nD) → Buf (Elt Ideal) ((c.tc : Thread Cert.Kernel22Ideal.nD Cert.Kernel22Ideal.τ).loc Cert.Kernel22Ideal.main_v4)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_v6) = v1 c
          ∧ r.2.mem ((c.tc : Thread Cert.Kernel22Ideal.nD Cert.Kernel22Ideal.τ).loc Cert.Kernel22Ideal.main_v2) = v2 c
          ∧ r.2.mem ((c.tc : Thread Cert.Kernel22Ideal.nD Cert.Kernel22Ideal.τ).loc Cert.Kernel22Ideal.main_v4) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v11) = v0 c
          ∧ r.2.mem ((c.tc : Thread Cert.Reference22Ideal.nD Cert.Reference22Ideal.τ).loc Cert.Reference22Ideal.main_v44) = v1 c
          ∧ r.2.mem ((c.tc : Thread Cert.Reference22Ideal.nD Cert.Reference22Ideal.τ).loc Cert.Reference22Ideal.main_v45) = v2 c
          ∧ r.2.mem ((c.tc : Thread Cert.Reference22Ideal.nD Cert.Reference22Ideal.τ).loc Cert.Reference22Ideal.main_v46) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S4096x1024 : Shape := ⟨2, ![4096, 1024]⟩
abbrev S4096x128 : Shape := ⟨2, ![4096, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn_part1 {F : FTy → Type} [FloatOps F] (main_arg4 : FVec F S4096x1024 .f32) (main_arg5 : FVec F S4096x1024 .f32) (main_v14 : IVec S_ 1) (main_v15 : FVec F S4096x128 .f32) (main_cst_5 : FVec F S_ .f32) : IVec S_ 1 :=
  let main_v16 : FVec F S4096x128 .f32 := broadcastInDim S4096x128 ![] bcast_S_S4096x128 main_cst_5
  let main_v17 : IVec S4096x128 1 := cmpf .olt main_v15 main_v16
  let main_c_6 : IVec S_ 1 := constantI S_ 1 1#1
  let main_v18 : IVec S_ 1 := (fun x v => Host.reduce IntOp.andi x v reducesTo_S4096x128_S_d0_1 h_S_) main_v17 main_c_6
  let main_v19 : IVec S_ 1 := andi main_v14 main_v18
  let main_v20 : FVec F S4096x1024 .f32 := Host.absf main_arg4
  let main_cst_7 : FVec F S_ .f32 := constant S_ .f32 0x7F800000#32
  let main_v21 : FVec F S4096x1024 .f32 := broadcastInDim S4096x1024 ![] bcast_S_S4096x1024 main_cst_7
  let main_v22 : IVec S4096x1024 1 := cmpf .olt main_v20 main_v21
  let main_c_8 : IVec S_ 1 := constantI S_ 1 1#1
  let main_v23 : IVec S_ 1 := (fun x v => Host.reduce IntOp.andi x v reducesTo_S4096x1024_S_d0_1 h_S_) main_v22 main_c_8
  let main_v24 : IVec S_ 1 := andi main_v19 main_v23
  let main_v25 : FVec F S4096x1024 .f32 := Host.absf main_arg5
  let main_cst_9 : FVec F S_ .f32 := constant S_ .f32 0x7F800000#32
  let main_v26 : FVec F S4096x1024 .f32 := broadcastInDim S4096x1024 ![] bcast_S_S4096x1024 main_cst_9
  let main_v27 : IVec S4096x1024 1 := cmpf .olt main_v25 main_v26
  let main_c_10 : IVec S_ 1 := constantI S_ 1 1#1
  let main_v28 : IVec S_ 1 := (fun x v => Host.reduce IntOp.andi x v reducesTo_S4096x1024_S_d0_1 h_S_) main_v27 main_c_10
  let main_v29 : IVec S_ 1 := andi main_v24 main_v28
  main_v29

def fn {F : FTy → Type} [FloatOps F] (main_arg0 : FVec F S4096x1024 .f32) (main_arg1 : FVec F S4096x1024 .f32) (main_arg2 : FVec F S4096x1024 .f32) (main_arg3 : FVec F S4096x128 .f32) (main_arg4 : FVec F S4096x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S4096x1024 .f32 := Host.absf main_arg1
  let main_cst_1 : FVec F S_ .f32 := constant S_ .f32 0x7F800000#32
  let main_v6 : FVec F S4096x1024 .f32 := broadcastInDim S4096x1024 ![] bcast_S_S4096x1024 main_cst_1
  let main_v7 : IVec S4096x1024 1 := cmpf .olt main_v5 main_v6
  let main_c_2 : IVec S_ 1 := constantI S_ 1 1#1
  let main_v8 : IVec S_ 1 := (fun x v => Host.reduce IntOp.andi x v reducesTo_S4096x1024_S_d0_1 h_S_) main_v7 main_c_2
  let main_v9 : IVec S_ 1 := andi main_v4 main_v8
  let main_v10 : FVec F S4096x1024 .f32 := Host.absf main_arg2
  let main_cst_3 : FVec F S_ .f32 := constant S_ .f32 0x7F800000#32
  let main_v11 : FVec F S4096x1024 .f32 := broadcastInDim S4096x1024 ![] bcast_S_S4096x1024 main_cst_3
  let main_v12 : IVec S4096x1024 1 := cmpf .olt main_v10 main_v11
  let main_c_4 : IVec S_ 1 := constantI S_ 1 1#1
  let main_v13 : IVec S_ 1 := (fun x v => Host.reduce IntOp.andi x v reducesTo_S4096x1024_S_d0_1 h_S_) main_v12 main_c_4
  let main_v14 : IVec S_ 1 := andi main_v9 main_v13
  let main_v15 : FVec F S4096x128 .f32 := Host.absf main_arg3
  let main_cst_5 : FVec F S_ .f32 := constant S_ .f32 0x7F800000#32
  fn_part1 (F := F) main_arg4 main_arg5 main_v14 main_v15 main_cst_5
-- ==== Kernel.lean ====
abbrev S4096x1024 : Shape := ⟨2, ![4096, 1024]⟩
abbrev S4096x128 : Shape := ⟨2, ![4096, 128]⟩
abbrev S8x4096x1 : Shape := ⟨3, ![8, 4096, 1]⟩
abbrev S512x128 : Shape := ⟨2, ![512, 128]⟩
abbrev S1x512x1 : Shape := ⟨3, ![1, 512, 1]⟩
abbrev S512x256 : Shape := ⟨2, ![512, 256]⟩
abbrev S512x512 : Shape := ⟨2, ![512, 512]⟩
abbrev S512x1 : Shape := ⟨2, ![512, 1]⟩
abbrev S512 : Shape := ⟨1, ![512]⟩

abbrev nBuf : Space → Nat
  | .hbm => 13
  | .vmem => 37
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x128, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S8x4096x1, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x128, .f32⟩
  | .hbm, ⟨12, _⟩ => ⟨S4096x1024, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S512x128, .f32⟩
  | .local _ .vmem, ⟨10, _⟩ => ⟨S512x128, .f32⟩
  | .local _ .vmem, ⟨11, _⟩ => ⟨S1x512x1, .f32⟩
  | .local _ .vmem, ⟨12, _⟩ => ⟨S1x512x1, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S512x128, .f32⟩
  | .local _ .vmem, ⟨23, _⟩ => ⟨S512x128, .f32⟩
  | .local _ .vmem, ⟨24, _⟩ => ⟨S1x512x1, .f32⟩
  | .local _ .vmem, ⟨25, _⟩ => ⟨S1x512x1, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S4096x128, .f32⟩
  | .local _ .vmem, ⟨33, _⟩ => ⟨S4096x128, .f32⟩
  | .local _ .vmem, ⟨34, _⟩ => ⟨S4096x128, .f32⟩
  | .local _ .vmem, ⟨35, _⟩ => ⟨S4096x128, .f32⟩
  | .local _ .vmem, ⟨36, _⟩ => ⟨S4096x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc1_stg12_0 : Ref sig .tc := ⟨.vmem, 35, rfl⟩
abbrev cc1_stg12_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc1_sem11_0 : DmaSem sig := 34
abbrev cc1_sem12_0 : DmaSem sig := 35
abbrev cc1_sem12_1 : DmaSem sig := 36

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  c0_i32
@[reducible] def k0_t1_loop (i : grid0.Coords) : Scf.Loop 32 :=
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let c1_i32_10 : BitVec 32 := 1#32
  ⟨c0_i32_9, v20, c1_i32_10⟩
def k0_mult2 (i : grid0.Coords) (k0_t1 : Fin (k0_t1_loop i).trips) : BitVec 32 :=
  let c0_i32_9 : BitVec 32 := 0#32
  let c1_i32_10 : BitVec 32 := 1#32
  let arg9 : BitVec 32 := Scf.iv c0_i32_9 c1_i32_10 k0_t1
  let c1_i32_41 : BitVec 32 := 1#32
  let v117 : BitVec 32 := Scalar.addi arg9 c1_i32_41
  let c512_i32_42 : BitVec 32 := 512#32
  let v118 : BitVec 32 := Scalar.muli v117 c512_i32_42
  v118
def k0_off1 (i : grid0.Coords) (k0_t1 : Fin (k0_t1_loop i).trips) : Fin 2 → Nat :=
  let c0_i32_9 : BitVec 32 := 0#32
  let c1_i32_10 : BitVec 32 := 1#32
  let arg9 : BitVec 32 := Scf.iv c0_i32_9 c1_i32_10 k0_t1
  let c1_i32_41 : BitVec 32 := 1#32
  let v117 : BitVec 32 := Scalar.addi arg9 c1_i32_41
  let c512_i32_42 : BitVec 32 := 512#32
  let v118 : BitVec 32 := Scalar.muli v117 c512_i32_42
  let v119 : BitVec 32 := v118
  let v120 : Index := Scalar.indexCast v119
  let c0_43 : Index := 0#32
  ![v120.toNat, 0]
def k0_mult3 (i : grid0.Coords) (k0_t1 : Fin (k0_t1_loop i).trips) : BitVec 32 :=
  let c0_i32_9 : BitVec 32 := 0#32
  let c1_i32_10 : BitVec 32 := 1#32
  let arg9 : BitVec 32 := Scf.iv c0_i32_9 c1_i32_10 k0_t1
  let c1_i32_46 : BitVec 32 := 1#32
  let v127 : BitVec 32 := Scalar.subi arg9 c1_i32_46
  let c0_i32_47 : BitVec 32 := 0#32
  let v128 : BitVec 32 := Scalar.maxsi v127 c0_i32_47
  let c512_i32_48 : BitVec 32 := 512#32
  let v129 : BitVec 32 := Scalar.muli v128 c512_i32_48
  v129
def k0_off2 (i : grid0.Coords) (k0_t1 : Fin (k0_t1_loop i).trips) : Fin 2 → Nat :=
  let c0_i32_9 : BitVec 32 := 0#32
  let c1_i32_10 : BitVec 32 := 1#32
  let arg9 : BitVec 32 := Scf.iv c0_i32_9 c1_i32_10 k0_t1
  let c1_i32_46 : BitVec 32 := 1#32
  let v127 : BitVec 32 := Scalar.subi arg9 c1_i32_46
  let c0_i32_47 : BitVec 32 := 0#32
  let v128 : BitVec 32 := Scalar.maxsi v127 c0_i32_47
  let c512_i32_48 : BitVec 32 := 512#32
  let v129 : BitVec 32 := Scalar.muli v128 c512_i32_48
  let v130 : BitVec 32 := v129
  let v131 : Index := Scalar.indexCast v130
  let c0_49 : Index := 0#32
  ![v131.toNat, 0]
@[reducible] def k0_t2_loop (i : grid0.Coords) : Scf.Loop 32 :=
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let v17 : BitVec 32 := Scalar.addi c0_i32_9 v16
  let c1_i32_11 : BitVec 32 := 1#32
  ⟨v20, v17, c1_i32_11⟩
def k0_mult4 (i : grid0.Coords) (k0_t2 : Fin (k0_t2_loop i).trips) : BitVec 32 :=
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let c1_i32_11 : BitVec 32 := 1#32
  let arg9 : BitVec 32 := Scf.iv v20 c1_i32_11 k0_t2
  let c1_i32_41 : BitVec 32 := 1#32
  let v117 : BitVec 32 := Scalar.addi arg9 c1_i32_41
  let c512_i32_42 : BitVec 32 := 512#32
  let v118 : BitVec 32 := Scalar.muli v117 c512_i32_42
  v118
def k0_off3 (i : grid0.Coords) (k0_t2 : Fin (k0_t2_loop i).trips) : Fin 2 → Nat :=
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let c1_i32_11 : BitVec 32 := 1#32
  let arg9 : BitVec 32 := Scf.iv v20 c1_i32_11 k0_t2
  let c1_i32_41 : BitVec 32 := 1#32
  let v117 : BitVec 32 := Scalar.addi arg9 c1_i32_41
  let c512_i32_42 : BitVec 32 := 512#32
  let v118 : BitVec 32 := Scalar.muli v117 c512_i32_42
  let v119 : BitVec 32 := v118
  let v120 : Index := Scalar.indexCast v119
  let c0_43 : Index := 0#32
  ![v120.toNat, 0]
def k0_mult5 (i : grid0.Coords) (k0_t2 : Fin (k0_t2_loop i).trips) : BitVec 32 :=
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let c1_i32_11 : BitVec 32 := 1#32
  let arg9 : BitVec 32 := Scf.iv v20 c1_i32_11 k0_t2
  let c1_i32_46 : BitVec 32 := 1#32
  let v127 : BitVec 32 := Scalar.subi arg9 c1_i32_46
  let c0_i32_47 : BitVec 32 := 0#32
  let v128 : BitVec 32 := Scalar.maxsi v127 c0_i32_47
  let c512_i32_48 : BitVec 32 := 512#32
  let v129 : BitVec 32 := Scalar.muli v128 c512_i32_48
  v129
def k0_off4 (i : grid0.Coords) (k0_t2 : Fin (k0_t2_loop i).trips) : Fin 2 → Nat :=
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let c1_i32_11 : BitVec 32 := 1#32
  let arg9 : BitVec 32 := Scf.iv v20 c1_i32_11 k0_t2
  let c1_i32_46 : BitVec 32 := 1#32
  let v127 : BitVec 32 := Scalar.subi arg9 c1_i32_46
  let c0_i32_47 : BitVec 32 := 0#32
  let v128 : BitVec 32 := Scalar.maxsi v127 c0_i32_47
  let c512_i32_48 : BitVec 32 := 512#32
  let v129 : BitVec 32 := Scalar.muli v128 c512_i32_48
  let v130 : BitVec 32 := v129
  let v131 : Index := Scalar.indexCast v130
  let c0_49 : Index := 0#32
  ![v131.toNat, 0]
def k0_mult6 (i : grid0.Coords) : BitVec 32 :=
  let arg1 : BitVec 32 := BitVec.ofNat 32 (i 1).val
  let c1_i32_12 : BitVec 32 := 1#32
  let v23 : BitVec 32 := Scalar.subi arg1 c1_i32_12
  let c0_i32_13 : BitVec 32 := 0#32
  let v24 : BitVec 32 := Scalar.maxsi v23 c0_i32_13
  let c512_i32 : BitVec 32 := 512#32
  let v25 : BitVec 32 := Scalar.muli v24 c512_i32
  v25
def k0_off5 (i : grid0.Coords) : Fin 2 → Nat :=
  let arg1 : BitVec 32 := BitVec.ofNat 32 (i 1).val
  let c1_i32_12 : BitVec 32 := 1#32
  let v23 : BitVec 32 := Scalar.subi arg1 c1_i32_12
  let c0_i32_13 : BitVec 32 := 0#32
  let v24 : BitVec 32 := Scalar.maxsi v23 c0_i32_13
  let c512_i32 : BitVec 32 := 512#32
  let v25 : BitVec 32 := Scalar.muli v24 c512_i32
  let v26 : BitVec 32 := v25
  let v27 : Index := Scalar.indexCast v26
  let c0_14 : Index := 0#32
  ![v27.toNat, 0]
def k0_mult7 (i : grid0.Coords) : BitVec 32 :=
  let arg1 : BitVec 32 := BitVec.ofNat 32 (i 1).val
  let c512_i32_33 : BitVec 32 := 512#32
  let v102 : BitVec 32 := Scalar.muli arg1 c512_i32_33
  v102
def k0_off6 (i : grid0.Coords) : Fin 2 → Nat :=
  let arg1 : BitVec 32 := BitVec.ofNat 32 (i 1).val
  let c512_i32_33 : BitVec 32 := 512#32
  let v102 : BitVec 32 := Scalar.muli arg1 c512_i32_33
  let v103 : BitVec 32 := v102
  let v104 : Index := Scalar.indexCast v103
  let c0_34 : Index := 0#32
  ![v104.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 8], ![false, false]⟩

def k1_mult1 : BitVec 32 :=
  let c0_i32_15 : BitVec 32 := 0#32
  c0_i32_15
@[reducible] def k1_t1_loop (i : grid1.Coords) : Scf.Loop 32 :=
  let c0_i32_22 : BitVec 32 := 0#32
  let arg1 : BitVec 32 := BitVec.ofNat 32 (i 1).val
  let v35 : BitVec 32 := Scalar.subi arg1 c0_i32_22
  let c1_i32 : BitVec 32 := 1#32
  let v37 : BitVec 32 := Scalar.divsi v35 c1_i32
  let v38 : BitVec 32 := Scalar.muli v37 c1_i32
  let v39 : BitVec 32 := Scalar.addi c0_i32_22 v38
  let c1_i32_23 : BitVec 32 := 1#32
  ⟨c0_i32_22, v39, c1_i32_23⟩
def k1_mult2 (i : grid1.Coords) (k1_t1 : Fin (k1_t1_loop i).trips) : BitVec 32 :=
  let c0_i32_22 : BitVec 32 := 0#32
  let c1_i32_23 : BitVec 32 := 1#32
  let arg15 : BitVec 32 := Scf.iv c0_i32_22 c1_i32_23 k1_t1
  let c1_i32_70 : BitVec 32 := 1#32
  let v177 : BitVec 32 := Scalar.addi arg15 c1_i32_70
  let c512_i32_71 : BitVec 32 := 512#32
  let v178 : BitVec 32 := Scalar.muli v177 c512_i32_71
  v178
def k1_off1 (i : grid1.Coords) (k1_t1 : Fin (k1_t1_loop i).trips) : Fin 2 → Nat :=
  let c0_i32_22 : BitVec 32 := 0#32
  let c1_i32_23 : BitVec 32 := 1#32
  let arg15 : BitVec 32 := Scf.iv c0_i32_22 c1_i32_23 k1_t1
  let c1_i32_70 : BitVec 32 := 1#32
  let v177 : BitVec 32 := Scalar.addi arg15 c1_i32_70
  let c512_i32_71 : BitVec 32 := 512#32
  let v178 : BitVec 32 := Scalar.muli v177 c512_i32_71
  let v179 : BitVec 32 := v178
  let v180 : Index := Scalar.indexCast v179
  let c0_72 : Index := 0#32
  ![v180.toNat, 0]
def k1_mult3 (i : grid1.Coords) (k1_t1 : Fin (k1_t1_loop i).trips) : BitVec 32 :=
  let c0_i32_22 : BitVec 32 := 0#32
  let c1_i32_23 : BitVec 32 := 1#32
  let arg15 : BitVec 32 := Scf.iv c0_i32_22 c1_i32_23 k1_t1
  let c1_i32_77 : BitVec 32 := 1#32
  let v191 : BitVec 32 := Scalar.subi arg15 c1_i32_77
  let c0_i32_78 : BitVec 32 := 0#32
  let v192 : BitVec 32 := Scalar.maxsi v191 c0_i32_78
  let c512_i32_79 : BitVec 32 := 512#32
  let v193 : BitVec 32 := Scalar.muli v192 c512_i32_79
  v193
def k1_off2 (i : grid1.Coords) (k1_t1 : Fin (k1_t1_loop i).trips) : Fin 2 → Nat :=
  let c0_i32_22 : BitVec 32 := 0#32
  let c1_i32_23 : BitVec 32 := 1#32
  let arg15 : BitVec 32 := Scf.iv c0_i32_22 c1_i32_23 k1_t1
  let c1_i32_77 : BitVec 32 := 1#32
  let v191 : BitVec 32 := Scalar.subi arg15 c1_i32_77
  let c0_i32_78 : BitVec 32 := 0#32
  let v192 : BitVec 32 := Scalar.maxsi v191 c0_i32_78
  let c512_i32_79 : BitVec 32 := 512#32
  let v193 : BitVec 32 := Scalar.muli v192 c512_i32_79
  let v194 : BitVec 32 := v193
  let v195 : Index := Scalar.indexCast v194
  let c0_80 : Index := 0#32
  ![v195.toNat, 0]
@[reducible] def k1_t2_loop (i : grid1.Coords) : Scf.Loop 32 :=
  let c0_i32_22 : BitVec 32 := 0#32
  let arg1 : BitVec 32 := BitVec.ofNat 32 (i 1).val
  let v35 : BitVec 32 := Scalar.subi arg1 c0_i32_22
  let c1_i32 : BitVec 32 := 1#32
  let v37 : BitVec 32 := Scalar.divsi v35 c1_i32
  let v38 : BitVec 32 := Scalar.muli v37 c1_i32
  let v39 : BitVec 32 := Scalar.addi c0_i32_22 v38
  let v36 : BitVec 32 := Scalar.addi c0_i32_22 v35
  let c1_i32_24 : BitVec 32 := 1#32
  ⟨v39, v36, c1_i32_24⟩
def k1_mult4 (i : grid1.Coords) (k1_t2 : Fin (k1_t2_loop i).trips) : BitVec 32 :=
  let c0_i32_22 : BitVec 32 := 0#32
  let arg1 : BitVec 32 := BitVec.ofNat 32 (i 1).val
  let v35 : BitVec 32 := Scalar.subi arg1 c0_i32_22
  let c1_i32 : BitVec 32 := 1#32
  let v37 : BitVec 32 := Scalar.divsi v35 c1_i32
  let v38 : BitVec 32 := Scalar.muli v37 c1_i32
  let v39 : BitVec 32 := Scalar.addi c0_i32_22 v38
  let c1_i32_24 : BitVec 32 := 1#32
  let arg15 : BitVec 32 := Scf.iv v39 c1_i32_24 k1_t2
  let c1_i32_70 : BitVec 32 := 1#32
  let v177 : BitVec 32 := Scalar.addi arg15 c1_i32_70
  let c512_i32_71 : BitVec 32 := 512#32
  let v178 : BitVec 32 := Scalar.muli v177 c512_i32_71
  v178
def k1_off3 (i : grid1.Coords) (k1_t2 : Fin (k1_t2_loop i).trips) : Fin 2 → Nat :=
  let c0_i32_22 : BitVec 32 := 0#32
  let arg1 : BitVec 32 := BitVec.ofNat 32 (i 1).val
  let v35 : BitVec 32 := Scalar.subi arg1 c0_i32_22
  let c1_i32 : BitVec 32 := 1#32
  let v37 : BitVec 32 := Scalar.divsi v35 c1_i32
  let v38 : BitVec 32 := Scalar.muli v37 c1_i32
  let v39 : BitVec 32 := Scalar.addi c0_i32_22 v38
  let c1_i32_24 : BitVec 32 := 1#32
  let arg15 : BitVec 32 := Scf.iv v39 c1_i32_24 k1_t2
  let c1_i32_70 : BitVec 32 := 1#32
  let v177 : BitVec 32 := Scalar.addi arg15 c1_i32_70
  let c512_i32_71 : BitVec 32 := 512#32
  let v178 : BitVec 32 := Scalar.muli v177 c512_i32_71
  let v179 : BitVec 32 := v178
  let v180 : Index := Scalar.indexCast v179
  let c0_72 : Index := 0#32
  ![v180.toNat, 0]
def k1_mult5 (i : grid1.Coords) (k1_t2 : Fin (k1_t2_loop i).trips) : BitVec 32 :=
  let c0_i32_22 : BitVec 32 := 0#32
  let arg1 : BitVec 32 := BitVec.ofNat 32 (i 1).val
  let v35 : BitVec 32 := Scalar.subi arg1 c0_i32_22
  let c1_i32 : BitVec 32 := 1#32
  let v37 : BitVec 32 := Scalar.divsi v35 c1_i32
  let v38 : BitVec 32 := Scalar.muli v37 c1_i32
  let v39 : BitVec 32 := Scalar.addi c0_i32_22 v38
  let c1_i32_24 : BitVec 32 := 1#32
  let arg15 : BitVec 32 := Scf.iv v39 c1_i32_24 k1_t2
  let c1_i32_77 : BitVec 32 := 1#32
  let v191 : BitVec 32 := Scalar.subi arg15 c1_i32_77
  let c0_i32_78 : BitVec 32 := 0#32
  let v192 : BitVec 32 := Scalar.maxsi v191 c0_i32_78
  let c512_i32_79 : BitVec 32 := 512#32
  let v193 : BitVec 32 := Scalar.muli v192 c512_i32_79
  v193
def k1_off4 (i : grid1.Coords) (k1_t2 : Fin (k1_t2_loop i).trips) : Fin 2 → Nat :=
  let c0_i32_22 : BitVec 32 := 0#32
  let arg1 : BitVec 32 := BitVec.ofNat 32 (i 1).val
  let v35 : BitVec 32 := Scalar.subi arg1 c0_i32_22
  let c1_i32 : BitVec 32 := 1#32
  let v37 : BitVec 32 := Scalar.divsi v35 c1_i32
  let v38 : BitVec 32 := Scalar.muli v37 c1_i32
  let v39 : BitVec 32 := Scalar.addi c0_i32_22 v38
  let c1_i32_24 : BitVec 32 := 1#32
  let arg15 : BitVec 32 := Scf.iv v39 c1_i32_24 k1_t2
  let c1_i32_77 : BitVec 32 := 1#32
  let v191 : BitVec 32 := Scalar.subi arg15 c1_i32_77
  let c0_i32_78 : BitVec 32 := 0#32
  let v192 : BitVec 32 := Scalar.maxsi v191 c0_i32_78
  let c512_i32_79 : BitVec 32 := 512#32
  let v193 : BitVec 32 := Scalar.muli v192 c512_i32_79
  let v194 : BitVec 32 := v193
  let v195 : Index := Scalar.indexCast v194
  let c0_80 : Index := 0#32
  ![v195.toNat, 0]
def k1_mult6 (i : grid1.Coords) : BitVec 32 :=
  let arg1 : BitVec 32 := BitVec.ofNat 32 (i 1).val
  let c1_i32_25 : BitVec 32 := 1#32
  let v42 : BitVec 32 := Scalar.subi arg1 c1_i32_25
  let c0_i32_26 : BitVec 32 := 0#32
  let v43 : BitVec 32 := Scalar.maxsi v42 c0_i32_26
  let c512_i32 : BitVec 32 := 512#32
  let v44 : BitVec 32 := Scalar.muli v43 c512_i32
  v44
def k1_off5 (i : grid1.Coords) : Fin 2 → Nat :=
  let arg1 : BitVec 32 := BitVec.ofNat 32 (i 1).val
  let c1_i32_25 : BitVec 32 := 1#32
  let v42 : BitVec 32 := Scalar.subi arg1 c1_i32_25
  let c0_i32_26 : BitVec 32 := 0#32
  let v43 : BitVec 32 := Scalar.maxsi v42 c0_i32_26
  let c512_i32 : BitVec 32 := 512#32
  let v44 : BitVec 32 := Scalar.muli v43 c512_i32
  let v45 : BitVec 32 := v44
  let v46 : Index := Scalar.indexCast v45
  let c0_27 : Index := 0#32
  ![v46.toNat, 0]
def k1_mult7 (i : grid1.Coords) : BitVec 32 :=
  let arg1 : BitVec 32 := BitVec.ofNat 32 (i 1).val
  let c512_i32_54 : BitVec 32 := 512#32
  let v141 : BitVec 32 := Scalar.muli arg1 c512_i32_54
  v141
def k1_off6 (i : grid1.Coords) : Fin 2 → Nat :=
  let arg1 : BitVec 32 := BitVec.ofNat 32 (i 1).val
  let c512_i32_54 : BitVec 32 := 512#32
  let v141 : BitVec 32 := Scalar.muli arg1 c512_i32_54
  let v142 : BitVec 32 := v141
  let v143 : Index := Scalar.indexCast v142
  let c0_55 : Index := 0#32
  ![v143.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S4096x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S512x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S4096x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 1 → Memref sig .tc .vmem S4096x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 2 → Memref sig .tc .vmem S4096x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x128 : Shape := ⟨2, ![4096, 128]⟩
abbrev S4096x8x128 : Shape := ⟨3, ![4096, 8, 128]⟩
abbrev S4096x8x256 : Shape := ⟨3, ![4096, 8, 256]⟩
abbrev S4096x1x128 : Shape := ⟨3, ![4096, 1, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x256 : Shape := ⟨3, ![8, 4096, 256]⟩

abbrev nBuf : Space → Nat
  | .hbm => 132
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x128, .f32⟩
  | 4 => ⟨S4096x1024, .f32⟩
  | 5 => ⟨S4096x1024, .f32⟩
  | 6 => ⟨S4096x8x128, .f32⟩
  | 7 => ⟨S4096x8x128, .f32⟩
  | 8 => ⟨S4096x8x256, .f32⟩
  | 9 => ⟨S4096x1x128, .f32⟩
  | 10 => ⟨S4096x8x128, .f32⟩
  | 11 => ⟨S4096x8x128, .f32⟩
  | 12 => ⟨S4096x8x256, .f32⟩
  | 13 => ⟨S8x4096x4096, .f32⟩
  | 14 => ⟨S_, .f32⟩
  | 15 => ⟨S8x4096x4096, .f32⟩
  | 16 => ⟨S8x4096x4096, .f32⟩
  | 17 => ⟨S4096, .i32⟩
  | 18 => ⟨S_, .i32⟩
  | 19 => ⟨S_, .i32⟩
  | 20 => ⟨S4096, .i32⟩
  | 21 => ⟨S4096, .i32⟩
  | 22 => ⟨S4096, .i32⟩
  | 23 => ⟨S_, .i32⟩
  | 24 => ⟨S4096, .i32⟩
  | 25 => ⟨S4096, .i1⟩
  | 26 => ⟨S4096, .i32⟩
  | 27 => ⟨S4096, .i32⟩
  | 28 => ⟨S_, .i32⟩
  | 29 => ⟨S4096, .i32⟩
  | 30 => ⟨S4096, .i1⟩
  | 31 => ⟨S4096, .i1⟩
  | 32 => ⟨S_, .i32⟩
  | 33 => ⟨S4096, .i32⟩
  | 34 => ⟨S4096, .i32⟩
  | 35 => ⟨S4096, .i32⟩
  | 36 => ⟨S1x4096, .i32⟩
  | 37 => ⟨S4096x1, .i32⟩
  | 38 => ⟨S4096x4096, .i32⟩
  | 39 => ⟨S4096x4096, .i32⟩
  | 40 => ⟨S4096x4096, .i1⟩
  | 41 => ⟨S_, .f32⟩
  | 42 => ⟨S_, .f32⟩
  | 43 => ⟨S8x4096x4096, .i1⟩
  | 44 => ⟨S8x4096x4096, .f32⟩
  | 45 => ⟨S8x4096x4096, .f32⟩
  | 46 => ⟨S_, .f32⟩
  | 47 => ⟨S8x4096x4096, .f32⟩
  | 48 => ⟨S_, .f32⟩
  | 49 => ⟨S8x4096, .f32⟩
  | 50 => ⟨S8x4096x1, .f32⟩
  | 51 => ⟨S8x4096x4096, .f32⟩
  | 52 => ⟨S8x4096x4096, .i1⟩
  | 53 => ⟨S8x4096x4096, .f32⟩
  | 54 => ⟨S_, .f32⟩
  | 55 => ⟨S8x4096, .f32⟩
  | 56 => ⟨S_, .f32⟩
  | 57 => ⟨S8x4096, .f32⟩
  | 58 => ⟨S8x4096, .f32⟩
  | 59 => ⟨S_, .f32⟩
  | 60 => ⟨S8x4096, .f32⟩
  | 61 => ⟨S8x4096, .i1⟩
  | 62 => ⟨S_, .f32⟩
  | 63 => ⟨S8x4096, .f32⟩
  | 64 => ⟨S8x4096, .i1⟩
  | 65 => ⟨S_, .f32⟩
  | 66 => ⟨S8x4096, .f32⟩
  | 67 => ⟨S_, .f32⟩
  | 68 => ⟨S8x4096, .f32⟩
  | 69 => ⟨S_, .f32⟩
  | 70 => ⟨S8x4096, .f32⟩
  | 71 => ⟨S8x4096, .f32⟩
  | 72 => ⟨S8x4096, .f32⟩
  | 73 => ⟨S8x4096x1, .f32⟩
  | 74 => ⟨S8x4096x4096, .f32⟩
  | 75 => ⟨S8x4096x4096, .f32⟩
  | 76 => ⟨S8x4096x4096, .f32⟩
  | 77 => ⟨S_, .f32⟩
  | 78 => ⟨S8x4096, .f32⟩
  | 79 => ⟨S8x4096x1, .f32⟩
  | 80 => ⟨S8x4096x4096, .f32⟩
  | 81 => ⟨S8x4096x4096, .f32⟩
  | 82 => ⟨S8x4096x1, .f32⟩
  | 83 => ⟨S_, .f32⟩
  | 84 => ⟨S8x4096x1, .f32⟩
  | 85 => ⟨S8x4096x1, .f32⟩
  | 86 => ⟨S4096x8x128, .f32⟩
  | 87 => ⟨S8x128x4096, .f32⟩
  | 88 => ⟨S4096x8x128, .f32⟩
  | 89 => ⟨S4096x1024, .f32⟩
  | 90 => ⟨S4096x8x128, .f32⟩
  | 91 => ⟨S8x128x4096, .f32⟩
  | 92 => ⟨S8x4096x4096, .f32⟩
  | 93 => ⟨S8x128x4096, .f32⟩
  | 94 => ⟨S4096x8x128, .f32⟩
  | 95 => ⟨S4096x1024, .f32⟩
  | 96 => ⟨S8x4096x4096, .f32⟩
  | 97 => ⟨S8x4096x4096, .f32⟩
  | 98 => ⟨S8x4096x4096, .f32⟩
  | 99 => ⟨S_, .f32⟩
  | 100 => ⟨S8x4096, .f32⟩
  | 101 => ⟨S8x4096x1, .f32⟩
  | 102 => ⟨S8x4096x1, .f32⟩
  | 103 => ⟨S8x4096x4096, .f32⟩
  | 104 => ⟨S8x4096x4096, .f32⟩
  | 105 => ⟨S_, .f32⟩
  | 106 => ⟨S8x4096, .f32⟩
  | 107 => ⟨S8x4096x4096, .f32⟩
  | 108 => ⟨S8x4096x4096, .f32⟩
  | 109 => ⟨S8x4096x4096, .f32⟩
  | 110 => ⟨S_, .f32⟩
  | 111 => ⟨S8x4096x4096, .f32⟩
  | 112 => ⟨S8x4096x4096, .f32⟩
  | 113 => ⟨S_, .f32⟩
  | 114 => ⟨S8x4096x4096, .f32⟩
  | 115 => ⟨S8x4096x4096, .f32⟩
  | 116 => ⟨S8x4096x256, .f32⟩
  | 117 => ⟨S4096x8x256, .f32⟩
  | 118 => ⟨S8x4096x256, .f32⟩
  | 119 => ⟨S4096x8x256, .f32⟩
  | 120 => ⟨S4096x8x128, .f32⟩
  | 121 => ⟨S4096x8x128, .f32⟩
  | 122 => ⟨S4096x1024, .f32⟩
  | 123 => ⟨S_, .f32⟩
  | 124 => ⟨S4096x128, .f32⟩
  | 125 => ⟨S4096x1x128, .f32⟩
  | 126 => ⟨S_, .f32⟩
  | 127 => ⟨S4096x128, .f32⟩
  | _ => ⟨S4096x1024, .f32⟩

abbrev hbmTy0_1 (i : Nat) : BufTy := match i % 128 with
  | 0 => ⟨S4096x8x128, .f32⟩
  | 1 => ⟨S4096x8x128, .f32⟩
  | 2 => ⟨S4096x1024, .f32⟩
  | 3 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_0 : Ref sig .tc := ⟨.hbm, 41, rfl⟩
abbrev main_call1_v0 : Ref sig .tc := ⟨.hbm, 42, rfl⟩
abbrev main_v17_1 : Ref sig .tc := ⟨.hbm, 43, rfl⟩
abbrev main_call1_v2 : Ref sig .tc := ⟨.hbm, 44, rfl⟩
abbrev main_v17_0 : Ref sig .tc := ⟨.hbm, 45, rfl⟩
abbrev main_call1_cst : Ref sig .tc := ⟨.hbm, 46, rfl⟩
abbrev main_v17_2 : Ref sig .tc := ⟨.hbm, 47, rfl⟩
abbrev main_cst_1 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_2 : Ref sig .tc := ⟨.hbm, 54, rfl⟩
abbrev main_v23 : Ref sig .tc := ⟨.hbm, 55, rfl⟩
abbrev main_cst_3 : Ref sig .tc := ⟨.hbm, 56, rfl⟩
abbrev main_v24 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_v27 : Ref sig .tc := ⟨.hbm, 61, rfl⟩
abbrev main_cst_5 : Ref sig .tc := ⟨.hbm, 62, rfl⟩
abbrev main_v28 : Ref sig .tc := ⟨.hbm, 63, rfl⟩
abbrev main_v29 : Ref sig .tc := ⟨.hbm, 64, rfl⟩
abbrev main_cst_6 : Ref sig .tc := ⟨.hbm, 65, rfl⟩
abbrev main_v30 : Ref sig .tc := ⟨.hbm, 66, rfl⟩
abbrev main_cst_7 : Ref sig .tc := ⟨.hbm, 67, rfl⟩
abbrev main_v31 : Ref sig .tc := ⟨.hbm, 68, rfl⟩
abbrev main_cst_8 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_9 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_10 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_11 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_12 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_call2_cst : Ref sig .tc := ⟨.hbm, 110, rfl⟩
abbrev main_call2_v0 : Ref sig .tc := ⟨.hbm, 111, rfl⟩
abbrev main_v68 : Ref sig .tc := ⟨.hbm, 112, rfl⟩
abbrev main_cst_13 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_14 : Ref sig .tc := ⟨.hbm, 123, rfl⟩
abbrev main_v78 : Ref sig .tc := ⟨.hbm, 124, rfl⟩
abbrev main_v79 : Ref sig .tc := ⟨.hbm, 125, rfl⟩
abbrev main_cst_15 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩

abbrev nD : Nat := 1
abbrev τ : Topo := Topo.v7x

variable {F : FTy → Type} [FloatOps F]
-- ==== Kernel2.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S1024x1408 : Shape := ⟨2, ![1024, 1408]⟩
abbrev S_ : Shape := ⟨0, ![]⟩
abbrev S256x2816 : Shape := ⟨2, ![256, 2816]⟩
abbrev S512x2816 : Shape := ⟨2, ![512, 2816]⟩
abbrev S512x1024 : Shape := ⟨2, ![512, 1024]⟩
abbrev S1408x1024 : Shape := ⟨2, ![1408, 1024]⟩

abbrev nBuf : Space → Nat
  | .hbm => 23
  | .vmem => 53
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S_, .bf16⟩
  | .hbm, ⟨9, _⟩ => ⟨S4096x2816, .bf16⟩
  | .hbm, ⟨10, _⟩ => ⟨S_, .bf16⟩
  | .hbm, ⟨11, _⟩ => ⟨S4096x2816, .bf16⟩
  | .hbm, ⟨12, _⟩ => ⟨S4096x2816, .bf16⟩
  | .hbm, ⟨13, _⟩ => ⟨S_, .f32⟩
  | .hbm, ⟨14, _⟩ => ⟨S4096x2816, .f32⟩
  | .hbm, ⟨15, _⟩ => ⟨S4096x1024, .f32⟩
  | .hbm, ⟨16, _⟩ => ⟨S4096x2816, .f32⟩
  | .hbm, ⟨17, _⟩ => ⟨S_, .bf16⟩
  | .hbm, ⟨18, _⟩ => ⟨S4096x2816, .bf16⟩
  | .hbm, ⟨19, _⟩ => ⟨S4096x2816, .bf16⟩
  | .hbm, ⟨20, _⟩ => ⟨S4096x2816, .bf16⟩
  | .hbm, ⟨21, _⟩ => ⟨S4096x1024, .f32⟩
  | .hbm, ⟨22, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1024, .bf16⟩
  | .local _ .vmem, ⟨7, _⟩ => ⟨S1024x1024, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .f32⟩
  | .local _ .vmem, ⟨11, _⟩ => ⟨S1024x1408, .f32⟩
  | .local _ .vmem, ⟨12, _⟩ => ⟨S256x2816, .f32⟩
  | .local _ .vmem, ⟨13, _⟩ => ⟨S256x2816, .f32⟩
  | .local _ .vmem, ⟨14, _⟩ => ⟨S256x2816, .f32⟩
  | .local _ .vmem, ⟨15, _⟩ => ⟨S256x2816, .f32⟩
  | .local _ .vmem, ⟨16, _⟩ => ⟨S256x2816, .bf16⟩
  | .local _ .vmem, ⟨17, _⟩ => ⟨S256x2816, .bf16⟩
  | .local _ .vmem, ⟨18, _⟩ => ⟨S512x2816, .bf16⟩
  | .local _ .vmem, ⟨19, _⟩ => ⟨S512x2816, .bf16⟩
  | .local _ .vmem, ⟨20, _⟩ => ⟨S2816x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S1024x1024, .f32⟩
  | .local _ .vmem, ⟨26, _⟩ => ⟨S1024x1024, .f32⟩
  | .local _ .vmem, ⟨27, _⟩ => ⟨S1408x1024, .bf16⟩
  | .local _ .vmem, ⟨28, _⟩ => ⟨S1408x1024, .bf16⟩
  | .local _ .vmem, ⟨29, _⟩ => ⟨S1024x1408, .f32⟩
  | .local _ .vmem, ⟨30, _⟩ => ⟨S1024x1408, .f32⟩
  | .local _ .vmem, ⟨31, _⟩ => ⟨S256x2816, .f32⟩
  | .local _ .vmem, ⟨32, _⟩ => ⟨S256x2816, .f32⟩
  | .local _ .vmem, ⟨33, _⟩ => ⟨S256x2816, .f32⟩
  | .local _ .vmem, ⟨34, _⟩ => ⟨S256x2816, .f32⟩
  | .local _ .vmem, ⟨35, _⟩ => ⟨S256x2816, .f32⟩
  | .local _ .vmem, ⟨36, _⟩ => ⟨S256x2816, .f32⟩
  | .local _ .vmem, ⟨37, _⟩ => ⟨S256x2816, .bf16⟩
  | .local _ .vmem, ⟨38, _⟩ => ⟨S256x2816, .bf16⟩
  | .local _ .vmem, ⟨39, _⟩ => ⟨S256x2816, .bf16⟩
  | .local _ .vmem, ⟨40, _⟩ => ⟨S256x2816, .bf16⟩
  | .local _ .vmem, ⟨41, _⟩ => ⟨S512x2816, .bf16⟩
  | .local _ .vmem, ⟨42, _⟩ => ⟨S512x2816, .bf16⟩
  | .local _ .vmem, ⟨43, _⟩ => ⟨S1024x2816, .bf16⟩
  | .local _ .vmem, ⟨44, _⟩ => ⟨S512x1024, .f32⟩
  | .local _ .vmem, ⟨45, _⟩ => ⟨S512x1024, .f32⟩
  | .local _ .vmem, ⟨46, _⟩ => ⟨S512x2816, .bf16⟩
  | .local _ .vmem, ⟨47, _⟩ => ⟨S512x2816, .bf16⟩
  | .local _ .vmem, ⟨48, _⟩ => ⟨S1024x2816, .bf16⟩
  | .local _ .vmem, ⟨49, _⟩ => ⟨S512x1024, .f32⟩
  | .local _ .vmem, ⟨50, _⟩ => ⟨S512x1024, .f32⟩
  | .local _ .vmem, ⟨51, _⟩ => ⟨S512x1024, .f32⟩
  | .local _ .vmem, ⟨52, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg3_1 : Ref sig .tc := ⟨.vmem, 38, rfl⟩
abbrev cc5_stg4_0 : Ref sig .tc := ⟨.vmem, 39, rfl⟩
abbrev cc5_stg4_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg2_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg2_0 : Ref sig .tc := ⟨.vmem, 49, rfl⟩
abbrev cc7_stg2_1 : Ref sig .tc := ⟨.vmem, 50, rfl⟩
abbrev cc7_stg3_0 : Ref sig .tc := ⟨.vmem, 51, rfl⟩
abbrev cc7_stg3_1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem3_1 : DmaSem sig := 38
abbrev cc5_sem4_0 : DmaSem sig := 39
abbrev cc5_sem4_1 : DmaSem sig := 40
abbrev cc6_sem0_0 : DmaSem sig := 41
abbrev cc6_sem0_1 : DmaSem sig := 42
abbrev cc6_sem1_0 : DmaSem sig := 43
abbrev cc6_sem2_0 : DmaSem sig := 44
abbrev cc6_sem2_1 : DmaSem sig := 45
abbrev cc7_sem0_0 : DmaSem sig := 46
abbrev cc7_sem0_1 : DmaSem sig := 47
abbrev cc7_sem1_0 : DmaSem sig := 48
abbrev cc7_sem2_0 : DmaSem sig := 49
abbrev cc7_sem2_1 : DmaSem sig := 50
abbrev cc7_sem3_0 : DmaSem sig := 51
abbrev cc7_sem3_1 : DmaSem sig := 52

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![1, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage2_0 : Fin 2 → Memref sig .tc .vmem S256x2816 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S256x2816 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S256x2816 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2816x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![4, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1408x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1408 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨2, ![1, 16], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage5_0 : Fin 2 → Memref sig .tc .vmem S256x2816 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S256x2816 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S256x2816 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S256x2816 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S256x2816 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![false, true]

abbrev grid6 : Pipeline.Grid := ⟨3, ![8, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S512x2816 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S1024x2816 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![8, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S512x2816 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S1024x2816 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S512x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S512x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]
-- ==== Reference2Ideal.lean ====
abbrev S4096x1024 : Shape := ⟨2, ![4096, 1024]⟩
abbrev S1024x2816 : Shape := ⟨2, ![1024, 2816]⟩
abbrev S2816x1024 : Shape := ⟨2, ![2816, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024x5632, .f32⟩
  | .hbm, ⟨11, _⟩ => ⟨S4096x5632, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S_, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x1024, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x5632, .f32⟩
  | .hbm, ⟨38, _⟩ => ⟨S4096x1024, .f32⟩
  | .hbm, ⟨39, _⟩ => ⟨S4096x2816, .f32⟩
  | .hbm, ⟨40, _⟩ => ⟨S4096x2816, .f32⟩
  | .hbm, ⟨41, _⟩ => ⟨S4096x2816, .bf16⟩
  | .hbm, ⟨42, _⟩ => ⟨S4096x2816, .bf16⟩
  | .hbm, ⟨43, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v8_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v8_1 : Ref sig .tc := ⟨.hbm, 25, rfl⟩
abbrev main_v8_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x1024 : Shape := ⟨2, ![4096, 1024]⟩
abbrev S4096x2816 : Shape := ⟨2, ![4096, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S1024x2048 : Shape := ⟨2, ![1024, 2048]⟩
abbrev S1024x128 : Shape := ⟨2, ![1024, 128]⟩
abbrev S1024x384 : Shape := ⟨2, ![1024, 384]⟩
abbrev S1024x256 : Shape := ⟨2, ![1024, 256]⟩
abbrev S1024x3072 : Shape := ⟨2, ![1024, 3072]⟩
abbrev S4096x2048 : Shape := ⟨2, ![4096, 2048]⟩
abbrev S4096x128 : Shape := ⟨2, ![4096, 128]⟩
abbrev S4096x384 : Shape := ⟨2, ![4096, 384]⟩
abbrev S4096x256 : Shape := ⟨2, ![4096, 256]⟩
abbrev S4096x3072 : Shape := ⟨2, ![4096, 3072]⟩
abbrev S1024x1536 : Shape := ⟨2, ![1024, 1536]⟩
abbrev S512x2048 : Shape := ⟨2, ![512, 2048]⟩
abbrev S512x1024 : Shape := ⟨2, ![512, 1024]⟩
abbrev S512x3072 : Shape := ⟨2, ![512, 3072]⟩

abbrev nBuf : Space → Nat
  | .hbm => 33
  | .vmem => 97
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x2048, .bf16⟩
  | .hbm, ⟨3, _⟩ => ⟨S1024x128, .bf16⟩
  | .hbm, ⟨4, _⟩ => ⟨S1024x2048, .bf16⟩
  | .hbm, ⟨5, _⟩ => ⟨S1024x384, .bf16⟩
  | .hbm, ⟨6, _⟩ => ⟨S1024x256, .bf16⟩
  | .hbm, ⟨7, _⟩ => ⟨S1024x128, .bf16⟩
  | .hbm, ⟨8, _⟩ => ⟨S1024x3072, .bf16⟩
  | .hbm, ⟨9, _⟩ => ⟨S4096x1024, .bf16⟩
  | .hbm, ⟨10, _⟩ => ⟨S4096x2048, .f32⟩
  | .hbm, ⟨11, _⟩ => ⟨S4096x128, .f32⟩
  | .hbm, ⟨12, _⟩ => ⟨S4096x2048, .bf16⟩
  | .hbm, ⟨13, _⟩ => ⟨S4096x384, .bf16⟩
  | .hbm, ⟨14, _⟩ => ⟨S4096x256, .bf16⟩
  | .hbm, ⟨15, _⟩ => ⟨S4096x128, .bf16⟩
  | .hbm, ⟨16, _⟩ => ⟨S4096x3072, .bf16⟩
  | .hbm, ⟨17, _⟩ => ⟨S4096x1024, .f32⟩
  | .hbm, ⟨18, _⟩ => ⟨S4096x2048, .f32⟩
  | .hbm, ⟨19, _⟩ => ⟨S4096x128, .f32⟩
  | .hbm, ⟨20, _⟩ => ⟨S4096x2048, .f32⟩
  | .hbm, ⟨21, _⟩ => ⟨S4096x384, .f32⟩
  | .hbm, ⟨22, _⟩ => ⟨S4096x256, .f32⟩
  | .hbm, ⟨23, _⟩ => ⟨S4096x128, .f32⟩
  | .hbm, ⟨24, _⟩ => ⟨S4096x3072, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x128, .bf16⟩
  | .local _ .vmem, ⟨14, _⟩ => ⟨S1024x128, .f32⟩
  | .local _ .vmem, ⟨15, _⟩ => ⟨S1024x128, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .bf16⟩
  | .local _ .vmem, ⟨23, _⟩ => ⟨S1024x1024, .bf16⟩
  | .local _ .vmem, ⟨24, _⟩ => ⟨S1024x384, .bf16⟩
  | .local _ .vmem, ⟨25, _⟩ => ⟨S1024x384, .f32⟩
  | .local _ .vmem, ⟨26, _⟩ => ⟨S1024x384, .f32⟩
  | .local _ .vmem, ⟨27, _⟩ => ⟨S1024x1024, .bf16⟩
  | .local _ .vmem, ⟨28, _⟩ => ⟨S1024x1024, .bf16⟩
  | .local _ .vmem, ⟨29, _⟩ => ⟨S1024x256, .bf16⟩
  | .local _ .vmem, ⟨30, _⟩ => ⟨S1024x256, .f32⟩
  | .local _ .vmem, ⟨31, _⟩ => ⟨S1024x256, .f32⟩
  | .local _ .vmem, ⟨32, _⟩ => ⟨S1024x1024, .bf16⟩
  | .local _ .vmem, ⟨33, _⟩ => ⟨S1024x1024, .bf16⟩
  | .local _ .vmem, ⟨34, _⟩ => ⟨S1024x128, .bf16⟩
  | .local _ .vmem, ⟨35, _⟩ => ⟨S1024x128, .f32⟩
  | .local _ .vmem, ⟨36, _⟩ => ⟨S1024x128, .f32⟩
  | .local _ .vmem, ⟨37, _⟩ => ⟨S1024x1024, .bf16⟩
  | .local _ .vmem, ⟨38, _⟩ => ⟨S1024x1024, .bf16⟩
  | .local _ .vmem, ⟨39, _⟩ => ⟨S1024x1536, .bf16⟩
  | .local _ .vmem, ⟨40, _⟩ => ⟨S1024x1536, .bf16⟩
  | .local _ .vmem, ⟨41, _⟩ => ⟨S1024x1536, .f32⟩
  | .local _ .vmem, ⟨42, _⟩ => ⟨S1024x1536, .f32⟩
  | .local _ .vmem, ⟨43, _⟩ => ⟨S1024x1024, .bf16⟩
  | .local _ .vmem, ⟨44, _⟩ => ⟨S1024x1024, .bf16⟩
  | .local _ .vmem, ⟨45, _⟩ => ⟨S1024x1024, .bf16⟩
  | .local _ .vmem, ⟨46, _⟩ => ⟨S1024x1024, .f32⟩
  | .local _ .vmem, ⟨47, _⟩ => ⟨S1024x1024, .f32⟩
  | .local _ .vmem, ⟨48, _⟩ => ⟨S512x2048, .f32⟩
  | .local _ .vmem, ⟨49, _⟩ => ⟨S512x2048, .f32⟩
  | .local _ .vmem, ⟨50, _⟩ => ⟨S1024x2048, .bf16⟩
  | .local _ .vmem, ⟨51, _⟩ => ⟨S512x1024, .f32⟩
  | .local _ .vmem, ⟨52, _⟩ => ⟨S512x1024, .f32⟩
  | .local _ .vmem, ⟨53, _⟩ => ⟨S512x1024, .f32⟩
  | .local _ .vmem, ⟨54, _⟩ => ⟨S512x1024, .f32⟩
  | .local _ .vmem, ⟨55, _⟩ => ⟨S1024x128, .f32⟩
  | .local _ .vmem, ⟨56, _⟩ => ⟨S1024x128, .f32⟩
  | .local _ .vmem, ⟨57, _⟩ => ⟨S1024x128, .bf16⟩
  | .local _ .vmem, ⟨58, _⟩ => ⟨S1024x1024, .f32⟩
  | .local _ .vmem, ⟨59, _⟩ => ⟨S1024x1024, .f32⟩
  | .local _ .vmem, ⟨60, _⟩ => ⟨S1024x1024, .f32⟩
  | .local _ .vmem, ⟨61, _⟩ => ⟨S1024x1024, .f32⟩
  | .local _ .vmem, ⟨62, _⟩ => ⟨S512x2048, .bf16⟩
  | .local _ .vmem, ⟨63, _⟩ => ⟨S512x2048, .bf16⟩
  | .local _ .vmem, ⟨64, _⟩ => ⟨S1024x2048, .bf16⟩
  | .local _ .vmem, ⟨65, _⟩ => ⟨S512x1024, .f32⟩
  | .local _ .vmem, ⟨66, _⟩ => ⟨S512x1024, .f32⟩
  | .local _ .vmem, ⟨67, _⟩ => ⟨S512x1024, .f32⟩
  | .local _ .vmem, ⟨68, _⟩ => ⟨S512x1024, .f32⟩
  | .local _ .vmem, ⟨69, _⟩ => ⟨S1024x384, .bf16⟩
  | .local _ .vmem, ⟨70, _⟩ => ⟨S1024x384, .bf16⟩
  | .local _ .vmem, ⟨71, _⟩ => ⟨S1024x384, .bf16⟩
  | .local _ .vmem, ⟨72, _⟩ => ⟨S1024x1024, .f32⟩
  | .local _ .vmem, ⟨73, _⟩ => ⟨S1024x1024, .f32⟩
  | .local _ .vmem, ⟨74, _⟩ => ⟨S1024x1024, .f32⟩
  | .local _ .vmem, ⟨75, _⟩ => ⟨S1024x1024, .f32⟩
  | .local _ .vmem, ⟨76, _⟩ => ⟨S1024x256, .bf16⟩
  | .local _ .vmem, ⟨77, _⟩ => ⟨S1024x256, .bf16⟩
  | .local _ .vmem, ⟨78, _⟩ => ⟨S1024x256, .bf16⟩
  | .local _ .vmem, ⟨79, _⟩ => ⟨S1024x1024, .f32⟩
  | .local _ .vmem, ⟨80, _⟩ => ⟨S1024x1024, .f32⟩
  | .local _ .vmem, ⟨81, _⟩ => ⟨S1024x1024, .f32⟩
  | .local _ .vmem, ⟨82, _⟩ => ⟨S1024x1024, .f32⟩
  | .local _ .vmem, ⟨83, _⟩ => ⟨S1024x128, .bf16⟩
  | .local _ .vmem, ⟨84, _⟩ => ⟨S1024x128, .bf16⟩
  | .local _ .vmem, ⟨85, _⟩ => ⟨S1024x128, .bf16⟩
  | .local _ .vmem, ⟨86, _⟩ => ⟨S1024x1024, .f32⟩
  | .local _ .vmem, ⟨87, _⟩ => ⟨S1024x1024, .f32⟩
  | .local _ .vmem, ⟨88, _⟩ => ⟨S1024x1024, .f32⟩
  | .local _ .vmem, ⟨89, _⟩ => ⟨S1024x1024, .f32⟩
  | .local _ .vmem, ⟨90, _⟩ => ⟨S512x3072, .bf16⟩
  | .local _ .vmem, ⟨91, _⟩ => ⟨S512x3072, .bf16⟩
  | .local _ .vmem, ⟨92, _⟩ => ⟨S1024x3072, .bf16⟩
  | .local _ .vmem, ⟨93, _⟩ => ⟨S512x1024, .f32⟩
  | .local _ .vmem, ⟨94, _⟩ => ⟨S512x1024, .f32⟩
  | .local _ .vmem, ⟨95, _⟩ => ⟨S512x1024, .f32⟩
  | .local _ .vmem, ⟨96, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | _, _ => false

abbrev semScoped : Fin 0 → Bool
  | ⟨_, h⟩ => absurd h (Nat.not_lt_zero _)

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  ofTc nBuf bufTy 0 97 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg2_1 : Ref sig .tc := ⟨.vmem, 47, rfl⟩
abbrev cc9_stg0_0 : Ref sig .tc := ⟨.vmem, 48, rfl⟩
abbrev cc9_stg0_1 : Ref sig .tc := ⟨.vmem, 49, rfl⟩
abbrev cc9_stg1_0 : Ref sig .tc := ⟨.vmem, 50, rfl⟩
abbrev cc9_stg2_0 : Ref sig .tc := ⟨.vmem, 51, rfl⟩
abbrev cc9_stg2_1 : Ref sig .tc := ⟨.vmem, 52, rfl⟩
abbrev cc9_stg3_0 : Ref sig .tc := ⟨.vmem, 53, rfl⟩
abbrev cc9_stg3_1 : Ref sig .tc := ⟨.vmem, 54, rfl⟩
abbrev cc10_stg0_0 : Ref sig .tc := ⟨.vmem, 55, rfl⟩
abbrev cc10_stg0_1 : Ref sig .tc := ⟨.vmem, 56, rfl⟩
abbrev cc10_stg1_0 : Ref sig .tc := ⟨.vmem, 57, rfl⟩
abbrev cc10_stg2_0 : Ref sig .tc := ⟨.vmem, 58, rfl⟩
abbrev cc10_stg2_1 : Ref sig .tc := ⟨.vmem, 59, rfl⟩
abbrev cc10_stg3_0 : Ref sig .tc := ⟨.vmem, 60, rfl⟩
abbrev cc10_stg3_1 : Ref sig .tc := ⟨.vmem, 61, rfl⟩
abbrev cc11_stg0_0 : Ref sig .tc := ⟨.vmem, 62, rfl⟩
abbrev cc11_stg0_1 : Ref sig .tc := ⟨.vmem, 63, rfl⟩
abbrev cc11_stg1_0 : Ref sig .tc := ⟨.vmem, 64, rfl⟩
abbrev cc11_stg2_0 : Ref sig .tc := ⟨.vmem, 65, rfl⟩
abbrev cc11_stg2_1 : Ref sig .tc := ⟨.vmem, 66, rfl⟩
abbrev cc11_stg3_0 : Ref sig .tc := ⟨.vmem, 67, rfl⟩
abbrev cc11_stg3_1 : Ref sig .tc := ⟨.vmem, 68, rfl⟩
abbrev cc12_stg0_0 : Ref sig .tc := ⟨.vmem, 69, rfl⟩
abbrev cc12_stg0_1 : Ref sig .tc := ⟨.vmem, 70, rfl⟩
abbrev cc12_stg1_0 : Ref sig .tc := ⟨.vmem, 71, rfl⟩
abbrev cc12_stg2_0 : Ref sig .tc := ⟨.vmem, 72, rfl⟩
abbrev cc12_stg2_1 : Ref sig .tc := ⟨.vmem, 73, rfl⟩
abbrev cc12_stg3_0 : Ref sig .tc := ⟨.vmem, 74, rfl⟩
abbrev cc12_stg3_1 : Ref sig .tc := ⟨.vmem, 75, rfl⟩
abbrev cc13_stg0_0 : Ref sig .tc := ⟨.vmem, 76, rfl⟩
abbrev cc13_stg0_1 : Ref sig .tc := ⟨.vmem, 77, rfl⟩
abbrev cc13_stg1_0 : Ref sig .tc := ⟨.vmem, 78, rfl⟩
abbrev cc13_stg2_0 : Ref sig .tc := ⟨.vmem, 79, rfl⟩
abbrev cc13_stg2_1 : Ref sig .tc := ⟨.vmem, 80, rfl⟩
abbrev cc13_stg3_0 : Ref sig .tc := ⟨.vmem, 81, rfl⟩
abbrev cc13_stg3_1 : Ref sig .tc := ⟨.vmem, 82, rfl⟩
abbrev cc14_stg0_0 : Ref sig .tc := ⟨.vmem, 83, rfl⟩
abbrev cc14_stg0_1 : Ref sig .tc := ⟨.vmem, 84, rfl⟩
abbrev cc14_stg1_0 : Ref sig .tc := ⟨.vmem, 85, rfl⟩
abbrev cc14_stg2_0 : Ref sig .tc := ⟨.vmem, 86, rfl⟩
abbrev cc14_stg2_1 : Ref sig .tc := ⟨.vmem, 87, rfl⟩
abbrev cc14_stg3_0 : Ref sig .tc := ⟨.vmem, 88, rfl⟩
abbrev cc14_stg3_1 : Ref sig .tc := ⟨.vmem, 89, rfl⟩
abbrev cc15_stg0_0 : Ref sig .tc := ⟨.vmem, 90, rfl⟩
abbrev cc15_stg0_1 : Ref sig .tc := ⟨.vmem, 91, rfl⟩
abbrev cc15_stg1_0 : Ref sig .tc := ⟨.vmem, 92, rfl⟩
abbrev cc15_stg2_0 : Ref sig .tc := ⟨.vmem, 93, rfl⟩
abbrev cc15_stg2_1 : Ref sig .tc := ⟨.vmem, 94, rfl⟩
abbrev cc15_stg3_0 : Ref sig .tc := ⟨.vmem, 95, rfl⟩
abbrev cc15_stg3_1 : Ref sig .tc := ⟨.vmem, 96, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47
abbrev cc9_sem0_0 : DmaSem sig := 48
abbrev cc9_sem0_1 : DmaSem sig := 49
abbrev cc9_sem1_0 : DmaSem sig := 50
abbrev cc9_sem2_0 : DmaSem sig := 51
abbrev cc9_sem2_1 : DmaSem sig := 52
abbrev cc9_sem3_0 : DmaSem sig := 53
abbrev cc9_sem3_1 : DmaSem sig := 54
abbrev cc10_sem0_0 : DmaSem sig := 55
abbrev cc10_sem0_1 : DmaSem sig := 56
abbrev cc10_sem1_0 : DmaSem sig := 57
abbrev cc10_sem2_0 : DmaSem sig := 58
abbrev cc10_sem2_1 : DmaSem sig := 59
abbrev cc10_sem3_0 : DmaSem sig := 60
abbrev cc10_sem3_1 : DmaSem sig := 61
abbrev cc11_sem0_0 : DmaSem sig := 62
abbrev cc11_sem0_1 : DmaSem sig := 63
abbrev cc11_sem1_0 : DmaSem sig := 64
abbrev cc11_sem2_0 : DmaSem sig := 65
abbrev cc11_sem2_1 : DmaSem sig := 66
abbrev cc11_sem3_0 : DmaSem sig := 67
abbrev cc11_sem3_1 : DmaSem sig := 68
abbrev cc12_sem0_0 : DmaSem sig := 69
abbrev cc12_sem0_1 : DmaSem sig := 70
abbrev cc12_sem1_0 : DmaSem sig := 71
abbrev cc12_sem2_0 : DmaSem sig := 72
abbrev cc12_sem2_1 : DmaSem sig := 73
abbrev cc12_sem3_0 : DmaSem sig := 74
abbrev cc12_sem3_1 : DmaSem sig := 75
abbrev cc13_sem0_0 : DmaSem sig := 76
abbrev cc13_sem0_1 : DmaSem sig := 77
abbrev cc13_sem1_0 : DmaSem sig := 78
abbrev cc13_sem2_0 : DmaSem sig := 79
abbrev cc13_sem2_1 : DmaSem sig := 80
abbrev cc13_sem3_0 : DmaSem sig := 81
abbrev cc13_sem3_1 : DmaSem sig := 82
abbrev cc14_sem0_0 : DmaSem sig := 83
abbrev cc14_sem0_1 : DmaSem sig := 84
abbrev cc14_sem1_0 : DmaSem sig := 85
abbrev cc14_sem2_0 : DmaSem sig := 86
abbrev cc14_sem2_1 : DmaSem sig := 87
abbrev cc14_sem3_0 : DmaSem sig := 88
abbrev cc14_sem3_1 : DmaSem sig := 89
abbrev cc15_sem0_0 : DmaSem sig := 90
abbrev cc15_sem0_1 : DmaSem sig := 91
abbrev cc15_sem1_0 : DmaSem sig := 92
abbrev cc15_sem2_0 : DmaSem sig := 93
abbrev cc15_sem2_1 : DmaSem sig := 94
abbrev cc15_sem3_0 : DmaSem sig := 95
abbrev cc15_sem3_1 : DmaSem sig := 96

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x384 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x384 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S1024x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S1024x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1024x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![4, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x1536 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x1536 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![4, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S1024x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![8, 1, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc9_transform_3 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S512x2048 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 1 → Memref sig .tc .vmem S1024x2048 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true, true]

abbrev stage9_2 : Fin 2 → Memref sig .tc .vmem S512x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev stage9_3 : Fin 2 → Memref sig .tc .vmem S512x1024 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true, false]

abbrev grid10 : Pipeline.Grid := ⟨3, ![4, 1, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc10_transform_3 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S1024x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 1 → Memref sig .tc .vmem S1024x128 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true, true]

abbrev stage10_2 : Fin 2 → Memref sig .tc .vmem S1024x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev stage10_3 : Fin 2 → Memref sig .tc .vmem S1024x1024 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true, false]

abbrev grid11 : Pipeline.Grid := ⟨3, ![8, 1, 1], ![false, false, false]⟩

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc11_transform_3 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S512x2048 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 1 → Memref sig .tc .vmem S1024x2048 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, true, true]

abbrev stage11_2 : Fin 2 → Memref sig .tc .vmem S512x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

abbrev stage11_3 : Fin 2 → Memref sig .tc .vmem S512x1024 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true, false]

abbrev grid12 : Pipeline.Grid := ⟨3, ![4, 1, 1], ![false, false, false]⟩

def cc12_transform_0 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc12_transform_1 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc12_transform_2 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc12_transform_3 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage12_0 : Fin 2 → Memref sig .tc .vmem S1024x384 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false, true]

abbrev stage12_1 : Fin 1 → Memref sig .tc .vmem S1024x384 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false, true, true]

abbrev stage12_2 : Fin 2 → Memref sig .tc .vmem S1024x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true, false]

abbrev stage12_3 : Fin 2 → Memref sig .tc .vmem S1024x1024 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, true, false]

abbrev grid13 : Pipeline.Grid := ⟨3, ![4, 1, 1], ![false, false, false]⟩

def cc13_transform_0 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc13_transform_1 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc13_transform_2 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc13_transform_3 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage13_0 : Fin 2 → Memref sig .tc .vmem S1024x256 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, false, true]

abbrev stage13_1 : Fin 1 → Memref sig .tc .vmem S1024x256 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false, true, true]

abbrev stage13_2 : Fin 2 → Memref sig .tc .vmem S1024x1024 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true, true, false]

abbrev stage13_3 : Fin 2 → Memref sig .tc .vmem S1024x1024 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true, true, false]

abbrev grid14 : Pipeline.Grid := ⟨3, ![4, 1, 1], ![false, false, false]⟩

def cc14_transform_0 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc14_transform_1 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc14_transform_2 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc14_transform_3 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage14_0 : Fin 2 → Memref sig .tc .vmem S1024x128 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, false, true]

abbrev stage14_1 : Fin 1 → Memref sig .tc .vmem S1024x128 .bf16 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false, true, true]

abbrev stage14_2 : Fin 2 → Memref sig .tc .vmem S1024x1024 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, true, false]

abbrev stage14_3 : Fin 2 → Memref sig .tc .vmem S1024x1024 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true, true, false]

abbrev grid15 : Pipeline.Grid := ⟨3, ![8, 1, 1], ![false, false, false]⟩

def cc15_transform_0 (i : grid15.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc15_transform_1 (i : grid15.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc15_transform_2 (i : grid15.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc15_transform_3 (i : grid15.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage15_0 : Fin 2 → Memref sig .tc .vmem S512x3072 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, false, true]

abbrev stage15_1 : Fin 1 → Memref sig .tc .vmem S1024x3072 .bf16 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false, true, true]

abbrev stage15_2 : Fin 2 → Memref sig .tc .vmem S512x1024 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true, true, false]

abbrev stage15_3 : Fin 2 → Memref sig .tc .vmem S512x1024 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true, true, false]
-- ==== Reference5Ideal.lean ====
abbrev S4096x1024 : Shape := ⟨2, ![4096, 1024]⟩
abbrev S1024x1024 : Shape := ⟨2, ![1024, 1024]⟩
abbrev S1024x2048 : Shape := ⟨2, ![1024, 2048]⟩
abbrev S1024x128 : Shape := ⟨2, ![1024, 128]⟩
abbrev S1024x384 : Shape := ⟨2, ![1024, 384]⟩
abbrev S1024x256 : Shape := ⟨2, ![1024, 256]⟩
abbrev S1024x3072 : Shape := ⟨2, ![1024, 3072]⟩
abbrev S4096x2048 : Shape := ⟨2, ![4096, 2048]⟩
abbrev S4096x128 : Shape := ⟨2, ![4096, 128]⟩
abbrev S4096x384 : Shape := ⟨2, ![4096, 384]⟩
abbrev S4096x256 : Shape := ⟨2, ![4096, 256]⟩
abbrev S4096x3072 : Shape := ⟨2, ![4096, 3072]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x2048, .bf16⟩
  | .hbm, ⟨3, _⟩ => ⟨S1024x128, .bf16⟩
  | .hbm, ⟨4, _⟩ => ⟨S1024x2048, .bf16⟩
  | .hbm, ⟨5, _⟩ => ⟨S1024x384, .bf16⟩
  | .hbm, ⟨6, _⟩ => ⟨S1024x256, .bf16⟩
  | .hbm, ⟨7, _⟩ => ⟨S1024x128, .bf16⟩
  | .hbm, ⟨8, _⟩ => ⟨S1024x3072, .bf16⟩
  | .hbm, ⟨9, _⟩ => ⟨S4096x1024, .bf16⟩
  | .hbm, ⟨10, _⟩ => ⟨S4096x2048, .f32⟩
  | .hbm, ⟨11, _⟩ => ⟨S4096x128, .f32⟩
  | .hbm, ⟨12, _⟩ => ⟨S4096x2048, .bf16⟩
  | .hbm, ⟨13, _⟩ => ⟨S4096x384, .bf16⟩
  | .hbm, ⟨14, _⟩ => ⟨S4096x256, .bf16⟩
  | .hbm, ⟨15, _⟩ => ⟨S4096x128, .bf16⟩
  | .hbm, ⟨16, _⟩ => ⟨S4096x3072, .bf16⟩
  | .hbm, ⟨17, _⟩ => ⟨S1024x1024, .f32⟩
  | .hbm, ⟨18, _⟩ => ⟨S1024x2048, .f32⟩
  | .hbm, ⟨19, _⟩ => ⟨S1024x128, .f32⟩
  | .hbm, ⟨20, _⟩ => ⟨S1024x2048, .f32⟩
  | .hbm, ⟨21, _⟩ => ⟨S1024x384, .f32⟩
  | .hbm, ⟨22, _⟩ => ⟨S1024x256, .f32⟩
  | .hbm, ⟨23, _⟩ => ⟨S1024x128, .f32⟩
  | .hbm, ⟨24, _⟩ => ⟨S1024x3072, .f32⟩
  | .hbm, ⟨25, _⟩ => ⟨S4096x1024, .f32⟩
  | .hbm, ⟨26, _⟩ => ⟨S4096x2048, .f32⟩
  | .hbm, ⟨27, _⟩ => ⟨S4096x384, .f32⟩
  | .hbm, ⟨28, _⟩ => ⟨S4096x256, .f32⟩
  | .hbm, ⟨29, _⟩ => ⟨S4096x128, .f32⟩
  | .hbm, ⟨30, _⟩ => ⟨S4096x3072, .f32⟩
  | .hbm, ⟨31, _⟩ => ⟨S4096x1024, .f32⟩
  | .hbm, ⟨32, _⟩ => ⟨S4096x1024, .f32⟩
  | .hbm, ⟨33, _⟩ => ⟨S4096x2048, .f32⟩
  | .hbm, ⟨34, _⟩ => ⟨S4096x128, .f32⟩
  | .hbm, ⟨35, _⟩ => ⟨S4096x2048, .f32⟩
  | .hbm, ⟨36, _⟩ => ⟨S4096x384, .f32⟩
  | .hbm, ⟨37, _⟩ => ⟨S4096x256, .f32⟩
  | .hbm, ⟨38, _⟩ => ⟨S4096x128, .f32⟩
  | .hbm, ⟨39, _⟩ => ⟨S4096x3072, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .f32⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S2048x1024, .f32⟩
  | .hbm, ⟨7, _⟩ => ⟨S1024x2048, .f32⟩
  | .hbm, ⟨8, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .hbm, ⟨3, _⟩ => ⟨S1024x1024, .bf16⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference10Ideal.lean ====
abbrev S4096x1024 : Shape := ⟨2, ![4096, 1024]⟩
abbrev S1024x1024 : Shape := ⟨2, ![1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .hbm, ⟨3, _⟩ => ⟨S1024x1024, .bf16⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x384 : Shape := ⟨2, ![4096, 384]⟩
abbrev S4096x256 : Shape := ⟨2, ![4096, 256]⟩
abbrev S384x1024 : Shape := ⟨2, ![384, 1024]⟩
abbrev S256x1024 : Shape := ⟨2, ![256, 1024]⟩
abbrev S4096x1024 : Shape := ⟨2, ![4096, 1024]⟩
abbrev S1024x384 : Shape := ⟨2, ![1024, 384]⟩
abbrev S1024x1024 : Shape := ⟨2, ![1024, 1024]⟩
abbrev S1024x256 : Shape := ⟨2, ![1024, 256]⟩

abbrev nBuf : Space → Nat
  | .hbm => 18
  | .vmem => 44
  | .smem => 0
  | _ => 0

abbrev bufTy : (tb : Table) → Fin (tcTables nBuf tb) → BufTy
  | .hbm, ⟨0, _⟩ => ⟨S4096x384, .bf16⟩
  | .hbm, ⟨1, _⟩ => ⟨S4096x256, .bf16⟩
  | .hbm, ⟨2, _⟩ => ⟨S384x1024, .bf16⟩
  | .hbm, ⟨3, _⟩ => ⟨S384x1024, .bf16⟩
  | .hbm, ⟨4, _⟩ => ⟨S256x1024, .bf16⟩
  | .hbm, ⟨5, _⟩ => ⟨S256x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x384, .f32⟩
  | .hbm, ⟨13, _⟩ => ⟨S4096x384, .f32⟩
  | .hbm, ⟨14, _⟩ => ⟨S4096x1024, .f32⟩
  | .hbm, ⟨15, _⟩ => ⟨S4096x1024, .f32⟩
  | .hbm, ⟨16, _⟩ => ⟨S4096x256, .f32⟩
  | .hbm, ⟨17, _⟩ => ⟨S4096x256, .f32⟩
  | .local _ .vmem, ⟨0, _⟩ => ⟨S1024x384, .bf16⟩
  | .local _ .vmem, ⟨1, _⟩ => ⟨S1024x384, .bf16⟩
  | .local _ .vmem, ⟨2, _⟩ => ⟨S384x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x384, .bf16⟩
  | .local _ .vmem, ⟨6, _⟩ => ⟨S1024x384, .bf16⟩
  | .local _ .vmem, ⟨7, _⟩ => ⟨S384x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S384x1024, .bf16⟩
  | .local _ .vmem, ⟨13, _⟩ => ⟨S1024x384, .f32⟩
  | .local _ .vmem, ⟨14, _⟩ => ⟨S1024x384, .f32⟩
  | .local _ .vmem, ⟨15, _⟩ => ⟨S1024x1024, .bf16⟩
  | .local _ .vmem, ⟨16, _⟩ => ⟨S1024x1024, .bf16⟩
  | .local _ .vmem, ⟨17, _⟩ => ⟨S384x1024, .bf16⟩
  | .local _ .vmem, ⟨18, _⟩ => ⟨S1024x384, .f32⟩
  | .local _ .vmem, ⟨19, _⟩ => ⟨S1024x384, .f32⟩
  | .local _ .vmem, ⟨20, _⟩ => ⟨S1024x384, .f32⟩
  | .local _ .vmem, ⟨21, _⟩ => ⟨S1024x384, .f32⟩
  | .local _ .vmem, ⟨22, _⟩ => ⟨S1024x256, .bf16⟩
  | .local _ .vmem, ⟨23, _⟩ => ⟨S1024x256, .bf16⟩
  | .local _ .vmem, ⟨24, _⟩ => ⟨S256x1024, .bf16⟩
  | .local _ .vmem, ⟨25, _⟩ => ⟨S1024x1024, .f32⟩
  | .local _ .vmem, ⟨26, _⟩ => ⟨S1024x1024, .f32⟩
  | .local _ .vmem, ⟨27, _⟩ => ⟨S1024x256, .bf16⟩
  | .local _ .vmem, ⟨28, _⟩ => ⟨S1024x256, .bf16⟩
  | .local _ .vmem, ⟨29, _⟩ => ⟨S256x1024, .bf16⟩
  | .local _ .vmem, ⟨30, _⟩ => ⟨S1024x1024, .f32⟩
  | .local _ .vmem, ⟨31, _⟩ => ⟨S1024x1024, .f32⟩
  | .local _ .vmem, ⟨32, _⟩ => ⟨S1024x1024, .bf16⟩
  | .local _ .vmem, ⟨33, _⟩ => ⟨S1024x1024, .bf16⟩
  | .local _ .vmem, ⟨34, _⟩ => ⟨S256x1024, .bf16⟩
  | .local _ .vmem, ⟨35, _⟩ => ⟨S1024x256, .f32⟩
  | .local _ .vmem, ⟨36, _⟩ => ⟨S1024x256, .f32⟩
  | .local _ .vmem, ⟨37, _⟩ => ⟨S1024x1024, .f32⟩
  | .local _ .vmem, ⟨38, _⟩ => ⟨S1024x1024, .f32⟩
  | .local _ .vmem, ⟨39, _⟩ => ⟨S256x1024, .bf16⟩
  | .local _ .vmem, ⟨40, _⟩ => ⟨S1024x256, .f32⟩
  | .local _ .vmem, ⟨41, _⟩ => ⟨S1024x256, .f32⟩
  | .local _ .vmem, ⟨42, _⟩ => ⟨S1024x256, .f32⟩
  | .local _ .vmem, ⟨43, _⟩ => ⟨S1024x256, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg2_1 : Ref sig .tc := ⟨.vmem, 41, rfl⟩
abbrev cc7_stg3_0 : Ref sig .tc := ⟨.vmem, 42, rfl⟩
abbrev cc7_stg3_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem2_0 : DmaSem sig := 40
abbrev cc7_sem2_1 : DmaSem sig := 41
abbrev cc7_sem3_0 : DmaSem sig := 42
abbrev cc7_sem3_1 : DmaSem sig := 43

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S384x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S384x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S384x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x384 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x384 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S256x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S256x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S256x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1024x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![4, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S256x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1024x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S1024x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]
-- ==== Reference13Ideal.lean ====
abbrev S4096x384 : Shape := ⟨2, ![4096, 384]⟩
abbrev S4096x256 : Shape := ⟨2, ![4096, 256]⟩
abbrev S384x1024 : Shape := ⟨2, ![384, 1024]⟩
abbrev S256x1024 : Shape := ⟨2, ![256, 1024]⟩
abbrev S4096x1024 : Shape := ⟨2, ![4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S4096x256, .bf16⟩
  | .hbm, ⟨2, _⟩ => ⟨S384x1024, .bf16⟩
  | .hbm, ⟨3, _⟩ => ⟨S384x1024, .bf16⟩
  | .hbm, ⟨4, _⟩ => ⟨S256x1024, .bf16⟩
  | .hbm, ⟨5, _⟩ => ⟨S256x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .f32⟩
  | .hbm, ⟨10, _⟩ => ⟨S4096x384, .f32⟩
  | .hbm, ⟨11, _⟩ => ⟨S4096x256, .f32⟩
  | .hbm, ⟨12, _⟩ => ⟨S384x1024, .f32⟩
  | .hbm, ⟨13, _⟩ => ⟨S384x1024, .f32⟩
  | .hbm, ⟨14, _⟩ => ⟨S256x1024, .f32⟩
  | .hbm, ⟨15, _⟩ => ⟨S256x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x384, .f32⟩
  | .hbm, ⟨24, _⟩ => ⟨S4096x384, .f32⟩
  | .hbm, ⟨25, _⟩ => ⟨S4096x384, .f32⟩
  | .hbm, ⟨26, _⟩ => ⟨S4096x256, .f32⟩
  | .hbm, ⟨27, _⟩ => ⟨S4096x256, .f32⟩
  | .hbm, ⟨28, _⟩ => ⟨S4096x256, .f32⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel14.lean ====
abbrev S4096x1024 : Shape := ⟨2, ![4096, 1024]⟩
abbrev S4096x128 : Shape := ⟨2, ![4096, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S1024x128, .bf16⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x128, .bf16⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S128x1024, .f32⟩
  | .hbm, ⟨7, _⟩ => ⟨S1024x128, .f32⟩
  | .hbm, ⟨8, _⟩ => ⟨S1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4096x1024 : Shape := ⟨2, ![4096, 1024]⟩
abbrev S4096x384 : Shape := ⟨2, ![4096, 384]⟩
abbrev S1024x384 : Shape := ⟨2, ![1024, 384]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x384, .bf16⟩
  | .hbm, ⟨2, _⟩ => ⟨S1024x384, .bf16⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .bf16⟩
  | .local _ .vmem, ⟨5, _⟩ => ⟨S1024x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S4096x384 : Shape := ⟨2, ![4096, 384]⟩
abbrev S_ : Shape := ⟨0, ![]⟩
abbrev S1024x384 : Shape := ⟨2, ![1024, 384]⟩
abbrev S384x1024 : Shape := ⟨2, ![384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x384, .bf16⟩
  | .hbm, ⟨2, _⟩ => ⟨S_, .f32⟩
  | .hbm, ⟨3, _⟩ => ⟨S1024x384, .f32⟩
  | .hbm, ⟨4, _⟩ => ⟨S4096x1024, .f32⟩
  | .hbm, ⟨5, _⟩ => ⟨S4096x384, .f32⟩
  | .hbm, ⟨6, _⟩ => ⟨S4096x384, .f32⟩
  | .hbm, ⟨7, _⟩ => ⟨S384x1024, .f32⟩
  | .hbm, ⟨8, _⟩ => ⟨S1024x384, .f32⟩
  | .hbm, ⟨9, _⟩ => ⟨S1024x384, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x1024 : Shape := ⟨2, ![4096, 1024]⟩
abbrev S4096x256 : Shape := ⟨2, ![4096, 256]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S4096x256 : Shape := ⟨2, ![4096, 256]⟩
abbrev S_ : Shape := ⟨0, ![]⟩
abbrev S1024x256 : Shape := ⟨2, ![1024, 256]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S_, .f32⟩
  | .hbm, ⟨3, _⟩ => ⟨S1024x256, .f32⟩
  | .hbm, ⟨4, _⟩ => ⟨S4096x1024, .f32⟩
  | .hbm, ⟨5, _⟩ => ⟨S4096x256, .f32⟩
  | .hbm, ⟨6, _⟩ => ⟨S4096x256, .f32⟩
  | .hbm, ⟨7, _⟩ => ⟨S256x1024, .f32⟩
  | .hbm, ⟨8, _⟩ => ⟨S1024x256, .f32⟩
  | .hbm, ⟨9, _⟩ => ⟨S1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4096x1024 : Shape := ⟨2, ![4096, 1024]⟩
abbrev S4096x128 : Shape := ⟨2, ![4096, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S1024x128, .bf16⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S4096x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S4096x384 : Shape := ⟨2, ![4096, 384]⟩
abbrev S4096x1024 : Shape := ⟨2, ![4096, 1024]⟩
abbrev S384x1024 : Shape := ⟨2, ![384, 1024]⟩
abbrev S1024x384 : Shape := ⟨2, ![1024, 384]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x384, .bf16⟩
  | .hbm, ⟨1, _⟩ => ⟨S4096x1024, .bf16⟩
  | .hbm, ⟨2, _⟩ => ⟨S384x1024, .bf16⟩
  | .local _ .vmem, ⟨0, _⟩ => ⟨S1024x384, .bf16⟩
  | .local _ .vmem, ⟨1, _⟩ => ⟨S1024x384, .bf16⟩
  | .local _ .vmem, ⟨2, _⟩ => ⟨S1024x1024, .bf16⟩
  | .local _ .vmem, ⟨3, _⟩ => ⟨S1024x1024, .bf16⟩
  | .local _ .vmem, ⟨4, _⟩ => ⟨S384x1024, .bf16⟩
  | .local _ .vmem, ⟨5, _⟩ => ⟨S384x1024, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S4096x384 : Shape := ⟨2, ![4096, 384]⟩
abbrev S4096x1024 : Shape := ⟨2, ![4096, 1024]⟩
abbrev S_ : Shape := ⟨0, ![]⟩
abbrev S384x1024 : Shape := ⟨2, ![384, 1024]⟩
abbrev S1024x384 : Shape := ⟨2, ![1024, 384]⟩

abbrev nBuf : Space → Nat
  | .hbm => 10
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S4096x1024, .bf16⟩
  | .hbm, ⟨2, _⟩ => ⟨S_, .f32⟩
  | .hbm, ⟨3, _⟩ => ⟨S384x1024, .f32⟩
  | .hbm, ⟨4, _⟩ => ⟨S4096x384, .f32⟩
  | .hbm, ⟨5, _⟩ => ⟨S4096x1024, .f32⟩
  | .hbm, ⟨6, _⟩ => ⟨S4096x1024, .f32⟩
  | .hbm, ⟨7, _⟩ => ⟨S1024x384, .f32⟩
  | .hbm, ⟨8, _⟩ => ⟨S384x1024, .f32⟩
  | .hbm, ⟨9, _⟩ => ⟨S384x1024, .bf16⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S4096x256 : Shape := ⟨2, ![4096, 256]⟩
abbrev S4096x1024 : Shape := ⟨2, ![4096, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S4096x256 : Shape := ⟨2, ![4096, 256]⟩
abbrev S4096x1024 : Shape := ⟨2, ![4096, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x1024, .f32⟩
  | .hbm, ⟨2, _⟩ => ⟨S256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .f32⟩
  | .local _ .vmem, ⟨3, _⟩ => ⟨S1024x1024, .f32⟩
  | .local _ .vmem, ⟨4, _⟩ => ⟨S256x1024, .bf16⟩
  | .local _ .vmem, ⟨5, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .f32⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S1024x256, .f32⟩
  | .hbm, ⟨7, _⟩ => ⟨S256x1024, .f32⟩
  | .hbm, ⟨8, _⟩ => ⟨S256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel21.lean ====
abbrev S256x1024 : Shape := ⟨2, ![256, 1024]⟩
abbrev S1024x1024 : Shape := ⟨2, ![1024, 1024]⟩

abbrev nBuf : Space → Nat
  | .hbm => 11
  | .vmem => 19
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S1024x1024, .bf16⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S1024x1024, .bf16⟩
  | .hbm, ⟨10, _⟩ => ⟨S1024x1024, .bf16⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | .local _ .vmem, ⟨3, _⟩ => ⟨S256x1024, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .f32⟩
  | .local _ .vmem, ⟨15, _⟩ => ⟨S1024x1024, .bf16⟩
  | .local _ .vmem, ⟨16, _⟩ => ⟨S256x1024, .bf16⟩
  | .local _ .vmem, ⟨17, _⟩ => ⟨S256x1024, .f32⟩
  | .local _ .vmem, ⟨18, _⟩ => ⟨S1024x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc3_stg0_0 : Ref sig .tc := ⟨.vmem, 9, rfl⟩
abbrev cc3_stg1_0 : Ref sig .tc := ⟨.vmem, 10, rfl⟩
abbrev cc3_stg2_0 : Ref sig .tc := ⟨.vmem, 11, rfl⟩
abbrev cc3_stg3_0 : Ref sig .tc := ⟨.vmem, 12, rfl⟩
abbrev cc4_stg0_0 : Ref sig .tc := ⟨.vmem, 13, rfl⟩
abbrev cc4_stg1_0 : Ref sig .tc := ⟨.vmem, 14, rfl⟩
abbrev cc4_stg2_0 : Ref sig .tc := ⟨.vmem, 15, rfl⟩
abbrev cc5_stg0_0 : Ref sig .tc := ⟨.vmem, 16, rfl⟩
abbrev cc5_stg1_0 : Ref sig .tc := ⟨.vmem, 17, rfl⟩
abbrev cc5_stg2_0 : Ref sig .tc := ⟨.vmem, 18, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8
abbrev cc3_sem0_0 : DmaSem sig := 9
abbrev cc3_sem1_0 : DmaSem sig := 10
abbrev cc3_sem2_0 : DmaSem sig := 11
abbrev cc3_sem3_0 : DmaSem sig := 12
abbrev cc4_sem0_0 : DmaSem sig := 13
abbrev cc4_sem1_0 : DmaSem sig := 14
abbrev cc4_sem2_0 : DmaSem sig := 15
abbrev cc5_sem0_0 : DmaSem sig := 16
abbrev cc5_sem1_0 : DmaSem sig := 17
abbrev cc5_sem2_0 : DmaSem sig := 18

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev grid1 : Pipeline.Grid := ⟨3, ![1, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S256x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]

abbrev grid2 : Pipeline.Grid := ⟨3, ![1, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S256x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S256x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨3, ![1, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S256x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S256x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev stage3_3 : Fin 1 → Memref sig .tc .vmem S256x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true, false]

abbrev grid4 : Pipeline.Grid := ⟨3, ![1, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S256x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 1 → Memref sig .tc .vmem S256x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S1024x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]

abbrev grid5 : Pipeline.Grid := ⟨3, ![1, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S256x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 1 → Memref sig .tc .vmem S256x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 1 → Memref sig .tc .vmem S1024x1024 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]
-- ==== Reference21Ideal.lean ====
abbrev S256x1024 : Shape := ⟨2, ![256, 1024]⟩
abbrev S1024x1024 : Shape := ⟨2, ![1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S1024x1024, .bf16⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S1024x1024, .f32⟩
  | .hbm, ⟨7, _⟩ => ⟨S1024x1024, .f32⟩
  | .hbm, ⟨8, _⟩ => ⟨S256x1024, .f32⟩
  | .hbm, ⟨9, _⟩ => ⟨S256x1024, .f32⟩
  | .hbm, ⟨10, _⟩ => ⟨S1024x1024, .f32⟩
  | .hbm, ⟨11, _⟩ => ⟨S1024x1024, .f32⟩
  | .hbm, ⟨12, _⟩ => ⟨S256x1024, .f32⟩
  | .hbm, ⟨13, _⟩ => ⟨S1024x1024, .f32⟩
  | .hbm, ⟨14, _⟩ => ⟨S1024x1024, .f32⟩
  | .hbm, ⟨15, _⟩ => ⟨S256x1024, .f32⟩
  | .hbm, ⟨16, _⟩ => ⟨S256x1024, .f32⟩
  | .hbm, ⟨17, _⟩ => ⟨S1024x1024, .bf16⟩
  | .hbm, ⟨18, _⟩ => ⟨S1024x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel22.lean ====
abbrev S4096x2048 : Shape := ⟨2, ![4096, 2048]⟩
abbrev S4096x1024 : Shape := ⟨2, ![4096, 1024]⟩
abbrev S4096x3072 : Shape := ⟨2, ![4096, 3072]⟩
abbrev S1x3072 : Shape := ⟨2, ![1, 3072]⟩
abbrev S1x1024 : Shape := ⟨2, ![1, 1024]⟩
abbrev S_ : Shape := ⟨0, ![]⟩
abbrev S256x2048 : Shape := ⟨2, ![256, 2048]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩

abbrev nBuf : Space → Nat
  | .hbm => 19
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x3072, .f32⟩
  | .hbm, ⟨3, _⟩ => ⟨S1x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S_, .bf16⟩
  | .hbm, ⟨10, _⟩ => ⟨S4096x2048, .bf16⟩
  | .hbm, ⟨11, _⟩ => ⟨S4096x1024, .f32⟩
  | .hbm, ⟨12, _⟩ => ⟨S4096x1024, .bf16⟩
  | .hbm, ⟨13, _⟩ => ⟨S_, .f32⟩
  | .hbm, ⟨14, _⟩ => ⟨S4096x1024, .f32⟩
  | .hbm, ⟨15, _⟩ => ⟨S4096x1024, .bf16⟩
  | .hbm, ⟨16, _⟩ => ⟨S_, .f32⟩
  | .hbm, ⟨17, _⟩ => ⟨S4096x1024, .f32⟩
  | .hbm, ⟨18, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x3072, .f32⟩
  | .local _ .vmem, ⟨5, _⟩ => ⟨S256x3072, .f32⟩
  | .local _ .vmem, ⟨6, _⟩ => ⟨S1x3072, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S256x1024, .bf16⟩
  | .local _ .vmem, ⟨19, _⟩ => ⟨S256x1024, .bf16⟩
  | .local _ .vmem, ⟨20, _⟩ => ⟨S256x2048, .f32⟩
  | .local _ .vmem, ⟨21, _⟩ => ⟨S256x2048, .f32⟩
  | .local _ .vmem, ⟨22, _⟩ => ⟨S256x1024, .f32⟩
  | .local _ .vmem, ⟨23, _⟩ => ⟨S256x1024, .f32⟩
  | .local _ .vmem, ⟨24, _⟩ => ⟨S256x2048, .bf16⟩
  | .local _ .vmem, ⟨25, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev grid1 : Pipeline.Grid := ⟨2, ![1, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage1_0 : Fin 2 → Memref sig .tc .vmem S256x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1x3072 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev grid2 : Pipeline.Grid := ⟨2, ![1, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S256x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev grid3 : Pipeline.Grid := ⟨2, ![1, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S256x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]
-- ==== Reference22Ideal.lean ====
abbrev S4096x2048 : Shape := ⟨2, ![4096, 2048]⟩
abbrev S4096x1024 : Shape := ⟨2, ![4096, 1024]⟩
abbrev S4096x3072 : Shape := ⟨2, ![4096, 3072]⟩
abbrev S1x3072 : Shape := ⟨2, ![1, 3072]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 64
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x3072, .f32⟩
  | .hbm, ⟨3, _⟩ => ⟨S1x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x3072, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S_, .f32⟩
  | .hbm, ⟨29, _⟩ => ⟨S4096x3072, .f32⟩
  | .hbm, ⟨30, _⟩ => ⟨S4096x3072, .f32⟩
  | .hbm, ⟨31, _⟩ => ⟨S_, .f32⟩
  | .hbm, ⟨32, _⟩ => ⟨S4096x3072, .f32⟩
  | .hbm, ⟨33, _⟩ => ⟨S4096x3072, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x2048, .f32⟩
  | .hbm, ⟨61, _⟩ => ⟨S4096x2048, .bf16⟩
  | .hbm, ⟨62, _⟩ => ⟨S4096x1024, .bf16⟩
  | .hbm, ⟨63, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Proof.BwdTrip.lean ====
/-
  One trip of the backward kernel's loop, by values.

  A staging buffer is held at the contents that read a vector (`Holds`), so that a load is a block of that vector
  (`blockAt`) and a store puts a block into it (`putAt`). The loop carries the scores, the products of the output
  gradient with the values, the last probabilities and score gradients and the query gradient; it updates the three
  accumulators of the key and value gradients.
-/
module

public import proofs.«01_k».proof.Proof.Gen.KernelIdeal.Skeleton
public import Idealize.ShloMosaic.Lib.VecWindow
public import Idealize.ShloMosaic.Lib.WholeRead
public import Idealize.ShloMosaic.Lib.Exec
public import Idealize.ShloMosaic.Lib.Tactic
public import Idealize.ShloMosaic.Lib.Pipeline.Kit

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The block of 512 rows of `x` at the offsets `off`. -/
def blockAt (x : Vec F S4096x128 .f32) (off : Fin 2 → ℕ) (inb : ∀ a, off a + S512x128.size a ≤ S4096x128.size a) : Vec F S512x128 .f32 :=
  VecWindow.window x off S512x128.size inb

/-- `x` with the block `w` put over its 512 rows at the offsets `off`. -/
def putAt (x : Vec F S4096x128 .f32) (off : Fin 2 → ℕ) (w : Vec F S512x128 .f32) : Vec F S4096x128 .f32 :=
  VecWindow.put x off S512x128.size w

section Held

variable {s : Shape} {e : EltTy} (c : Dev nD) (m : Memref sig .tc .vmem s e) (hm : m.IsWhole)

/-- The memref `m` is owned and holds the vector `x`. -/
abbrev Holds (x : Vec F s e) : sProp 𝕄 :=
  iprop(m.view.loc (c : Thread nD τ) ↦[m.view.set]{fullShare} hm.unread x)

/-- Contents that read `x` hold `x`. -/
theorem holds_of_read {g : m.view.ty.Contents (Elt F)} {x : Vec F s e} (h : m.view.read (Elt F) g = x) :
    (iprop(m.view.loc (c : Thread nD τ) ↦[m.view.set]{fullShare} g) : sProp 𝕄) ⊢ Holds c m hm x := by
  obtain rfl := hm.eq_unread h; exact .rfl

end Held

section Loads

variable (m : Memref sig .tc .vmem S4096x128 .f32) (hm : m.IsWhole)

/-- A load of 512 rows reads a block. -/
theorem load_block (x : Vec F S4096x128 .f32) (off : Fin 2 → ℕ) (inb : ∀ a, off a + S512x128.size a ≤ S4096x128.size a) :
    m.view.readAt (Elt F) (Rect.unit (s := S4096x128) off S512x128.size inb).toLoadRect (hm.unread x) = blockAt x off inb := by
  rw [View.readAt_unit m.view _ inb rfl inb, hm.read_unread]; rfl

/-- The same with the sizes as literals. -/
theorem load_rows (x : Vec F S4096x128 .f32) (off : Fin 2 → ℕ) (inb : ∀ a, off a + (![512, 128] : Fin 2 → ℕ) a ≤ S4096x128.size a) :
    m.view.readAt (Elt F) (Rect.unit (s := S4096x128) off ![512, 128] inb).toLoadRect (hm.unread x) = blockAt x off inb :=
  load_block m hm x off inb

/-- A store of 512 rows puts a block. -/
theorem store_block (x : Vec F S4096x128 .f32) (off : Fin 2 → ℕ) (inb : ∀ a, off a + S512x128.size a ≤ S4096x128.size a) (w : Vec F S512x128 .f32) :
    m.view.read (Elt F) (m.view.writes (Elt F) (hm.unread x) [⟨Rect.unit (s := S4096x128) off S512x128.size inb, w⟩]) = putAt x off w := by
  rw [View.read_writes_cons_put m.view _ inb w [] rfl, View.writes_nil, hm.read_unread]; rfl

/-- The buffer after a store of 512 rows. -/
theorem store_holds (c : Dev nD) (x : Vec F S4096x128 .f32) (off : Fin 2 → ℕ) (inb : ∀ a, off a + S512x128.size a ≤ S4096x128.size a) (w : Vec F S512x128 .f32) :
    (iprop(m.view.loc (c : Thread nD τ) ↦[m.view.set]{fullShare} m.view.writes (Elt F) (hm.unread x) [⟨Rect.unit (s := S4096x128) off S512x128.size inb, w⟩]) : sProp 𝕄)
      ⊢ Holds c m hm (putAt x off w) :=
  holds_of_read c m hm (store_block m hm x off inb w)

end Loads

/-- What the backward loop carries: scores, products with the values, probabilities, score gradients, query gradient. -/
abbrev Carried (F : FTy → Type) : Type :=
  FVec F S512x512 .f32 × FVec F S512x512 .f32 × FVec F S512x512 .bf16 × FVec F S512x512 .bf16 × FVec F S512x256 .f32

/-- The three accumulators: gradients of the non-positional keys, of the positional keys, of the values. -/
abbrev Accs (F : FTy → Type) : Type := Vec F S4096x128 .f32 × Vec F S4096x128 .f32 × Vec F S4096x128 .f32

/-- One trip: the carried values and the accumulators after it. -/
def trip (i : grid1.Coords) (q : FVec F S512x256 .bf16) (g : FVec F S512x128 .bf16) (δ l : FVec F S512x1 .f32)
    (kn kr v : Vec F S4096x128 .f32) (k : Fin (k1_t1_loop i).trips) (st : Carried F × Accs F) : Carried F × Accs F :=
  ((k1_pay5 q (blockAt kn (k1_off1 i k) (k1_off1_inb i k)) (blockAt kr (k1_off1 i k) (k1_off1_inb i k)),
    k1_pay6 g (blockAt v (k1_off1 i k) (k1_off1_inb i k)),
    k1_pay32 l st.1.1, k1_pay33 δ l st.1.1 st.1.2.1,
    k1_pay30 st.1.2.2.2.1 st.1.2.2.2.2 (k1_pay7 (blockAt kn (k1_off2 i k) (k1_off2_inb i k)) (blockAt kr (k1_off2 i k) (k1_off2_inb i k)))),
   (putAt st.2.1 (k1_off2 i k) (k1_pay10 q st.1.2.2.2.1 (blockAt st.2.1 (k1_off2 i k) (k1_off2_inb i k))),
    putAt st.2.2.1 (k1_off2 i k) (k1_pay29 (k1_pay9 q st.1.2.2.2.1) (blockAt st.2.2.1 (k1_off2 i k) (k1_off2_inb i k))),
    putAt st.2.2.2 (k1_off2 i k) (k1_pay8 g st.1.2.2.1 (blockAt st.2.2.2 (k1_off2 i k) (k1_off2_inb i k)))))

/-- The state before trip `k`. -/
def stateAt (i : grid1.Coords) (q : FVec F S512x256 .bf16) (g : FVec F S512x128 .bf16) (δ l : FVec F S512x1 .f32)
    (kn kr v : Vec F S4096x128 .f32) (init : Carried F × Accs F) : ℕ → Carried F × Accs F
  | 0 => init
  | k + 1 => if h : k < (k1_t1_loop i).trips then trip i q g δ l kn kr v ⟨k, h⟩ (stateAt i q g δ l kn kr v init k)
      else stateAt i q g δ l kn kr v init k

theorem stateAt_succ (i : grid1.Coords) (q : FVec F S512x256 .bf16) (g : FVec F S512x128 .bf16) (δ l : FVec F S512x1 .f32)
    (kn kr v : Vec F S4096x128 .f32) (init : Carried F × Accs F) (k : Fin (k1_t1_loop i).trips) :
    stateAt i q g δ l kn kr v init (k.val + 1) = trip i q g δ l kn kr v k (stateAt i q g δ l kn kr v init k.val) := by
  rw [stateAt]; exact dif_pos k.isLt

section Run

variable (c : Dev nD) (i : grid1.Coords)
  (arg2 : Memref sig .tc .vmem S512x128 .f32) (harg2 : arg2.IsWhole) (arg3 : Memref sig .tc .vmem S512x128 .f32) (harg3 : arg3.IsWhole)
  (arg4 : Memref sig .tc .vmem S4096x128 .f32) (harg4 : arg4.IsWhole) (arg5 : Memref sig .tc .vmem S4096x128 .f32) (harg5 : arg5.IsWhole)
  (arg6 : Memref sig .tc .vmem S4096x128 .f32) (harg6 : arg6.IsWhole) (arg7 : Memref sig .tc .vmem S512x128 .f32) (harg7 : arg7.IsWhole)
  (arg8 : Memref sig .tc .vmem S1x512x1 .f32) (harg8 : arg8.IsWhole) (arg9 : Memref sig .tc .vmem S512x128 .f32) (harg9 : arg9.IsWhole)
  (arg10 : Memref sig .tc .vmem S512x128 .f32) (harg10 : arg10.IsWhole) (arg11 : Memref sig .tc .vmem S512x128 .f32) (harg11 : arg11.IsWhole)
  (arg12 : Memref sig .tc .vmem S4096x128 .f32) (harg12 : arg12.IsWhole) (arg13 : Memref sig .tc .vmem S4096x128 .f32) (harg13 : arg13.IsWhole)
  (arg14 : Memref sig .tc .vmem S4096x128 .f32) (harg14 : arg14.IsWhole)

/-- The buffers the loop reads and updates. -/
abbrev LoopBufs (kn kr v : Vec F S4096x128 .f32) (D : Accs F) : sProp 𝕄 :=
  iprop(Holds c arg4 harg4 kn ∗ Holds c arg5 harg5 kr ∗ Holds c arg6 harg6 v
    ∗ Holds c arg12 harg12 D.1 ∗ Holds c arg13 harg13 D.2.1 ∗ Holds c arg14 harg14 D.2.2)

/-- One trip runs from the buffers before it to the buffers after it. -/
theorem wp_trip (arg1 : BitVec 32) (q : FVec F S512x256 .bf16) (g : FVec F S512x128 .bf16) (δ l : FVec F S512x1 .f32)
    (z : FVec F S512x512 .bf16) (s0 : FVec F S512x512 .f32) (w0 : FVec F S512x128 .bf16)
    (kn kr v : Vec F S4096x128 .f32) (E : Set ℕ) (k : Fin (k1_t1_loop i).trips) (st : Carried F × Accs F) :
    LoopBufs c arg4 harg4 arg5 harg5 arg6 harg6 arg12 harg12 arg13 harg13 arg14 harg14 kn kr v st.2
      ⊢ wp frame (wpE (defs₀ (F := F)) Variants.none (c : Thread nD τ) none) E
          (k1_t1_body (F := F) i arg2 harg2 arg3 harg3 arg4 harg4 arg5 harg5 arg6 harg6 arg7 harg7 arg8 harg8 arg9 harg9 arg10 harg10 arg11 harg11
            arg12 harg12 arg13 harg13 arg14 harg14 arg1 q g δ l z s0 w0 k st.1)
          (fun y => iprop(⌜y = (trip i q g δ l kn kr v k st).1⌝
            ∗ LoopBufs c arg4 harg4 arg5 harg5 arg6 harg6 arg12 harg12 arg13 harg13 arg14 harg14 kn kr v (trip i q g δ l kn kr v k st).2)) := by
  obtain ⟨⟨s, dp, p, ds, dq⟩, D12, D13, D14⟩ := st
  unfold k1_t1_body
  simp only [k1_part1_eq_skeleton]
  iintro ⟨H4, H5, H6, H12, H13, H14⟩
  sl_exec
  sl_step
  sl_unfold_run_names
  simp only [load_block, load_rows, trip]
  isplitr
  · ipureintro; trivial
  isplitl [H4]; · iexact H4
  isplitl [H5]; · iexact H5
  isplitl [H6]; · iexact H6
  isplitl [H12]; · iapply (store_holds arg12 harg12 c D12 _ _ _); iexact H12
  isplitl [H13]; · iapply (store_holds arg13 harg13 c D13 _ _ _); iexact H13
  iapply (store_holds arg14 harg14 c D14 _ _ _); iexact H14

end Run

end Cert.KernelIdeal.Attn

end
-- ==== Proof.BwdBody.lean ====
/-
  One grid point of the backward kernel, by values: what it leaves in its two query-gradient blocks and in the three
  accumulators, as functions of the blocks it reads and of what the accumulators held.
-/
module

public import proofs.«01_k».proof.Proof.BwdTrip

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The condition of the first reset: the query block is the first. -/
theorem first_block (i : grid1.Coords) :
    (Scalar.cmpi .ne (Scalar.extui (Scalar.cmpi .eq (BitVec.ofNat 32 (i 1).val) 0#32) : BitVec 32) 0#32 = 1#1) ↔ (i 1).val = 0 := by
  generalize (i 1) = j; revert j; decide

/-- The condition of the second reset: the very first point. -/
theorem first_point (i : grid1.Coords) :
    (Scalar.cmpi .ne (Scalar.extui (Scalar.andi (Scalar.cmpi .eq (BitVec.ofNat 32 (i 0).val) 0#32) (Scalar.cmpi .eq (BitVec.ofNat 32 (i 1).val) 0#32)) : BitVec 32) 0#32 = 1#1)
      ↔ (i 0).val = 0 ∧ (i 1).val = 0 := by
  generalize (i 1) = j; generalize (i 0) = j'; revert j j'; decide

/-- The accumulators as the loop finds them: reset at the first query block (the positional keys' at the first point). -/
def start (i : grid1.Coords) (D : Accs F) : Accs F :=
  (if (i 1).val = 0 then k1_pay17 else D.1, if (i 0).val = 0 ∧ (i 1).val = 0 then k1_pay19 else D.2.1, if (i 1).val = 0 then k1_pay18 else D.2.2)

theorem start_point {i : grid1.Coords} {D : Accs F} (h1 : (i 1).val = 0) (h0 : (i 0).val = 0) : start i D = (k1_pay17, k1_pay19, k1_pay18) := by
  unfold start; rw [if_pos h1, if_pos ⟨h0, h1⟩, if_pos h1]

theorem start_block {i : grid1.Coords} {D : Accs F} (h1 : (i 1).val = 0) (h0 : ¬ (i 0).val = 0) : start i D = (k1_pay17, D.2.1, k1_pay18) := by
  unfold start; rw [if_pos h1, if_neg (fun h => h0 h.1), if_pos h1]

theorem start_rest {i : grid1.Coords} {D : Accs F} (h1 : ¬ (i 1).val = 0) : start i D = D := by
  unfold start; rw [if_neg h1, if_neg (fun h => h1 h.2), if_neg h1]

/-- What the loop starts from. -/
def carried0 (x0 x1 x7 : Vec F S512x128 .f32) (kn kr v : Vec F S4096x128 .f32) : Carried F :=
  (k1_pay25 x0 x1 (blockAt kn ![0, 0] inb_S4096x128_S512x128_0_0) (blockAt kr ![0, 0] inb_S4096x128_S512x128_0_0),
    k1_pay27 (k1_pay21 x7) (k1_pay26 (blockAt v ![0, 0] inb_S4096x128_S512x128_0_0)), k1_pay24, k1_pay24, k1_pay28)

/-- The accumulators after the step left over by the loop: the last full block's. -/
def last (i : grid1.Coords) (q : FVec F S512x256 .bf16) (g : FVec F S512x128 .bf16) (st : Carried F × Accs F) : Accs F :=
  (putAt st.2.1 (k1_off5 i) (k1_pay42 q st.1.2.2.2.1 (blockAt st.2.1 (k1_off5 i) (k1_off5_inb i))),
    putAt st.2.2.1 (k1_off5 i) (k1_pay43 q st.1.2.2.2.1 (blockAt st.2.2.1 (k1_off5 i) (k1_off5_inb i))),
    putAt st.2.2.2 (k1_off5 i) (k1_pay40 g st.1.2.2.1 (blockAt st.2.2.2 (k1_off5 i) (k1_off5_inb i))))

/-- The words the block on the diagonal compares rows and columns by. -/
abbrev rowIota : IVec S512x512 32 := iota .tc S512x512 32 [0] iota_S512x512_d0_w32
abbrev sgnA : BitVec 32 := Scalar.extui (Scalar.cmpi .sgt 64#32 0#32)
abbrev sgnB : BitVec 32 := Scalar.extui (Scalar.cmpi .slt 64#32 0#32)

/-- The score gradients on the diagonal block. -/
def dsDiag (δ l : FVec F S512x1 .f32) (s dp : FVec F S512x512 .f32) : FVec F S512x512 .bf16 :=
  k1_pay50 δ l dp (k1_pay45 s) k1_pay46 rowIota 64#32 k1_pay47 k1_pay48 sgnA sgnB

/-- The accumulators after the block on the diagonal. -/
def diag (i : grid1.Coords) (q : FVec F S512x256 .bf16) (g : FVec F S512x128 .bf16) (δ l : FVec F S512x1 .f32) (s dp : FVec F S512x512 .f32) (D : Accs F) : Accs F :=
  (putAt D.1 (k1_off6 i) (k1_pay54 q δ l dp (k1_pay45 s) k1_pay46 rowIota 64#32 k1_pay47 k1_pay48 sgnA sgnB (blockAt D.1 (k1_off6 i) (k1_off6_inb i))),
    putAt D.2.1 (k1_off6 i) (k1_pay1 (k1_pay53 q δ l dp (k1_pay45 s) k1_pay46 rowIota 64#32 k1_pay47 k1_pay48 sgnA sgnB) (blockAt D.2.1 (k1_off6 i) (k1_off6_inb i))),
    putAt D.2.2 (k1_off6 i) (k1_pay52 g l (k1_pay45 s) k1_pay46 rowIota 64#32 k1_pay47 k1_pay48 sgnA sgnB (blockAt D.2.2 (k1_off6 i) (k1_off6_inb i))))

/-- The query gradient before the diagonal block. -/
def dqBefore (i : grid1.Coords) (kn kr : Vec F S4096x128 .f32) (ds : FVec F S512x512 .bf16) (dq : FVec F S512x256 .f32) : FVec F S512x256 .f32 :=
  k1_pay44 ds dq (k1_pay39 (blockAt kn (k1_off5 i) (k1_off5_inb i)) (blockAt kr (k1_off5 i) (k1_off5_inb i)))

/-- The state after the loop, from the blocks and from the accumulators found. -/
def loopEnd (i : grid1.Coords) (x0 x1 : Vec F S512x128 .f32) (x2 x3 x4 : Vec F S4096x128 .f32) (x5 : Vec F S512x128 .f32) (x6 : Vec F S1x512x1 .f32)
    (x7 : Vec F S512x128 .f32) (D : Accs F) : Carried F × Accs F :=
  stateAt i (k1_pay20 x0 x1) (k1_pay21 x7) (k1_pay22 x7 x5) (k1_pay23 x6) x2 x3 x4 (carried0 x0 x1 x7 x2 x3 x4, start i D) (k1_t1_loop i).trips

/-- The accumulators after the point. -/
def accsOut (i : grid1.Coords) (x0 x1 : Vec F S512x128 .f32) (x2 x3 x4 : Vec F S4096x128 .f32) (x5 : Vec F S512x128 .f32) (x6 : Vec F S1x512x1 .f32)
    (x7 : Vec F S512x128 .f32) (D : Accs F) : Accs F :=
  diag i (k1_pay20 x0 x1) (k1_pay21 x7) (k1_pay22 x7 x5) (k1_pay23 x6) (loopEnd i x0 x1 x2 x3 x4 x5 x6 x7 D).1.1 (loopEnd i x0 x1 x2 x3 x4 x5 x6 x7 D).1.2.1
    (last i (k1_pay20 x0 x1) (k1_pay21 x7) (loopEnd i x0 x1 x2 x3 x4 x5 x6 x7 D))

/-- The gradient of the non-positional queries after the point, -/
def dqnOut (i : grid1.Coords) (x0 x1 : Vec F S512x128 .f32) (x2 x3 x4 : Vec F S4096x128 .f32) (x5 : Vec F S512x128 .f32) (x6 : Vec F S1x512x1 .f32)
    (x7 : Vec F S512x128 .f32) (D : Accs F) : Vec F S512x128 .f32 :=
  k1_pay3 (dqBefore i x2 x3 (loopEnd i x0 x1 x2 x3 x4 x5 x6 x7 D).1.2.2.2.1 (loopEnd i x0 x1 x2 x3 x4 x5 x6 x7 D).1.2.2.2.2)
    (dsDiag (k1_pay22 x7 x5) (k1_pay23 x6) (loopEnd i x0 x1 x2 x3 x4 x5 x6 x7 D).1.1 (loopEnd i x0 x1 x2 x3 x4 x5 x6 x7 D).1.2.1)
    (k1_pay51 (blockAt x2 (k1_off6 i) (k1_off6_inb i)) (blockAt x3 (k1_off6 i) (k1_off6_inb i)))

/-- and of the positional queries. -/
def dqrOut (i : grid1.Coords) (x0 x1 : Vec F S512x128 .f32) (x2 x3 x4 : Vec F S4096x128 .f32) (x5 : Vec F S512x128 .f32) (x6 : Vec F S1x512x1 .f32)
    (x7 : Vec F S512x128 .f32) (D : Accs F) : Vec F S512x128 .f32 :=
  k1_pay4 (dqBefore i x2 x3 (loopEnd i x0 x1 x2 x3 x4 x5 x6 x7 D).1.2.2.2.1 (loopEnd i x0 x1 x2 x3 x4 x5 x6 x7 D).1.2.2.2.2)
    (dsDiag (k1_pay22 x7 x5) (k1_pay23 x6) (loopEnd i x0 x1 x2 x3 x4 x5 x6 x7 D).1.1 (loopEnd i x0 x1 x2 x3 x4 x5 x6 x7 D).1.2.1)
    (k1_pay51 (blockAt x2 (k1_off6 i) (k1_off6_inb i)) (blockAt x3 (k1_off6 i) (k1_off6_inb i)))

section Full

variable {s : Shape} {e : EltTy} (m : Memref sig .tc .vmem s e) (hm : m.IsWhole)

/-- A load of a whole buffer reads it. -/
theorem load_all (x : Vec F s e) (off : Fin s.rank → ℕ) (inb : ∀ a, off a + s.size a ≤ s.size a) :
    m.view.readAt (Elt F) (Rect.unit (s := s) off s.size inb).toLoadRect (hm.unread x) = x := by
  rw [View.readAt_full, hm.read_unread]

theorem load_row_block (m : Memref sig .tc .vmem S512x128 .f32) (hm : m.IsWhole) (x : Vec F S512x128 .f32) (inb : ∀ a, (![0, 0] : Fin 2 → ℕ) a + (![512, 128] : Fin 2 → ℕ) a ≤ S512x128.size a) :
    m.view.readAt (Elt F) (Rect.unit (s := S512x128) ![0, 0] ![512, 128] inb).toLoadRect (hm.unread x) = x :=
  load_all m hm x _ inb

theorem load_sums (m : Memref sig .tc .vmem S1x512x1 .f32) (hm : m.IsWhole) (x : Vec F S1x512x1 .f32) (inb : ∀ a, (![0, 0, 0] : Fin 3 → ℕ) a + (![1, 512, 1] : Fin 3 → ℕ) a ≤ S1x512x1.size a) :
    m.view.readAt (Elt F) (Rect.unit (s := S1x512x1) ![0, 0, 0] ![1, 512, 1] inb).toLoadRect (hm.unread x) = x :=
  load_all m hm x _ inb

/-- A store of a whole buffer leaves what is stored. -/
theorem store_all (c : Dev nD) (f : m.view.ty.Contents (Elt F)) (off : Fin s.rank → ℕ) (inb : ∀ a, off a + s.size a ≤ s.size a) (w : Vec F s e) :
    (iprop(m.view.loc (c : Thread nD τ) ↦[m.view.set]{fullShare} m.view.writes (Elt F) f [⟨Rect.unit (s := s) off s.size inb, w⟩]) : sProp 𝕄)
      ⊢ Holds c m hm w :=
  holds_of_read c m hm (View.read_writes_full m.view f inb w [])

end Full

theorem no_trips (i : grid1.Coords) : (k1_t2_loop i).trips = 0 := by
  show Scf.trips _ _ _ = 0
  simp only [k1_t2_loop]; generalize (i 1) = j; revert j; decide

section Run

variable (c : Dev nD) (i : grid1.Coords)
  (arg2 : Memref sig .tc .vmem S512x128 .f32) (harg2 : arg2.IsWhole) (arg3 : Memref sig .tc .vmem S512x128 .f32) (harg3 : arg3.IsWhole)
  (arg4 : Memref sig .tc .vmem S4096x128 .f32) (harg4 : arg4.IsWhole) (arg5 : Memref sig .tc .vmem S4096x128 .f32) (harg5 : arg5.IsWhole)
  (arg6 : Memref sig .tc .vmem S4096x128 .f32) (harg6 : arg6.IsWhole) (arg7 : Memref sig .tc .vmem S512x128 .f32) (harg7 : arg7.IsWhole)
  (arg8 : Memref sig .tc .vmem S1x512x1 .f32) (harg8 : arg8.IsWhole) (arg9 : Memref sig .tc .vmem S512x128 .f32) (harg9 : arg9.IsWhole)
  (arg10 : Memref sig .tc .vmem S512x128 .f32) (harg10 : arg10.IsWhole) (arg11 : Memref sig .tc .vmem S512x128 .f32) (harg11 : arg11.IsWhole)
  (arg12 : Memref sig .tc .vmem S4096x128 .f32) (harg12 : arg12.IsWhole) (arg13 : Memref sig .tc .vmem S4096x128 .f32) (harg13 : arg13.IsWhole)
  (arg14 : Memref sig .tc .vmem S4096x128 .f32) (harg14 : arg14.IsWhole)

/-- The blocks the prologue reads besides. -/
abbrev RowBufs (x0 x1 x5 : Vec F S512x128 .f32) (x6 : Vec F S1x512x1 .f32) (x7 : Vec F S512x128 .f32) : sProp 𝕄 :=
  iprop(Holds c arg2 harg2 x0 ∗ Holds c arg3 harg3 x1 ∗ Holds c arg7 harg7 x5 ∗ Holds c arg8 harg8 x6 ∗ Holds c arg9 harg9 x7)

/-- The prologue: resets, and the first scores. -/
theorem wp_part3 (x0 x1 : Vec F S512x128 .f32) (x2 x3 x4 : Vec F S4096x128 .f32) (x5 : Vec F S512x128 .f32) (x6 : Vec F S1x512x1 .f32) (x7 : Vec F S512x128 .f32)
    (D : Accs F) (E : Set ℕ) :
    iprop(RowBufs c arg2 harg2 arg3 harg3 arg7 harg7 arg8 harg8 arg9 harg9 x0 x1 x5 x6 x7
        ∗ LoopBufs c arg4 harg4 arg5 harg5 arg6 harg6 arg12 harg12 arg13 harg13 arg14 harg14 x2 x3 x4 D)
      ⊢ wp frame (wpE (defs₀ (F := F)) Variants.none (c : Thread nD τ) none) E
          (k1_part3 (F := F) i arg2 harg2 arg3 harg3 arg4 harg4 arg5 harg5 arg6 harg6 arg7 harg7 arg8 harg8 arg9 harg9 arg10 harg10 arg11 harg11
            arg12 harg12 arg13 harg13 arg14 harg14)
          (fun y => iprop(⌜y = ⟨BitVec.ofNat 32 (i 1).val, k1_pay20 x0 x1, k1_pay21 x7, k1_pay22 x7 x5, k1_pay23 x6, k1_pay24,
                k1_pay25 x0 x1 (blockAt x2 ![0, 0] inb_S4096x128_S512x128_0_0) (blockAt x3 ![0, 0] inb_S4096x128_S512x128_0_0),
                k1_pay26 (blockAt x4 ![0, 0] inb_S4096x128_S512x128_0_0)⟩⌝
            ∗ RowBufs c arg2 harg2 arg3 harg3 arg7 harg7 arg8 harg8 arg9 harg9 x0 x1 x5 x6 x7
            ∗ LoopBufs c arg4 harg4 arg5 harg5 arg6 harg6 arg12 harg12 arg13 harg13 arg14 harg14 x2 x3 x4 (start i D))) := by
  obtain ⟨D12, D13, D14⟩ := D
  rw [k1_part3_eq_skeleton]; unfold k1_part3_skel
  have e1 := first_block i
  have e2 := first_point i
  by_cases h1 : (i 1).val = 0
  · by_cases h0 : (i 0).val = 0
    · have c1 := e1.2 h1; have c2 := e2.2 ⟨h0, h1⟩
      iintro ⟨⟨H2, H3, H7, H8, H9⟩, H4, H5, H6, H12, H13, H14⟩
      sl_exec
      sl_step
      sl_unfold_run_names
      simp only [load_all, load_block, load_rows, load_row_block, load_sums, start_point h1 h0]
      isplitr
      · ipureintro; trivial
      isplitl [H2 H3 H7 H8 H9]
      · isplitl [H2]; · iexact H2
        isplitl [H3]; · iexact H3
        isplitl [H7]; · iexact H7
        isplitl [H8]; · iexact H8
        iexact H9
      isplitl [H4]; · iexact H4
      isplitl [H5]; · iexact H5
      isplitl [H6]; · iexact H6
      isplitl [H12]; · iapply (store_all arg12 harg12 c _ _ _ _); iexact H12
      isplitl [H13]; · iapply (store_all arg13 harg13 c _ _ _ _); iexact H13
      iapply (store_all arg14 harg14 c _ _ _ _); iexact H14
    · have c1 := e1.2 h1; have c2 := mt e2.1 (fun h => h0 h.1)
      iintro ⟨⟨H2, H3, H7, H8, H9⟩, H4, H5, H6, H12, H13, H14⟩
      sl_exec
      sl_step
      sl_unfold_run_names
      simp only [load_all, load_block, load_rows, load_row_block, load_sums, start_block h1 h0]
      isplitr
      · ipureintro; trivial
      isplitl [H2 H3 H7 H8 H9]
      · isplitl [H2]; · iexact H2
        isplitl [H3]; · iexact H3
        isplitl [H7]; · iexact H7
        isplitl [H8]; · iexact H8
        iexact H9
      isplitl [H4]; · iexact H4
      isplitl [H5]; · iexact H5
      isplitl [H6]; · iexact H6
      isplitl [H12]; · iapply (store_all arg12 harg12 c _ _ _ _); iexact H12
      isplitl [H13]; · iexact H13
      iapply (store_all arg14 harg14 c _ _ _ _); iexact H14
  · have c1 := mt e1.1 h1; have c2 := mt e2.1 (fun h => h1 h.2)
    iintro ⟨⟨H2, H3, H7, H8, H9⟩, H4, H5, H6, H12, H13, H14⟩
    sl_exec
    sl_step
    sl_unfold_run_names
    simp only [load_all, load_block, load_rows, load_row_block, load_sums, start_rest h1]
    isplitr
    · ipureintro; trivial
    isplitl [H2 H3 H7 H8 H9]
    · isplitl [H2]; · iexact H2
      isplitl [H3]; · iexact H3
      isplitl [H7]; · iexact H7
      isplitl [H8]; · iexact H8
      iexact H9
    isplitl [H4]; · iexact H4
    isplitl [H5]; · iexact H5
    isplitl [H6]; · iexact H6
    isplitl [H12]; · iexact H12
    isplitl [H13]; · iexact H13
    iexact H14

/-- The loops and the step after them. -/
theorem wp_part4 (q : FVec F S512x256 .bf16) (g : FVec F S512x128 .bf16) (δ l : FVec F S512x1 .f32)
    (s0 : FVec F S512x512 .f32) (w0 : FVec F S512x128 .bf16)
    (kn kr v : Vec F S4096x128 .f32) (E : Set ℕ) (D : Accs F) (st : Carried F × Accs F)
    (hst : st = stateAt i q g δ l kn kr v ((s0, k1_pay27 g w0, k1_pay24, k1_pay24, k1_pay28), D) (k1_t1_loop i).trips) :
    LoopBufs c arg4 harg4 arg5 harg5 arg6 harg6 arg12 harg12 arg13 harg13 arg14 harg14 kn kr v D
      ⊢ wp frame (wpE (defs₀ (F := F)) Variants.none (c : Thread nD τ) none) E
          (k1_part4 (F := F) i arg2 harg2 arg3 harg3 arg4 harg4 arg5 harg5 arg6 harg6 arg7 harg7 arg8 harg8 arg9 harg9 arg10 harg10 arg11 harg11
            arg12 harg12 arg13 harg13 arg14 harg14 (BitVec.ofNat 32 (i 1).val) q g δ l k1_pay24 s0 w0)
          (fun y => iprop(⌜y = ⟨st.1.1, st.1.2.1, st.1.2.2.2.1, st.1.2.2.2.2, k1_pay39 (blockAt kn (k1_off5 i) (k1_off5_inb i)) (blockAt kr (k1_off5 i) (k1_off5_inb i)),
              k1_pay43 q st.1.2.2.2.1 (blockAt st.2.2.1 (k1_off5 i) (k1_off5_inb i))⟩⌝
            ∗ LoopBufs c arg4 harg4 arg5 harg5 arg6 harg6 arg12 harg12 arg13 harg13 arg14 harg14 kn kr v
                ((last i q g st).1, st.2.2.1, (last i q g st).2.2))) := by
  rw [k1_part4_eq_skeleton]; unfold k1_part4_skel
  iintro ⟨H4, H5, H6, H12, H13, H14⟩
  dsimp only
  sl_for (fun k acc => iprop(⌜acc = (stateAt i q g δ l kn kr v ((s0, k1_pay27 g w0, k1_pay24, k1_pay24, k1_pay28), D) k).1⌝
      ∗ LoopBufs c arg4 harg4 arg5 harg5 arg6 harg6 arg12 harg12 arg13 harg13 arg14 harg14 kn kr v
        (stateAt i q g δ l kn kr v ((s0, k1_pay27 g w0, k1_pay24, k1_pay24, k1_pay28), D) k).2)) $$ [H4 H5 H6 H12 H13 H14]
  · intro k acc
    iintro ⟨%hacc, HL⟩
    subst hacc
    rw [stateAt_succ]
    iapply (wp_trip c i arg2 harg2 arg3 harg3 arg4 harg4 arg5 harg5 arg6 harg6 arg7 harg7 arg8 harg8 arg9 harg9 arg10 harg10 arg11 harg11
      arg12 harg12 arg13 harg13 arg14 harg14 (BitVec.ofNat 32 (i 1).val) q g δ l k1_pay24 s0 w0 kn kr v E k _)
    iexact HL
  · isplitr
    · ipureintro; rfl
    isplitl [H4]; · iexact H4
    isplitl [H5]; · iexact H5
    isplitl [H6]; · iexact H6
    isplitl [H12]; · iexact H12
    isplitl [H13]; · iexact H13
    iexact H14
  iintro %acc ⟨%hacc, H4, H5, H6, H12, H13, H14⟩
  have hst' : st = stateAt i q g δ l kn kr v ((s0, k1_pay27 g w0, k1_pay24, k1_pay24, k1_pay28), D)
    (Scf.trips (k1_t1_loop i).lb (k1_t1_loop i).ub (k1_t1_loop i).st) := hst
  rw [← hst'] at hacc
  rw [← hst']
  subst hacc
  sl_unfold_run_names
  dsimp only
  sl_for (fun k acc => iprop(⌜acc = st.1⌝
      ∗ LoopBufs c arg4 harg4 arg5 harg5 arg6 harg6 arg12 harg12 arg13 harg13 arg14 harg14 kn kr v st.2)) $$ [H4 H5 H6 H12 H13 H14]
  · intro k
    exact absurd (lt_of_lt_of_eq k.isLt (no_trips i)) (Nat.not_lt_zero _)
  · isplitr
    · ipureintro; rfl
    isplitl [H4]; · iexact H4
    isplitl [H5]; · iexact H5
    isplitl [H6]; · iexact H6
    isplitl [H12]; · iexact H12
    isplitl [H13]; · iexact H13
    iexact H14
  iintro %acc ⟨%hacc, H4, H5, H6, H12, H13, H14⟩
  subst hacc
  sl_unfold_run_names
  dsimp only
  sl_exec
  sl_step
  sl_unfold_run_names
  simp only [load_block, load_rows, last]
  isplitr
  · ipureintro; trivial
  isplitl [H4]; · iexact H4
  isplitl [H5]; · iexact H5
  isplitl [H6]; · iexact H6
  isplitl [H12]; · iapply (store_holds arg12 harg12 c st.2.1 _ _ _); iexact H12
  isplitl [H13]; · iexact H13
  iapply (store_holds arg14 harg14 c st.2.2.2 _ _ _); iexact H14

/-- The positional keys' accumulator takes the step; the words of the diagonal block. -/
theorem wp_part5 (kn kr v : Vec F S4096x128 .f32) (E : Set ℕ) (D : Accs F) (s : FVec F S512x512 .f32) (ds : FVec F S512x512 .bf16)
    (dq : FVec F S512x256 .f32) (kb : FVec F S512x256 .bf16) (w : FVec F S512x128 .f32) :
    LoopBufs c arg4 harg4 arg5 harg5 arg6 harg6 arg12 harg12 arg13 harg13 arg14 harg14 kn kr v D
      ⊢ wp frame (wpE (defs₀ (F := F)) Variants.none (c : Thread nD τ) none) E
          (k1_part5 (F := F) i arg2 harg2 arg3 harg3 arg4 harg4 arg5 harg5 arg6 harg6 arg7 harg7 arg8 harg8 arg9 harg9 arg10 harg10 arg11 harg11
            arg12 harg12 arg13 harg13 arg14 harg14 s ds dq kb w)
          (fun y => iprop(⌜y = ⟨k1_pay44 ds dq kb, k1_pay45 s, k1_pay46, rowIota, 64#32, k1_pay47, k1_pay48, sgnA, sgnB⟩⌝
            ∗ LoopBufs c arg4 harg4 arg5 harg5 arg6 harg6 arg12 harg12 arg13 harg13 arg14 harg14 kn kr v
                (D.1, putAt D.2.1 (k1_off5 i) w, D.2.2))) := by
  obtain ⟨D12, D13, D14⟩ := D
  rw [k1_part5_eq_skeleton]; unfold k1_part5_skel
  iintro ⟨H4, H5, H6, H12, H13, H14⟩
  sl_exec
  sl_step
  sl_unfold_run_names
  isplitr
  · ipureintro; rfl
  isplitl [H4]; · iexact H4
  isplitl [H5]; · iexact H5
  isplitl [H6]; · iexact H6
  isplitl [H12]; · iexact H12
  isplitl [H13]; · iapply (store_holds arg13 harg13 c D13 _ _ _); iexact H13
  iexact H14

/-- The diagonal block: the value accumulator, and the values the rest stores. -/
theorem wp_part6 (q : FVec F S512x256 .bf16) (g : FVec F S512x128 .bf16) (δ l : FVec F S512x1 .f32)
    (kn kr v : Vec F S4096x128 .f32) (E : Set ℕ) (D : Accs F) (s dp : FVec F S512x512 .f32) :
    LoopBufs c arg4 harg4 arg5 harg5 arg6 harg6 arg12 harg12 arg13 harg13 arg14 harg14 kn kr v D
      ⊢ wp frame (wpE (defs₀ (F := F)) Variants.none (c : Thread nD τ) none) E
          (k1_part6 (F := F) i arg2 harg2 arg3 harg3 arg4 harg4 arg5 harg5 arg6 harg6 arg7 harg7 arg8 harg8 arg9 harg9 arg10 harg10 arg11 harg11
            arg12 harg12 arg13 harg13 arg14 harg14 (BitVec.ofNat 32 (i 1).val) q g δ l dp (k1_pay45 s) k1_pay46 rowIota 64#32 k1_pay47 k1_pay48 sgnA sgnB)
          (fun y => iprop(⌜y = ⟨dsDiag δ l s dp, Scalar.muli (BitVec.ofNat 32 (i 1).val) 512#32,
                k1_pay51 (blockAt kn (k1_off6 i) (k1_off6_inb i)) (blockAt kr (k1_off6 i) (k1_off6_inb i)),
                k1_pay53 q δ l dp (k1_pay45 s) k1_pay46 rowIota 64#32 k1_pay47 k1_pay48 sgnA sgnB,
                k1_pay54 q δ l dp (k1_pay45 s) k1_pay46 rowIota 64#32 k1_pay47 k1_pay48 sgnA sgnB (blockAt D.1 (k1_off6 i) (k1_off6_inb i))⟩⌝
            ∗ LoopBufs c arg4 harg4 arg5 harg5 arg6 harg6 arg12 harg12 arg13 harg13 arg14 harg14 kn kr v
                (D.1, D.2.1, (diag i q g δ l s dp D).2.2))) := by
  obtain ⟨D12, D13, D14⟩ := D
  rw [k1_part6_eq_skeleton]; unfold k1_part6_skel
  iintro ⟨H4, H5, H6, H12, H13, H14⟩
  sl_exec
  sl_step
  sl_unfold_run_names
  simp only [load_block, load_rows, diag, dsDiag]
  isplitr
  · ipureintro; trivial
  isplitl [H4]; · iexact H4
  isplitl [H5]; · iexact H5
  isplitl [H6]; · iexact H6
  isplitl [H12]; · iexact H12
  isplitl [H13]; · iexact H13
  iapply (store_holds arg14 harg14 c D14 _ _ _); iexact H14

/-- One point of the backward kernel, by values. -/
theorem wp_bwd (x0 x1 : Vec F S512x128 .f32) (x2 x3 x4 : Vec F S4096x128 .f32) (x5 : Vec F S512x128 .f32) (x6 : Vec F S1x512x1 .f32) (x7 : Vec F S512x128 .f32)
    (y0 y1 : Vec F S512x128 .f32) (D : Accs F) (E : Set ℕ) :
    iprop(RowBufs c arg2 harg2 arg3 harg3 arg7 harg7 arg8 harg8 arg9 harg9 x0 x1 x5 x6 x7
        ∗ LoopBufs c arg4 harg4 arg5 harg5 arg6 harg6 arg12 harg12 arg13 harg13 arg14 harg14 x2 x3 x4 D
        ∗ Holds c arg10 harg10 y0 ∗ Holds c arg11 harg11 y1)
      ⊢ wp frame (wpE (defs₀ (F := F)) Variants.none (c : Thread nD τ) none) E
          (cc1_l3_mla_attn_bwd (F := F) i arg2 harg2 arg3 harg3 arg4 harg4 arg5 harg5 arg6 harg6 arg7 harg7 arg8 harg8 arg9 harg9 arg10 harg10 arg11 harg11
            arg12 harg12 arg13 harg13 arg14 harg14)
          (fun _ => iprop(RowBufs c arg2 harg2 arg3 harg3 arg7 harg7 arg8 harg8 arg9 harg9 x0 x1 x5 x6 x7
            ∗ LoopBufs c arg4 harg4 arg5 harg5 arg6 harg6 arg12 harg12 arg13 harg13 arg14 harg14 x2 x3 x4
                (accsOut i x0 x1 x2 x3 x4 x5 x6 x7 D)
            ∗ Holds c arg10 harg10 (dqnOut i x0 x1 x2 x3 x4 x5 x6 x7 D) ∗ Holds c arg11 harg11 (dqrOut i x0 x1 x2 x3 x4 x5 x6 x7 D))) := by
  rw [cc1_l3_mla_attn_bwd_eq_skeleton]; unfold cc1_l3_mla_attn_bwd_skel
  iintro ⟨HR, HL, H10, H11⟩
  rw [wp_bind]
  iapply (wp_wand_r frame (wpE (defs₀ (F := F)) Variants.none (c : Thread nD τ) none) E)
  isplitl [HR HL]
  · iapply (wp_part3 c i arg2 harg2 arg3 harg3 arg4 harg4 arg5 harg5 arg6 harg6 arg7 harg7 arg8 harg8 arg9 harg9 arg10 harg10 arg11 harg11
            arg12 harg12 arg13 harg13 arg14 harg14 x0 x1 x2 x3 x4 x5 x6 x7 D E)
    isplitl [HR]; · iexact HR
    iexact HL
  iintro %y ⟨%hy, HR, HL⟩
  subst hy
  dsimp only
  rw [wp_bind]
  iapply (wp_wand_r frame (wpE (defs₀ (F := F)) Variants.none (c : Thread nD τ) none) E)
  isplitl [HL]
  · iapply (wp_part4 c i arg2 harg2 arg3 harg3 arg4 harg4 arg5 harg5 arg6 harg6 arg7 harg7 arg8 harg8 arg9 harg9 arg10 harg10 arg11 harg11
            arg12 harg12 arg13 harg13 arg14 harg14 _ _ _ _ _ _ x2 x3 x4 E (start i D) (loopEnd i x0 x1 x2 x3 x4 x5 x6 x7 D) rfl)
    iexact HL
  iintro %y ⟨%hy, HL⟩
  subst hy
  dsimp only
  rw [wp_bind]
  iapply (wp_wand_r frame (wpE (defs₀ (F := F)) Variants.none (c : Thread nD τ) none) E)
  isplitl [HL]
  · iapply (wp_part5 c i arg2 harg2 arg3 harg3 arg4 harg4 arg5 harg5 arg6 harg6 arg7 harg7 arg8 harg8 arg9 harg9 arg10 harg10 arg11 harg11
            arg12 harg12 arg13 harg13 arg14 harg14 x2 x3 x4 E _ _ _ _ _ _)
    iexact HL
  iintro %y ⟨%hy, HL⟩
  subst hy
  dsimp only
  rw [wp_bind]
  iapply (wp_wand_r frame (wpE (defs₀ (F := F)) Variants.none (c : Thread nD τ) none) E)
  isplitl [HL]
  · iapply (wp_part6 c i arg2 harg2 arg3 harg3 arg4 harg4 arg5 harg5 arg6 harg6 arg7 harg7 arg8 harg8 arg9 harg9 arg10 harg10 arg11 harg11
            arg12 harg12 arg13 harg13 arg14 harg14 _ _ _ _ x2 x3 x4 E (last i (k1_pay20 x0 x1) (k1_pay21 x7) (loopEnd i x0 x1 x2 x3 x4 x5 x6 x7 D)) _ _)
    iexact HL
  iintro %y ⟨%hy, H4, H5, H6, H12, H13, H14⟩
  subst hy
  dsimp only
  sl_exec
  sl_step
  sl_unfold_run_names
  simp only [load_block, load_rows]
  unfold accsOut
  isplitl [HR]; · iexact HR
  isplitl [H4 H5 H6 H12 H13 H14]
  · isplitl [H4]; · iexact H4
    isplitl [H5]; · iexact H5
    isplitl [H6]; · iexact H6
    isplitl [H12]; · iapply (store_holds arg12 harg12 c (last i (k1_pay20 x0 x1) (k1_pay21 x7) (loopEnd i x0 x1 x2 x3 x4 x5 x6 x7 D)).1 _ _ _); iexact H12
    isplitl [H13]; · iapply (store_holds arg13 harg13 c (last i (k1_pay20 x0 x1) (k1_pay21 x7) (loopEnd i x0 x1 x2 x3 x4 x5 x6 x7 D)).2.1 _ _ _); iexact H13
    iexact H14
  isplitl [H10]; · iapply (store_all arg10 harg10 c _ _ _ _); iexact H10
  iapply (store_all arg11 harg11 c _ _ _ _); iexact H11

end Run

end Cert.KernelIdeal.Attn

end
-- ==== Proof.FwdBody.lean ====
/-
  One grid point of the forward kernel, by values: what it leaves in its output block and in its block of log-sums, as
  functions of the blocks it reads.
-/
module

public import proofs.«01_k».proof.Proof.BwdBody

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- What the forward loop carries: scores, last probabilities, running maximum, running sum, output so far. -/
abbrev FCarried (F : FTy → Type) : Type :=
  FVec F S512x512 .f32 × FVec F S512x512 .bf16 × FVec F S512x1 .f32 × FVec F S512x1 .f32 × FVec F S512x128 .f32

/-- One trip of the forward loop. -/
def ftrip (i : grid0.Coords) (x0 x1 : Vec F S512x128 .f32) (kn kr v : Vec F S4096x128 .f32) (k : Fin (k0_t1_loop i).trips) (st : FCarried F) : FCarried F :=
  (k0_pay14 x0 x1 (blockAt kn (k0_off1 i k) (k0_off1_inb i k)) (blockAt kr (k0_off1 i k) (k0_off1_inb i k)),
    k0_pay20 st.1 st.2.2.1, k0_pay16 st.1 st.2.2.1, k0_pay19 st.1 st.2.2.1 st.2.2.2.1,
    k0_pay21 st.1 st.2.1 st.2.2.1 st.2.2.2.2 (blockAt v (k0_off2 i k) (k0_off2_inb i k)))

/-- The carried values before trip `k`. -/
def fstateAt (i : grid0.Coords) (x0 x1 : Vec F S512x128 .f32) (kn kr v : Vec F S4096x128 .f32) (init : FCarried F) : ℕ → FCarried F
  | 0 => init
  | k + 1 => if h : k < (k0_t1_loop i).trips then ftrip i x0 x1 kn kr v ⟨k, h⟩ (fstateAt i x0 x1 kn kr v init k)
      else fstateAt i x0 x1 kn kr v init k

theorem fstateAt_succ (i : grid0.Coords) (x0 x1 : Vec F S512x128 .f32) (kn kr v : Vec F S4096x128 .f32) (init : FCarried F) (k : Fin (k0_t1_loop i).trips) :
    fstateAt i x0 x1 kn kr v init (k.val + 1) = ftrip i x0 x1 kn kr v k (fstateAt i x0 x1 kn kr v init k.val) := by
  rw [fstateAt]; exact dif_pos k.isLt

/-- What the forward loop starts from. -/
def fcarried0 (x0 x1 : Vec F S512x128 .f32) (kn kr : Vec F S4096x128 .f32) : FCarried F :=
  (k0_pay9 x0 x1 (blockAt kn ![0, 0] inb_S4096x128_S512x128_0_0) (blockAt kr ![0, 0] inb_S4096x128_S512x128_0_0), k0_pay10, k0_pay11, k0_pay12, k0_pay13)

/-- The carried values after the loop. -/
def floopEnd (i : grid0.Coords) (x0 x1 : Vec F S512x128 .f32) (kn kr v : Vec F S4096x128 .f32) : FCarried F :=
  fstateAt i x0 x1 kn kr v (fcarried0 x0 x1 kn kr) (k0_t1_loop i).trips

/-- The mask of the diagonal block, and the scale of the scores. -/
def fmask : IVec S512x512 1 := k0_pay33 (iota .tc S512x512 32 [1] iota_S512x512_d1_w32) 64#32 k0_pay31 k0_pay32
abbrev fscale : F .f32 := Scalar.ofBits .f32 0x3D93CD3A#32

/-- The output block, -/
def attnOut (i : grid0.Coords) (x0 x1 : Vec F S512x128 .f32) (kn kr v : Vec F S4096x128 .f32) : Vec F S512x128 .f32 :=
  k0_pay6 (floopEnd i x0 x1 kn kr v).1 (floopEnd i x0 x1 kn kr v).2.2.1 (floopEnd i x0 x1 kn kr v).2.2.2.1 (floopEnd i x0 x1 kn kr v).2.2.2.2
    (k0_pay30 (floopEnd i x0 x1 kn kr v).2.1 (blockAt v (k0_off5 i) (k0_off5_inb i))) fmask fscale (blockAt v (k0_off6 i) (k0_off6_inb i))

/-- and the block of log-sums. -/
def lseOut (i : grid0.Coords) (x0 x1 : Vec F S512x128 .f32) (kn kr v : Vec F S4096x128 .f32) : Vec F S1x512x1 .f32 :=
  k0_pay7 (floopEnd i x0 x1 kn kr v).1 (floopEnd i x0 x1 kn kr v).2.2.1 (floopEnd i x0 x1 kn kr v).2.2.2.1 fmask fscale

theorem no_ftrips (i : grid0.Coords) : (k0_t2_loop i).trips = 0 := by
  show Scf.trips _ _ _ = 0
  simp only [k0_t2_loop]; generalize (i 1) = j; revert j; decide

section Run

variable (c : Dev nD) (i : grid0.Coords)
  (arg2 : Memref sig .tc .vmem S512x128 .f32) (harg2 : arg2.IsWhole) (arg3 : Memref sig .tc .vmem S512x128 .f32) (harg3 : arg3.IsWhole)
  (arg4 : Memref sig .tc .vmem S4096x128 .f32) (harg4 : arg4.IsWhole) (arg5 : Memref sig .tc .vmem S4096x128 .f32) (harg5 : arg5.IsWhole)
  (arg6 : Memref sig .tc .vmem S4096x128 .f32) (harg6 : arg6.IsWhole) (arg7 : Memref sig .tc .vmem S512x128 .f32) (harg7 : arg7.IsWhole)
  (arg8 : Memref sig .tc .vmem S1x512x1 .f32) (harg8 : arg8.IsWhole)

/-- The buffers the forward kernel reads. -/
abbrev FBufs (x0 x1 : Vec F S512x128 .f32) (kn kr v : Vec F S4096x128 .f32) : sProp 𝕄 :=
  iprop(Holds c arg2 harg2 x0 ∗ Holds c arg3 harg3 x1 ∗ Holds c arg4 harg4 kn ∗ Holds c arg5 harg5 kr ∗ Holds c arg6 harg6 v)

/-- One trip of the forward loop runs. -/
theorem wp_ftrip (x0 x1 : Vec F S512x128 .f32) (kn kr v : Vec F S4096x128 .f32) (E : Set ℕ) (k : Fin (k0_t1_loop i).trips) (st : FCarried F) :
    FBufs c arg2 harg2 arg3 harg3 arg4 harg4 arg5 harg5 arg6 harg6 x0 x1 kn kr v
      ⊢ wp frame (wpE (defs₀ (F := F)) Variants.none (c : Thread nD τ) none) E
          (k0_t1_body (F := F) i arg2 harg2 arg3 harg3 arg4 harg4 arg5 harg5 arg6 harg6 arg7 harg7 arg8 harg8 x0 x1 k st)
          (fun y => iprop(⌜y = ftrip i x0 x1 kn kr v k st⌝ ∗ FBufs c arg2 harg2 arg3 harg3 arg4 harg4 arg5 harg5 arg6 harg6 x0 x1 kn kr v)) := by
  obtain ⟨s, p, m, l, a⟩ := st
  unfold k0_t1_body
  iintro ⟨H2, H3, H4, H5, H6⟩
  sl_exec
  sl_step
  sl_unfold_run_names
  simp only [load_block, load_rows, ftrip]
  isplitr
  · ipureintro; trivial
  isplitl [H2]; · iexact H2
  isplitl [H3]; · iexact H3
  isplitl [H4]; · iexact H4
  isplitl [H5]; · iexact H5
  iexact H6

/-- The loops of the forward kernel. -/
theorem wp_fpart1 (x0 x1 : Vec F S512x128 .f32) (kn kr v : Vec F S4096x128 .f32) (E : Set ℕ) (st : FCarried F) (hst : st = floopEnd i x0 x1 kn kr v) :
    FBufs c arg2 harg2 arg3 harg3 arg4 harg4 arg5 harg5 arg6 harg6 x0 x1 kn kr v
      ⊢ wp frame (wpE (defs₀ (F := F)) Variants.none (c : Thread nD τ) none) E
          (k0_part1 (F := F) i arg2 harg2 arg3 harg3 arg4 harg4 arg5 harg5 arg6 harg6 arg7 harg7 arg8 harg8)
          (fun y => iprop(⌜y = ⟨BitVec.ofNat 32 (i 1).val, st.1, st.2.2.1, st.2.2.2.1, st.2.2.2.2,
              k0_pay30 st.2.1 (blockAt v (k0_off5 i) (k0_off5_inb i)), iota .tc S512x512 32 [1] iota_S512x512_d1_w32, 64#32, k0_pay31, k0_pay32⟩⌝
            ∗ FBufs c arg2 harg2 arg3 harg3 arg4 harg4 arg5 harg5 arg6 harg6 x0 x1 kn kr v)) := by
  rw [k0_part1_eq_skeleton]; unfold k0_part1_skel
  iintro ⟨H2, H3, H4, H5, H6⟩
  sl_exec
  sl_unfold_run_names
  simp only [load_all, load_block, load_rows, load_row_block]
  sl_for (fun k acc => iprop(⌜acc = fstateAt i x0 x1 kn kr v (fcarried0 x0 x1 kn kr) k⌝
      ∗ FBufs c arg2 harg2 arg3 harg3 arg4 harg4 arg5 harg5 arg6 harg6 x0 x1 kn kr v)) $$ [H2 H3 H4 H5 H6]
  · intro k acc
    iintro ⟨%hacc, HL⟩
    subst hacc
    rw [fstateAt_succ]
    iapply (wp_ftrip c i arg2 harg2 arg3 harg3 arg4 harg4 arg5 harg5 arg6 harg6 arg7 harg7 arg8 harg8 x0 x1 kn kr v E k _)
    iexact HL
  · isplitr
    · ipureintro; rfl
    isplitl [H2]; · iexact H2
    isplitl [H3]; · iexact H3
    isplitl [H4]; · iexact H4
    isplitl [H5]; · iexact H5
    iexact H6
  iintro %acc ⟨%hacc, H2, H3, H4, H5, H6⟩
  have hst' : st = fstateAt i x0 x1 kn kr v (fcarried0 x0 x1 kn kr) (Scf.trips (k0_t1_loop i).lb (k0_t1_loop i).ub (k0_t1_loop i).st) := hst
  rw [← hst'] at hacc
  subst acc
  sl_unfold_run_names
  dsimp only
  sl_for (fun k acc => iprop(⌜acc = st⌝
      ∗ FBufs c arg2 harg2 arg3 harg3 arg4 harg4 arg5 harg5 arg6 harg6 x0 x1 kn kr v)) $$ [H2 H3 H4 H5 H6]
  · intro k
    exact absurd (lt_of_lt_of_eq k.isLt (no_ftrips i)) (Nat.not_lt_zero _)
  · isplitr
    · ipureintro; rfl
    isplitl [H2]; · iexact H2
    isplitl [H3]; · iexact H3
    isplitl [H4]; · iexact H4
    isplitl [H5]; · iexact H5
    iexact H6
  iintro %acc ⟨%hacc, H2, H3, H4, H5, H6⟩
  subst acc
  sl_unfold_run_names
  dsimp only
  sl_exec
  sl_step
  sl_unfold_run_names
  simp only [load_block, load_rows]
  isplitr
  · ipureintro; trivial
  isplitl [H2]; · iexact H2
  isplitl [H3]; · iexact H3
  isplitl [H4]; · iexact H4
  isplitl [H5]; · iexact H5
  iexact H6

/-- One point of the forward kernel, by values. -/
theorem wp_fwd (x0 x1 : Vec F S512x128 .f32) (kn kr v : Vec F S4096x128 .f32) (y0 : Vec F S512x128 .f32) (y1 : Vec F S1x512x1 .f32) (E : Set ℕ) :
    iprop(FBufs c arg2 harg2 arg3 harg3 arg4 harg4 arg5 harg5 arg6 harg6 x0 x1 kn kr v ∗ Holds c arg7 harg7 y0 ∗ Holds c arg8 harg8 y1)
      ⊢ wp frame (wpE (defs₀ (F := F)) Variants.none (c : Thread nD τ) none) E
          (cc0_l3_mla_attn (F := F) i arg2 harg2 arg3 harg3 arg4 harg4 arg5 harg5 arg6 harg6 arg7 harg7 arg8 harg8)
          (fun _ => iprop(FBufs c arg2 harg2 arg3 harg3 arg4 harg4 arg5 harg5 arg6 harg6 x0 x1 kn kr v
            ∗ Holds c arg7 harg7 (attnOut i x0 x1 kn kr v) ∗ Holds c arg8 harg8 (lseOut i x0 x1 kn kr v))) := by
  rw [cc0_l3_mla_attn_eq_skeleton]; unfold cc0_l3_mla_attn_skel
  iintro ⟨HL, H7, H8⟩
  rw [wp_bind]
  iapply (wp_wand_r frame (wpE (defs₀ (F := F)) Variants.none (c : Thread nD τ) none) E)
  isplitl [HL]
  · iapply (wp_fpart1 c i arg2 harg2 arg3 harg3 arg4 harg4 arg5 harg5 arg6 harg6 arg7 harg7 arg8 harg8 x0 x1 kn kr v E (floopEnd i x0 x1 kn kr v) rfl)
    iexact HL
  iintro %y ⟨%hy, H2, H3, H4, H5, H6⟩
  subst hy
  dsimp only
  simp only [k0_part2_eq_skeleton]
  unfold k0_part2_skel
  sl_exec
  sl_step
  sl_unfold_run_names
  simp only [load_block, load_rows]
  isplitl [H2 H3 H4 H5 H6]
  · isplitl [H2]; · iexact H2
    isplitl [H3]; · iexact H3
    isplitl [H4]; · iexact H4
    isplitl [H5]; · iexact H5
    iexact H6
  isplitl [H7]; · iapply (store_all arg7 harg7 c _ _ _ _); iexact H7
  iapply (store_all arg8 harg8 c _ _ _ _); iexact H8

end Run

end Cert.KernelIdeal.Attn

end
-- ==== Proof.Calls.lean ====
/-
  The two calls as pipelines: what each point finds in its staging buffers and what it leaves there, and the obligation
  that its body does so. Both are stated at any contents `V` of the buffers at the call's entry.
-/
module

public import proofs.«01_k».proof.Proof.FwdBody
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Owned

variable {s : Shape} {e : EltTy} (c : Dev nD) (m : Memref sig .tc .vmem s e) (hm : m.IsWhole) (x : Vec F s e)

/-- Owning a whole memref at `x` is holding `x`. -/
theorem holds_of_owns : (owns (c : Thread nD τ) m fullShare x : sProp 𝕄) ⊢ Holds c m hm x := by
  unfold owns
  iintro ⟨%f, %hf, H⟩
  obtain rfl := hm.eq_unread hf
  iexact H

theorem owns_of_holds : (Holds c m hm x : sProp 𝕄) ⊢ owns (c : Thread nD τ) m fullShare x := by
  unfold owns
  iintro H
  iexists _; isplitr; · ipureintro; exact hm.read_unread x
  iexact H

end Owned

section Calls

variable (V : (c : Dev nD) → (b : Ref sig .tc) → Buf (Elt F) ((c : Thread nD τ).loc b))

/-! ## The forward call -/

/-- Window `w`'s block at point `t`, of its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]) t d).trans
    (by unfold Dat.fetched Dat.blockOf blk0; rw [hA]; rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]) t d).trans
    (by unfold Dat.fetched Dat.blockOf blk0; rw [hA]; rfl)
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]) t d).trans
    (by unfold Dat.fetched Dat.blockOf blk0; rw [hA]; rfl)
theorem found0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]) t d).trans
    (by unfold Dat.fetched Dat.blockOf blk0; rw [hA]; rfl)
theorem found0_4 {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]) t d).trans
    (by unfold Dat.fetched Dat.blockOf blk0; rw [hA]; rfl)

abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x1 .f32 := win0_6.stage (cfg0.slots t 6)
abbrev hs0_6 (t : Fin cfg0.N) : (ms0_6 t).IsWhole := hstage0_6 ((cfg0.slots t 6).cast nbuf0_6)

/-- The forward call's data: every input's block stays, the outputs are the point's. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => attnOut (grid0.coords t) (blk0 V c 0 t) (blk0 V c 1 t) (blk0 V c 2 t) (blk0 V c 3 t) (blk0 V c 4 t)
    | ⟨6, _⟩ => lseOut (grid0.coords t) (blk0 V c 0 t) (blk0 V c 1 t) (blk0 V c 2 t) (blk0 V c 3 t) (blk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = attnOut (grid0.coords t) (blk0 V c 0 t) (blk0 V c 1 t) (blk0 V c 2 t) (blk0 V c 3 t) (blk0 V c 4 t) := by dsimp only [dat0]
theorem after0_6 (c : Dev nD) (t : Fin cfg0.N) : (dat0 V c).after 6 t = lseOut (grid0.coords t) (blk0 V c 0 t) (blk0 V c 1 t) (blk0 V c 2 t) (blk0 V c 3 t) (blk0 V c 4 t) := by dsimp only [dat0]
theorem before0_0 (c : Dev nD) (t : Fin cfg0.N) (d) : (dat0 V c).before 0 t d = blk0 V c 0 t := found0_0 V (dat0 V c) (A_eq0 V c 0) (after0_0 V c) t d
theorem before0_1 (c : Dev nD) (t : Fin cfg0.N) (d) : (dat0 V c).before 1 t d = blk0 V c 1 t := found0_1 V (dat0 V c) (A_eq0 V c 1) (after0_1 V c) t d
theorem before0_2 (c : Dev nD) (t : Fin cfg0.N) (d) : (dat0 V c).before 2 t d = blk0 V c 2 t := found0_2 V (dat0 V c) (A_eq0 V c 2) (after0_2 V c) t d
theorem before0_3 (c : Dev nD) (t : Fin cfg0.N) (d) : (dat0 V c).before 3 t d = blk0 V c 3 t := found0_3 V (dat0 V c) (A_eq0 V c 3) (after0_3 V c) t d
theorem before0_4 (c : Dev nD) (t : Fin cfg0.N) (d) : (dat0 V c).before 4 t d = blk0 V c 4 t := found0_4 V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

/-- The body at any point of the forward call. -/
theorem sound0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (wp_wand_r frame (wpE (defs₀ (F := F)) Variants.none (c : Thread nD τ) none) Set.univ)
  isplitl [H0 H1 H2 H3 H4 H5 H6]
  · iapply (wp_fwd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (blk0 V c 0 t) (blk0 V c 1 t) (blk0 V c 2 t) (blk0 V c 3 t) (blk0 V c 4 t) ((dat0 V c).before 5 t d5) ((dat0 V c).before 6 t d6) Set.univ)
    isplitl [H0 H1 H2 H3 H4]
    · isplitl [H0]; · iapply holds_of_owns; iexact H0
      isplitl [H1]; · iapply holds_of_owns; iexact H1
      isplitl [H2]; · iapply holds_of_owns; iexact H2
      isplitl [H3]; · iapply holds_of_owns; iexact H3
      iapply holds_of_owns; iexact H4
    isplitl [H5]; · iapply holds_of_owns; iexact H5
    iapply holds_of_owns; iexact H6
  iintro %y ⟨⟨H0, H1, H2, H3, H4⟩, H5, H6⟩
  isplitl [HΦ]; · iexact HΦ
  isplitl [Ho]; · iexact Ho
  isplitl [H0]; · iapply (owns_of_holds c (ms0_0 t) (hs0_0 t)); iexact H0
  isplitl [H1]; · iapply (owns_of_holds c (ms0_1 t) (hs0_1 t)); iexact H1
  isplitl [H2]; · iapply (owns_of_holds c (ms0_2 t) (hs0_2 t)); iexact H2
  isplitl [H3]; · iapply (owns_of_holds c (ms0_3 t) (hs0_3 t)); iexact H3
  isplitl [H4]; · iapply (owns_of_holds c (ms0_4 t) (hs0_4 t)); iexact H4
  isplitl [H5]; · iapply (owns_of_holds c (ms0_5 t) (hs0_5 t)); iexact H5
  iapply (owns_of_holds c (ms0_6 t) (hs0_6 t)); iexact H6

theorem row0 (t : Fin cfg0.N) : defs₀ (F := F) .tc cfg0.body (cfg0.bodyArgs t (cfg0.slots t)) = bodyAt0 t := by
  unfold defs₀; rw [Defs.onTc_tc]

/-- The obligation of the call's body, at every point. -/
theorem obligation0 (c : Dev nD) : BodyObligation (dat0 (F := F) V c) (defs₀ (F := F)) Variants.none () Set.univ := fun t => by
  rw [bigSep_W0, bigSep_W0, row0]
  exact triple_restated (sound0 V c t) rfl .rfl fun _ => .rfl

/-! ## The backward call -/

/-- Window `w`'s block at point `t`, of its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]) t d).trans
    (by unfold Dat.fetched Dat.blockOf blk1; rw [hA]; rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]) t d).trans
    (by unfold Dat.fetched Dat.blockOf blk1; rw [hA]; rfl)
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]) t d).trans
    (by unfold Dat.fetched Dat.blockOf blk1; rw [hA]; rfl)
theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]) t d).trans
    (by unfold Dat.fetched Dat.blockOf blk1; rw [hA]; rfl)
theorem found1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]) t d).trans
    (by unfold Dat.fetched Dat.blockOf blk1; rw [hA]; rfl)
theorem found1_5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]) t d).trans
    (by unfold Dat.fetched Dat.blockOf blk1; rw [hA]; rfl)
theorem found1_6 {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]) t d).trans
    (by unfold Dat.fetched Dat.blockOf blk1; rw [hA]; rfl)
theorem found1_7 {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]) t d).trans
    (by unfold Dat.fetched Dat.blockOf blk1; rw [hA]; rfl)

abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S512x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S4096x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S4096x128 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S4096x128 .f32 := win1_12.stage (cfg1.slots t 12)
abbrev hs1_12 (t : Fin cfg1.N) : (ms1_12 t).IsWhole := hstage1_12 ((cfg1.slots t 12).cast nbuf1_12)

/-- What the backward call's accumulators are found to hold at point `n` (at the first, what they are reset to). -/
def found (c : Dev nD) : ℕ → Accs F
  | 0 => (k1_pay17, k1_pay19, k1_pay18)
  | n + 1 => if h : n < cfg1.N then (fun t => accsOut (grid1.coords t) (blk1 V c 0 t) (blk1 V c 1 t) (blk1 V c 2 t) (blk1 V c 3 t) (blk1 V c 4 t) (blk1 V c 5 t) (blk1 V c 6 t) (blk1 V c 7 t) (found c n)) ⟨n, h⟩ else found c n

/-- What they hold after point `t`. -/
def accsAt (c : Dev nD) (t : Fin cfg1.N) : Accs F := accsOut (grid1.coords t) (blk1 V c 0 t) (blk1 V c 1 t) (blk1 V c 2 t) (blk1 V c 3 t) (blk1 V c 4 t) (blk1 V c 5 t) (blk1 V c 6 t) (blk1 V c 7 t) (found V c t.val)

theorem found_succ (c : Dev nD) (t : Fin cfg1.N) : found V c (t.val + 1) = accsAt V c t := by
  rw [found, dif_pos t.isLt]; rfl

/-- The backward call's data: the accumulators as `accsAt`, the query gradients the point's. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => dqnOut (grid1.coords t) (blk1 V c 0 t) (blk1 V c 1 t) (blk1 V c 2 t) (blk1 V c 3 t) (blk1 V c 4 t) (blk1 V c 5 t) (blk1 V c 6 t) (blk1 V c 7 t) (found V c t.val)
    | ⟨9, _⟩ => dqrOut (grid1.coords t) (blk1 V c 0 t) (blk1 V c 1 t) (blk1 V c 2 t) (blk1 V c 3 t) (blk1 V c 4 t) (blk1 V c 5 t) (blk1 V c 6 t) (blk1 V c 7 t) (found V c t.val)
    | ⟨10, _⟩ => (accsAt V c t).1
    | ⟨11, _⟩ => (accsAt V c t).2.1
    | ⟨12, _⟩ => (accsAt V c t).2.2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = dqnOut (grid1.coords t) (blk1 V c 0 t) (blk1 V c 1 t) (blk1 V c 2 t) (blk1 V c 3 t) (blk1 V c 4 t) (blk1 V c 5 t) (blk1 V c 6 t) (blk1 V c 7 t) (found V c t.val) := by dsimp only [dat1]
theorem after1_9 (c : Dev nD) (t : Fin cfg1.N) : (dat1 V c).after 9 t = dqrOut (grid1.coords t) (blk1 V c 0 t) (blk1 V c 1 t) (blk1 V c 2 t) (blk1 V c 3 t) (blk1 V c 4 t) (blk1 V c 5 t) (blk1 V c 6 t) (blk1 V c 7 t) (found V c t.val) := by dsimp only [dat1]
theorem after1_10 (c : Dev nD) (t : Fin cfg1.N) : (dat1 V c).after 10 t = (accsAt V c t).1 := by dsimp only [dat1]
theorem after1_11 (c : Dev nD) (t : Fin cfg1.N) : (dat1 V c).after 11 t = (accsAt V c t).2.1 := by dsimp only [dat1]
theorem after1_12 (c : Dev nD) (t : Fin cfg1.N) : (dat1 V c).after 12 t = (accsAt V c t).2.2 := by dsimp only [dat1]
theorem before1_0 (c : Dev nD) (t : Fin cfg1.N) (d) : (dat1 V c).before 0 t d = blk1 V c 0 t := found1_0 V (dat1 V c) (A_eq1 V c 0) (after1_0 V c) t d
theorem before1_1 (c : Dev nD) (t : Fin cfg1.N) (d) : (dat1 V c).before 1 t d = blk1 V c 1 t := found1_1 V (dat1 V c) (A_eq1 V c 1) (after1_1 V c) t d
theorem before1_2 (c : Dev nD) (t : Fin cfg1.N) (d) : (dat1 V c).before 2 t d = blk1 V c 2 t := found1_2 V (dat1 V c) (A_eq1 V c 2) (after1_2 V c) t d
theorem before1_3 (c : Dev nD) (t : Fin cfg1.N) (d) : (dat1 V c).before 3 t d = blk1 V c 3 t := found1_3 V (dat1 V c) (A_eq1 V c 3) (after1_3 V c) t d
theorem before1_4 (c : Dev nD) (t : Fin cfg1.N) (d) : (dat1 V c).before 4 t d = blk1 V c 4 t := found1_4 V (dat1 V c) (A_eq1 V c 4) (after1_4 V c) t d
theorem before1_5 (c : Dev nD) (t : Fin cfg1.N) (d) : (dat1 V c).before 5 t d = blk1 V c 5 t := found1_5 V (dat1 V c) (A_eq1 V c 5) (after1_5 V c) t d
theorem before1_6 (c : Dev nD) (t : Fin cfg1.N) (d) : (dat1 V c).before 6 t d = blk1 V c 6 t := found1_6 V (dat1 V c) (A_eq1 V c 6) (after1_6 V c) t d
theorem before1_7 (c : Dev nD) (t : Fin cfg1.N) (d) : (dat1 V c).before 7 t d = blk1 V c 7 t := found1_7 V (dat1 V c) (A_eq1 V c 7) (after1_7 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t))

/-- An accumulator that was not written back at the point before is found as that point left it. -/
theorem kept1 (c : Dev nD) (t : Fin cfg1.N) (ht : t.val ≠ 0) : found V c t.val = accsAt V c ⟨t.val - 1, Nat.lt_of_le_of_lt (Nat.sub_le _ _) t.isLt⟩ := by
  rw [← found_succ]; congr 1; simp only []; omega

/-- The head and the query block of a point. -/
theorem point_coords : ∀ t : Fin grid1.N, (grid1.coords t 0).val = t.val / 8 ∧ (grid1.coords t 1).val = t.val % 8 := by decide +kernel

/-- What the accumulators hold when the point is entered leads to the same start. -/
theorem start_before (c : Dev nD) (t : Fin cfg1.N) (d10 d11 d12) :
    start (grid1.coords t) ((dat1 V c).before 10 t d10, (dat1 V c).before 11 t d11, (dat1 V c).before 12 t d12) = start (grid1.coords t) (found V c t.val) := by
  obtain ⟨h0, h1⟩ := point_coords t
  by_cases h8 : t.val % 8 = 0
  · have e1 : (grid1.coords t 1).val = 0 := by omega
    by_cases ht : t.val = 0
    · have e0 : (grid1.coords t 0).val = 0 := by omega
      rw [start_point e1 e0, start_point e1 e0]
    · have e0 : ¬ (grid1.coords t 0).val = 0 := by omega
      rw [start_block e1 e0, start_block e1 e0]
      have hk := (dat1 V c).before_out_kept 11 rfl t ht (by
        rw [Bool.eq_false_iff]; intro hf; have := (flush1_11 _).mp hf; have hN : t.val < 64 := t.isLt; simp only [] at this; omega)
        (fun _ => rfl) (fun _ _ => rfl) d11
      rw [hk, after1_11, kept1 V c t ht]
  · have e1 : ¬ (grid1.coords t 1).val = 0 := by omega
    have ht : t.val ≠ 0 := by omega
    have k10 := (dat1 V c).before_out_kept 10 rfl t ht (by
      rw [Bool.eq_false_iff]; intro hf; have := (flush1_10 _).mp hf; simp only [] at this; omega) (fun _ => rfl) (fun _ _ => rfl) d10
    have k11 := (dat1 V c).before_out_kept 11 rfl t ht (by
      rw [Bool.eq_false_iff]; intro hf; have := (flush1_11 _).mp hf; have hN : t.val < 64 := t.isLt; simp only [] at this; omega) (fun _ => rfl) (fun _ _ => rfl) d11
    have k12 := (dat1 V c).before_out_kept 12 rfl t ht (by
      rw [Bool.eq_false_iff]; intro hf; have := (flush1_12 _).mp hf; simp only [] at this; omega) (fun _ => rfl) (fun _ _ => rfl) d12
    rw [k10, k11, k12, after1_10, after1_11, after1_12, kept1 V c t ht]

/-- What a point leaves depends on what it finds only through the start. -/
theorem accsOut_congr {i : grid1.Coords} {x0 x1 : Vec F S512x128 .f32} {x2 x3 x4 : Vec F S4096x128 .f32} {x5 : Vec F S512x128 .f32} {x6 : Vec F S1x512x1 .f32}
    {x7 : Vec F S512x128 .f32} {D D' : Accs F} (h : start i D = start i D') : accsOut i x0 x1 x2 x3 x4 x5 x6 x7 D = accsOut i x0 x1 x2 x3 x4 x5 x6 x7 D' := by
  unfold accsOut loopEnd; rw [h]
theorem dqnOut_congr {i : grid1.Coords} {x0 x1 : Vec F S512x128 .f32} {x2 x3 x4 : Vec F S4096x128 .f32} {x5 : Vec F S512x128 .f32} {x6 : Vec F S1x512x1 .f32}
    {x7 : Vec F S512x128 .f32} {D D' : Accs F} (h : start i D = start i D') : dqnOut i x0 x1 x2 x3 x4 x5 x6 x7 D = dqnOut i x0 x1 x2 x3 x4 x5 x6 x7 D' := by
  unfold dqnOut loopEnd; rw [h]
theorem dqrOut_congr {i : grid1.Coords} {x0 x1 : Vec F S512x128 .f32} {x2 x3 x4 : Vec F S4096x128 .f32} {x5 : Vec F S512x128 .f32} {x6 : Vec F S1x512x1 .f32}
    {x7 : Vec F S512x128 .f32} {D D' : Accs F} (h : start i D = start i D') : dqrOut i x0 x1 x2 x3 x4 x5 x6 x7 D = dqrOut i x0 x1 x2 x3 x4 x5 x6 x7 D' := by
  unfold dqrOut loopEnd; rw [h]

/-- The body at any point of the backward call. -/
theorem sound1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl]
  rw [after1_0, after1_1, after1_2, after1_3, after1_4, after1_5, after1_6, after1_7, after1_8, after1_9, after1_10, after1_11, after1_12]
  unfold accsAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hs := start_before V c t d10 d11 d12
  rw [← accsOut_congr hs, ← dqnOut_congr hs, ← dqrOut_congr hs]
  iapply (wp_wand_r frame (wpE (defs₀ (F := F)) Variants.none (c : Thread nD τ) none) Set.univ)
  isplitl [H0 H1 H2 H3 H4 H5 H6 H7 H8 H9 H10 H11 H12]
  · iapply (wp_bwd c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (blk1 V c 0 t) (blk1 V c 1 t) (blk1 V c 2 t) (blk1 V c 3 t) (blk1 V c 4 t) (blk1 V c 5 t) (blk1 V c 6 t) (blk1 V c 7 t)
      ((dat1 V c).before 8 t d8) ((dat1 V c).before 9 t d9) ((dat1 V c).before 10 t d10, (dat1 V c).before 11 t d11, (dat1 V c).before 12 t d12) Set.univ)
    isplitl [H0 H1 H5 H6 H7]
    · isplitl [H0]; · iapply holds_of_owns; iexact H0
      isplitl [H1]; · iapply holds_of_owns; iexact H1
      isplitl [H5]; · iapply holds_of_owns; iexact H5
      isplitl [H6]; · iapply holds_of_owns; iexact H6
      iapply holds_of_owns; iexact H7
    isplitl [H2 H3 H4 H10 H11 H12]
    · isplitl [H2]; · iapply holds_of_owns; iexact H2
      isplitl [H3]; · iapply holds_of_owns; iexact H3
      isplitl [H4]; · iapply holds_of_owns; iexact H4
      isplitl [H10]; · iapply holds_of_owns; iexact H10
      isplitl [H11]; · iapply holds_of_owns; iexact H11
      iapply holds_of_owns; iexact H12
    isplitl [H8]; · iapply holds_of_owns; iexact H8
    iapply holds_of_owns; iexact H9
  iintro %y ⟨⟨H0, H1, H5, H6, H7⟩, ⟨H2, H3, H4, H10, H11, H12⟩, H8, H9⟩
  isplitl [HΦ]; · iexact HΦ
  isplitl [Ho]; · iexact Ho
  isplitl [H0]; · iapply (owns_of_holds c (ms1_0 t) (hs1_0 t)); iexact H0
  isplitl [H1]; · iapply (owns_of_holds c (ms1_1 t) (hs1_1 t)); iexact H1
  isplitl [H2]; · iapply (owns_of_holds c (ms1_2 t) (hs1_2 t)); iexact H2
  isplitl [H3]; · iapply (owns_of_holds c (ms1_3 t) (hs1_3 t)); iexact H3
  isplitl [H4]; · iapply (owns_of_holds c (ms1_4 t) (hs1_4 t)); iexact H4
  isplitl [H5]; · iapply (owns_of_holds c (ms1_5 t) (hs1_5 t)); iexact H5
  isplitl [H6]; · iapply (owns_of_holds c (ms1_6 t) (hs1_6 t)); iexact H6
  isplitl [H7]; · iapply (owns_of_holds c (ms1_7 t) (hs1_7 t)); iexact H7
  isplitl [H8]; · iapply (owns_of_holds c (ms1_8 t) (hs1_8 t)); iexact H8
  isplitl [H9]; · iapply (owns_of_holds c (ms1_9 t) (hs1_9 t)); iexact H9
  isplitl [H10]; · iapply (owns_of_holds c (ms1_10 t) (hs1_10 t)); iexact H10
  isplitl [H11]; · iapply (owns_of_holds c (ms1_11 t) (hs1_11 t)); iexact H11
  iapply (owns_of_holds c (ms1_12 t) (hs1_12 t)); iexact H12

theorem row1 (t : Fin cfg1.N) : defs₀ (F := F) .tc cfg1.body (cfg1.bodyArgs t (cfg1.slots t)) = bodyAt1 t := by
  unfold defs₀; rw [Defs.onTc_tc]

/-- The obligation of the call's body, at every point. -/
theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

end Calls

end Cert.KernelIdeal.Attn

end
-- ==== Proof.Run.lean ====
/-
  The whole program: the forward call, then the backward call on what it saved. `W0`, `W1`, `W2` are the buffers at
  launch, between the calls and at the end; `run_main` says that every execution ends with the buffers at `W2` and
  every counter at zero.
-/
module

public import proofs.«01_k».proof.Proof.Calls
public import Idealize.ShloMosaic.Adequacy
public import Idealize.ShloMosaic.Init

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The program's arguments. -/
abbrev argRefs : List (Ref sig .tc) := [main_arg0, main_arg1, main_arg2, main_arg3, main_arg4, main_arg5]

/-- The buffers of core `c` at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- The buffers after call 0: its arrays as the pipeline leaves them, the others as before. -/
def W1 (c : Dev nD) : Valuation τ sig (Elt F) := Pipeline.withArrays spec0 c (W0 m ρ c) fun w => (dat0 (V0 m ρ) c).arrAt w cfg0.N
theorem W1_arr (c : Dev nD) (w : Fin cfg0.W) : W1 m ρ c (Proc.devRef .tc (Pipeline.arrRef spec0 w)) = (dat0 (V0 m ρ) c).arrAt w cfg0.N := by
  unfold W1; exact Pipeline.withArrays_arr spec0 launch0.win.arr_inj c _ _ w
theorem W1_other (c : Dev nD) (b : Ref sig .tc) (hb : ∀ w, Pipeline.arrRef spec0 w ≠ b) : W1 m ρ c (Proc.devRef .tc b) = W0 m ρ c (Proc.devRef .tc b) := by
  unfold W1; exact Pipeline.withArrays_of_ne spec0 c _ _ b hb
/-- A buffer that is no output of call 0 is the same before and after. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_other m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
abbrev V1 : (c : Dev nD) → (b : Ref sig .tc) → Buf (Elt F) ((c : Thread nD τ).loc b) := fun c b => W1 m ρ c b
theorem arrays0 (c : Dev nD) (w : Fin cfg0.W) : (dat0 (V0 m ρ) c).arrAt w cfg0.N = V1 m ρ c (Pipeline.arrRef spec0 w) := (W1_arr m ρ c w).symm
theorem others0 (c : Dev nD) : ∀ b, b ∉ Finset.univ.image (Pipeline.arrRef spec0) → V1 m ρ c b = V0 m ρ c b :=
  fun b hb => W1_other m ρ c b fun w e => hb (Finset.mem_image.mpr ⟨w, Finset.mem_univ _, e⟩)

/-- The buffers after call 1: its arrays as the pipeline leaves them, the others as before. -/
def W2 (c : Dev nD) : Valuation τ sig (Elt F) := Pipeline.withArrays spec1 c (W1 m ρ c) fun w => (dat1 (V1 m ρ) c).arrAt w cfg1.N
theorem W2_arr (c : Dev nD) (w : Fin cfg1.W) : W2 m ρ c (Proc.devRef .tc (Pipeline.arrRef spec1 w)) = (dat1 (V1 m ρ) c).arrAt w cfg1.N := by
  unfold W2; exact Pipeline.withArrays_arr spec1 launch1.win.arr_inj c _ _ w
theorem W2_other (c : Dev nD) (b : Ref sig .tc) (hb : ∀ w, Pipeline.arrRef spec1 w ≠ b) : W2 m ρ c (Proc.devRef .tc b) = W1 m ρ c (Proc.devRef .tc b) := by
  unfold W2; exact Pipeline.withArrays_of_ne spec1 c _ _ b hb
/-- A buffer that is no output of call 1 is the same before and after. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_other m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
abbrev V2 : (c : Dev nD) → (b : Ref sig .tc) → Buf (Elt F) ((c : Thread nD τ).loc b) := fun c b => W2 m ρ c b
theorem arrays1 (c : Dev nD) (w : Fin cfg1.W) : (dat1 (V1 m ρ) c).arrAt w cfg1.N = V2 m ρ c (Pipeline.arrRef spec1 w) := (W2_arr m ρ c w).symm
theorem others1 (c : Dev nD) : ∀ b, b ∉ Finset.univ.image (Pipeline.arrRef spec1) → V2 m ρ c b = V1 m ρ c b :=
  fun b hb => W2_other m ρ c b fun w e => hb (Finset.mem_image.mpr ⟨w, Finset.mem_univ _, e⟩)

/-- No call changes an argument. -/
theorem W1_args (c : Dev nD) : ∀ a ∈ argRefs, W1 m ρ c (Proc.devRef .tc a) = m ((c : Thread nD τ).loc a) :=
  fun a ha => (W1_of m ρ c a (argsIn0 a ha)).trans rfl
theorem W2_args (c : Dev nD) : ∀ a ∈ argRefs, W2 m ρ c (Proc.devRef .tc a) = m ((c : Thread nD τ).loc a) :=
  fun a ha => (W2_of m ρ c a (argsIn1 a ha)).trans (W1_args m ρ c a ha)

/-! ## The calls as segments -/

abbrev adm : (p : Fin 2) → (pcfgs (F := F) p).Adm := fun p => (cfgs p).toPCfg_adm
/-- Each call's data, at the contents it is entered with. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What a core keeps beside its buffers: its generator register, and owing nothing. -/
abbrev Beside (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every unscoped buffer at `W2`. -/
abbrev Tₙ (c : Dev nD) : sProp 𝕄 := iprop(StableHlo.held (c : Thread nD τ) (Pipeline.ucRefs τ sig) (W2 m ρ c) ∗ ∃ r, prngReg c r)

set_option backward.isDefEq.respectTransparency.types false in
/-- Call 0, entered with the buffers at `W0` and left with them at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ Beside c)
  post c := iprop(StableHlo.held (c : Thread nD τ) (Pipeline.ucRefs τ sig) (W1 m ρ c) ∗ Beside c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (arrays0 m ρ c) (others0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1, entered with the buffers at `W1` and left with them at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ Beside c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (arrays1 m ρ c) (others1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's segments. -/
abbrev segs : List (Pipeline.Seg (pcfgs (F := F)) adm (pdats m ρ) () defs₀ 𝒱₀ L lv) := [.region (reg0 m ρ), .region (reg1 m ρ)]
theorem main_run (c : Dev nD) : main (F := F) c = Pipeline.Seg.run (segs m ρ) := (main_chain c).trans (by chain_rfl)
theorem no_unscoped : ∀ sm : SemLoc sig, sm.isScoped .tc = true := by decide

set_option backward.isDefEq.respectTransparency.types false in
/-- Every execution ends, faulting nowhere, with every buffer at `W2` and every counter at zero. -/
theorem run_main : θ_run defs (onTc (τ := τ) (main (F := F))) ⟨m, fun _ => 0, ρ⟩ (fun r =>
    (∀ c : Dev nD, ∀ b ∈ Pipeline.ucRefs τ sig, r.2.mem ((c : Thread nD τ).1, b) = W2 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Beside c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨h, funext fun g => hz g (.inr (no_unscoped g.2))⟩)

/-- In particular the arguments end as they were. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    have ha : ∀ a : Ref sig .tc, a ∈ argRefs → ¬ (Proc.devRef .tc a : DevRef τ sig).isScoped → r.2.mem ((c.tc : Thread nD τ).loc a) = m ((c.tc : Thread nD τ).loc a) :=
      fun a hm hs => (h.1 c _ (mem_uc a hs)).trans (W2_args m ρ c a hm)
    ⟨ha main_arg0 (by decide) (by decide), ha main_arg1 (by decide) (by decide), ha main_arg2 (by decide) (by decide),
     ha main_arg3 (by decide) (by decide), ha main_arg4 (by decide) (by decide), ha main_arg5 (by decide) (by decide)⟩, h.2⟩) (run_main m ρ)

end Cert.KernelIdeal.Attn

end
-- ==== Proof.Frames.lean ====
/-
  The frame of the kernel at machine words, from the run of the ideal text: the two texts differ only in the mask's
  constant, which is read here as the word it is printed from.
-/
module

public import proofs.«01_k».proof.Defs
public import proofs.«01_k».proof.Proof.Run
public import proofs.«01_k».proof.Proof.Gen.Kernel

@[expose] public section

set_option maxRecDepth 16384

noncomputable section

namespace Cert.KernelIdeal.Attn

open Idealize.ShloMosaic Idealize.SL.Sem

/-- At machine words a named constant is the word it is printed from. -/
local instance namedBits : Named Bits where
  named _ _ {φ} bits := Scalar.ofBits φ bits

/-- The ideal text's frame at machine words. -/
def FrameAtWords : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

/-- The two texts are one at machine words. -/
theorem texts : Cert.quiescent_Kernel (hKernel := Kernel.Gen.facts) = FrameAtWords := by chain_rfl

theorem frame_kernel : Cert.quiescent_Kernel (hKernel := Kernel.Gen.facts) := by
  rw [texts]; exact fun m ρ _ => frame_main (F := Bits) m ρ

end Cert.KernelIdeal.Attn

end
-- ==== Proof.Spec.lean ====
/-
  Attention over one head, on real numbers: scores, weights, output, and the gradients of the queries, keys and values;
  and vectors whose entries are given real numbers.
-/
module

public import Idealize.ShloMosaic.Lib.Pointwise

@[expose] public section

noncomputable section

namespace Cert.Attn

open Idealize.ShloMosaic
open scoped BigOperators

/-- The factor the scores are scaled by. -/
def scale : ℝ := (Ideal.ofBits .f32 0x3D93CD3A#32).toReal

theorem scale_eq : Ideal.ofBits .f32 0x3D93CD3A#32 = ((scale : ℝ) : EReal) := by
  unfold scale
  rw [EReal.coe_toReal] <;>
  · simp only [Ideal.ofBits, Ideal.ieee]
    norm_num
    try refine ⟨by decide, ?_⟩
    rw [if_neg (show ¬ (1033096506 >>> 23 % 256 = 0) by decide)]
    first | exact EReal.coe_ne_bot _ | (rw [if_neg (show ¬ (1033096506 >>> 23 % 256 = 255) by decide)]; exact EReal.coe_ne_top _)

/-- One head's queries and keys (128 positions without rotation, then 128 with), values, and gradient of the output. -/
structure Head where
  q : ℕ → ℕ → ℝ
  k : ℕ → ℕ → ℝ
  w : ℕ → ℕ → ℝ
  g : ℕ → ℕ → ℝ

namespace Head
variable (H : Head)

/-- The score of row `r` against column `c`, not scaled. -/
def raw (r c : ℕ) : ℝ := ∑ d ∈ Finset.range 256, H.q r d * H.k c d
/-- The scaled score. -/
def score (r c : ℕ) : ℝ := H.raw r c * scale
/-- Its exponential where row `r` sees column `c`: the column's group of 64 is not after the row's. -/
def expo (r c : ℕ) : ℝ := if c / 64 ≤ r / 64 then Real.exp (H.score r c) else 0
/-- The sum of a row. -/
def total (r : ℕ) : ℝ := ∑ c ∈ Finset.range 4096, H.expo r c
/-- The weights. -/
def prob (r c : ℕ) : ℝ := H.expo r c / H.total r
/-- The output. -/
def out (r d : ℕ) : ℝ := ∑ c ∈ Finset.range 4096, H.prob r c * H.w c d
/-- The gradient of the weights. -/
def dprob (r c : ℕ) : ℝ := ∑ d ∈ Finset.range 128, H.g r d * H.w c d
/-- The output times its gradient, summed over a row. -/
def delta (r : ℕ) : ℝ := ∑ d ∈ Finset.range 128, H.g r d * H.out r d
/-- The gradient of the scores before scaling. -/
def dscore (r c : ℕ) : ℝ := H.prob r c * (H.dprob r c - H.delta r) * scale
/-- The gradients of values, queries and keys. -/
def dv (c d : ℕ) : ℝ := ∑ r ∈ Finset.range 4096, H.prob r c * H.g r d
def dq (r d : ℕ) : ℝ := ∑ c ∈ Finset.range 4096, H.dscore r c * H.k c d
def dk (c d : ℕ) : ℝ := ∑ r ∈ Finset.range 4096, H.dscore r c * H.q r d

theorem expo_nonneg (r c : ℕ) : 0 ≤ H.expo r c := by
  unfold expo; split_ifs <;> positivity

theorem total_pos {r : ℕ} (hr : r < 4096) : 0 < H.total r := by
  unfold total
  refine Finset.sum_pos' (fun c _ => H.expo_nonneg r c) ⟨r, Finset.mem_range.2 hr, ?_⟩
  unfold expo; rw [if_pos le_rfl]; positivity

/-- The weighted gradients of the weights sum to the output times its gradient. -/
theorem delta_eq (r : ℕ) : H.delta r = ∑ c ∈ Finset.range 4096, H.prob r c * H.dprob r c := by
  unfold delta out dprob
  simp only [Finset.mul_sum]
  rw [Finset.sum_comm]
  exact Finset.sum_congr rfl fun c _ => Finset.sum_congr rfl fun d _ => by ring

end Head

/-! ## Sums over blocks of 512 -/

theorem sum_block (f : ℕ → ℝ) (k : ℕ) :
    ∑ c ∈ Finset.range (512 * (k + 1)), f c = ∑ c ∈ Finset.range (512 * k), f c + ∑ b ∈ Finset.range 512, f (512 * k + b) := by
  rw [Nat.mul_succ, Finset.sum_range_add]

/-- A sum over all columns of which those after block `i` vanish. -/
theorem sum_upto (f : ℕ → ℝ) (i : ℕ) (hi : i < 8) (hf : ∀ c, 512 * (i + 1) ≤ c → f c = 0) :
    ∑ c ∈ Finset.range 4096, f c = ∑ c ∈ Finset.range (512 * i), f c + ∑ b ∈ Finset.range 512, f (512 * i + b) := by
  rw [← sum_block]
  symm
  refine Finset.sum_subset (Finset.range_subset_range.2 (by omega)) fun c _ hc => hf c ?_
  simpa using hc

/-! ## Vectors of given real numbers -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_sum_fin (n : ℕ) (f : ℕ → ℝ) : ∑ k : Fin n, ((f k.val : ℝ) : EReal) = ((∑ k ∈ Finset.range n, f k : ℝ) : EReal) := by
  rw [coe_sum, Finset.sum_range]

/-- The entries of the matrix `x` are the numbers `f`. -/
def Is2 {n0 n1 : ℕ} (x : (⟨2, ![n0, n1]⟩ : Shape).Idx → EReal) (f : ℕ → ℕ → ℝ) : Prop :=
  ∀ (a : Fin n0) (b : Fin n1), x (ix2 a b) = ((f a.val b.val : ℝ) : EReal)

/-- The entries of the one-column matrix `x` are the numbers `f`. -/
def IsCol {n0 : ℕ} (x : (⟨2, ![n0, 1]⟩ : Shape).Idx → EReal) (f : ℕ → ℝ) : Prop :=
  ∀ a : Fin n0, x (ix2 a 0) = ((f a.val : ℝ) : EReal)

theorem Is2.congr {n0 n1 : ℕ} {x : (⟨2, ![n0, n1]⟩ : Shape).Idx → EReal} {f f' : ℕ → ℕ → ℝ} (h : Is2 x f)
    (e : ∀ a b, a < n0 → b < n1 → f a b = f' a b) : Is2 x f' := fun a b => by rw [h a b, e _ _ a.isLt b.isLt]

theorem IsCol.congr {n0 : ℕ} {x : (⟨2, ![n0, 1]⟩ : Shape).Idx → EReal} {f f' : ℕ → ℝ} (h : IsCol x f)
    (e : ∀ a, a < n0 → f a = f' a) : IsCol x f' := fun a => by rw [h a, e _ a.isLt]

/-- The exponential of a difference of two real numbers. -/
theorem exp_sub_coe (x y : ℝ) : Ideal.exp (((x : ℝ) : EReal) - ((y : ℝ) : EReal)) = ((Real.exp (x - y) : ℝ) : EReal) := by
  rw [← EReal.coe_sub, Ideal.exp_coe]

theorem exp_bot_sub_coe (y : ℝ) : Ideal.exp (⊥ - ((y : ℝ) : EReal)) = ((0 : ℝ) : EReal) := by
  rw [EReal.bot_sub, Ideal.exp_bot, EReal.coe_zero]

theorem div_coe_coe (x y : ℝ) (h : y ≠ 0) : Ideal.div ((x : ℝ) : EReal) ((y : ℝ) : EReal) = ((x / y : ℝ) : EReal) := by
  rw [Ideal.div_coe h, ← EReal.coe_mul, mul_one_div]

theorem log_coe_pos (x : ℝ) (h : 0 < x) : Ideal.log ((x : ℝ) : EReal) = ((Real.log x : ℝ) : EReal) := by
  rw [Ideal.log_coe, if_neg (not_le.2 h)]

/-- The largest of finitely many entries none of which is `⊤`, one of which is a real number, is a real number. -/
theorem fold_max_real {n : ℕ} (f : Fin n → EReal) (M : EReal) (hM : M ≠ ⊤) (hf : ∀ k, f k ≠ ⊤) (k0 : Fin n) (h0 : f k0 ≠ ⊥) :
    ∃ μ : ℝ, max M (Finset.univ.fold max ⊥ f) = (μ : EReal) := by
  have hbot : max M (Finset.univ.fold max ⊥ f) ≠ ⊥ := by
    intro h
    have h1 : f k0 ≤ Finset.univ.fold max ⊥ f := by
      rw [Finset.le_fold_max]; exact Or.inr ⟨k0, Finset.mem_univ _, le_rfl⟩
    have h2 : f k0 ≤ ⊥ := h ▸ (h1.trans (le_max_right _ _))
    exact h0 (le_bot_iff.1 h2)
  have htop : max M (Finset.univ.fold max ⊥ f) ≠ ⊤ := by
    refine (lt_top_iff_ne_top).1 (max_lt (lt_top_iff_ne_top.2 hM) ?_)
    rw [Finset.fold_max_lt]
    exact ⟨bot_lt_top, fun k _ => lt_top_iff_ne_top.2 (hf k)⟩
  exact ⟨_, (EReal.coe_toReal htop hbot).symm⟩

end Cert.Attn
-- ==== Proof.Entries.lean ====
/-
  The kernel's operations on matrices whose entries are given real numbers.
-/
module

public import proofs.«01_k».proof.Proof.Spec
public import proofs.«01_k».proof.Proof.FwdBody

@[expose] public section

noncomputable section

namespace Cert.KernelIdeal.Attn

open Idealize.ShloMosaic Cert.Attn
open Cert.KernelIdeal Cert.KernelIdeal.Gen
open scoped BigOperators

theorem mask_bot : (Named.named κ "mask" 0xF149F2CA#32 : Ideal .f32) = (⊥ : EReal) := rfl

section Plain
variable {n0 n1 : ℕ} {φ : FTy} {x y : FVec Ideal ⟨2, ![n0, n1]⟩ φ} {f g : ℕ → ℕ → ℝ}

theorem is_add (hx : Is2 x f) (hy : Is2 y g) : Is2 (addf x y) (fun a b => f a b + g a b) := fun a b => by
  show x _ + y _ = _
  rw [hx a b, hy a b, EReal.coe_add]
theorem is_sub (hx : Is2 x f) (hy : Is2 y g) : Is2 (subf x y) (fun a b => f a b - g a b) := fun a b => by
  show x _ - y _ = _
  rw [hx a b, hy a b, EReal.coe_sub]
theorem is_mul (hx : Is2 x f) (hy : Is2 y g) : Is2 (mulf x y) (fun a b => f a b * g a b) := fun a b => by
  show x _ * y _ = _
  rw [hx a b, hy a b, EReal.coe_mul]
theorem is_div (hx : Is2 x f) (hy : Is2 y g) (h : ∀ a b, a < n0 → b < n1 → g a b ≠ 0) : Is2 (divf x y) (fun a b => f a b / g a b) := fun a b => by
  show Ideal.div (x _) (y _) = _
  rw [hx a b, hy a b, div_coe_coe _ _ (h _ _ a.isLt b.isLt)]
theorem is_exp (hx : Is2 x f) : Is2 (exp x) (fun a b => Real.exp (f a b)) := fun a b => by
  show Ideal.exp (x _) = _
  rw [hx a b, Ideal.exp_coe]
theorem is_trunc {ψ : FTy} (h : ψ.bits < φ.bits) (hx : Is2 x f) : Is2 (truncf ψ x h : FVec Ideal ⟨2, ![n0, n1]⟩ ψ) f := fun a b => hx a b

theorem is_scale (hx : Is2 (x : FVec Ideal ⟨2, ![n0, n1]⟩ φ) f) {y : FVec Ideal ⟨2, ![n0, n1]⟩ φ}
    (hy : ∀ j, y j = Ideal.ofBits .f32 0x3D93CD3A#32) : Is2 (mulf x y) (fun a b => f a b * scale) := fun a b => by
  show x _ * y _ = _
  rw [hx a b, hy, scale_eq, EReal.coe_mul]
end Plain

/-- A column spread over the width of a matrix. -/
theorem is_spread512 {x : FVec Ideal S512x1 .f32} {f : ℕ → ℝ} (h : IsCol x f) : Is2 (broadcastTo S512x512 x broadcasts_S512x1_S512x512) (fun a _ => f a) := fun a b => by
  pointwise; exact h a
theorem is_spread128 {x : FVec Ideal S512x1 .f32} {f : ℕ → ℝ} (h : IsCol x f) : Is2 (broadcastTo S512x128 x broadcasts_S512x1_S512x128) (fun a _ => f a) := fun a b => by
  pointwise; exact h a

/-- Two matrices side by side. -/
theorem is_pair {x y : FVec Ideal S512x128 .f32} {f : ℕ → ℕ → ℝ} (hx : Is2 x f) (hy : Is2 y (fun a d => f a (128 + d))) :
    Is2 (concatenate S512x256 1 [⟨S512x128, x⟩, ⟨S512x128, y⟩] concatenates_S512x128_S512x128_S512x256_d1) f := fun a b => by
  pointwise
  split
  · exact hx a ⟨b.val, _⟩
  · rename_i hb
    refine (hy a ⟨b.val - 128, _⟩).trans ?_
    have : 128 + (b.val - 128) = b.val := by omega
    simp only [this]

/-- The products the kernel takes. -/
theorem is_dot_qk {x y : FVec Ideal S512x256 .bf16} {f g : ℕ → ℕ → ℝ} (hx : Is2 x f) (hy : Is2 y g) :
    Is2 (matmul dot_S512x256_S512x256_S512x512_1_1_0_0_n_n none x y (constant S512x512 .f32 0x00000000#32))
      (fun a b => ∑ d ∈ Finset.range 256, f a d * g b d) := fun a b => by
  pointwise
  rw [← coe_sum_fin]
  exact Finset.sum_congr rfl fun d _ => by rw [hx a d, hy b d, EReal.coe_mul]

theorem is_dot_gv {x y : FVec Ideal S512x128 .bf16} {f g : ℕ → ℕ → ℝ} (hx : Is2 x f) (hy : Is2 y g) :
    Is2 (matmul dot_S512x128_S512x128_S512x512_1_1_0_0_n_n none x y (constant S512x512 .f32 0x00000000#32))
      (fun a b => ∑ d ∈ Finset.range 128, f a d * g b d) := fun a b => by
  pointwise
  rw [← coe_sum_fin]
  exact Finset.sum_congr rfl fun d _ => by rw [hx a d, hy b d, EReal.coe_mul]

theorem is_dot_pv {x : FVec Ideal S512x512 .bf16} {y : FVec Ideal S512x128 .bf16} {f g : ℕ → ℕ → ℝ} (hx : Is2 x f) (hy : Is2 y g) :
    Is2 (matmul dot_S512x512_S512x128_S512x128_1_0_0_1_n_n none x y (constant S512x128 .f32 0x00000000#32))
      (fun a d => ∑ b ∈ Finset.range 512, f a b * g b d) := fun a b => by
  pointwise
  rw [← coe_sum_fin]
  exact Finset.sum_congr rfl fun d _ => by rw [hx a d, hy d b, EReal.coe_mul]

theorem is_dot_sk {x : FVec Ideal S512x512 .bf16} {y : FVec Ideal S512x256 .bf16} {f g : ℕ → ℕ → ℝ} (hx : Is2 x f) (hy : Is2 y g) :
    Is2 (matmul dot_S512x512_S512x256_S512x256_1_0_0_1_n_n none x y (constant S512x256 .f32 0x00000000#32))
      (fun a d => ∑ b ∈ Finset.range 512, f a b * g b d) := fun a b => by
  pointwise
  rw [← coe_sum_fin]
  exact Finset.sum_congr rfl fun d _ => by rw [hx a d, hy d b, EReal.coe_mul]

theorem is_dot_pg {x : FVec Ideal S512x512 .bf16} {y : FVec Ideal S512x128 .bf16} {f g : ℕ → ℕ → ℝ} (hx : Is2 x f) (hy : Is2 y g) :
    Is2 (matmul dot_S512x512_S512x128_S512x128_0_0_1_1_n_n none x y (constant S512x128 .f32 0x00000000#32))
      (fun b d => ∑ a ∈ Finset.range 512, f a b * g a d) := fun a b => by
  pointwise
  rw [← coe_sum_fin]
  exact Finset.sum_congr rfl fun d _ => by rw [hx d a, hy d b, EReal.coe_mul]

theorem is_dot_sq {x : FVec Ideal S512x512 .bf16} {y : FVec Ideal S512x256 .bf16} {f g : ℕ → ℕ → ℝ} (hx : Is2 x f) (hy : Is2 y g) :
    Is2 (matmul dot_S512x512_S512x256_S512x256_0_0_1_1_n_n none x y (constant S512x256 .f32 0x00000000#32))
      (fun b d => ∑ a ∈ Finset.range 512, f a b * g a d) := fun a b => by
  pointwise
  rw [← coe_sum_fin]
  exact Finset.sum_congr rfl fun d _ => by rw [hx d a, hy d b, EReal.coe_mul]

/-- Row sums. -/
theorem is_rows512 {x : FVec Ideal S512x512 .f32} {f : ℕ → ℕ → ℝ} (hx : Is2 x f) :
    IsCol (shapeCast S512x1 (multiReduction .add [1] S512 x 0x00000000#32 reduces_S512x512_S512 (.inl rfl) rfl) shapeCasts_S512_S512x1)
      (fun a => ∑ b ∈ Finset.range 512, f a b) := fun a => by
  pointwise
  rw [← coe_sum_fin]
  exact Finset.sum_congr rfl fun d _ => hx a d

theorem is_rows128 {x : FVec Ideal S512x128 .f32} {f : ℕ → ℕ → ℝ} (hx : Is2 x f) :
    IsCol (shapeCast S512x1 (multiReduction .add [1] S512 x 0x00000000#32 reduces_S512x128_S512 (.inl rfl) rfl) shapeCasts_S512_S512x1)
      (fun a => ∑ b ∈ Finset.range 128, f a b) := fun a => by
  pointwise
  rw [← coe_sum_fin]
  exact Finset.sum_congr rfl fun d _ => hx a d

theorem neg_inf : Ideal.ofBits .f32 0xFF800000#32 = ⊥ := by
  simp [Ideal.ofBits, Ideal.ieee]

/-- Row maxima, against a column. -/
theorem rowmax_eq (m : FVec Ideal S512x1 .f32) (x : FVec Ideal S512x512 .f32) (a : Fin 512) :
    maximumf m (shapeCast S512x1 (multiReduction .maximumf [1] S512 x 0xFF800000#32 reduces_S512x512_S512 (.inl rfl) rfl) shapeCasts_S512_S512x1) (ix2 a 0)
      = max (m (ix2 a 0)) (Finset.univ.fold max ⊥ fun b : Fin 512 => x (ix2 a b)) := by
  pointwise
  rw [neg_inf]

/-- The block of rows from row `o` on. -/
theorem is_block {x : FVec Ideal S4096x128 .f32} {f : ℕ → ℕ → ℝ} (hx : Is2 x f) (o : ℕ) {off : Fin 2 → ℕ} (inb : ∀ a, off a + S512x128.size a ≤ S4096x128.size a)
    (ho : off = ![o, 0]) : Is2 (blockAt (F := Ideal) x off inb) (fun a d => f (o + a) d) := fun a d => by
  subst ho
  have h0 : o + 512 ≤ 4096 := inb 0
  have := hx ⟨o + a.val, by have := a.isLt; omega⟩ d
  refine Eq.trans ?_ this
  unfold blockAt VecWindow.window
  congr 1
  funext e
  refine Fin.ext ?_
  match e with
  | ⟨0, _⟩ => show o + 1 * a.val = o + a.val; omega
  | ⟨1, _⟩ => show 0 + 1 * d.val = d.val; omega

/-- A block put over the rows from row `o` on. -/
theorem is_put {x : FVec Ideal S4096x128 .f32} {y : FVec Ideal S512x128 .f32} {f g : ℕ → ℕ → ℝ} (hx : Is2 x f) (hy : Is2 y g) (o : ℕ) {off : Fin 2 → ℕ}
    (ho : off = ![o, 0]) : Is2 (putAt (F := Ideal) x off y) (fun c d => if o ≤ c ∧ c < o + 512 then g (c - o) d else f c d) := fun c d => by
  subst ho
  unfold putAt VecWindow.put
  by_cases hc : o ≤ c.val ∧ c.val < o + 512
  · have hall : ∀ a : Fin 2, (![o, 0] : Fin 2 → ℕ) a ≤ ((ix2 c d : S4096x128.Idx) a).val ∧ ((ix2 c d : S4096x128.Idx) a).val < (![o, 0] : Fin 2 → ℕ) a + S512x128.size a := by
      intro a
      match a with
      | ⟨0, _⟩ => exact hc
      | ⟨1, _⟩ => exact ⟨Nat.zero_le _, by show d.val < 0 + 128; omega⟩
    rw [dif_pos hall]
    dsimp only
    rw [if_pos hc]
    refine Eq.trans ?_ (hy ⟨c.val - o, by omega⟩ d)
    congr 1
    funext e
    refine Fin.ext ?_
    match e with
    | ⟨0, _⟩ => rfl
    | ⟨1, _⟩ => rfl
  · rw [dif_neg (fun h => hc (h 0))]
    dsimp only
    rw [if_neg hc]
    exact hx c d

end Cert.KernelIdeal.Attn
-- ==== Proof.Mask.lean ====
/-
  The mask of the block on the diagonal: row `a` of the block sees column `b` when the column's group of 64 is not after
  the row's.
-/
module

public import proofs.«01_k».proof.Proof.Entries

@[expose] public section

noncomputable section

namespace Cert.KernelIdeal.Attn

open Idealize.ShloMosaic Cert.Attn
open Cert.KernelIdeal Cert.KernelIdeal.Gen
open scoped BigOperators

/-- The quotient by 64 rounded down, as the program computes it on words. -/
def floorWord (x : BitVec 32) : BitVec 32 :=
  Scalar.select (IntOp.andi (IntOp.cmpi .ne (IntOp.subi ((IntOp.cmpi .sgt x 0#32).setWidth 32) ((IntOp.cmpi .slt x 0#32).setWidth 32)) 1#32)
    (IntOp.cmpi .ne (IntOp.remsi .vector x 64#32) 0#32)) (IntOp.subi (IntOp.divsi .vector x 64#32) 1#32) (IntOp.divsi .vector x 64#32)

theorem floorWord_eq : ∀ x : Fin 512, floorWord (BitVec.ofNat 32 x.val) = BitVec.ofNat 32 (x.val / 64) := by decide +kernel

theorem sle_word : ∀ x y : Fin 8, IntOp.cmpi .sle (BitVec.ofNat 32 x.val) (BitVec.ofNat 32 y.val) = if x.val ≤ y.val then 1#1 else 0#1 := by decide

theorem sle_floor (a b : Fin 512) : IntOp.cmpi .sle (floorWord (BitVec.ofNat 32 b.val)) (floorWord (BitVec.ofNat 32 a.val)) = if b.val / 64 ≤ a.val / 64 then 1#1 else 0#1 := by
  rw [floorWord_eq, floorWord_eq]
  exact sle_word ⟨b.val / 64, by omega⟩ ⟨a.val / 64, by omega⟩

theorem fmask_eq (a b : Fin 512) : fmask (ix2 a b) = if b.val / 64 ≤ a.val / 64 then 1#1 else 0#1 := by
  rw [← sle_floor]
  have e0 : iota .tc S512x512 32 [0] iota_S512x512_d0_w32 (ix2 a b) = BitVec.ofNat 32 a.val := by pointwise
  have e1 : iota .tc S512x512 32 [1] iota_S512x512_d1_w32 (ix2 a b) = BitVec.ofNat 32 b.val := by pointwise
  rw [← e0, ← e1]
  rfl

/-- The scores of the diagonal block, masked: a real number where the row sees the column, and the bottom elsewhere. -/
theorem select_mask (m : BitVec 1) (p : Prop) [Decidable p] (hm : m = if p then 1#1 else 0#1) (x y : EReal) :
    Scalar.select m x y = if p then x else y := by
  subst hm; split_ifs <;> rfl

theorem bmask_eq (a b : Fin 512) :
    cmpi .sle (k1_pay46) (select (andi (cmpi .ne k1_pay48 (broadcast S512x512 (Scalar.subi sgnA sgnB))) (cmpi .ne (remsi rowIota (broadcast S512x512 64#32)) (broadcast S512x512 0#32)))
      (subi k1_pay47 (broadcast S512x512 1#32)) k1_pay47) (ix2 a b) = if b.val / 64 ≤ a.val / 64 then 1#1 else 0#1 := by
  rw [← sle_floor]
  have e0 : iota .tc S512x512 32 [0] iota_S512x512_d0_w32 (ix2 a b) = BitVec.ofNat 32 a.val := by pointwise
  have e1 : iota .tc S512x512 32 [1] iota_S512x512_d1_w32 (ix2 a b) = BitVec.ofNat 32 b.val := by pointwise
  rw [← e0, ← e1]
  rfl

end Cert.KernelIdeal.Attn
-- ==== Proof.FwdValue.lean ====
/-
  One grid point of the forward kernel on real numbers: the output block is the attention output of its rows, and the block
  of log-sums holds the logarithms of the rows' sums.
-/
module

public import proofs.«01_k».proof.Proof.Mask

@[expose] public section

noncomputable section

namespace Cert.KernelIdeal.Attn

open Idealize.ShloMosaic Cert.Attn
open Cert.KernelIdeal Cert.KernelIdeal.Gen
open scoped BigOperators

theorem ftrips (i : grid0.Coords) : (k0_t1_loop i).trips = (i 1).val := by
  show Scf.trips _ _ _ = _
  simp only [k0_t1_loop]; generalize (i 1) = j; revert j; decide

theorem fblock_lt (i : grid0.Coords) : (i 1).val < 8 := (i 1).isLt

theorem k0_off2_eq : ∀ (i : grid0.Coords) (k : Fin (k0_t1_loop i).trips), k0_off2 i k = ![512 * (k.val - 1), 0] := by decide +kernel
theorem k0_off5_eq : ∀ i : grid0.Coords, k0_off5 i = ![512 * ((i 1).val - 1), 0] := by decide +kernel

/-- The column of `x`, as real numbers, given that each entry is one. -/
theorem exists_col {x : FVec Ideal S512x1 .f32} (h : ∀ a : Fin 512, ∃ μ : ℝ, x (ix2 a 0) = (μ : EReal)) : ∃ f : ℕ → ℝ, IsCol x f := by
  refine ⟨fun n => (x (ix2 (Fin.ofNat 512 n) 0)).toReal, fun a => ?_⟩
  have e : Fin.ofNat 512 a.val = a := Fin.ext (Nat.mod_eq_of_lt a.isLt)
  obtain ⟨μ, hμ⟩ := h a
  dsimp only
  rw [e, hμ, EReal.toReal_coe]

section Point
variable (H : Head) (i : ℕ)

/-- The exponential of a score less a shift of its row of block `i`. -/
abbrev ee (μ : ℕ → ℝ) (a c : ℕ) : ℝ := Real.exp (H.score (512 * i + a) c - μ a)

/-- What the forward loop carries before trip `k`. -/
structure FInv (k : ℕ) (st : FCarried Ideal) (μ : ℕ → ℝ) : Prop where
  s : Is2 st.1 (fun a b => H.raw (512 * i + a) (512 * k + b))
  p : Is2 st.2.1 (fun a b => if k = 0 then 0 else ee H i μ a (512 * (k - 1) + b))
  m : ∀ a : Fin 512, st.2.2.1 (ix2 a 0) = if k = 0 then ⊥ else ((μ a.val : ℝ) : EReal)
  l : IsCol st.2.2.2.1 (fun a => ∑ c ∈ Finset.range (512 * k), ee H i μ a c)
  acc : Is2 st.2.2.2.2 (fun a d => ∑ c ∈ Finset.range (512 * (k - 1)), ee H i μ a c * H.w c d)

variable {H i}

/-- Changing the shift scales the exponential. -/
theorem ee_shift (μ μ' : ℕ → ℝ) (a c : ℕ) : Real.exp (μ a - μ' a) * ee H i μ a c = ee H i μ' a c := by
  unfold ee; rw [← Real.exp_add]; congr 1; ring

/-- The factor old sums are multiplied by: nothing has been summed before the first trip. -/
def alpha (k : ℕ) (μ μ' : ℕ → ℝ) (a : ℕ) : ℝ := if k = 0 then 0 else Real.exp (μ a - μ' a)

theorem alpha_sum (k : ℕ) (μ μ' : ℕ → ℝ) (a : ℕ) : alpha k μ μ' a * ∑ c ∈ Finset.range (512 * k), ee H i μ a c = ∑ c ∈ Finset.range (512 * k), ee H i μ' a c := by
  unfold alpha
  split_ifs with h
  · subst h; simp
  · rw [Finset.mul_sum]; exact Finset.sum_congr rfl fun c _ => ee_shift μ μ' a c

theorem alpha_acc (k : ℕ) (μ μ' : ℕ → ℝ) (a d : ℕ) :
    alpha k μ μ' a * (∑ c ∈ Finset.range (512 * (k - 1)), ee H i μ a c * H.w c d
        + ∑ b ∈ Finset.range 512, (if k = 0 then 0 else ee H i μ a (512 * (k - 1) + b)) * H.w (512 * (k - 1) + b) d)
      = ∑ c ∈ Finset.range (512 * k), ee H i μ' a c * H.w c d := by
  unfold alpha
  split_ifs with h
  · subst h; simp
  · obtain ⟨j, rfl⟩ : ∃ j, k = j + 1 := ⟨k - 1, by omega⟩
    rw [Nat.add_sub_cancel, ← sum_block (fun c => ee H i μ a c * H.w c d), Finset.mul_sum]
    exact Finset.sum_congr rfl fun c _ => by rw [← mul_assoc, ee_shift]

theorem is_alpha {k : ℕ} {m m' : FVec Ideal S512x1 .f32} {μ μ' : ℕ → ℝ} (hm : ∀ a : Fin 512, m (ix2 a 0) = if k = 0 then ⊥ else ((μ a.val : ℝ) : EReal))
    (hm' : IsCol m' μ') : IsCol (exp (subf m m')) (alpha k μ μ') := fun a => by
  show Ideal.exp (m _ - m' _) = _
  rw [hm a, hm' a]
  unfold alpha
  split_ifs
  · exact exp_bot_sub_coe _
  · exact exp_sub_coe _ _

theorem col_is {x : FVec Ideal S512x1 .f32} {f : ℕ → ℝ} (h : IsCol x f) : Is2 x (fun a _ => f a) := fun a b => by
  obtain rfl : b = 0 := Subsingleton.elim _ _
  exact h a

theorem is_col {x : FVec Ideal S512x1 .f32} {f : ℕ → ℕ → ℝ} (h : Is2 x f) : IsCol x (fun a => f a 0) := fun a => h a 0

/-- One trip of the loop. -/
theorem ftrip_inv {k : ℕ} {st : FCarried Ideal} {μ : ℕ → ℝ} (h : FInv H i k st μ) {s' : FVec Ideal S512x512 .f32} {v : FVec Ideal S512x128 .f32}
    (hs : Is2 s' (fun a b => H.raw (512 * i + a) (512 * (k + 1) + b))) (hv : Is2 v (fun b d => H.w (512 * (k - 1) + b) d)) :
    ∃ μ', FInv H i (k + 1) (s', k0_pay20 st.1 st.2.2.1, k0_pay16 st.1 st.2.2.1, k0_pay19 st.1 st.2.2.1 st.2.2.2.1,
      k0_pay21 st.1 st.2.1 st.2.2.1 st.2.2.2.2 v) μ' := by
  obtain ⟨s, p, m, l, acc⟩ := st
  have h15 : Is2 (k0_pay15 s) (fun a b => H.score (512 * i + a) (512 * k + b)) := is_scale h.s (fun _ => rfl)
  have hmax : ∀ a : Fin 512, ∃ x : ℝ, k0_pay16 s m (ix2 a 0) = (x : EReal) := fun a => by
    unfold k0_pay16
    rw [rowmax_eq]
    refine fold_max_real _ _ ?_ (fun b => ?_) 0 ?_
    · refine ne_of_eq_of_ne (h.m a) ?_
      split_ifs
      · exact bot_ne_top
      · exact EReal.coe_ne_top _
    · rw [h15 a b]; exact EReal.coe_ne_top _
    · rw [h15 a 0]; exact EReal.coe_ne_bot _
  obtain ⟨μ', h16⟩ := exists_col hmax
  have h17 : IsCol (k0_pay17 s m) (alpha k μ μ') := is_alpha h.m h16
  have h18 : Is2 (k0_pay18 s m) (fun a b => ee H i μ' a (512 * k + b)) := is_exp (is_sub h15 (is_spread512 h16))
  refine ⟨μ', hs, ?_, ?_, ?_, ?_⟩
  · exact (is_trunc bitsLt_bf16_f32 h18).congr fun a b _ _ => by rw [if_neg (Nat.succ_ne_zero k), Nat.add_sub_cancel]
  · intro a; rw [if_neg (Nat.succ_ne_zero k)]; exact h16 a
  · refine (is_col (is_add (is_mul (col_is h17) (col_is h.l)) (col_is (is_rows512 h18)))).congr fun a _ => ?_
    rw [alpha_sum, ← sum_block]
  · refine (is_mul (is_spread128 h17) (is_add h.acc (is_dot_pv h.p (is_trunc bitsLt_bf16_f32 hv)))).congr fun a d _ _ => ?_
    rw [Nat.add_sub_cancel, alpha_acc]

/-- What the block on the diagonal adds. -/
theorem fdiag {st : FCarried Ideal} {μ : ℕ → ℝ} (hi : i < 8) (h : FInv H i i st μ) :
    ∃ μ', IsCol (k0_pay2 (F := Ideal) st.1 st.2.2.1 fmask fscale) μ' ∧ IsCol (k0_pay3 (F := Ideal) st.1 st.2.2.1 fmask fscale) (alpha i μ μ')
      ∧ Is2 (k0_pay4 (F := Ideal) st.1 st.2.2.1 fmask fscale) (fun a b => if b / 64 ≤ a / 64 then ee H i μ' a (512 * i + b) else 0) := by
  obtain ⟨s, p, m, l, acc⟩ := st
  have h1 : ∀ a b : Fin 512, k0_pay1 (F := Ideal) s fmask fscale (ix2 a b) = if b.val / 64 ≤ a.val / 64 then ((H.score (512 * i + a.val) (512 * i + b.val) : ℝ) : EReal) else ⊥ := by
    intro a b
    have e : (mulf s (broadcast S512x512 fscale) : FVec Ideal S512x512 .f32) (ix2 a b) = ((H.score (512 * i + a.val) (512 * i + b.val) : ℝ) : EReal) :=
      is_scale h.s (fun _ => rfl) a b
    rw [← e, ← select_mask _ _ (fmask_eq a b)]
    rfl
  have hmax : ∀ a : Fin 512, ∃ x : ℝ, k0_pay2 (F := Ideal) s m fmask fscale (ix2 a 0) = (x : EReal) := fun a => by
    unfold k0_pay2
    rw [rowmax_eq]
    refine fold_max_real _ _ ?_ (fun b => ?_) a ?_
    · refine ne_of_eq_of_ne (h.m a) ?_
      split_ifs
      · exact bot_ne_top
      · exact EReal.coe_ne_top _
    · rw [h1 a b]; split_ifs
      · exact EReal.coe_ne_top _
      · exact bot_ne_top
    · rw [h1 a a, if_pos le_rfl]; exact EReal.coe_ne_bot _
  obtain ⟨μ', h2⟩ := exists_col hmax
  refine ⟨μ', h2, is_alpha h.m h2, fun a b => ?_⟩
  have hb : broadcastTo S512x512 (k0_pay2 (F := Ideal) s m fmask fscale) broadcasts_S512x1_S512x512 (ix2 a b) = ((μ' a.val : ℝ) : EReal) := is_spread512 h2 a b
  show Ideal.exp (k0_pay1 (F := Ideal) s fmask fscale (ix2 a b) - broadcastTo S512x512 (k0_pay2 (F := Ideal) s m fmask fscale) broadcasts_S512x1_S512x512 (ix2 a b)) = _
  rw [hb, h1 a b]
  dsimp only
  split_ifs
  · exact exp_sub_coe _ _
  · exact exp_bot_sub_coe _

/-- Which columns of its own block a row sees, and all those before. -/
theorem expo_before {a c : ℕ} (hc : c < 512 * i) : H.expo (512 * i + a) c = Real.exp (H.score (512 * i + a) c) := by
  unfold Head.expo; rw [if_pos (by omega)]

theorem expo_diag {a b : ℕ} : H.expo (512 * i + a) (512 * i + b) = if b / 64 ≤ a / 64 then Real.exp (H.score (512 * i + a) (512 * i + b)) else 0 := by
  unfold Head.expo
  have e : ((512 * i + b) / 64 ≤ (512 * i + a) / 64) ↔ b / 64 ≤ a / 64 := by omega
  simp only [e]

theorem expo_after {a c : ℕ} (ha : a < 512) (hc : 512 * (i + 1) ≤ c) : H.expo (512 * i + a) c = 0 := by
  unfold Head.expo; rw [if_neg (by omega)]

/-- The sum of a row times a weight per column, from the parts before and on the diagonal. -/
theorem sum_row (hi : i < 8) {a : ℕ} (ha : a < 512) (f : ℕ → ℝ) (μ : ℕ → ℝ) :
    ∑ c ∈ Finset.range (512 * i), ee H i μ a c * f c + ∑ b ∈ Finset.range 512, (if b / 64 ≤ a / 64 then ee H i μ a (512 * i + b) else 0) * f (512 * i + b)
      = Real.exp (- μ a) * ∑ c ∈ Finset.range 4096, H.expo (512 * i + a) c * f c := by
  rw [sum_upto _ i hi fun c hc => by rw [expo_after ha hc, zero_mul], mul_add, Finset.mul_sum, Finset.mul_sum]
  congr 1
  · refine Finset.sum_congr rfl fun c hc => ?_
    rw [expo_before (Finset.mem_range.1 hc), ← mul_assoc, ← Real.exp_add]
    unfold ee; congr 2; ring
  · refine Finset.sum_congr rfl fun b _ => ?_
    rw [expo_diag]
    split_ifs
    · rw [← mul_assoc, ← Real.exp_add]
      unfold ee; congr 2; ring
    · ring

theorem sum_row_one (hi : i < 8) {a : ℕ} (ha : a < 512) (μ : ℕ → ℝ) :
    ∑ c ∈ Finset.range (512 * i), ee H i μ a c + ∑ b ∈ Finset.range 512, (if b / 64 ≤ a / 64 then ee H i μ a (512 * i + b) else 0)
      = Real.exp (- μ a) * H.total (512 * i + a) := by
  have := sum_row (H := H) hi ha (fun _ => 1) μ
  simp only [mul_one] at this
  exact this

theorem fin_out {st : FCarried Ideal} {μ : ℕ → ℝ} (hi : i < 8) (h : FInv H i i st μ) {v vd : FVec Ideal S512x128 .f32}
    (hv : Is2 v (fun b d => H.w (512 * (i - 1) + b) d)) (hvd : Is2 vd (fun b d => H.w (512 * i + b) d)) :
    Is2 (k0_pay6 (F := Ideal) st.1 st.2.2.1 st.2.2.2.1 st.2.2.2.2 (k0_pay30 st.2.1 v) fmask fscale vd) (fun a d => H.out (512 * i + a) d)
      ∧ ∀ a : Fin 512, k0_pay7 (F := Ideal) st.1 st.2.2.1 st.2.2.2.1 fmask fscale (ix3 0 a 0) = ((Real.log (H.total (512 * i + a.val)) : ℝ) : EReal) := by
  obtain ⟨μ', h2, h3, h4⟩ := fdiag hi h
  obtain ⟨s, p, m, l, acc⟩ := st
  have h5 : IsCol (k0_pay5 (F := Ideal) s m l fmask fscale) (fun a => Real.exp (- μ' a) * H.total (512 * i + a)) := by
    refine (is_col (is_add (is_mul (col_is h3) (col_is h.l)) (col_is (is_rows512 h4)))).congr fun a ha => ?_
    rw [alpha_sum, sum_row_one hi ha]
  have hpos : ∀ a, a < 512 → 0 < H.total (512 * i + a) := fun a ha => H.total_pos (by omega)
  constructor
  · refine (is_div (is_add (is_mul (is_spread128 h3) (is_add h.acc (is_dot_pv h.p (is_trunc bitsLt_bf16_f32 hv))))
      (is_dot_pv (is_trunc bitsLt_bf16_f32 h4) (is_trunc bitsLt_bf16_f32 hvd))) (is_spread128 h5) fun a _ ha _ => ?_).congr fun a d ha _ => ?_
    · exact (mul_pos (Real.exp_pos _) (hpos a ha)).ne'
    · rw [alpha_acc, sum_row hi ha (fun c => H.w c d), mul_div_mul_left _ _ (Real.exp_pos _).ne']
      unfold Head.out Head.prob
      rw [Finset.sum_div]
      exact Finset.sum_congr rfl fun c _ => by ring
  · intro a
    have e : k0_pay7 (F := Ideal) s m l fmask fscale (ix3 0 a 0) = k0_pay2 (F := Ideal) s m fmask fscale (ix2 a 0) + Ideal.log (k0_pay5 (F := Ideal) s m l fmask fscale (ix2 a 0)) := by
      unfold k0_pay7; pointwise
    have hp := hpos a.val a.isLt
    rw [e, h2 a, h5 a, log_coe_pos _ (mul_pos (Real.exp_pos _) hp), ← EReal.coe_add, Real.log_mul (Real.exp_pos _).ne' hp.ne', Real.log_exp]
    congr 1; ring

end Point

/-- The scores of a block of rows against a block of columns. -/
theorem is_raw {H : Head} {o o' : ℕ} {x0 x1 y0 y1 : FVec Ideal S512x128 .f32} (h0 : Is2 x0 (fun a d => H.q (o + a) d)) (h1 : Is2 x1 (fun a d => H.q (o + a) (128 + d)))
    (g0 : Is2 y0 (fun a d => H.k (o' + a) d)) (g1 : Is2 y1 (fun a d => H.k (o' + a) (128 + d))) :
    Is2 (k0_pay14 (F := Ideal) x0 x1 y0 y1) (fun a b => H.raw (o + a) (o' + b)) :=
  is_dot_qk (f := fun a d => H.q (o + a) d) (g := fun a d => H.k (o' + a) d) (is_trunc _ (is_pair h0 h1)) (is_trunc _ (is_pair g0 g1))

section Blocks
variable {H : Head} (i : grid0.Coords) {x0 x1 : Vec Ideal S512x128 .f32} {kn kr v : Vec Ideal S4096x128 .f32}
  (h0 : Is2 x0 (fun a d => H.q (512 * (i 1).val + a) d)) (h1 : Is2 x1 (fun a d => H.q (512 * (i 1).val + a) (128 + d)))
  (hn : Is2 kn H.k) (hr : Is2 kr (fun c d => H.k c (128 + d))) (hv : Is2 v H.w)

include h0 h1 hn hr hv

theorem fstate_inv (k : ℕ) (hk : k ≤ (k0_t1_loop i).trips) : ∃ μ, FInv H (i 1).val k (fstateAt (F := Ideal) i x0 x1 kn kr v (fcarried0 x0 x1 kn kr) k) μ := by
  induction k with
  | zero =>
    refine ⟨fun _ => 0, ?_, ?_, ?_, ?_, ?_⟩
    · exact is_raw h0 h1 (is_block hn 0 _ rfl) (is_block hr 0 _ rfl)
    · intro a b
      show Ideal.ofBits .bf16 0x0000#16 = _
      rw [Ideal.ofBits_zero_bf16]; rfl
    · intro a; rfl
    · intro a
      show Ideal.ofBits .f32 0x00000000#32 = _
      rw [Ideal.ofBits_zero_f32]; rfl
    · intro a b
      show Ideal.ofBits .f32 0x00000000#32 = _
      rw [Ideal.ofBits_zero_f32]; rfl
  | succ k ih =>
    obtain ⟨μ, h⟩ := ih (by omega)
    rw [show k + 1 = (⟨k, hk⟩ : Fin (k0_t1_loop i).trips).val + 1 from rfl, fstateAt_succ]
    refine ftrip_inv h ?_ ?_
    · exact is_raw h0 h1 (is_block hn _ _ (k0_off1_eq i ⟨k, hk⟩)) (is_block hr _ _ (k0_off1_eq i ⟨k, hk⟩))
    · exact is_block hv _ _ (k0_off2_eq i ⟨k, hk⟩)

theorem fwd_point : Is2 (attnOut (F := Ideal) i x0 x1 kn kr v) (fun a d => H.out (512 * (i 1).val + a) d)
    ∧ ∀ a : Fin 512, lseOut (F := Ideal) i x0 x1 kn kr v (ix3 0 a 0) = ((Real.log (H.total (512 * (i 1).val + a.val)) : ℝ) : EReal) := by
  obtain ⟨μ, h⟩ := fstate_inv i h0 h1 hn hr hv _ le_rfl
  rw [show fstateAt (F := Ideal) i x0 x1 kn kr v (fcarried0 x0 x1 kn kr) (k0_t1_loop i).trips = floopEnd i x0 x1 kn kr v from rfl, ftrips] at h
  exact fin_out (fblock_lt i) h (is_block hv _ _ (k0_off5_eq i)) (is_block hv _ _ (k0_off6_eq i))

end Blocks

end Cert.KernelIdeal.Attn
-- ==== Proof.BwdValue.lean ====
/-
  One grid point of the backward kernel on real numbers: what it adds to the gradients of keys and values, and the
  gradients of its rows of queries.
-/
module

public import proofs.«01_k».proof.Proof.FwdValue

@[expose] public section

noncomputable section

namespace Cert.KernelIdeal.Attn

open Idealize.ShloMosaic Cert.Attn
open Cert.KernelIdeal Cert.KernelIdeal.Gen
open scoped BigOperators

theorem btrips (i : grid1.Coords) : (k1_t1_loop i).trips = (i 1).val := by
  show Scf.trips _ _ _ = _
  simp only [k1_t1_loop]; generalize (i 1) = j; revert j; decide

theorem bblock_lt (i : grid1.Coords) : (i 1).val < 8 := (i 1).isLt

theorem k1_off2_eq : ∀ (i : grid1.Coords) (k : Fin (k1_t1_loop i).trips), k1_off2 i k = ![512 * (k.val - 1), 0] := by decide +kernel
theorem k1_off5_eq : ∀ i : grid1.Coords, k1_off5 i = ![512 * ((i 1).val - 1), 0] := by decide +kernel

/-- The halves of a matrix, and a matrix cast to its own shape. -/
theorem is_left {x : FVec Ideal S512x256 .f32} {f : ℕ → ℕ → ℝ} (h : Is2 x f) : Is2 (extractStridedSlice S512x128 ![0, 0] x slices_S512x256_o0_0_S512x128) f := fun a b => by
  pointwise
  exact h a ⟨b.val, by omega⟩
theorem is_right {x : FVec Ideal S512x256 .f32} {f : ℕ → ℕ → ℝ} (h : Is2 x f) :
    Is2 (extractStridedSlice S512x128 ![0, 128] x slices_S512x256_o0_128_S512x128) (fun a d => f a (128 + d)) := fun a b => by
  pointwise
  exact h a ⟨128 + b.val, by omega⟩
theorem is_self {x : FVec Ideal S512x128 .f32} {f : ℕ → ℕ → ℝ} (h : Is2 x f) : Is2 (shapeCast S512x128 x shapeCasts_S512x128_S512x128) f := fun a b => by
  pointwise
  exact h a b

/-- A block of an accumulator added to. -/
theorem is_addAt {x : FVec Ideal S4096x128 .f32} {y u : FVec Ideal S512x128 .f32} {f g : ℕ → ℕ → ℝ} (hx : Is2 x f) (o : ℕ) {off : Fin 2 → ℕ}
    (inb : ∀ a, off a + S512x128.size a ≤ S4096x128.size a) (ho : off = ![o, 0]) (hu : Is2 u g)
    (hy : y = addf (shapeCast S512x128 (blockAt (F := Ideal) x off inb) shapeCasts_S512x128_S512x128) u) :
    Is2 (putAt (F := Ideal) x off y) (fun c d => f c d + if o ≤ c ∧ c < o + 512 then g (c - o) d else 0) := by
  subst hy
  refine (is_put hx (is_add (is_self (is_block hx o inb ho)) hu) o ho).congr fun c d _ _ => ?_
  split_ifs with h
  · rw [Nat.add_sub_cancel' h.1]
  · rw [add_zero]

section Point
variable {H : Head} {i : ℕ}

/-- The weights of columns before the row's own block. -/
theorem prob_before {a c : ℕ} (hi : i < 8) (ha : a < 512) (hc : c < 512 * i) :
    Real.exp (H.score (512 * i + a) c - Real.log (H.total (512 * i + a))) = H.prob (512 * i + a) c := by
  unfold Head.prob
  rw [expo_before hc, Real.exp_sub, Real.exp_log (H.total_pos (by omega))]

theorem prob_diag {a b : ℕ} (hi : i < 8) (ha : a < 512) :
    (if b / 64 ≤ a / 64 then Real.exp (H.score (512 * i + a) (512 * i + b) - Real.log (H.total (512 * i + a))) else 0) = H.prob (512 * i + a) (512 * i + b) := by
  unfold Head.prob
  rw [expo_diag]
  split_ifs
  · rw [Real.exp_sub, Real.exp_log (H.total_pos (by omega))]
  · rw [zero_div]

theorem prob_after {a c : ℕ} (ha : a < 512) (hc : 512 * (i + 1) ≤ c) : H.prob (512 * i + a) c = 0 := by
  unfold Head.prob; rw [expo_after ha hc, zero_div]

theorem dscore_after {a c : ℕ} (ha : a < 512) (hc : 512 * (i + 1) ≤ c) : H.dscore (512 * i + a) c = 0 := by
  unfold Head.dscore; rw [prob_after ha hc, zero_mul, zero_mul]

variable (H i)

/-- What the rows of block `i` give the gradient of the keys and of the values. -/
def dkPart (c d : ℕ) : ℝ := ∑ a ∈ Finset.range 512, H.dscore (512 * i + a) c * H.q (512 * i + a) d
def dvPart (c d : ℕ) : ℝ := ∑ a ∈ Finset.range 512, H.prob (512 * i + a) c * H.g (512 * i + a) d

/-- What the backward loop carries before trip `k`, the accumulators having held `A`, `B`, `C` before the first. -/
structure BInv (A B C : ℕ → ℕ → ℝ) (k : ℕ) (st : Carried Ideal × Accs Ideal) : Prop where
  s : Is2 st.1.1 (fun a b => H.raw (512 * i + a) (512 * k + b))
  dp : Is2 st.1.2.1 (fun a b => H.dprob (512 * i + a) (512 * k + b))
  p : Is2 st.1.2.2.1 (fun a b => if k = 0 then 0 else H.prob (512 * i + a) (512 * (k - 1) + b))
  ds : Is2 st.1.2.2.2.1 (fun a b => if k = 0 then 0 else H.dscore (512 * i + a) (512 * (k - 1) + b))
  dq : Is2 st.1.2.2.2.2 (fun a d => ∑ c ∈ Finset.range (512 * (k - 1)), H.dscore (512 * i + a) c * H.k c d)
  dkn : Is2 st.2.1 (fun c d => A c d + if c < 512 * (k - 1) then dkPart H i c d else 0)
  dkr : Is2 st.2.2.1 (fun c d => B c d + if c < 512 * (k - 1) then dkPart H i c (128 + d) else 0)
  dv : Is2 st.2.2.2 (fun c d => C c d + if c < 512 * (k - 1) then dvPart H i c d else 0)

variable {H i} {A B C : ℕ → ℕ → ℝ}

theorem dq_step (k : ℕ) (a d : ℕ) :
    ∑ c ∈ Finset.range (512 * (k - 1)), H.dscore (512 * i + a) c * H.k c d
        + ∑ b ∈ Finset.range 512, (if k = 0 then 0 else H.dscore (512 * i + a) (512 * (k - 1) + b)) * H.k (512 * (k - 1) + b) d
      = ∑ c ∈ Finset.range (512 * k), H.dscore (512 * i + a) c * H.k c d := by
  rcases Nat.eq_zero_or_pos k with h | h
  · subst h; simp
  · obtain ⟨j, rfl⟩ : ∃ j, k = j + 1 := ⟨k - 1, by omega⟩
    simp only [Nat.add_sub_cancel, if_neg (Nat.succ_ne_zero j)]
    rw [← sum_block (fun c => H.dscore (512 * i + a) c * H.k c d)]

/-- Adding the part of block `k - 1` to an accumulator that has the parts of the blocks before. -/
theorem acc_step (k c : ℕ) (x y z : ℝ) (hz : k ≠ 0 → 512 * (k - 1) ≤ c → c < 512 * (k - 1) + 512 → z = y) (hz0 : k = 0 → z = 0) :
    (x + if c < 512 * (k - 1) then y else 0) + (if 512 * (k - 1) ≤ c ∧ c < 512 * (k - 1) + 512 then z else 0) = x + if c < 512 * k then y else 0 := by
  rcases Nat.eq_zero_or_pos k with h | h
  · subst h; rw [hz0 rfl]; simp
  · by_cases h1 : c < 512 * (k - 1)
    · rw [if_pos h1, if_neg (by omega), if_pos (by omega), add_zero]
    · by_cases h2 : c < 512 * k
      · rw [if_neg h1, if_pos (by omega), if_pos h2, add_zero, hz (by omega) (by omega) (by omega)]
      · rw [if_neg h1, if_neg (by omega), if_neg h2, add_zero]

variable {q : FVec Ideal S512x256 .bf16} {g : FVec Ideal S512x128 .bf16} {δ l : FVec Ideal S512x1 .f32}

/-- The accumulators after the step that retires block `k - 1`. -/
theorem retire {k : ℕ} {st : Carried Ideal × Accs Ideal} (h : BInv H i A B C k st)
    (hq : Is2 q (fun a d => H.q (512 * i + a) d)) (hg : Is2 g (fun a d => H.g (512 * i + a) d)) {off : Fin 2 → ℕ}
    (inb : ∀ a, off a + S512x128.size a ≤ S4096x128.size a) (ho : off = ![512 * (k - 1), 0]) :
    Is2 (putAt (F := Ideal) st.2.1 off (k1_pay10 q st.1.2.2.2.1 (blockAt st.2.1 off inb))) (fun c d => A c d + if c < 512 * k then dkPart H i c d else 0)
    ∧ Is2 (putAt (F := Ideal) st.2.2.1 off (k1_pay29 (k1_pay9 q st.1.2.2.2.1) (blockAt st.2.2.1 off inb))) (fun c d => B c d + if c < 512 * k then dkPart H i c (128 + d) else 0)
    ∧ Is2 (putAt (F := Ideal) st.2.2.2 off (k1_pay8 g st.1.2.2.1 (blockAt st.2.2.2 off inb))) (fun c d => C c d + if c < 512 * k then dvPart H i c d else 0) := by
  have h9 := is_dot_sq h.ds hq
  have h8 := is_dot_pg h.p hg
  refine ⟨?_, ?_, ?_⟩
  · refine (is_addAt h.dkn _ inb ho (is_left h9) rfl).congr fun c d _ _ => acc_step k c _ _ _ (fun hk h1 h2 => ?_) (fun hk => ?_)
    · simp only [if_neg hk, Nat.add_sub_cancel' h1]; rfl
    · simp [hk]
  · refine (is_addAt h.dkr _ inb ho (is_right h9) rfl).congr fun c d _ _ => acc_step k c _ _ _ (fun hk h1 h2 => ?_) (fun hk => ?_)
    · simp only [if_neg hk, Nat.add_sub_cancel' h1]; rfl
    · simp [hk]
  · refine (is_addAt h.dv _ inb ho h8 rfl).congr fun c d _ _ => acc_step k c _ _ _ (fun hk h1 h2 => ?_) (fun hk => ?_)
    · simp only [if_neg hk, Nat.add_sub_cancel' h1]; rfl
    · simp [hk]

/-- One trip of the loop. -/
theorem trip_inv {k : ℕ} (hi : i < 8) (hk : k < i) {st : Carried Ideal × Accs Ideal} (h : BInv H i A B C k st)
    (hq : Is2 q (fun a d => H.q (512 * i + a) d)) (hg : Is2 g (fun a d => H.g (512 * i + a) d))
    (hδ : IsCol δ (fun a => H.delta (512 * i + a))) (hl : IsCol l (fun a => Real.log (H.total (512 * i + a))))
    {n1 r1 v1 n2 r2 : FVec Ideal S512x128 .f32} (hn1 : Is2 n1 (fun b d => H.k (512 * (k + 1) + b) d)) (hr1 : Is2 r1 (fun b d => H.k (512 * (k + 1) + b) (128 + d)))
    (hv1 : Is2 v1 (fun b d => H.w (512 * (k + 1) + b) d))
    (hn2 : Is2 n2 (fun b d => H.k (512 * (k - 1) + b) d)) (hr2 : Is2 r2 (fun b d => H.k (512 * (k - 1) + b) (128 + d))) {off : Fin 2 → ℕ}
    (inb : ∀ a, off a + S512x128.size a ≤ S4096x128.size a) (ho : off = ![512 * (k - 1), 0]) :
    BInv H i A B C (k + 1) ((k1_pay5 q n1 r1, k1_pay6 g v1, k1_pay32 l st.1.1, k1_pay33 δ l st.1.1 st.1.2.1, k1_pay30 st.1.2.2.2.1 st.1.2.2.2.2 (k1_pay7 n2 r2)),
      (putAt st.2.1 off (k1_pay10 q st.1.2.2.2.1 (blockAt st.2.1 off inb)),
       putAt st.2.2.1 off (k1_pay29 (k1_pay9 q st.1.2.2.2.1) (blockAt st.2.2.1 off inb)),
       putAt st.2.2.2 off (k1_pay8 g st.1.2.2.1 (blockAt st.2.2.2 off inb)))) := by
  obtain ⟨e1, e2, e3⟩ := retire h hq hg inb ho
  have hp : Is2 (k1_pay31 (F := Ideal) l st.1.1) (fun a b => H.prob (512 * i + a) (512 * k + b)) :=
    (is_exp (is_sub (is_scale h.s (fun _ => rfl)) (is_spread512 hl))).congr fun a b ha hb => prob_before hi ha (by omega)
  refine ⟨?_, ?_, ?_, ?_, ?_, e1, e2, e3⟩
  · exact is_dot_qk (f := fun a d => H.q (512 * i + a) d) (g := fun a d => H.k (512 * (k + 1) + a) d) hq (is_trunc _ (is_pair hn1 hr1))
  · exact is_dot_gv hg (is_trunc _ hv1)
  · exact (is_trunc bitsLt_bf16_f32 hp).congr fun a b _ _ => by rw [if_neg (Nat.succ_ne_zero k), Nat.add_sub_cancel]
  · refine (is_trunc bitsLt_bf16_f32 (is_scale (is_mul hp (is_sub h.dp (is_spread512 hδ))) (fun _ => rfl))).congr fun a b _ _ => ?_
    rw [if_neg (Nat.succ_ne_zero k), Nat.add_sub_cancel]; rfl
  · refine (is_add h.dq (is_dot_sk h.ds (is_trunc _ (is_pair (f := fun a d => H.k (512 * (k - 1) + a) d) hn2 hr2)))).congr fun a d _ _ => ?_
    rw [Nat.add_sub_cancel, dq_step]

/-- The weights and the score gradients of the block on the diagonal. -/
theorem diag_parts (hi : i < 8) {s dp : FVec Ideal S512x512 .f32} (hs : Is2 s (fun a b => H.raw (512 * i + a) (512 * i + b)))
    (hdp : Is2 dp (fun a b => H.dprob (512 * i + a) (512 * i + b)))
    (hδ : IsCol δ (fun a => H.delta (512 * i + a))) (hl : IsCol l (fun a => Real.log (H.total (512 * i + a)))) :
    Is2 (k1_pay49 (F := Ideal) l (k1_pay45 s) k1_pay46 rowIota 64#32 k1_pay47 k1_pay48 sgnA sgnB) (fun a b => H.prob (512 * i + a) (512 * i + b))
    ∧ Is2 (dsDiag (F := Ideal) δ l s dp) (fun a b => H.dscore (512 * i + a) (512 * i + b)) := by
  have h49 : Is2 (k1_pay49 (F := Ideal) l (k1_pay45 s) k1_pay46 rowIota 64#32 k1_pay47 k1_pay48 sgnA sgnB) (fun a b => H.prob (512 * i + a) (512 * i + b)) := fun a b => by
    have hsc : k1_pay45 (F := Ideal) s (ix2 a b) = ((H.score (512 * i + a.val) (512 * i + b.val) : ℝ) : EReal) := is_scale hs (fun _ => rfl) a b
    have hb : broadcastTo S512x512 l broadcasts_S512x1_S512x512 (ix2 a b) = ((Real.log (H.total (512 * i + a.val)) : ℝ) : EReal) := is_spread512 hl a b
    have e : k1_pay49 (F := Ideal) l (k1_pay45 s) k1_pay46 rowIota 64#32 k1_pay47 k1_pay48 sgnA sgnB (ix2 a b)
        = Ideal.exp ((if b.val / 64 ≤ a.val / 64 then k1_pay45 (F := Ideal) s (ix2 a b) else ⊥) - broadcastTo S512x512 l broadcasts_S512x1_S512x512 (ix2 a b)) := by
      rw [← select_mask _ _ (bmask_eq a b)]
      rfl
    rw [e, hsc, hb]
    dsimp only
    rw [← prob_diag hi a.isLt]
    split_ifs
    · exact exp_sub_coe _ _
    · exact exp_bot_sub_coe _
  exact ⟨h49, is_trunc bitsLt_bf16_f32 (is_scale (is_mul h49 (is_sub hdp (is_spread512 hδ))) (fun _ => rfl))⟩

theorem dkPart_after {c : ℕ} (hc : 512 * (i + 1) ≤ c) (d : ℕ) : dkPart H i c d = 0 :=
  Finset.sum_eq_zero fun a ha => by rw [dscore_after (Finset.mem_range.1 ha) hc, zero_mul]

theorem dvPart_after {c : ℕ} (hc : 512 * (i + 1) ≤ c) (d : ℕ) : dvPart H i c d = 0 :=
  Finset.sum_eq_zero fun a ha => by rw [prob_after (Finset.mem_range.1 ha) hc, zero_mul]

/-- Adding the diagonal block's part completes an accumulator. -/
theorem acc_full (c : ℕ) (x y z : ℝ) (hz : 512 * i ≤ c → c < 512 * i + 512 → z = y) (hy : 512 * (i + 1) ≤ c → y = 0) :
    (x + if c < 512 * i then y else 0) + (if 512 * i ≤ c ∧ c < 512 * i + 512 then z else 0) = x + y := by
  by_cases h1 : c < 512 * i
  · rw [if_pos h1, if_neg (by omega), add_zero]
  · by_cases h2 : c < 512 * i + 512
    · rw [if_neg h1, if_pos (by omega), hz (by omega) h2, add_zero]
    · rw [if_neg h1, if_neg (by omega), hy (by omega), add_zero]

theorem dq_full (hi : i < 8) {a : ℕ} (ha : a < 512) (d : ℕ) :
    ∑ c ∈ Finset.range (512 * i), H.dscore (512 * i + a) c * H.k c d
        + ∑ b ∈ Finset.range 512, H.dscore (512 * i + a) (512 * i + b) * H.k (512 * i + b) d = H.dq (512 * i + a) d := by
  exact (sum_upto (fun c => H.dscore (512 * i + a) c * H.k c d) i hi fun c hc => by rw [dscore_after ha hc, zero_mul]).symm

end Point

section Blocks

variable (i : grid1.Coords) {H : Head} {x0 x1 x5 x7 : Vec Ideal S512x128 .f32} {x6 : Vec Ideal S1x512x1 .f32} {kn kr v : Vec Ideal S4096x128 .f32}
  {D : Accs Ideal} {A B C : ℕ → ℕ → ℝ}
  (h0 : Is2 x0 (fun a d => H.q (512 * (i 1).val + a) d)) (h1 : Is2 x1 (fun a d => H.q (512 * (i 1).val + a) (128 + d)))
  (hn : Is2 kn H.k) (hr : Is2 kr (fun c d => H.k c (128 + d))) (hv : Is2 v H.w)
  (h5 : Is2 x5 (fun a d => H.out (512 * (i 1).val + a) d))
  (h6 : ∀ a : Fin 512, x6 (ix3 0 a 0) = ((Real.log (H.total (512 * (i 1).val + a.val)) : ℝ) : EReal))
  (h7 : Is2 x7 (fun a d => H.g (512 * (i 1).val + a) d))
  (hA : Is2 (start i D).1 A) (hB : Is2 (start i D).2.1 B) (hC : Is2 (start i D).2.2 C)

include h7 h5 in
theorem is_delta : IsCol (k1_pay22 (F := Ideal) x7 x5) (fun a => H.delta (512 * (i 1).val + a)) :=
  is_rows128 (f := fun a d => H.g (512 * (i 1).val + a) d * H.out (512 * (i 1).val + a) d) (is_mul h7 (is_self h5))

include h6 in
theorem is_lse : IsCol (k1_pay23 (F := Ideal) x6) (fun a => Real.log (H.total (512 * (i 1).val + a))) := fun a => by
  unfold k1_pay23
  pointwise
  exact h6 a

include h0 h1 hn hr hv h5 h6 h7 hA hB hC

theorem state_inv (k : ℕ) (hk : k ≤ (k1_t1_loop i).trips) :
    BInv H (i 1).val A B C k (stateAt (F := Ideal) i (k1_pay20 x0 x1) (k1_pay21 x7) (k1_pay22 x7 x5) (k1_pay23 x6) kn kr v (carried0 x0 x1 x7 kn kr v, start i D) k) := by
  have hq : Is2 (k1_pay20 (F := Ideal) x0 x1) (fun a d => H.q (512 * (i 1).val + a) d) := is_trunc bitsLt_bf16_f32 (is_pair (f := fun a d => H.q (512 * (i 1).val + a) d) h0 h1)
  have hg : Is2 (k1_pay21 (F := Ideal) x7) (fun a d => H.g (512 * (i 1).val + a) d) := is_trunc bitsLt_bf16_f32 h7
  induction k with
  | zero =>
    refine ⟨?_, ?_, ?_, ?_, ?_, ?_, ?_, ?_⟩
    · exact is_dot_qk hq (is_trunc bitsLt_bf16_f32 (is_pair (f := fun a d => H.k (512 * 0 + a) d) (is_block hn 0 _ rfl) (is_block hr 0 _ rfl)))
    · exact is_dot_gv hg (is_trunc bitsLt_bf16_f32 (is_block hv 0 _ rfl))
    · intro a b
      show Ideal.ofBits .bf16 0x0000#16 = _
      rw [Ideal.ofBits_zero_bf16]; rfl
    · intro a b
      show Ideal.ofBits .bf16 0x0000#16 = _
      rw [Ideal.ofBits_zero_bf16]; rfl
    · intro a b
      show Ideal.ofBits .f32 0x00000000#32 = _
      rw [Ideal.ofBits_zero_f32]; rfl
    · exact hA.congr fun c d _ _ => by simp
    · exact hB.congr fun c d _ _ => by simp
    · exact hC.congr fun c d _ _ => by simp
  | succ k ih =>
    rw [show k + 1 = (⟨k, hk⟩ : Fin (k1_t1_loop i).trips).val + 1 from rfl, stateAt_succ]
    exact trip_inv (bblock_lt i) (lt_of_lt_of_eq hk (btrips i)) (ih (by omega)) hq hg (is_delta i h5 h7) (is_lse i h6)
      (is_block hn _ _ (k1_off1_eq i ⟨k, hk⟩)) (is_block hr _ _ (k1_off1_eq i ⟨k, hk⟩)) (is_block hv _ _ (k1_off1_eq i ⟨k, hk⟩))
      (is_block hn _ _ (k1_off2_eq i ⟨k, hk⟩)) (is_block hr _ _ (k1_off2_eq i ⟨k, hk⟩)) _ (k1_off2_eq i ⟨k, hk⟩)

theorem bwd_point :
    Is2 (accsOut (F := Ideal) i x0 x1 kn kr v x5 x6 x7 D).1 (fun c d => A c d + dkPart H (i 1).val c d)
    ∧ Is2 (accsOut (F := Ideal) i x0 x1 kn kr v x5 x6 x7 D).2.1 (fun c d => B c d + dkPart H (i 1).val c (128 + d))
    ∧ Is2 (accsOut (F := Ideal) i x0 x1 kn kr v x5 x6 x7 D).2.2 (fun c d => C c d + dvPart H (i 1).val c d)
    ∧ Is2 (dqnOut (F := Ideal) i x0 x1 kn kr v x5 x6 x7 D) (fun a d => H.dq (512 * (i 1).val + a) d)
    ∧ Is2 (dqrOut (F := Ideal) i x0 x1 kn kr v x5 x6 x7 D) (fun a d => H.dq (512 * (i 1).val + a) (128 + d)) := by
  have h := state_inv i h0 h1 hn hr hv h5 h6 h7 hA hB hC _ le_rfl
  rw [show stateAt (F := Ideal) i (k1_pay20 x0 x1) (k1_pay21 x7) (k1_pay22 x7 x5) (k1_pay23 x6) kn kr v (carried0 x0 x1 x7 kn kr v, start i D) (k1_t1_loop i).trips
    = loopEnd i x0 x1 kn kr v x5 x6 x7 D from rfl, btrips] at h
  have hq : Is2 (k1_pay20 (F := Ideal) x0 x1) (fun a d => H.q (512 * (i 1).val + a) d) := is_trunc bitsLt_bf16_f32 (is_pair (f := fun a d => H.q (512 * (i 1).val + a) d) h0 h1)
  have hg : Is2 (k1_pay21 (F := Ideal) x7) (fun a d => H.g (512 * (i 1).val + a) d) := is_trunc bitsLt_bf16_f32 h7
  have hδ := is_delta i h5 h7
  have hl := is_lse i h6
  obtain ⟨e1, e2, e3⟩ := retire h hq hg (k1_off5_inb i) (k1_off5_eq i)
  obtain ⟨hp, hds⟩ := diag_parts (bblock_lt i) h.s h.dp hδ hl
  have h9 := is_dot_sq hds hq
  have h8 := is_dot_pg (is_trunc bitsLt_bf16_f32 hp) hg
  have hk5 := is_trunc bitsLt_bf16_f32 (is_pair (f := fun a d => H.k (512 * ((i 1).val - 1) + a) d) (is_block hn _ (k1_off5_inb i) (k1_off5_eq i)) (is_block hr _ (k1_off5_inb i) (k1_off5_eq i)))
  have hk6 := is_trunc bitsLt_bf16_f32 (is_pair (f := fun a d => H.k (512 * (i 1).val + a) d) (is_block hn _ (k1_off6_inb i) (k1_off6_eq i)) (is_block hr _ (k1_off6_inb i) (k1_off6_eq i)))
  have hdq := (is_add (is_add h.dq (is_dot_sk h.ds hk5)) (is_dot_sk hds hk6)).congr (f' := fun a d => H.dq (512 * (i 1).val + a) d) fun a d ha _ => by
    rw [dq_step, dq_full (bblock_lt i) ha]
  refine ⟨?_, ?_, ?_, is_left hdq, is_right hdq⟩
  · refine (is_addAt e1 _ (k1_off6_inb i) (k1_off6_eq i) (is_left h9) rfl).congr fun c d _ _ => acc_full c _ _ _ (fun h1 h2 => ?_) (fun h => dkPart_after h _)
    simp only [Nat.add_sub_cancel' h1]; rfl
  · refine (is_addAt e2 _ (k1_off6_inb i) (k1_off6_eq i) (is_right h9) rfl).congr fun c d _ _ => acc_full c _ _ _ (fun h1 h2 => ?_) (fun h => dkPart_after h _)
    simp only [Nat.add_sub_cancel' h1]; rfl
  · refine (is_addAt e3 _ (k1_off6_inb i) (k1_off6_eq i) h8 rfl).congr fun c d _ _ => acc_full c _ _ _ (fun h1 h2 => ?_) (fun h => dvPart_after h _)
    simp only [Nat.add_sub_cancel' h1]; rfl

end Blocks

end Cert.KernelIdeal.Attn
-- ==== Proof.Arrays.lean ====
/-
  The arrays the two calls leave, in real numbers: each point's blocks read out of the arguments, the blocks each point
  leaves put together, the accumulators followed from point to point.
-/
module

public import proofs.«01_k».proof.Proof.BwdValue
public import proofs.«01_k».proof.Proof.Calls
public import Idealize.ShloMosaic.Lib.Pipeline.ValueKit.Geometry

@[expose] public section

noncomputable section

namespace Cert.Attn

open scoped BigOperators

/-- The six arguments in real numbers. -/
structure Args where
  (a0 a1 a2 a3 a4 a5 : ℕ → ℕ → ℝ)

/-- One head of them. -/
def Args.head (A : Args) (h : ℕ) : Head where
  q r d := if d < 128 then A.a0 r (128 * h + d) else A.a1 r (128 * h + (d - 128))
  k c d := if d < 128 then A.a2 c (128 * h + d) else A.a3 c (d - 128)
  w c d := A.a4 c (128 * h + d)
  g r d := A.a5 r (128 * h + d)

/-- The results in real numbers. -/
def Args.out (A : Args) (r j : ℕ) : ℝ := (A.head (j / 128)).out r (j % 128)
def Args.dqn (A : Args) (r j : ℕ) : ℝ := (A.head (j / 128)).dq r (j % 128)
def Args.dqr (A : Args) (r j : ℕ) : ℝ := (A.head (j / 128)).dq r (128 + j % 128)
def Args.dkn (A : Args) (c j : ℕ) : ℝ := (A.head (j / 128)).dk c (j % 128)
def Args.dkr (A : Args) (c d : ℕ) : ℝ := ∑ h ∈ Finset.range 8, (A.head h).dk c (128 + d)
def Args.dv (A : Args) (c j : ℕ) : ℝ := (A.head (j / 128)).dv c (j % 128)

theorem sum_blocks (f : ℕ → ℝ) (n : ℕ) : ∑ i ∈ Finset.range n, ∑ a ∈ Finset.range 512, f (512 * i + a) = ∑ r ∈ Finset.range (512 * n), f r := by
  induction n with
  | zero => simp
  | succ n ih => rw [Finset.sum_range_succ, ih, sum_block]

end Cert.Attn

namespace Cert.KernelIdeal.Attn

open Idealize.ShloMosaic Idealize.ShloMosaic.TcCoe Cert.Attn
open Cert.KernelIdeal Cert.KernelIdeal.Gen
open scoped BigOperators

theorem dk_blocks (H : Head) (c d : ℕ) : ∑ i ∈ Finset.range 8, dkPart H i c d = H.dk c d :=
  sum_blocks (fun r => H.dscore r c * H.q r d) 8
theorem dv_blocks (H : Head) (c d : ℕ) : ∑ i ∈ Finset.range 8, dvPart H i c d = H.dv c d :=
  sum_blocks (fun r => H.prob r c * H.g r d) 8

theorem is_zero17 : Is2 (k1_pay17 (F := Ideal)) (fun _ _ => 0) := fun a b => by
  show Ideal.ofBits .f32 0x00000000#32 = _
  rw [Ideal.ofBits_zero_f32]; rfl
theorem is_zero18 : Is2 (k1_pay18 (F := Ideal)) (fun _ _ => 0) := fun a b => by
  show Ideal.ofBits .f32 0x00000000#32 = _
  rw [Ideal.ofBits_zero_f32]; rfl
theorem is_zero19 : Is2 (k1_pay19 (F := Ideal)) (fun _ _ => 0) := fun a b => by
  show Ideal.ofBits .f32 0x00000000#32 = _
  rw [Ideal.ofBits_zero_f32]; rfl

theorem coords0 : ∀ t : Fin grid0.N, (grid0.coords t 0).val = t.val / 8 ∧ (grid0.coords t 1).val = t.val % 8 := by decide +kernel

/-! ## Where the windows' blocks sit -/
theorem index0_0 : ∀ t : Fin cfg0.N, win0_0.index t = ![t.val % 8, t.val / 8] := (by decide +kernel : ∀ t : Fin grid0.N, _)
theorem index0_1 : ∀ t : Fin cfg0.N, win0_1.index t = ![t.val % 8, t.val / 8] := (by decide +kernel : ∀ t : Fin grid0.N, _)
theorem index0_2 : ∀ t : Fin cfg0.N, win0_2.index t = ![0, t.val / 8] := (by decide +kernel : ∀ t : Fin grid0.N, _)
theorem index0_3 : ∀ t : Fin cfg0.N, win0_3.index t = ![0, 0] := (by decide +kernel : ∀ t : Fin grid0.N, _)
theorem index0_4 : ∀ t : Fin cfg0.N, win0_4.index t = ![0, t.val / 8] := (by decide +kernel : ∀ t : Fin grid0.N, _)
theorem index0_5 : ∀ t : Fin cfg0.N, win0_5.index t = ![t.val % 8, t.val / 8] := (by decide +kernel : ∀ t : Fin grid0.N, _)
theorem index0_6 : ∀ t : Fin cfg0.N, win0_6.index t = ![t.val / 8, t.val % 8, 0] := (by decide +kernel : ∀ t : Fin grid0.N, _)
theorem index1_0 : ∀ t : Fin cfg1.N, win1_0.index t = ![t.val % 8, t.val / 8] := (by decide +kernel : ∀ t : Fin grid1.N, _)
theorem index1_1 : ∀ t : Fin cfg1.N, win1_1.index t = ![t.val % 8, t.val / 8] := (by decide +kernel : ∀ t : Fin grid1.N, _)
theorem index1_2 : ∀ t : Fin cfg1.N, win1_2.index t = ![0, t.val / 8] := (by decide +kernel : ∀ t : Fin grid1.N, _)
theorem index1_3 : ∀ t : Fin cfg1.N, win1_3.index t = ![0, 0] := (by decide +kernel : ∀ t : Fin grid1.N, _)
theorem index1_4 : ∀ t : Fin cfg1.N, win1_4.index t = ![0, t.val / 8] := (by decide +kernel : ∀ t : Fin grid1.N, _)
theorem index1_5 : ∀ t : Fin cfg1.N, win1_5.index t = ![t.val % 8, t.val / 8] := (by decide +kernel : ∀ t : Fin grid1.N, _)
theorem index1_6 : ∀ t : Fin cfg1.N, win1_6.index t = ![t.val / 8, t.val % 8, 0] := (by decide +kernel : ∀ t : Fin grid1.N, _)
theorem index1_7 : ∀ t : Fin cfg1.N, win1_7.index t = ![t.val % 8, t.val / 8] := (by decide +kernel : ∀ t : Fin grid1.N, _)
theorem index1_8 : ∀ t : Fin cfg1.N, win1_8.index t = ![t.val % 8, t.val / 8] := (by decide +kernel : ∀ t : Fin grid1.N, _)
theorem index1_9 : ∀ t : Fin cfg1.N, win1_9.index t = ![t.val % 8, t.val / 8] := (by decide +kernel : ∀ t : Fin grid1.N, _)
theorem index1_10 : ∀ t : Fin cfg1.N, win1_10.index t = ![0, t.val / 8] := (by decide +kernel : ∀ t : Fin grid1.N, _)
theorem index1_11 : ∀ t : Fin cfg1.N, win1_11.index t = ![0, 0] := (by decide +kernel : ∀ t : Fin grid1.N, _)
theorem index1_12 : ∀ t : Fin cfg1.N, win1_12.index t = ![0, t.val / 8] := (by decide +kernel : ∀ t : Fin grid1.N, _)

variable (V : (c : Dev nD) → (b : Ref sig .tc) → Buf (Elt Ideal) ((c : Thread nD τ).loc b)) (c : Dev nD)

/-! ## The blocks of the operands -/

theorem blk0_0 (f : ℕ → ℕ → ℝ) (h : ∀ j : S4096x1024.Idx, V c main_arg0 j = ((f (j 0).val (j 1).val : ℝ) : EReal)) (t : Fin cfg0.N) :
    Is2 (n0 := 512) (n1 := 128) (blk0 V c 0 t) (fun a d => f (512 * (t.val % 8) + a) (128 * (t.val / 8) + d)) := fun a b => by
  blk_simp [blk0]
  refine (h _).trans ?_
  blk_simp [index0_0]
  congr 2 <;> (show _ * _ + _ = _; simp <;> omega)

theorem blk0_1 (f : ℕ → ℕ → ℝ) (h : ∀ j : S4096x1024.Idx, V c main_arg1 j = ((f (j 0).val (j 1).val : ℝ) : EReal)) (t : Fin cfg0.N) :
    Is2 (n0 := 512) (n1 := 128) (blk0 V c 1 t) (fun a d => f (512 * (t.val % 8) + a) (128 * (t.val / 8) + d)) := fun a b => by
  blk_simp [blk0]
  refine (h _).trans ?_
  blk_simp [index0_1]
  congr 2 <;> (show _ * _ + _ = _; simp <;> omega)

theorem blk0_2 (f : ℕ → ℕ → ℝ) (h : ∀ j : S4096x1024.Idx, V c main_arg2 j = ((f (j 0).val (j 1).val : ℝ) : EReal)) (t : Fin cfg0.N) :
    Is2 (n0 := 4096) (n1 := 128) (blk0 V c 2 t) (fun a d => f (a) (128 * (t.val / 8) + d)) := fun a b => by
  blk_simp [blk0]
  refine (h _).trans ?_
  blk_simp [index0_2]
  congr 2 <;> (show _ * _ + _ = _; simp <;> omega)

theorem blk0_3 (f : ℕ → ℕ → ℝ) (h : ∀ j : S4096x128.Idx, V c main_arg3 j = ((f (j 0).val (j 1).val : ℝ) : EReal)) (t : Fin cfg0.N) :
    Is2 (n0 := 4096) (n1 := 128) (blk0 V c 3 t) (fun a d => f (a) (d)) := fun a b => by
  blk_simp [blk0]
  refine (h _).trans ?_
  blk_simp [index0_3]

theorem blk0_4 (f : ℕ → ℕ → ℝ) (h : ∀ j : S4096x1024.Idx, V c main_arg4 j = ((f (j 0).val (j 1).val : ℝ) : EReal)) (t : Fin cfg0.N) :
    Is2 (n0 := 4096) (n1 := 128) (blk0 V c 4 t) (fun a d => f (a) (128 * (t.val / 8) + d)) := fun a b => by
  blk_simp [blk0]
  refine (h _).trans ?_
  blk_simp [index0_4]
  congr 2 <;> (show _ * _ + _ = _; simp <;> omega)

theorem blk1_0 (f : ℕ → ℕ → ℝ) (h : ∀ j : S4096x1024.Idx, V c main_arg0 j = ((f (j 0).val (j 1).val : ℝ) : EReal)) (t : Fin cfg1.N) :
    Is2 (n0 := 512) (n1 := 128) (blk1 V c 0 t) (fun a d => f (512 * (t.val % 8) + a) (128 * (t.val / 8) + d)) := fun a b => by
  blk_simp [blk1]
  refine (h _).trans ?_
  blk_simp [index1_0]
  congr 2 <;> (show _ * _ + _ = _; simp <;> omega)

theorem blk1_1 (f : ℕ → ℕ → ℝ) (h : ∀ j : S4096x1024.Idx, V c main_arg1 j = ((f (j 0).val (j 1).val : ℝ) : EReal)) (t : Fin cfg1.N) :
    Is2 (n0 := 512) (n1 := 128) (blk1 V c 1 t) (fun a d => f (512 * (t.val % 8) + a) (128 * (t.val / 8) + d)) := fun a b => by
  blk_simp [blk1]
  refine (h _).trans ?_
  blk_simp [index1_1]
  congr 2 <;> (show _ * _ + _ = _; simp <;> omega)

theorem blk1_2 (f : ℕ → ℕ → ℝ) (h : ∀ j : S4096x1024.Idx, V c main_arg2 j = ((f (j 0).val (j 1).val : ℝ) : EReal)) (t : Fin cfg1.N) :
    Is2 (n0 := 4096) (n1 := 128) (blk1 V c 2 t) (fun a d => f (a) (128 * (t.val / 8) + d)) := fun a b => by
  blk_simp [blk1]
  refine (h _).trans ?_
  blk_simp [index1_2]
  congr 2 <;> (show _ * _ + _ = _; simp <;> omega)

theorem blk1_3 (f : ℕ → ℕ → ℝ) (h : ∀ j : S4096x128.Idx, V c main_arg3 j = ((f (j 0).val (j 1).val : ℝ) : EReal)) (t : Fin cfg1.N) :
    Is2 (n0 := 4096) (n1 := 128) (blk1 V c 3 t) (fun a d => f (a) (d)) := fun a b => by
  blk_simp [blk1]
  refine (h _).trans ?_
  blk_simp [index1_3]

theorem blk1_4 (f : ℕ → ℕ → ℝ) (h : ∀ j : S4096x1024.Idx, V c main_arg4 j = ((f (j 0).val (j 1).val : ℝ) : EReal)) (t : Fin cfg1.N) :
    Is2 (n0 := 4096) (n1 := 128) (blk1 V c 4 t) (fun a d => f (a) (128 * (t.val / 8) + d)) := fun a b => by
  blk_simp [blk1]
  refine (h _).trans ?_
  blk_simp [index1_4]
  congr 2 <;> (show _ * _ + _ = _; simp <;> omega)

theorem blk1_5 (f : ℕ → ℕ → ℝ) (h : ∀ j : S4096x1024.Idx, V c main_v0_0 j = ((f (j 0).val (j 1).val : ℝ) : EReal)) (t : Fin cfg1.N) :
    Is2 (n0 := 512) (n1 := 128) (blk1 V c 5 t) (fun a d => f (512 * (t.val % 8) + a) (128 * (t.val / 8) + d)) := fun a b => by
  blk_simp [blk1]
  refine (h _).trans ?_
  blk_simp [index1_5]
  congr 2 <;> (show _ * _ + _ = _; simp <;> omega)

theorem blk1_6 (f : ℕ → ℕ → ℝ) (h : ∀ j : S8x4096x1.Idx, V c main_v0_1 j = ((f (j 0).val (j 1).val : ℝ) : EReal)) (t : Fin cfg1.N) (a : Fin 512) :
    blk1 V c 6 t (ix3 (0 : Fin 1) a (0 : Fin 1)) = ((f (t.val / 8) (512 * (t.val % 8) + a.val) : ℝ) : EReal) := by
  blk_simp [blk1]
  refine (h _).trans ?_
  blk_simp [index1_6]
  congr 2 <;> (show _ * _ + _ = _; simp <;> omega)

theorem blk1_7 (f : ℕ → ℕ → ℝ) (h : ∀ j : S4096x1024.Idx, V c main_arg5 j = ((f (j 0).val (j 1).val : ℝ) : EReal)) (t : Fin cfg1.N) :
    Is2 (n0 := 512) (n1 := 128) (blk1 V c 7 t) (fun a d => f (512 * (t.val % 8) + a) (128 * (t.val / 8) + d)) := fun a b => by
  blk_simp [blk1]
  refine (h _).trans ?_
  blk_simp [index1_7]
  congr 2 <;> (show _ * _ + _ = _; simp <;> omega)

/-! ## The operands of a point, by head -/

theorem col_head (h : ℕ) (d : Fin 128) : (h * 128 + d.val) / 128 = h := by omega
theorem col_of (h : ℕ) (d : Fin 128) : (h * 128 + d.val) % 128 = d.val := by omega
theorem row_of (i : ℕ) (a : Fin 512) : i * 512 + a.val = 512 * i + a.val := by omega

section Heads
variable (A : Args)

theorem head_q0 {x : FVec Ideal S512x128 .f32} {o h : ℕ} (hx : Is2 x (fun a d => A.a0 (o + a) (128 * h + d))) : Is2 x (fun a d => (A.head h).q (o + a) d) :=
  hx.congr fun a d _ hd => (if_pos hd).symm
theorem head_q1 {x : FVec Ideal S512x128 .f32} {o h : ℕ} (hx : Is2 x (fun a d => A.a1 (o + a) (128 * h + d))) : Is2 x (fun a d => (A.head h).q (o + a) (128 + d)) :=
  hx.congr fun a d _ hd => by
    show _ = if _ then _ else _
    rw [if_neg (by omega), Nat.add_sub_cancel_left]
theorem head_k0 {x : FVec Ideal S4096x128 .f32} {h : ℕ} (hx : Is2 x (fun c d => A.a2 c (128 * h + d))) : Is2 x (A.head h).k :=
  hx.congr fun a d _ hd => (if_pos hd).symm
theorem head_k1 {x : FVec Ideal S4096x128 .f32} (h : ℕ) (hx : Is2 x A.a3) : Is2 x (fun c d => (A.head h).k c (128 + d)) :=
  hx.congr fun a d _ hd => by
    show _ = if _ then _ else _
    rw [if_neg (by omega), Nat.add_sub_cancel_left]

end Heads

section Results
variable {V c} {A : Args}
  (h0 : ∀ j : S4096x1024.Idx, V c main_arg0 j = ((A.a0 (j 0).val (j 1).val : ℝ) : EReal)) (h1 : ∀ j : S4096x1024.Idx, V c main_arg1 j = ((A.a1 (j 0).val (j 1).val : ℝ) : EReal))
  (h2 : ∀ j : S4096x1024.Idx, V c main_arg2 j = ((A.a2 (j 0).val (j 1).val : ℝ) : EReal)) (h3 : ∀ j : S4096x128.Idx, V c main_arg3 j = ((A.a3 (j 0).val (j 1).val : ℝ) : EReal))
  (h4 : ∀ j : S4096x1024.Idx, V c main_arg4 j = ((A.a4 (j 0).val (j 1).val : ℝ) : EReal))

include h0 h1 h2 h3 h4

/-! ## The forward call -/

theorem fwd_at (t : Fin cfg0.N) :
    Is2 (attnOut (F := Ideal) (grid0.coords t) (blk0 V c 0 t) (blk0 V c 1 t) (blk0 V c 2 t) (blk0 V c 3 t) (blk0 V c 4 t)) (fun a d => (A.head (t.val / 8)).out (512 * (t.val % 8) + a) d)
    ∧ ∀ a : Fin 512, lseOut (F := Ideal) (grid0.coords t) (blk0 V c 0 t) (blk0 V c 1 t) (blk0 V c 2 t) (blk0 V c 3 t) (blk0 V c 4 t) (ix3 0 a 0)
        = ((Real.log ((A.head (t.val / 8)).total (512 * (t.val % 8) + a.val)) : ℝ) : EReal) := by
  have hi := (coords0 t).2
  rw [← hi]
  refine fwd_point (H := A.head (t.val / 8)) (grid0.coords t) ?_ ?_ ?_ ?_ ?_
  · rw [hi]; exact head_q0 A (blk0_0 V c _ h0 t)
  · rw [hi]; exact head_q1 A (blk0_1 V c _ h1 t)
  · exact head_k0 A (blk0_2 V c _ h2 t)
  · exact head_k1 A _ (blk0_3 V c _ h3 t)
  · exact blk0_4 V c _ h4 t

theorem arr0_5 : (dat0 V c).arrAt 5 cfg0.N = fun j : S4096x1024.Idx => ((A.out (j 0).val (j 1).val : ℝ) : EReal) := by
  refine (dat0 V c).arrAt_eq_of_covers 5 _ (by decide +kernel) fun t _ y => ?_
  obtain ⟨a, d, rfl⟩ : ∃ (a : Fin 512) (d : Fin 128), y = ix2 a d := ⟨y 0, y 1, by funext k; fin_cases k <;> rfl⟩
  blk_simp
  rw [after0_5]
  refine ((fwd_at h0 h1 h2 h3 h4 t).1 a d).trans ?_
  blk_simp [index0_5]
  unfold Args.out
  rw [col_head, col_of, row_of]

theorem arr0_6 : (dat0 V c).arrAt 6 cfg0.N = fun j : S8x4096x1.Idx => ((Real.log ((A.head (j 0).val).total (j 1).val) : ℝ) : EReal) := by
  refine (dat0 V c).arrAt_eq_of_covers 6 _ (by decide +kernel) fun t _ y => ?_
  obtain ⟨a, rfl⟩ : ∃ (a : Fin 512), y = ix3 (0 : Fin 1) a (0 : Fin 1) := ⟨y 1, by
    funext k; fin_cases k
    · exact Fin.ext (Nat.lt_one_iff.1 (y 0).isLt)
    · rfl
    · exact Fin.ext (Nat.lt_one_iff.1 (y 2).isLt)⟩
  blk_simp
  rw [after0_6]
  refine ((fwd_at h0 h1 h2 h3 h4 t).2 a).trans ?_
  blk_simp [index0_6]
  rw [row_of]; rfl

/-! ## The backward call -/

variable (h5 : ∀ j : S4096x1024.Idx, V c main_arg5 j = ((A.a5 (j 0).val (j 1).val : ℝ) : EReal))
  (ho : ∀ j : S4096x1024.Idx, V c main_v0_0 j = ((A.out (j 0).val (j 1).val : ℝ) : EReal))
  (hl : ∀ j : S8x4096x1.Idx, V c main_v0_1 j = ((Real.log ((A.head (j 0).val).total (j 1).val) : ℝ) : EReal))

include h5 ho hl

theorem bwd_at (t : Fin cfg1.N) {D : Accs Ideal} {B0 B1 B2 : ℕ → ℕ → ℝ} (hA : Is2 (start (grid1.coords t) D).1 B0) (hB : Is2 (start (grid1.coords t) D).2.1 B1)
    (hC : Is2 (start (grid1.coords t) D).2.2 B2) :
    Is2 (accsOut (F := Ideal) (grid1.coords t) (blk1 V c 0 t) (blk1 V c 1 t) (blk1 V c 2 t) (blk1 V c 3 t) (blk1 V c 4 t) (blk1 V c 5 t) (blk1 V c 6 t) (blk1 V c 7 t) D).1
        (fun c d => B0 c d + dkPart (A.head (t.val / 8)) (t.val % 8) c d)
    ∧ Is2 (accsOut (F := Ideal) (grid1.coords t) (blk1 V c 0 t) (blk1 V c 1 t) (blk1 V c 2 t) (blk1 V c 3 t) (blk1 V c 4 t) (blk1 V c 5 t) (blk1 V c 6 t) (blk1 V c 7 t) D).2.1
        (fun c d => B1 c d + dkPart (A.head (t.val / 8)) (t.val % 8) c (128 + d))
    ∧ Is2 (accsOut (F := Ideal) (grid1.coords t) (blk1 V c 0 t) (blk1 V c 1 t) (blk1 V c 2 t) (blk1 V c 3 t) (blk1 V c 4 t) (blk1 V c 5 t) (blk1 V c 6 t) (blk1 V c 7 t) D).2.2
        (fun c d => B2 c d + dvPart (A.head (t.val / 8)) (t.val % 8) c d)
    ∧ Is2 (dqnOut (F := Ideal) (grid1.coords t) (blk1 V c 0 t) (blk1 V c 1 t) (blk1 V c 2 t) (blk1 V c 3 t) (blk1 V c 4 t) (blk1 V c 5 t) (blk1 V c 6 t) (blk1 V c 7 t) D)
        (fun a d => (A.head (t.val / 8)).dq (512 * (t.val % 8) + a) d)
    ∧ Is2 (dqrOut (F := Ideal) (grid1.coords t) (blk1 V c 0 t) (blk1 V c 1 t) (blk1 V c 2 t) (blk1 V c 3 t) (blk1 V c 4 t) (blk1 V c 5 t) (blk1 V c 6 t) (blk1 V c 7 t) D)
        (fun a d => (A.head (t.val / 8)).dq (512 * (t.val % 8) + a) (128 + d)) := by
  have hi := (point_coords t).2
  rw [← hi]
  refine bwd_point (H := A.head (t.val / 8)) (grid1.coords t) ?_ ?_ ?_ ?_ ?_ ?_ ?_ ?_ hA hB hC
  · rw [hi]; exact head_q0 A (blk1_0 V c _ h0 t)
  · rw [hi]; exact head_q1 A (blk1_1 V c _ h1 t)
  · exact head_k0 A (blk1_2 V c _ h2 t)
  · exact head_k1 A _ (blk1_3 V c _ h3 t)
  · exact blk1_4 V c _ h4 t
  · rw [hi]; refine (blk1_5 V c _ ho t).congr fun a d _ hd => ?_
    unfold Args.out
    rw [mul_comm 128, col_head _ ⟨d, hd⟩, col_of _ ⟨d, hd⟩]
  · intro a; rw [hi]; exact blk1_6 V c (fun h r => Real.log ((A.head h).total r)) hl t a
  · rw [hi]; exact blk1_7 V c _ h5 t

/-- The accumulators after point `t`: the row blocks of its head so far, and for the shared keys the heads before as well. -/
theorem accs_at (n : ℕ) : ∀ hn : n < cfg1.N,
    Is2 (accsAt V c ⟨n, hn⟩).1 (fun c d => ∑ i ∈ Finset.range (n % 8 + 1), dkPart (A.head (n / 8)) i c d)
    ∧ Is2 (accsAt V c ⟨n, hn⟩).2.1 (fun c d => ∑ h ∈ Finset.range (n / 8), (A.head h).dk c (128 + d) + ∑ i ∈ Finset.range (n % 8 + 1), dkPart (A.head (n / 8)) i c (128 + d))
    ∧ Is2 (accsAt V c ⟨n, hn⟩).2.2 (fun c d => ∑ i ∈ Finset.range (n % 8 + 1), dvPart (A.head (n / 8)) i c d) := by
  induction n with
  | zero =>
    intro hn
    obtain ⟨e0, e1⟩ := point_coords ⟨0, hn⟩
    have hs := start_point (F := Ideal) (D := found V c 0) (e1.trans (by simp)) (e0.trans (by simp))
    obtain ⟨r1, r2, r3, -, -⟩ := bwd_at h0 h1 h2 h3 h4 h5 ho hl ⟨0, hn⟩ (D := found V c 0) (B0 := fun _ _ => 0) (B1 := fun _ _ => 0) (B2 := fun _ _ => 0)
      (by rw [hs]; exact is_zero17) (by rw [hs]; exact is_zero19) (by rw [hs]; exact is_zero18)
    exact ⟨r1.congr fun c d _ _ => by simp, r2.congr fun c d _ _ => by simp, r3.congr fun c d _ _ => by simp⟩
  | succ n ih =>
    intro hn
    obtain ⟨i1, i2, i3⟩ := ih (by omega)
    obtain ⟨e0, e1⟩ := point_coords ⟨n + 1, hn⟩
    have hf : found V c (n + 1) = accsAt V c ⟨n, by omega⟩ := found_succ V c ⟨n, by omega⟩
    by_cases h8 : (n + 1) % 8 = 0
    · have hs := start_block (F := Ideal) (D := found V c (n + 1)) (e1.trans h8) (by rw [e0]; simp only; omega)
      have hm : n % 8 + 1 = 8 := by omega
      have hd : (n + 1) / 8 = n / 8 + 1 := by omega
      obtain ⟨r1, r2, r3, -, -⟩ := bwd_at h0 h1 h2 h3 h4 h5 ho hl ⟨n + 1, hn⟩ (D := found V c (n + 1)) (B0 := fun _ _ => 0)
        (B1 := fun c d => ∑ h ∈ Finset.range ((n + 1) / 8), (A.head h).dk c (128 + d)) (B2 := fun _ _ => 0)
        (by rw [hs]; exact is_zero17)
        (by rw [hs, hf]; exact i2.congr fun c d _ _ => by rw [hm, dk_blocks, hd, Finset.sum_range_succ])
        (by rw [hs]; exact is_zero18)
      exact ⟨r1.congr fun c d _ _ => by simp [h8], r2.congr fun c d _ _ => by simp [h8], r3.congr fun c d _ _ => by simp [h8]⟩
    · have hs := start_rest (F := Ideal) (i := grid1.coords ⟨n + 1, hn⟩) (D := found V c (n + 1)) (by rw [e1]; exact h8)
      have hm : (n + 1) % 8 = n % 8 + 1 := by omega
      have hd : (n + 1) / 8 = n / 8 := by omega
      obtain ⟨r1, r2, r3, -, -⟩ := bwd_at h0 h1 h2 h3 h4 h5 ho hl ⟨n + 1, hn⟩ (D := found V c (n + 1))
        (by rw [hs, hf]; exact i1) (by rw [hs, hf]; exact i2) (by rw [hs, hf]; exact i3)
      refine ⟨r1.congr fun c d _ _ => ?_, r2.congr fun c d _ _ => ?_, r3.congr fun c d _ _ => ?_⟩
      · simp only [hm, hd, Finset.sum_range_succ _ (n % 8 + 1)]
      · simp only [hm, hd, Finset.sum_range_succ _ (n % 8 + 1)]; rw [add_assoc]
      · simp only [hm, hd, Finset.sum_range_succ _ (n % 8 + 1)]

/-- What the accumulators are found to hold at a point, as some real matrices. -/
theorem start_real (t : Fin cfg1.N) : ∃ B0 B1 B2 : ℕ → ℕ → ℝ, Is2 (start (grid1.coords t) (found V c t.val)).1 B0 ∧ Is2 (start (grid1.coords t) (found V c t.val)).2.1 B1
    ∧ Is2 (start (grid1.coords t) (found V c t.val)).2.2 B2 := by
  have hfound : ∃ B0 B1 B2 : ℕ → ℕ → ℝ, Is2 (found V c t.val).1 B0 ∧ Is2 (found V c t.val).2.1 B1 ∧ Is2 (found V c t.val).2.2 B2 := by
    by_cases ht : t.val = 0
    · rw [ht]; exact ⟨_, _, _, is_zero17, is_zero19, is_zero18⟩
    · rw [kept1 V c t ht]
      obtain ⟨i1, i2, i3⟩ := accs_at h0 h1 h2 h3 h4 h5 ho hl (t.val - 1) (Nat.lt_of_le_of_lt (Nat.sub_le _ _) t.isLt)
      exact ⟨_, _, _, i1, i2, i3⟩
  obtain ⟨B0, B1, B2, b0, b1, b2⟩ := hfound
  by_cases k1 : (grid1.coords t 1).val = 0
  · by_cases k0 : (grid1.coords t 0).val = 0
    · rw [start_point k1 k0]; exact ⟨_, _, _, is_zero17, is_zero19, is_zero18⟩
    · rw [start_block k1 k0]; exact ⟨_, _, _, is_zero17, b1, is_zero18⟩
  · rw [start_rest k1]; exact ⟨_, _, _, b0, b1, b2⟩

theorem dq_at (t : Fin cfg1.N) :
    Is2 (n0 := 512) (n1 := 128) ((dat1 V c).after 8 t) (fun a d => (A.head (t.val / 8)).dq (512 * (t.val % 8) + a) d)
    ∧ Is2 (n0 := 512) (n1 := 128) ((dat1 V c).after 9 t) (fun a d => (A.head (t.val / 8)).dq (512 * (t.val % 8) + a) (128 + d)) := by
  obtain ⟨B0, B1, B2, b0, b1, b2⟩ := start_real h0 h1 h2 h3 h4 h5 ho hl t
  obtain ⟨-, -, -, r4, r5⟩ := bwd_at h0 h1 h2 h3 h4 h5 ho hl t b0 b1 b2
  rw [after1_8, after1_9]
  exact ⟨r4, r5⟩

theorem arr1_8 : (dat1 V c).arrAt 8 cfg1.N = fun j : S4096x1024.Idx => ((A.dqn (j 0).val (j 1).val : ℝ) : EReal) := by
  refine (dat1 V c).arrAt_eq_of_covers 8 _ (by decide +kernel) fun t _ y => ?_
  obtain ⟨a, d, rfl⟩ : ∃ (a : Fin 512) (d : Fin 128), y = ix2 a d := ⟨y 0, y 1, by funext k; fin_cases k <;> rfl⟩
  blk_simp
  refine ((dq_at h0 h1 h2 h3 h4 h5 ho hl t).1 a d).trans ?_
  blk_simp [index1_8]
  unfold Args.dqn
  rw [col_head, col_of, row_of]

theorem arr1_9 : (dat1 V c).arrAt 9 cfg1.N = fun j : S4096x1024.Idx => ((A.dqr (j 0).val (j 1).val : ℝ) : EReal) := by
  refine (dat1 V c).arrAt_eq_of_covers 9 _ (by decide +kernel) fun t _ y => ?_
  obtain ⟨a, d, rfl⟩ : ∃ (a : Fin 512) (d : Fin 128), y = ix2 a d := ⟨y 0, y 1, by funext k; fin_cases k <;> rfl⟩
  blk_simp
  refine ((dq_at h0 h1 h2 h3 h4 h5 ho hl t).2 a d).trans ?_
  blk_simp [index1_9]
  unfold Args.dqr
  rw [col_head, col_of, row_of]

theorem arr1_10 : (dat1 V c).arrAt 10 cfg1.N = fun j : S4096x1024.Idx => ((A.dkn (j 0).val (j 1).val : ℝ) : EReal) := by
  refine (dat1 V c).arrAt_eq_of_covers 10 _ (by decide +kernel) fun t hf y => ?_
  have h7 := (flush1_10 t).1 hf
  obtain ⟨a, d, rfl⟩ : ∃ (a : Fin 4096) (d : Fin 128), y = ix2 a d := ⟨y 0, y 1, by funext k; fin_cases k <;> rfl⟩
  blk_simp
  rw [after1_10]
  refine ((accs_at h0 h1 h2 h3 h4 h5 ho hl t.val t.isLt).1 a d).trans ?_
  blk_simp [index1_10]
  unfold Args.dkn
  simp only [h7, Nat.reduceAdd, dk_blocks, col_head, col_of]

theorem arr1_12 : (dat1 V c).arrAt 12 cfg1.N = fun j : S4096x1024.Idx => ((A.dv (j 0).val (j 1).val : ℝ) : EReal) := by
  refine (dat1 V c).arrAt_eq_of_covers 12 _ (by decide +kernel) fun t hf y => ?_
  have h7 := (flush1_12 t).1 hf
  obtain ⟨a, d, rfl⟩ : ∃ (a : Fin 4096) (d : Fin 128), y = ix2 a d := ⟨y 0, y 1, by funext k; fin_cases k <;> rfl⟩
  blk_simp
  rw [after1_12]
  refine ((accs_at h0 h1 h2 h3 h4 h5 ho hl t.val t.isLt).2.2 a d).trans ?_
  blk_simp [index1_12]
  unfold Args.dv
  simp only [h7, Nat.reduceAdd, dv_blocks, col_head, col_of]

theorem arr1_11 : (dat1 V c).arrAt 11 cfg1.N = fun j : S4096x128.Idx => ((A.dkr (j 0).val (j 1).val : ℝ) : EReal) := by
  refine (dat1 V c).arrAt_eq_of_covers 11 _ (by decide +kernel) fun t hf y => ?_
  have h63 : t.val = 63 := by
    have := (flush1_11 t).1 hf
    have := (show t.val < 64 from t.isLt)
    omega
  obtain ⟨a, d, rfl⟩ : ∃ (a : Fin 4096) (d : Fin 128), y = ix2 a d := ⟨y 0, y 1, by funext k; fin_cases k <;> rfl⟩
  blk_simp
  rw [after1_11]
  refine ((accs_at h0 h1 h2 h3 h4 h5 ho hl t.val t.isLt).2.1 a d).trans ?_
  blk_simp [index1_11]
  unfold Args.dkr
  simp only [h63, Nat.reduceDiv, Nat.reduceMod, Nat.reduceAdd, dk_blocks, ← Finset.sum_range_succ]

end Results

end Cert.KernelIdeal.Attn
-- ==== Proof.Results.lean ====
/-
  The kernel's six results when its arguments hold real numbers: what the forward call leaves is what the backward call
  reads, and the backward call leaves the forward call's result as it is.
-/
module

public import proofs.«01_k».proof.Proof.Run
public import proofs.«01_k».proof.Proof.Arrays

@[expose] public section

set_option maxRecDepth 16384

noncomputable section

namespace Cert.KernelIdeal.Attn

open Idealize.ShloMosaic Idealize.ShloMosaic.TcCoe Idealize.SL.Sem Cert.Attn
open Cert.KernelIdeal Cert.KernelIdeal.Gen

/-- The matrix whose entries are the numbers `f`. -/
def whole (n0 n1 : ℕ) (f : ℕ → ℕ → ℝ) : (⟨2, ![n0, n1]⟩ : Shape).Idx → EReal := fun j => ((f (j 0).val (j 1).val : ℝ) : EReal)

theorem eq_whole {n0 n1 : ℕ} {x : (⟨2, ![n0, n1]⟩ : Shape).Idx → EReal} {f : ℕ → ℕ → ℝ} (h : Is2 x f) : x = whole n0 n1 f := funext fun j => by
  obtain ⟨a, b, rfl⟩ : ∃ (a : Fin n0) (b : Fin n1), j = ix2 a b := ⟨j 0, j 1, by funext k; fin_cases k <;> rfl⟩
  exact h a b

variable (m : (ℓ : Loc nD τ sig) → Buf (Elt Ideal) ℓ) (ρ : Dev nD → PrngReg) (c : Dev nD) (A : Args)

/-- The arguments in memory are the real numbers `A`. -/
structure ArgsAre : Prop where
  h0 : (m ((c : Thread nD τ).loc main_arg0) : S4096x1024.Idx → EReal) = whole 4096 1024 A.a0
  h1 : (m ((c : Thread nD τ).loc main_arg1) : S4096x1024.Idx → EReal) = whole 4096 1024 A.a1
  h2 : (m ((c : Thread nD τ).loc main_arg2) : S4096x1024.Idx → EReal) = whole 4096 1024 A.a2
  h3 : (m ((c : Thread nD τ).loc main_arg3) : S4096x128.Idx → EReal) = whole 4096 128 A.a3
  h4 : (m ((c : Thread nD τ).loc main_arg4) : S4096x1024.Idx → EReal) = whole 4096 1024 A.a4
  h5 : (m ((c : Thread nD τ).loc main_arg5) : S4096x1024.Idx → EReal) = whole 4096 1024 A.a5

variable {m c A} (H : ArgsAre m c A)
include H

theorem out_between : (W1 m ρ c (Proc.devRef .tc main_v0_0) : S4096x1024.Idx → EReal) = whole 4096 1024 A.out :=
  (W1_arr m ρ c 5).trans (arr0_5 (V := V0 m ρ) (c := c) (A := A) (congrFun H.h0) (congrFun H.h1) (congrFun H.h2) (congrFun H.h3) (congrFun H.h4))

theorem logs_between : (W1 m ρ c (Proc.devRef .tc main_v0_1) : S8x4096x1.Idx → EReal) =
    fun j => ((Real.log ((A.head (j 0).val).total (j 1).val) : ℝ) : EReal) :=
  (W1_arr m ρ c 6).trans (arr0_6 (V := V0 m ρ) (c := c) (A := A) (congrFun H.h0) (congrFun H.h1) (congrFun H.h2) (congrFun H.h3) (congrFun H.h4))

theorem between0 (j : S4096x1024.Idx) : V1 m ρ c main_arg0 j = ((A.a0 (j 0).val (j 1).val : ℝ) : EReal) :=
  (congrFun (W1_args m ρ c main_arg0 (by decide)) j).trans (congrFun H.h0 j)
theorem between1 (j : S4096x1024.Idx) : V1 m ρ c main_arg1 j = ((A.a1 (j 0).val (j 1).val : ℝ) : EReal) :=
  (congrFun (W1_args m ρ c main_arg1 (by decide)) j).trans (congrFun H.h1 j)
theorem between2 (j : S4096x1024.Idx) : V1 m ρ c main_arg2 j = ((A.a2 (j 0).val (j 1).val : ℝ) : EReal) :=
  (congrFun (W1_args m ρ c main_arg2 (by decide)) j).trans (congrFun H.h2 j)
theorem between3 (j : S4096x128.Idx) : V1 m ρ c main_arg3 j = ((A.a3 (j 0).val (j 1).val : ℝ) : EReal) :=
  (congrFun (W1_args m ρ c main_arg3 (by decide)) j).trans (congrFun H.h3 j)
theorem between4 (j : S4096x1024.Idx) : V1 m ρ c main_arg4 j = ((A.a4 (j 0).val (j 1).val : ℝ) : EReal) :=
  (congrFun (W1_args m ρ c main_arg4 (by decide)) j).trans (congrFun H.h4 j)
theorem between5 (j : S4096x1024.Idx) : V1 m ρ c main_arg5 j = ((A.a5 (j 0).val (j 1).val : ℝ) : EReal) :=
  (congrFun (W1_args m ρ c main_arg5 (by decide)) j).trans (congrFun H.h5 j)

/-- The forward call's result at the end. -/
theorem end_out : (W2 m ρ c (Proc.devRef .tc main_v0_0) : S4096x1024.Idx → EReal) = whole 4096 1024 A.out :=
  (W2_of m ρ c main_v0_0 (by decide +kernel)).trans (out_between ρ H)

theorem end_dqn : (W2 m ρ c (Proc.devRef .tc main_v1_0) : S4096x1024.Idx → EReal) = whole 4096 1024 A.dqn :=
  (W2_arr m ρ c 8).trans (arr1_8 (V := V1 m ρ) (c := c) (A := A) (between0 ρ H) (between1 ρ H) (between2 ρ H) (between3 ρ H) (between4 ρ H) (between5 ρ H)
    (congrFun (out_between ρ H)) (congrFun (logs_between ρ H)))
theorem end_dqr : (W2 m ρ c (Proc.devRef .tc main_v1_1) : S4096x1024.Idx → EReal) = whole 4096 1024 A.dqr :=
  (W2_arr m ρ c 9).trans (arr1_9 (V := V1 m ρ) (c := c) (A := A) (between0 ρ H) (between1 ρ H) (between2 ρ H) (between3 ρ H) (between4 ρ H) (between5 ρ H)
    (congrFun (out_between ρ H)) (congrFun (logs_between ρ H)))
theorem end_dkn : (W2 m ρ c (Proc.devRef .tc main_v1_2) : S4096x1024.Idx → EReal) = whole 4096 1024 A.dkn :=
  (W2_arr m ρ c 10).trans (arr1_10 (V := V1 m ρ) (c := c) (A := A) (between0 ρ H) (between1 ρ H) (between2 ρ H) (between3 ρ H) (between4 ρ H) (between5 ρ H)
    (congrFun (out_between ρ H)) (congrFun (logs_between ρ H)))
theorem end_dkr : (W2 m ρ c (Proc.devRef .tc main_v1_3) : S4096x128.Idx → EReal) = whole 4096 128 A.dkr :=
  (W2_arr m ρ c 11).trans (arr1_11 (V := V1 m ρ) (c := c) (A := A) (between0 ρ H) (between1 ρ H) (between2 ρ H) (between3 ρ H) (between4 ρ H) (between5 ρ H)
    (congrFun (out_between ρ H)) (congrFun (logs_between ρ H)))
theorem end_dv : (W2 m ρ c (Proc.devRef .tc main_v1_4) : S4096x1024.Idx → EReal) = whole 4096 1024 A.dv :=
  (W2_arr m ρ c 12).trans (arr1_12 (V := V1 m ρ) (c := c) (A := A) (between0 ρ H) (between1 ρ H) (between2 ρ H) (between3 ρ H) (between4 ρ H) (between5 ρ H)
    (congrFun (out_between ρ H)) (congrFun (logs_between ρ H)))

end Cert.KernelIdeal.Attn
-- ==== Proof.RefStages.lean ====
/-
  The reference's computation cut into stages: the joined query and key blocks, the mask, the masked scores, their row
  maxima, the exponentials, the row sums, the probabilities and the gradient of the scores, each a function of the
  arguments, and what each entry of it is when the arguments hold real numbers.
-/
module

public import proofs.«01_k».proof.Proof.Gen.ReferenceIdeal.Run
public import proofs.«01_k».proof.Proof.Spec

@[expose] public section

noncomputable section

namespace Cert.ReferenceIdeal.Attn

open Idealize.ShloMosaic Cert.Attn
open Cert.ReferenceIdeal Cert.ReferenceIdeal.Gen
open scoped BigOperators

def heads (x : FVec Ideal S4096x1024 .f32) : FVec Ideal S4096x8x128 .f32 := shapeCast _ x shapeCasts_S4096x1024_S4096x8x128

def queries (x0 x1 : FVec Ideal S4096x1024 .f32) : FVec Ideal S4096x8x256 .f32 :=
  concatenate S4096x8x256 2 [⟨S4096x8x128, heads x0⟩, ⟨S4096x8x128, heads x1⟩] concatenates_S4096x8x128_S4096x8x128_S4096x8x256_d2

def keys (x2 : FVec Ideal S4096x1024 .f32) (x3 : FVec Ideal S4096x128 .f32) : FVec Ideal S4096x8x256 .f32 :=
  concatenate S4096x8x256 2 [⟨S4096x8x128, heads x2⟩, ⟨S4096x8x128, (broadcastInDim S4096x8x128 ![0, 1, 2] bcast_S4096x1x128_S4096x8x128_0_1_2 (broadcastInDim S4096x1x128 ![0, 2] bcast_S4096x128_S4096x1x128_0_2 x3))⟩] concatenates_S4096x8x128_S4096x8x128_S4096x8x256_d2

/-- The group of 64 each position belongs to. -/
def groups : IVec S4096 32 := select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

def visible2 : IVec S4096x4096 1 := cmpi .sle (broadcastInDim S4096x4096 ![0, 1] bcast_S1x4096_S4096x4096_0_1 (broadcastInDim S1x4096 ![1] bcast_S4096_S1x4096_1 groups)) (broadcastInDim S4096x4096 ![0, 1] bcast_S4096x1_S4096x4096_0_1 (broadcastInDim S4096x1 ![0] bcast_S4096_S4096x1_0 groups))

def visible : IVec S8x4096x4096 1 := broadcastInDim S8x4096x4096 ![1, 2] bcast_S4096x4096_S8x4096x4096_1_2 visible2

def products (q k : FVec Ideal S4096x8x256 .f32) : FVec Ideal S8x4096x4096 .f32 :=
  Host.dotGeneral dot_S4096x8x256_S4096x8x256_S8x4096x4096_2_2_0_0_1_1 none q k

def scales : FVec Ideal S8x4096x4096 .f32 := broadcastInDim S8x4096x4096 ![] bcast_S_S8x4096x4096 (constant S_ .f32 0x3D93CD3A#32)

def scores (q k : FVec Ideal S4096x8x256 .f32) : FVec Ideal S8x4096x4096 .f32 :=
  select visible (mulf (products q k) scales) (broadcastInDim S8x4096x4096 ![] bcast_S_S8x4096x4096 (id (constant S_ .f32 0xFF800000#32)))

def tops (s : FVec Ideal S8x4096x4096 .f32) : FVec Ideal S8x4096 .f32 :=
  maximumf (broadcastInDim S8x4096 ![] bcast_S_S8x4096 (constant S_ .f32 0xFF800000#32)) (Host.reduce FloatOps.maximumf s (constant S_ .f32 0xFF800000#32) reducesTo_S8x4096x4096_S8x4096_d2 h_S_)

def column (x : FVec Ideal S8x4096 .f32) : FVec Ideal S8x4096x1 .f32 := broadcastInDim S8x4096x1 ![0, 1] bcast_S8x4096_S8x4096x1_0_1 x

def spread (x : FVec Ideal S8x4096x1 .f32) : FVec Ideal S8x4096x4096 .f32 := broadcastInDim S8x4096x4096 ![0, 1, 2] bcast_S8x4096x1_S8x4096x4096_0_1_2 x

def expos (s : FVec Ideal S8x4096x4096 .f32) : FVec Ideal S8x4096x4096 .f32 := Host.exp (subf s (spread (column (tops s))))

def rowSum (x : FVec Ideal S8x4096x4096 .f32) : FVec Ideal S8x4096 .f32 :=
  Host.reduceAdd x (constant S_ .f32 0x00000000#32) reducesTo_S8x4096x4096_S8x4096_d2 h_S_

def probs (e : FVec Ideal S8x4096x4096 .f32) : FVec Ideal S8x4096x4096 .f32 := Host.divf e (spread (column (rowSum e)))

def outs (w : FVec Ideal S4096x8x128 .f32) (p : FVec Ideal S8x4096x4096 .f32) : FVec Ideal S4096x8x128 .f32 :=
  transpose S4096x8x128 [2, 0, 1] (Host.dotGeneral dot_S4096x8x128_S8x4096x4096_S8x128x4096_0_2_2_1_1_0 none w p) transposes_S8x128x4096_S4096x8x128_2_0_1

def gradT (g : FVec Ideal S4096x8x128 .f32) : FVec Ideal S8x128x4096 .f32 := transpose S8x128x4096 [1, 2, 0] g transposes_S4096x8x128_S8x128x4096_1_2_0

def dvs (g : FVec Ideal S4096x8x128 .f32) (p : FVec Ideal S8x4096x4096 .f32) : FVec Ideal S4096x8x128 .f32 :=
  transpose S4096x8x128 [2, 0, 1] (Host.dotGeneral dot_S8x128x4096_S8x4096x4096_S8x128x4096_2_1_1_2_0_0 none (gradT g) p) transposes_S8x128x4096_S4096x8x128_2_0_1

def dprobs (w g : FVec Ideal S4096x8x128 .f32) : FVec Ideal S8x4096x4096 .f32 :=
  Host.dotGeneral dot_S8x128x4096_S4096x8x128_S8x4096x4096_1_2_2_0_0_1 none (gradT g) w

def inverses (l : FVec Ideal S8x4096x1 .f32) : FVec Ideal S8x4096x1 .f32 :=
  Host.divf (broadcastInDim S8x4096x1 ![] bcast_S_S8x4096x1 (constant S_ .f32 0x3F800000#32)) (mulf l l)

def corrections (e p : FVec Ideal S8x4096x4096 .f32) : FVec Ideal S8x4096 .f32 :=
  Host.reduceAdd (Host.negf (shapeCast _ (rowSum (mulf (mulf p (spread (inverses (column (rowSum e))))) e)) shapeCasts_S8x4096_S8x4096x1)) (constant S_ .f32 0x00000000#32) reducesTo_S8x4096x1_S8x4096_d2 h_S_

def dscores (e p : FVec Ideal S8x4096x4096 .f32) : FVec Ideal S8x4096x4096 .f32 :=
  mulf (select visible (mulf (addf (Host.divf p (spread (column (rowSum e)))) (broadcastInDim S8x4096x4096 ![0, 1] bcast_S8x4096_S8x4096x4096_0_1 (corrections e p))) e)
    (broadcastInDim S8x4096x4096 ![] bcast_S_S8x4096x4096 (constant S_ .f32 0x00000000#32))) scales

def dqs (d : FVec Ideal S8x4096x4096 .f32) (k : FVec Ideal S4096x8x256 .f32) : FVec Ideal S4096x8x256 .f32 :=
  transpose S4096x8x256 [1, 0, 2] (Host.dotGeneral dot_S8x4096x4096_S4096x8x256_S8x4096x256_2_0_1_2_0_1 none d k) transposes_S8x4096x256_S4096x8x256_1_0_2

def dks (d : FVec Ideal S8x4096x4096 .f32) (q : FVec Ideal S4096x8x256 .f32) : FVec Ideal S4096x8x256 .f32 :=
  transpose S4096x8x256 [1, 0, 2] (Host.dotGeneral dot_S8x4096x4096_S4096x8x256_S8x4096x256_1_0_2_2_0_1 none d q) transposes_S8x4096x256_S4096x8x256_1_0_2

def joined (x : FVec Ideal S4096x8x128 .f32) : FVec Ideal S4096x1024 .f32 := shapeCast _ x shapeCasts_S4096x8x128_S4096x1024

def firstHalf (x : FVec Ideal S4096x8x256 .f32) : FVec Ideal S4096x8x128 .f32 := extractStridedSlice S4096x8x128 ![0, 0, 0] x slices_S4096x8x256_S4096x8x128_0_0_0

def secondHalf (x : FVec Ideal S4096x8x256 .f32) : FVec Ideal S4096x8x128 .f32 := extractStridedSlice S4096x8x128 ![0, 0, 128] x slices_S4096x8x256_S4096x8x128_0_0_128

def headSum (x : FVec Ideal S4096x8x128 .f32) : FVec Ideal S4096x128 .f32 :=
  Host.reduceAdd (broadcastInDim S4096x1x128 ![0, 2] bcast_S4096x128_S4096x1x128_0_2 (Host.reduceAdd x (constant S_ .f32 0x00000000#32) reducesTo_S4096x8x128_S4096x128_d1 h_S_)) (constant S_ .f32 0x00000000#32) reducesTo_S4096x1x128_S4096x128_d1 h_S_

section Results
variable (m : (ℓ : Loc nD τ sig) → Buf (Elt Ideal) ℓ) (c : Dev nD)

def arg0 : FVec Ideal S4096x1024 .f32 := m ((c.tc : Thread nD τ).loc main_arg0)
def arg1 : FVec Ideal S4096x1024 .f32 := m ((c.tc : Thread nD τ).loc main_arg1)
def arg2 : FVec Ideal S4096x1024 .f32 := m ((c.tc : Thread nD τ).loc main_arg2)
def arg3 : FVec Ideal S4096x128 .f32 := m ((c.tc : Thread nD τ).loc main_arg3)
def arg4 : FVec Ideal S4096x1024 .f32 := m ((c.tc : Thread nD τ).loc main_arg4)
def arg5 : FVec Ideal S4096x1024 .f32 := m ((c.tc : Thread nD τ).loc main_arg5)
def q : FVec Ideal S4096x8x256 .f32 := queries (arg0 m c) (arg1 m c)
def k : FVec Ideal S4096x8x256 .f32 := keys (arg2 m c) (arg3 m c)
def e : FVec Ideal S8x4096x4096 .f32 := expos (scores (q m c) (k m c))
def ds : FVec Ideal S8x4096x4096 .f32 := dscores (e m c) (dprobs (heads (arg4 m c)) (heads (arg5 m c)))

theorem out0_eq : Value.res_main_v49 m c = joined (outs (heads (arg4 m c)) (probs (e m c))) := rfl
theorem out1_eq : Value.res_main_v84 m c = joined (firstHalf (dqs (ds m c) (k m c))) := rfl
theorem out2_eq : Value.res_main_v83 m c = joined (secondHalf (dqs (ds m c) (k m c))) := rfl
theorem out3_eq : Value.res_main_v77 m c = joined (firstHalf (dks (ds m c) (q m c))) := rfl
theorem out4_eq : Value.res_main_v80 m c = headSum (secondHalf (dks (ds m c) (q m c))) := rfl
theorem out5_eq : Value.res_main_v55 m c = joined (dvs (heads (arg5 m c)) (probs (e m c))) := rfl
end Results

end Cert.ReferenceIdeal.Attn
-- ==== Proof.RefValue.lean ====
/-
  The reference's stages on arguments that hold real numbers, entry by entry, and with them its six results.

  A row's maximum is only known to be some real number; it scales every exponential of the row by one positive factor,
  which cancels in the probabilities and in the gradient of the scores.
-/
module

public import proofs.«01_k».proof.Proof.RefStages
public import proofs.«01_k».proof.Proof.Arrays
public import Idealize.ShloMosaic.Lib.Pointwise

@[expose] public section

noncomputable section

namespace Cert.ReferenceIdeal.Attn

open Idealize.ShloMosaic Cert.Attn
open Cert.ReferenceIdeal Cert.ReferenceIdeal.Gen
open scoped BigOperators

/-- The entries of the three-axis array `x` are the numbers `f`. -/
def Is3 {n0 n1 n2 : ℕ} (x : (⟨3, ![n0, n1, n2]⟩ : Shape).Idx → EReal) (f : ℕ → ℕ → ℕ → ℝ) : Prop :=
  ∀ (a : Fin n0) (b : Fin n1) (c : Fin n2), x (ix3 a b c) = ((f a.val b.val c.val : ℝ) : EReal)

theorem Is3.congr {n0 n1 n2 : ℕ} {x : (⟨3, ![n0, n1, n2]⟩ : Shape).Idx → EReal} {f f' : ℕ → ℕ → ℕ → ℝ} (h : Is3 x f)
    (e : ∀ a b c, a < n0 → b < n1 → c < n2 → f a b c = f' a b c) : Is3 x f' := fun a b c => by
  rw [h a b c, e _ _ _ a.isLt b.isLt c.isLt]

section At
variable {s : Shape} (x y : FVec Ideal s .f32) (i : s.Idx)
theorem mul_at : mulf x y i = x i * y i := rfl
theorem add_at : addf x y i = x i + y i := rfl
theorem sub_at : subf x y i = x i - y i := rfl
theorem div_at : Host.divf x y i = Ideal.div (x i) (y i) := rfl
theorem exp_at : Host.exp x i = Ideal.exp (x i) := rfl
theorem larger_at : maximumf x y i = max (x i) (y i) := rfl
theorem select_at (p : IVec s 1) : select p x y i = Scalar.select (p i) (x i) (y i) := rfl
end At

/-! ## The mask -/

def sgn (x : BitVec 32) : BitVec 32 := if x = 0 then 0 else if x.msb then -1 else 1

/-- The quotient by 64 rounded down, as the reference computes it on words. -/
def floorWord (x : BitVec 32) : BitVec 32 :=
  Scalar.select (IntOp.andi (IntOp.cmpi .ne (sgn x) (sgn 64#32)) (IntOp.cmpi .ne (IntOp.remsi .host x 64#32) 0#32))
    (IntOp.subi (IntOp.divsi .host x 64#32) 1#32) (IntOp.divsi .host x 64#32)

theorem floorWord_eq : ∀ x : Fin 4096, floorWord (BitVec.ofNat 32 x.val) = BitVec.ofNat 32 (x.val / 64) := by decide +kernel

theorem groups_at (b : Fin 4096) : groups (ix1 b) = BitVec.ofNat 32 (b.val / 64) := by
  rw [← floorWord_eq]
  rfl

theorem sle_word : ∀ x y : Fin 64, IntOp.cmpi .sle (BitVec.ofNat 32 x.val) (BitVec.ofNat 32 y.val) = if x.val ≤ y.val then 1#1 else 0#1 := by
  decide +kernel

theorem visible_at (h : Fin 8) (a b : Fin 4096) : visible (ix3 h a b) = if b.val / 64 ≤ a.val / 64 then 1#1 else 0#1 := by
  have e : visible (ix3 h a b) = IntOp.cmpi .sle (groups (ix1 b)) (groups (ix1 a)) := by
    unfold visible visible2; pointwise
  rw [e, groups_at, groups_at]
  exact sle_word ⟨b.val / 64, by omega⟩ ⟨a.val / 64, by omega⟩

theorem select_visible (h : Fin 8) (a b : Fin 4096) (x y : EReal) :
    Scalar.select (visible (ix3 h a b)) x y = if b.val / 64 ≤ a.val / 64 then x else y := by
  rw [visible_at]; split_ifs <;> rfl

/-! ## Constants and spreads -/

theorem bottom_word : Ideal.ofBits .f32 0xFF800000#32 = (⊥ : EReal) := EReal.neg_eq_top_iff.mp rfl

theorem least_at (h : Fin 8) (a : Fin 4096) : broadcastInDim S8x4096 ![] bcast_S_S8x4096 (constant (F := Ideal) S_ .f32 0xFF800000#32) (ix2 h a) = (⊥ : EReal) := by
  pointwise; exact bottom_word

theorem least_word (j : S_.Idx) : (constant S_ .f32 0xFF800000#32 : FVec Ideal S_ .f32) j = (⊥ : EReal) := bottom_word

theorem hidden_at (h : Fin 8) (a b : Fin 4096) : broadcastInDim S8x4096x4096 ![] bcast_S_S8x4096x4096 (id (constant (F := Ideal) S_ .f32 0xFF800000#32)) (ix3 h a b) = (⊥ : EReal) := by
  rw [id]; pointwise; exact bottom_word

theorem zero_at (h : Fin 8) (a b : Fin 4096) : broadcastInDim S8x4096x4096 ![] bcast_S_S8x4096x4096 (constant (F := Ideal) S_ .f32 0x00000000#32) (ix3 h a b) = (0 : EReal) := by
  pointwise

theorem scales_at (h : Fin 8) (a b : Fin 4096) : scales (ix3 h a b) = ((scale : ℝ) : EReal) := by
  unfold scales; pointwise; exact scale_eq

theorem spread_column (x : FVec Ideal S8x4096 .f32) (h : Fin 8) (a b : Fin 4096) : spread (column x) (ix3 h a b) = x (ix2 h a) := by
  unfold spread column; pointwise

theorem spread_at (x : FVec Ideal S8x4096x1 .f32) (h : Fin 8) (a b : Fin 4096) : spread x (ix3 h a b) = x (ix3 h a 0) := by
  unfold spread; pointwise

theorem column_at (x : FVec Ideal S8x4096 .f32) (h : Fin 8) (a : Fin 4096) : column x (ix3 h a 0) = x (ix2 h a) := by
  unfold column; pointwise

theorem wide_at (x : FVec Ideal S8x4096 .f32) (h : Fin 8) (a b : Fin 4096) :
    broadcastInDim S8x4096x4096 ![0, 1] bcast_S8x4096_S8x4096x4096_0_1 x (ix3 h a b) = x (ix2 h a) := by
  pointwise

/-! ## Heads, queries, keys -/

theorem is_heads {x : FVec Ideal S4096x1024 .f32} {f : ℕ → ℕ → ℝ} (hx : Is2 x f) : Is3 (heads x) (fun a h d => f a (128 * h + d)) := fun a h d => by
  unfold heads; pointwise
  rw [hx]
  dsimp only
  rw [Nat.mul_comm]

variable (A : Args)

theorem is_queries {x y : FVec Ideal S4096x1024 .f32} (hx : Is2 x A.a0) (hy : Is2 y A.a1) :
    Is3 (queries x y) (fun a h d => (A.head h).q a d) := fun a h d => by
  unfold queries; pointwise
  dsimp only [Args.head]
  by_cases p : d.val < 128
  · rw [dif_pos p, if_pos p]; exact is_heads hx _ _ _
  · rw [dif_neg p, if_neg p]; exact is_heads hy _ _ _

theorem is_keys {x : FVec Ideal S4096x1024 .f32} {y : FVec Ideal S4096x128 .f32} (hx : Is2 x A.a2) (hy : Is2 y A.a3) :
    Is3 (keys x y) (fun a h d => (A.head h).k a d) := fun a h d => by
  unfold keys; pointwise
  dsimp only [Args.head]
  by_cases p : d.val < 128
  · rw [dif_pos p, if_pos p]; exact is_heads hx _ _ _
  · rw [dif_neg p, if_neg p]; exact hy _ _

theorem is_products {q k : FVec Ideal S4096x8x256 .f32} (hq : Is3 q (fun a h d => (A.head h).q a d)) (hk : Is3 k (fun a h d => (A.head h).k a d)) :
    Is3 (products q k) (fun h a b => (A.head h).raw a b) := fun h a b => by
  unfold products; pointwise
  simp only [hq _ _ _, hk _ _ _, ← EReal.coe_mul]
  exact coe_sum_fin 256 (fun d => (A.head h).q a d * (A.head h).k b d)

theorem scores_at {q k : FVec Ideal S4096x8x256 .f32} (hq : Is3 q (fun a h d => (A.head h).q a d)) (hk : Is3 k (fun a h d => (A.head h).k a d))
    (h : Fin 8) (a b : Fin 4096) :
    scores q k (ix3 h a b) = if b.val / 64 ≤ a.val / 64 then (((A.head h).score a b : ℝ) : EReal) else ⊥ := by
  unfold scores
  rw [select_at, select_visible, mul_at, scales_at, hidden_at, is_products A hq hk, ← EReal.coe_mul]
  rfl

/-! ## Row maxima and exponentials -/

theorem reduce_max (s : FVec Ideal S8x4096x4096 .f32) (z : FVec Ideal S_ .f32) (h : Fin 8) (a : Fin 4096) :
    Host.reduce FloatOps.maximumf s z reducesTo_S8x4096x4096_S8x4096_d2 h_S_ (ix2 h a) = Finset.fold max (z (Shape.Idx.first h_S_)) (fun x => s (ix3 h a x)) Finset.univ := by
  pointwise

theorem tops_at (s : FVec Ideal S8x4096x4096 .f32) (h : Fin 8) (a : Fin 4096) :
    tops s (ix2 h a) = max ⊥ (Finset.univ.fold max ⊥ fun x : Fin 4096 => s (ix3 h a x)) := by
  unfold tops
  rw [larger_at, reduce_max, least_at, least_word]

theorem tops_real {q k : FVec Ideal S4096x8x256 .f32} (hq : Is3 q (fun a h d => (A.head h).q a d)) (hk : Is3 k (fun a h d => (A.head h).k a d))
    (h : Fin 8) (a : Fin 4096) : ∃ μ : ℝ, tops (scores q k) (ix2 h a) = ((μ : ℝ) : EReal) := by
  rw [tops_at]
  refine fold_max_real _ ⊥ bot_ne_top (fun b => ?_) a ?_
  · rw [scores_at A hq hk]; split_ifs
    · exact EReal.coe_ne_top _
    · exact bot_ne_top
  · rw [scores_at A hq hk, if_pos le_rfl]; exact EReal.coe_ne_bot _

/-- Each row's exponentials are those of the scores, times one positive factor. -/
theorem is_expos {q k : FVec Ideal S4096x8x256 .f32} (hq : Is3 q (fun a h d => (A.head h).q a d)) (hk : Is3 k (fun a h d => (A.head h).k a d)) :
    ∃ ν : ℕ → ℕ → ℝ, (∀ h a, 0 < ν h a) ∧ Is3 (expos (scores q k)) (fun h a b => (A.head h).expo a b * ν h a) := by
  choose μ hμ using tops_real A hq hk
  refine ⟨fun h a => if p : h < 8 ∧ a < 4096 then Real.exp (-(μ ⟨h, p.1⟩ ⟨a, p.2⟩)) else 1, fun h a => ?_, fun h a b => ?_⟩
  · dsimp only; split_ifs
    · exact Real.exp_pos _
    · exact one_pos
  · unfold expos
    rw [exp_at, sub_at, spread_column, hμ, scores_at A hq hk]
    dsimp only [Head.expo]
    rw [dif_pos ⟨h.isLt, a.isLt⟩]
    split_ifs
    · rw [exp_sub_coe, sub_eq_add_neg, Real.exp_add]
    · rw [exp_bot_sub_coe, zero_mul]

theorem is_rowSum {x : FVec Ideal S8x4096x4096 .f32} {f : ℕ → ℕ → ℕ → ℝ} (hx : Is3 x f) :
    Is2 (rowSum x) (fun h a => ∑ b ∈ Finset.range 4096, f h a b) := fun h a => by
  unfold rowSum; pointwise
  simp only [hx _ _ _]
  exact coe_sum_fin 4096 (fun b => f h a b)

theorem totals_ne {ν : ℕ → ℕ → ℝ} (hν : ∀ h a, 0 < ν h a) (h a : ℕ) (ha : a < 4096) : (A.head h).total a * ν h a ≠ 0 :=
  mul_ne_zero ((A.head h).total_pos ha).ne' (hν h a).ne'

section Weights
variable {e : FVec Ideal S8x4096x4096 .f32} {ν : ℕ → ℕ → ℝ} (hν : ∀ h a, 0 < ν h a) (he : Is3 e (fun h a b => (A.head h).expo a b * ν h a))
include he

theorem is_totals : Is2 (rowSum e) (fun h a => (A.head h).total a * ν h a) :=
  (is_rowSum he).congr fun h a _ _ => by rw [Head.total, Finset.sum_mul]

include hν

theorem is_probs : Is3 (probs e) (fun h a b => (A.head h).prob a b) := fun h a b => by
  unfold probs
  rw [div_at, spread_column, is_totals A he, he, div_coe_coe _ _ (totals_ne A hν h a a.isLt)]
  dsimp only [Head.prob]
  rw [mul_div_mul_right _ _ (hν h a).ne']
end Weights

/-! ## Results -/

theorem is_outs {w : FVec Ideal S4096x8x128 .f32} {p : FVec Ideal S8x4096x4096 .f32} (hw : Is3 w (fun a h d => (A.head h).w a d))
    (hp : Is3 p (fun h a b => (A.head h).prob a b)) : Is3 (outs w p) (fun a h d => (A.head h).out a d) := fun a h d => by
  unfold outs; pointwise
  simp only [hw _ _ _, hp _ _ _, ← EReal.coe_mul]
  rw [coe_sum_fin 4096 (fun b => (A.head h).w b d * (A.head h).prob a b)]
  dsimp only [Head.out]
  simp only [mul_comm]

theorem is_dvs {g : FVec Ideal S4096x8x128 .f32} {p : FVec Ideal S8x4096x4096 .f32} (hg : Is3 g (fun a h d => (A.head h).g a d))
    (hp : Is3 p (fun h a b => (A.head h).prob a b)) : Is3 (dvs g p) (fun a h d => (A.head h).dv a d) := fun a h d => by
  unfold dvs gradT; pointwise
  simp only [hg _ _ _, hp _ _ _, ← EReal.coe_mul]
  rw [coe_sum_fin 4096 (fun b => (A.head h).g b d * (A.head h).prob b a)]
  dsimp only [Head.dv]
  simp only [mul_comm]

theorem is_dprobs {w g : FVec Ideal S4096x8x128 .f32} (hw : Is3 w (fun a h d => (A.head h).w a d)) (hg : Is3 g (fun a h d => (A.head h).g a d)) :
    Is3 (dprobs w g) (fun h a b => (A.head h).dprob a b) := fun h a b => by
  unfold dprobs gradT; pointwise
  simp only [hg _ _ _, hw _ _ _, ← EReal.coe_mul]
  exact coe_sum_fin 128 (fun d => (A.head h).g a d * (A.head h).w b d)

theorem inverses_at (l : FVec Ideal S8x4096x1 .f32) (h : Fin 8) (a : Fin 4096) :
    inverses l (ix3 h a 0) = Ideal.div 1 (l (ix3 h a 0) * l (ix3 h a 0)) := by
  unfold inverses; pointwise

theorem corrections_at (e p : FVec Ideal S8x4096x4096 .f32) (h : Fin 8) (a : Fin 4096) :
    corrections e p (ix2 h a) = -rowSum (mulf (mulf p (spread (inverses (column (rowSum e))))) e) (ix2 h a) := by
  unfold corrections; pointwise
  simp

section Scores
variable {e p : FVec Ideal S8x4096x4096 .f32} {ν : ℕ → ℕ → ℝ} (hν : ∀ h a, 0 < ν h a) (he : Is3 e (fun h a b => (A.head h).expo a b * ν h a))
  (hp : Is3 p (fun h a b => (A.head h).dprob a b))
include hν he hp

theorem is_weighted : Is3 (mulf (mulf p (spread (inverses (column (rowSum e))))) e)
    (fun h a b => (A.head h).dprob a b * (1 / ((A.head h).total a * ν h a * ((A.head h).total a * ν h a))) * ((A.head h).expo a b * ν h a)) := fun h a b => by
  have n := totals_ne A hν h.val a.val a.isLt
  rw [mul_at, mul_at, spread_at, inverses_at, column_at, is_totals A he, he, hp, ← EReal.coe_mul, ← EReal.coe_one,
    div_coe_coe _ _ (mul_ne_zero n n), ← EReal.coe_mul, ← EReal.coe_mul]

theorem is_corrections : Is2 (corrections e p) (fun h a => -((A.head h).delta a / ((A.head h).total a * ν h a))) := fun h a => by
  have n1 := ((A.head h.val).total_pos a.isLt).ne'
  have n2 := (hν h.val a.val).ne'
  rw [corrections_at, is_rowSum (is_weighted A hν he hp) h a, ← EReal.coe_neg]
  dsimp only
  congr 2
  rw [Head.delta_eq, Finset.sum_div]
  refine Finset.sum_congr rfl fun b _ => ?_
  rw [Head.prob]
  field_simp

theorem is_dscores : Is3 (dscores e p) (fun h a b => (A.head h).dscore a b) := fun h a b => by
  have n1 := ((A.head h.val).total_pos a.isLt).ne'
  have n2 := (hν h.val a.val).ne'
  unfold dscores
  rw [mul_at, select_at, select_visible, mul_at, add_at, div_at, spread_column, wide_at, zero_at, scales_at, is_totals A he, he, hp,
    is_corrections A hν he hp, div_coe_coe _ _ (totals_ne A hν h a a.isLt), ← EReal.coe_add, ← EReal.coe_mul, ← EReal.coe_zero]
  dsimp only [Head.dscore]
  split_ifs with v
  · rw [← EReal.coe_mul]
    congr 1
    rw [Head.prob]
    field_simp
    ring
  · rw [← EReal.coe_mul, Head.prob, Head.expo, if_neg v]
    simp
end Scores

theorem is_dqs {d : FVec Ideal S8x4096x4096 .f32} {k : FVec Ideal S4096x8x256 .f32} (hd : Is3 d (fun h a b => (A.head h).dscore a b))
    (hk : Is3 k (fun a h d => (A.head h).k a d)) : Is3 (dqs d k) (fun a h d => (A.head h).dq a d) := fun a h j => by
  unfold dqs; pointwise
  simp only [hd _ _ _, hk _ _ _, ← EReal.coe_mul]
  exact coe_sum_fin 4096 (fun b => (A.head h).dscore a b * (A.head h).k b j)

theorem is_dks {d : FVec Ideal S8x4096x4096 .f32} {q : FVec Ideal S4096x8x256 .f32} (hd : Is3 d (fun h a b => (A.head h).dscore a b))
    (hq : Is3 q (fun a h d => (A.head h).q a d)) : Is3 (dks d q) (fun a h d => (A.head h).dk a d) := fun a h j => by
  unfold dks; pointwise
  simp only [hd _ _ _, hq _ _ _, ← EReal.coe_mul]
  exact coe_sum_fin 4096 (fun b => (A.head h).dscore b a * (A.head h).q b j)

theorem is_joined {x : FVec Ideal S4096x8x128 .f32} {f : ℕ → ℕ → ℕ → ℝ} (hx : Is3 x f) : Is2 (joined x) (fun a j => f a (j / 128) (j % 128)) := fun a j => by
  unfold joined; pointwise
  exact hx _ _ _

theorem is_firstHalf {x : FVec Ideal S4096x8x256 .f32} {f : ℕ → ℕ → ℕ → ℝ} (hx : Is3 x f) : Is3 (firstHalf x) f := fun a h d => by
  unfold firstHalf; pointwise
  exact hx _ _ _

theorem is_secondHalf {x : FVec Ideal S4096x8x256 .f32} {f : ℕ → ℕ → ℕ → ℝ} (hx : Is3 x f) : Is3 (secondHalf x) (fun a h d => f a h (128 + d)) := fun a h d => by
  unfold secondHalf; pointwise
  exact hx _ _ _

theorem is_headSum {x : FVec Ideal S4096x8x128 .f32} {f : ℕ → ℕ → ℕ → ℝ} (hx : Is3 x f) : Is2 (headSum x) (fun a d => ∑ h ∈ Finset.range 8, f a h d) := fun a d => by
  unfold headSum; pointwise
  simp only [hx _ _ _, Finset.univ_unique, Finset.sum_singleton]
  exact coe_sum_fin 8 (fun h => f a h d)

section Final
variable (m : (ℓ : Loc nD τ sig) → Buf (Elt Ideal) ℓ) (c : Dev nD)
  (h0 : Is2 (arg0 m c) A.a0) (h1 : Is2 (arg1 m c) A.a1) (h2 : Is2 (arg2 m c) A.a2) (h3 : Is2 (arg3 m c) A.a3) (h4 : Is2 (arg4 m c) A.a4)

include h0 h1 h2 h3

theorem e_real : ∃ ν : ℕ → ℕ → ℝ, (∀ h a, 0 < ν h a) ∧ Is3 (e m c) (fun h a b => (A.head h).expo a b * ν h a) :=
  is_expos A (is_queries A h0 h1) (is_keys A h2 h3)

include h4

theorem out0_is : Is2 (Value.res_main_v49 m c : FVec Ideal S4096x1024 .f32) A.out := by
  obtain ⟨ν, hν, he⟩ := e_real A m c h0 h1 h2 h3
  rw [out0_eq]
  exact is_joined (is_outs A (is_heads h4) (is_probs A hν he))

variable (h5 : Is2 (arg5 m c) A.a5)
include h5

theorem ds_is : Is3 (ds m c) (fun h a b => (A.head h).dscore a b) := by
  obtain ⟨ν, hν, he⟩ := e_real A m c h0 h1 h2 h3
  exact is_dscores A hν he (is_dprobs A (is_heads h4) (is_heads h5))

theorem out1_is : Is2 (Value.res_main_v84 m c : FVec Ideal S4096x1024 .f32) A.dqn := by
  rw [out1_eq]
  exact is_joined (is_firstHalf (is_dqs A (ds_is A m c h0 h1 h2 h3 h4 h5) (is_keys A h2 h3)))

theorem out2_is : Is2 (Value.res_main_v83 m c : FVec Ideal S4096x1024 .f32) A.dqr := by
  rw [out2_eq]
  exact is_joined (is_secondHalf (is_dqs A (ds_is A m c h0 h1 h2 h3 h4 h5) (is_keys A h2 h3)))

theorem out3_is : Is2 (Value.res_main_v77 m c : FVec Ideal S4096x1024 .f32) A.dkn := by
  rw [out3_eq]
  exact is_joined (is_firstHalf (is_dks A (ds_is A m c h0 h1 h2 h3 h4 h5) (is_queries A h0 h1)))

theorem out4_is : Is2 (Value.res_main_v80 m c : FVec Ideal S4096x128 .f32) A.dkr := by
  rw [out4_eq]
  exact is_headSum (is_secondHalf (is_dks A (ds_is A m c h0 h1 h2 h3 h4 h5) (is_queries A h0 h1)))

theorem out5_is : Is2 (Value.res_main_v55 m c : FVec Ideal S4096x1024 .f32) A.dv := by
  obtain ⟨ν, hν, he⟩ := e_real A m c h0 h1 h2 h3
  rw [out5_eq]
  exact is_joined (is_dvs A (is_heads h5) (is_probs A hν he))
end Final

end Cert.ReferenceIdeal.Attn
-- ==== Proof.Finite.lean ====
/-
  What the precondition says: every entry of every argument is a real number.
-/
module

public import proofs.«01_k».proof.Proof.Gen.Pre_finite
public import proofs.«01_k».proof.Proof.Arrays
public import Idealize.ShloMosaic.Lib.ReduceAll
public import Idealize.ShloMosaic.Lib.Pointwise

@[expose] public section

noncomputable section

namespace Cert.Pre_finite.Attn

open Idealize.ShloMosaic Cert.Attn
open Cert.Pre_finite Cert.Pre_finite.Gen

instance : Subsingleton S_.Idx := ⟨fun a b => funext fun k => k.elim0⟩

theorem real_of_small (x : EReal) (h : Ideal.cmp .olt (max x (-x)) (Ideal.ofBits .f32 0x7F800000#32) = 1#1) : x = ((x.toReal : ℝ) : EReal) := by
  have ht : Ideal.ofBits .f32 0x7F800000#32 = (⊤ : EReal) := rfl
  rw [ht] at h
  have hl : max x (-x) < ⊤ := by
    by_contra hn
    simp only [Ideal.cmp, hn, decide_false] at h
    exact absurd h (by decide)
  refine (EReal.coe_toReal ?_ ?_).symm
  · rintro rfl; simp at hl
  · rintro rfl; simp at hl

theorem real1024 (x : FVec Ideal S4096x1024 .f32) (j : S_.Idx)
    (h : Host.reduce IntOp.andi (cmpf .olt (Host.absf x) (broadcastInDim S4096x1024 ![] bcast_S_S4096x1024 (constant S_ .f32 0x7F800000#32))) (constantI S_ 1 1#1)
      reducesTo_S4096x1024_S_d0_1 h_S_ j = 1#1) (i : S4096x1024.Idx) : x i = ((EReal.toReal (x i) : ℝ) : EReal) :=
  real_of_small (x i) (Host.reduce_andi_all _ _ _ _ j h i)

theorem real128 (x : FVec Ideal S4096x128 .f32) (j : S_.Idx)
    (h : Host.reduce IntOp.andi (cmpf .olt (Host.absf x) (broadcastInDim S4096x128 ![] bcast_S_S4096x128 (constant S_ .f32 0x7F800000#32))) (constantI S_ 1 1#1)
      reducesTo_S4096x128_S_d0_1 h_S_ j = 1#1) (i : S4096x128.Idx) : x i = ((EReal.toReal (x i) : ℝ) : EReal) :=
  real_of_small (x i) (Host.reduce_andi_all _ _ _ _ j h i)

/-- The entries of a matrix as real numbers, by the numbers of row and column. -/
def entries {n0 n1 : ℕ} (x : (⟨2, ![n0, n1]⟩ : Shape).Idx → EReal) (r j : ℕ) : ℝ :=
  if h : r < n0 ∧ j < n1 then (x (ix2 ⟨r, h.1⟩ ⟨j, h.2⟩)).toReal else 0

theorem entries_at {n0 n1 : ℕ} (x : (⟨2, ![n0, n1]⟩ : Shape).Idx → EReal) (a : Fin n0) (b : Fin n1) : entries x a.val b.val = (x (ix2 a b)).toReal :=
  dif_pos ⟨a.isLt, b.isLt⟩

variable (x0 x1 x2 : FVec Ideal S4096x1024 .f32) (x3 : FVec Ideal S4096x128 .f32) (x4 x5 : FVec Ideal S4096x1024 .f32)

/-- The real numbers of six arguments. -/
def args : Args := ⟨entries x0, entries x1, entries x2, entries x3, entries x4, entries x5⟩

theorem args_real (h : Cert.Pre_finite.fn (F := Ideal) x0 x1 x2 x3 x4 x5 = fun _ => 1#1) :
    Is2 x0 (entries x0) ∧ Is2 x1 (entries x1) ∧ Is2 x2 (entries x2) ∧ Is2 x3 (entries x3) ∧ Is2 x4 (entries x4) ∧ Is2 x5 (entries x5) := by
  have e := congrFun h ix0
  unfold Cert.Pre_finite.fn Cert.Pre_finite.fn_part1 at e
  dsimp only at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨-, e0⟩ := IntOp.andi_eq_one.1 e
  refine ⟨fun a b => ?_, fun a b => ?_, fun a b => ?_, fun a b => ?_, fun a b => ?_, fun a b => ?_⟩ <;> rw [entries_at]
  · exact real1024 x0 _ e0 _
  · exact real1024 x1 _ e1 _
  · exact real1024 x2 _ e2 _
  · exact real128 x3 _ e3 _
  · exact real1024 x4 _ e4 _
  · exact real1024 x5 _ e5 _

end Cert.Pre_finite.Attn
-- ==== Proof.Algebraic.lean ====
/-
  The kernel and the reference leave equal results: on arguments that are real numbers, both leave the six matrices of
  real numbers that `Args` names.
-/
module

public import proofs.«01_k».proof.Defs
public import proofs.«01_k».proof.Proof.Results
public import proofs.«01_k».proof.Proof.RefValue
public import proofs.«01_k».proof.Proof.Finite

@[expose] public section

set_option maxRecDepth 16384

noncomputable section

namespace Cert.KernelIdeal.Attn

open Idealize.ShloMosaic Idealize.ShloMosaic.TcCoe Idealize.SL.Sem Cert.Attn
open Cert.KernelIdeal Cert.KernelIdeal.Gen

theorem whole_is {n0 n1 : ℕ} {x : (⟨2, ![n0, n1]⟩ : Shape).Idx → EReal} {f : ℕ → ℕ → ℝ} (h : x = whole n0 n1 f) : Is2 x f := fun a b => congrFun h (ix2 a b)

/-- The real numbers that the arguments in `m` are. -/
def realArgs (m : (ℓ : Loc nD τ sig) → Buf (Elt Ideal) ℓ) (c : Dev nD) : Args :=
  Cert.Pre_finite.Attn.args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem realArgs_are (m : (ℓ : Loc nD τ sig) → Buf (Elt Ideal) ℓ) (h : Cert.Pre_KernelIdeal_finite (hPre_finite := Cert.Pre_finite.Gen.facts) m) (c : Dev nD) :
    ArgsAre m c (realArgs m c) := by
  obtain ⟨e0, e1, e2, e3, e4, e5⟩ := Cert.Pre_finite.Attn.args_real _ _ _ _ _ _ (h c)
  exact ⟨eq_whole e0, eq_whole e1, eq_whole e2, eq_whole e3, eq_whole e4, eq_whole e5⟩

/-- The kernel's run, in real numbers. -/
theorem kernel_run (m : (ℓ : Loc nD τ sig) → Buf (Elt Ideal) ℓ) (ρ : Dev nD → PrngReg) (A : Dev nD → Args) (H : ∀ c, ArgsAre m c (A c)) :
    θ_run (defs (F := Ideal)) (onTc (τ := τ) (main (F := Ideal))) ⟨m, fun _ => 0, ρ⟩ (fun r => ∀ c : Dev nD,
      r.2.mem ((c.tc : Thread nD τ).loc main_v0_0) = whole 4096 1024 (A c).out
      ∧ r.2.mem ((c.tc : Thread nD τ).loc main_v1_0) = whole 4096 1024 (A c).dqn
      ∧ r.2.mem ((c.tc : Thread nD τ).loc main_v1_1) = whole 4096 1024 (A c).dqr
      ∧ r.2.mem ((c.tc : Thread nD τ).loc main_v1_2) = whole 4096 1024 (A c).dkn
      ∧ r.2.mem ((c.tc : Thread nD τ).loc main_v1_3) = whole 4096 128 (A c).dkr
      ∧ r.2.mem ((c.tc : Thread nD τ).loc main_v1_4) = whole 4096 1024 (A c).dv
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    have hb : ∀ b : Ref sig .tc, ¬ (Proc.devRef .tc b : DevRef τ sig).isScoped → r.2.mem ((c.tc : Thread nD τ).loc b) = W2 m ρ c (Proc.devRef .tc b) :=
      fun b hs => h.1 c _ (mem_uc b hs)
    have ha : ∀ a : Ref sig .tc, a ∈ argRefs → ¬ (Proc.devRef .tc a : DevRef τ sig).isScoped → r.2.mem ((c.tc : Thread nD τ).loc a) = m ((c.tc : Thread nD τ).loc a) :=
      fun a hm hs => (hb a hs).trans (W2_args m ρ c a hm)
    ⟨(hb main_v0_0 (by decide)).trans (end_out ρ (H c)), (hb main_v1_0 (by decide)).trans (end_dqn ρ (H c)),
     (hb main_v1_1 (by decide)).trans (end_dqr ρ (H c)), (hb main_v1_2 (by decide)).trans (end_dkn ρ (H c)),
     (hb main_v1_3 (by decide)).trans (end_dkr ρ (H c)), (hb main_v1_4 (by decide)).trans (end_dv ρ (H c)),
     ha main_arg0 (by decide) (by decide), ha main_arg1 (by decide) (by decide), ha main_arg2 (by decide) (by decide),
     ha main_arg3 (by decide) (by decide), ha main_arg4 (by decide) (by decide), ha main_arg5 (by decide) (by decide)⟩) (run_main m ρ)

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have H : ∀ c, ArgsAre m c (realArgs m c) := realArgs_are m hpre
  refine ⟨fun c => whole 4096 1024 (realArgs m c).out, fun c => whole 4096 1024 (realArgs m c).dqn, fun c => whole 4096 1024 (realArgs m c).dqr,
    fun c => whole 4096 1024 (realArgs m c).dkn, fun c => whole 4096 128 (realArgs m c).dkr, fun c => whole 4096 1024 (realArgs m c).dv,
    kernel_run m g (realArgs m) H, ?_⟩
  refine (θ_run _ _ _).mono (fun r h c => ?_) (Cert.ReferenceIdeal.Value.run (F := Ideal) m' g')
  obtain ⟨r0, r1, r2, r3, r4, r5, hrest⟩ := h c
  obtain ⟨a0, a1, a2, a3, a4, a5⟩ := hargs c
  have h0 : Is2 (Cert.ReferenceIdeal.Attn.arg0 m' c) (realArgs m c).a0 := whole_is (a0.trans (H c).h0)
  have h1 : Is2 (Cert.ReferenceIdeal.Attn.arg1 m' c) (realArgs m c).a1 := whole_is (a1.trans (H c).h1)
  have h2 : Is2 (Cert.ReferenceIdeal.Attn.arg2 m' c) (realArgs m c).a2 := whole_is (a2.trans (H c).h2)
  have h3 : Is2 (Cert.ReferenceIdeal.Attn.arg3 m' c) (realArgs m c).a3 := whole_is (a3.trans (H c).h3)
  have h4 : Is2 (Cert.ReferenceIdeal.Attn.arg4 m' c) (realArgs m c).a4 := whole_is (a4.trans (H c).h4)
  have h5 : Is2 (Cert.ReferenceIdeal.Attn.arg5 m' c) (realArgs m c).a5 := whole_is (a5.trans (H c).h5)
  exact ⟨r0.trans (eq_whole (Cert.ReferenceIdeal.Attn.out0_is _ m' c h0 h1 h2 h3 h4)),
    r1.trans (eq_whole (Cert.ReferenceIdeal.Attn.out1_is _ m' c h0 h1 h2 h3 h4 h5)),
    r2.trans (eq_whole (Cert.ReferenceIdeal.Attn.out2_is _ m' c h0 h1 h2 h3 h4 h5)),
    r3.trans (eq_whole (Cert.ReferenceIdeal.Attn.out3_is _ m' c h0 h1 h2 h3 h4 h5)),
    r4.trans (eq_whole (Cert.ReferenceIdeal.Attn.out4_is _ m' c h0 h1 h2 h3 h4 h5)),
    r5.trans (eq_whole (Cert.ReferenceIdeal.Attn.out5_is _ m' c h0 h1 h2 h3 h4 h5)), hrest⟩

end Cert.KernelIdeal.Attn

end
-- ==== Proof.FfnFrames.lean ====
/-
  The frames of the feed-forward part's kernels at machine words, from the runs of the ideal texts, and of its references.
-/
module

public import proofs.«01_k».proof.Defs
public import proofs.«01_k».proof.Proof.Gen.Kernel2
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal.Frame
public import proofs.«01_k».proof.Proof.Gen.Reference4Ideal
public import proofs.«01_k».proof.Proof.Gen.Reference4Ideal.Run
public import Idealize.ShloMosaic.Adequacy
public import Idealize.ShloMosaic.Init

@[expose] public section

set_option maxRecDepth 16384

noncomputable section

open Idealize.ShloMosaic Idealize.SL.Sem

namespace Cert.Kernel2Ideal.Ffn

theorem frame_kernel : Cert.quiescent_Kernel2 (hKernel2 := Kernel2.Gen.facts) :=
  Eq.mpr (by chain_rfl) fun m ρ (_ : True) => Gen.frame (F := Bits) m ρ

theorem frame_ideal : Cert.quiescent_Kernel2Ideal (hKernel2Ideal := Kernel2Ideal.Gen.facts) := fun m ρ _ => Gen.frame (F := Ideal) m ρ

theorem frame_reference : Cert.quiescent_Reference2Ideal (hReference2Ideal := Cert.Reference2Ideal.Gen.facts) := fun m ρ _ =>
  (θ_run _ _ _).mono (fun r h => ⟨fun c => (h c).2.2.2.2.2, sem_eq_zero_of_no_sems (by decide) r.2⟩) (Cert.Reference2Ideal.Value.run (F := Ideal) m ρ)

end Cert.Kernel2Ideal.Ffn

namespace Cert.Kernel3Ideal.Ffn

theorem frame_kernel : Cert.quiescent_Kernel3 (hKernel3 := Kernel3.Gen.facts) :=
  Eq.mpr (by chain_rfl) fun m ρ (_ : True) => Gen.frame (F := Bits) m ρ

theorem frame_ideal : Cert.quiescent_Kernel3Ideal (hKernel3Ideal := Kernel3Ideal.Gen.facts) := fun m ρ _ => Gen.frame (F := Ideal) m ρ

theorem frame_reference : Cert.quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run (F := Ideal) m ρ)

end Cert.Kernel3Ideal.Ffn

namespace Cert.Kernel4Ideal.Ffn

theorem frame_kernel : Cert.quiescent_Kernel4 (hKernel4 := Kernel4.Gen.facts) :=
  Eq.mpr (by chain_rfl) fun m ρ (_ : True) => Gen.frame (F := Bits) m ρ

theorem frame_ideal : Cert.quiescent_Kernel4Ideal (hKernel4Ideal := Kernel4Ideal.Gen.facts) := fun m ρ _ => Gen.frame (F := Ideal) m ρ

theorem frame_reference : Cert.quiescent_Reference4Ideal (hReference4Ideal := Cert.Reference4Ideal.Gen.facts) := fun m ρ _ =>
  (θ_run _ _ _).mono (fun r h => ⟨fun c => (h c).2, sem_eq_zero_of_no_sems (by decide) r.2⟩) (Cert.Reference4Ideal.Value.run (F := Ideal) m ρ)

end Cert.Kernel4Ideal.Ffn

end
-- ==== Proof.FfnSpec.lean ====
/-
  The feed-forward part in closed form: matrices over the extended reals by their entries, and what its results are,
  entry by entry.
-/
module

public import Idealize.ShloMosaic.Lib.Pointwise
public import Idealize.ShloMosaic.PureOps.Ideal

@[expose] public section

noncomputable section

namespace Cert.Ffn

open Idealize.ShloMosaic
open scoped BigOperators

/-- The matrix `x` has the entries `f`. -/
def Has {n0 n1 : ℕ} (x : (⟨2, ![n0, n1]⟩ : Shape).Idx → EReal) (f : ℕ → ℕ → EReal) : Prop :=
  ∀ (a : Fin n0) (b : Fin n1), x (ix2 a b) = f a.val b.val

/-- The matrix whose entries are `f`. -/
def whole (n0 n1 : ℕ) (f : ℕ → ℕ → EReal) : (⟨2, ![n0, n1]⟩ : Shape).Idx → EReal := fun j => f (j 0).val (j 1).val

theorem has_whole (n0 n1 : ℕ) (f : ℕ → ℕ → EReal) : Has (whole n0 n1 f) f := fun _ _ => rfl

theorem pair_eq {n0 n1 : ℕ} (j : (⟨2, ![n0, n1]⟩ : Shape).Idx) : ∃ (a : Fin n0) (b : Fin n1), j = ix2 a b :=
  ⟨j 0, j 1, by funext k; fin_cases k <;> rfl⟩

theorem eq_whole {n0 n1 : ℕ} {x : (⟨2, ![n0, n1]⟩ : Shape).Idx → EReal} {f : ℕ → ℕ → EReal} (h : Has x f) : x = whole n0 n1 f := funext fun j => by
  obtain ⟨a, b, rfl⟩ := pair_eq j
  exact h a b

/-- Any matrix is the matrix of its entries. -/
def entries {n0 n1 : ℕ} (x : (⟨2, ![n0, n1]⟩ : Shape).Idx → EReal) : ℕ → ℕ → EReal :=
  fun a b => if h : a < n0 ∧ b < n1 then x (ix2 ⟨a, h.1⟩ ⟨b, h.2⟩) else 0

theorem has_entries {n0 n1 : ℕ} (x : (⟨2, ![n0, n1]⟩ : Shape).Idx → EReal) : Has x (entries x) := fun a b => by
  unfold entries
  rw [dif_pos ⟨a.isLt, b.isLt⟩]

/-- The six arguments by their entries: the input, the residual, the gate, up and out weights, and the output's gradient. -/
structure Args where
  (x res wg wu wo g : ℕ → ℕ → EReal)

namespace Args
variable (A : Args)

def gate (r j : ℕ) : EReal := ∑ d ∈ Finset.range 1024, A.x r d * A.wg d j
def up (r j : ℕ) : EReal := ∑ d ∈ Finset.range 1024, A.x r d * A.wu d j
def sig (r j : ℕ) : EReal := Ideal.logistic (A.gate r j)
def hid (r j : ℕ) : EReal := A.gate r j * A.sig r j * A.up r j
def out (r j : ℕ) : EReal := (∑ d ∈ Finset.range 2816, A.hid r d * A.wo d j) + A.res r j
def dhid (r j : ℕ) : EReal := ∑ d ∈ Finset.range 1024, A.g r d * A.wo j d
def dgate (r j : ℕ) : EReal :=
  A.dhid r j * A.up r j * A.sig r j + A.gate r j * (A.dhid r j * A.up r j) * (A.sig r j * (1 - A.sig r j))
def dup (r j : ℕ) : EReal := A.gate r j * A.sig r j * A.dhid r j
def dxg (r j : ℕ) : EReal := ∑ d ∈ Finset.range 2816, A.dgate r d * A.wg j d
def dx (r j : ℕ) : EReal := (∑ d ∈ Finset.range 2816, A.dup r d * A.wu j d) + A.dxg r j

end Args

/-- A sum with 1024 more terms. -/
theorem sum_more (f : ℕ → EReal) (n : ℕ) : ∑ k ∈ Finset.range (n + 1024), f k = ∑ k ∈ Finset.range n, f k + ∑ a ∈ Finset.range 1024, f (n + a) :=
  Finset.sum_range_add f n 1024

end Cert.Ffn

end
-- ==== Proof.ProjSpec.lean ====
/-
  Products of matrices given by their entries, as the projections' kernels and references both take them: the operations
  at any sizes, and a product of blocks as the block of the product.
-/
module

public import proofs.«01_k».proof.Proof.FfnSpec
public import Idealize.ShloMosaic.Lib.MatmulPlain
public import Idealize.ShloMosaic.Lib.StackMember

@[expose] public section

noncomputable section

namespace Cert.Ffn

open Idealize.ShloMosaic
open scoped BigOperators

/-- The product, its sum over `n` terms. -/
def times (n : ℕ) (f g : ℕ → ℕ → EReal) : ℕ → ℕ → EReal := fun a b => ∑ d ∈ Finset.range n, f a d * g d b

/-- The product with the second matrix transposed. -/
def timesT (n : ℕ) (f g : ℕ → ℕ → EReal) : ℕ → ℕ → EReal := fun a b => ∑ d ∈ Finset.range n, f a d * g b d

/-- The product with the first matrix transposed. -/
def Ttimes (n : ℕ) (f g : ℕ → ℕ → EReal) : ℕ → ℕ → EReal := fun a b => ∑ d ∈ Finset.range n, f d a * g d b

/-- The sum of two matrices. -/
def plus (f g : ℕ → ℕ → EReal) : ℕ → ℕ → EReal := fun a b => f a b + g a b

theorem plus_comm (f g : ℕ → ℕ → EReal) : plus f g = plus g f := funext fun _ => funext fun _ => add_comm _ _

theorem plus_assoc (f g h : ℕ → ℕ → EReal) : plus (plus f g) h = plus f (plus g h) := funext fun _ => funext fun _ => add_assoc _ _ _

/-! ## The operations, at any sizes and formats -/

section Operations
variable {M K N : ℕ} {φ₁ φ₂ : FTy} {f g h : ℕ → ℕ → EReal}

theorem has_plus {x y : FVec Ideal ⟨2, ![M, N]⟩ .f32} (hx : Has x f) (hy : Has y g) : Has (addf x y) (plus f g) := fun a b =>
  congrArg₂ (· + ·) (hx a b) (hy a b)

/-- A sum over the contracted coordinate. -/
theorem sum_entries (u v : ℕ → EReal) {p : Fin K → EReal} (hp : ∀ d : Fin K, p d = u d.val * v d.val) :
    ∑ d, p d = ∑ d ∈ Finset.range K, u d * v d := by
  rw [Finset.sum_range]
  exact Finset.sum_congr rfl fun d _ => hp d

/-- The kernel's product, into an accumulator of zeros. -/
theorem has_times {x : FVec Ideal ⟨2, ![M, K]⟩ φ₁} {y : FVec Ideal ⟨2, ![K, N]⟩ φ₂} (hx : Has x f) (hy : Has y g) :
    Has (matmul (DotDims.plain M K N) none x y (constant ⟨2, ![M, N]⟩ .f32 0x00000000#32)) (times K f g) := fun a b =>
  (Ideal.matmul_plain_apply none x y _ a b).trans
    ((congrArg₂ (· + ·) Ideal.ofBits_zero_f32 (sum_entries (f a.val) (g · b.val) fun d => congrArg₂ (· * ·) (hx a d) (hy d b))).trans (zero_add _))

/-- The kernel's product with the second matrix transposed. -/
theorem has_timesT {x : FVec Ideal ⟨2, ![M, K]⟩ φ₁} {y : FVec Ideal ⟨2, ![N, K]⟩ φ₂} (hx : Has x f) (hy : Has y g) :
    Has (matmul (DotDims.transposedRhs M K N) none x y (constant ⟨2, ![M, N]⟩ .f32 0x00000000#32)) (timesT K f g) := fun a b =>
  (Ideal.matmul_transposedRhs_apply none x y _ a b).trans
    ((congrArg₂ (· + ·) Ideal.ofBits_zero_f32 (sum_entries (f a.val) (g b.val) fun d => congrArg₂ (· * ·) (hx a d) (hy b d))).trans (zero_add _))

/-- The dimension numbers of the product with the first matrix transposed. -/
def firstTransposed (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The kernel's product with the first matrix transposed. -/
theorem has_Ttimes {x : FVec Ideal ⟨2, ![K, M]⟩ φ₁} {y : FVec Ideal ⟨2, ![K, N]⟩ φ₂} (hx : Has x f) (hy : Has y g) :
    Has (matmul (firstTransposed M K N) none x y (constant ⟨2, ![M, N]⟩ .f32 0x00000000#32)) (Ttimes K f g) := fun a b =>
  (Ideal.matmul_apply₁_of (firstTransposed M K N) (a := 0) rfl (K := K) rfl x y _ (ix2 a b) (fun k => ix2 k a) (fun k => ix2 k b)
    (fun k => by funext i; match i with | ⟨0, _⟩ => rfl | ⟨1, _⟩ => rfl) (fun k => by funext i; match i with | ⟨0, _⟩ => rfl | ⟨1, _⟩ => rfl)).trans
    ((congrArg₂ (· + ·) Ideal.ofBits_zero_f32 (sum_entries (f · a.val) (g · b.val) fun d => congrArg₂ (· * ·) (hx d a) (hy d b))).trans (zero_add _))

/-- The reference's product is the kernel's into zeros. -/
theorem has_dot {sl sr : Shape} {D : DotDims sl sr ⟨2, ![M, N]⟩} {x : FVec Ideal sl φ₁} {y : FVec Ideal sr φ₂}
    (hm : Has (matmul D none x y (constant ⟨2, ![M, N]⟩ .f32 0x00000000#32)) h) : Has (Host.dotGeneral D none x y) h := fun a b =>
  (congrFun (matmul_zero_eq_dotGeneral D none x y) (ix2 a b)).symm.trans (hm a b)

end Operations

/-! ## Blocks -/

/-- The entries from row `p` and column `q` on. -/
def from_ (p q : ℕ) (f : ℕ → ℕ → EReal) : ℕ → ℕ → EReal := fun a b => f (p + a) (q + b)

/-- The map `e` sends the indices of a block to where the block at the block index `i` sits in its array. -/
def Sits {n0 n1 N0 N1 : ℕ} (e : (⟨2, ![n0, n1]⟩ : Shape).Idx → (⟨2, ![N0, N1]⟩ : Shape).Idx) (i : Fin 2 → ℕ) : Prop :=
  ∀ y (a : Fin 2), (e y a : ℕ) = i a * (⟨2, ![n0, n1]⟩ : Shape).size a + 1 * (y a : ℕ)

/-- A block of an array has the array's entries from its corner on. -/
theorem has_block {n0 n1 N0 N1 : ℕ} {e : (⟨2, ![n0, n1]⟩ : Shape).Idx → (⟨2, ![N0, N1]⟩ : Shape).Idx} {i : Fin 2 → ℕ} (he : Sits e i)
    {X : (⟨2, ![N0, N1]⟩ : Shape).Idx → EReal} {f : ℕ → ℕ → EReal} (hX : X = whole N0 N1 f) :
    Has (fun y => X (e y)) (from_ (i 0 * n0) (i 1 * n1) f) := fun a b => by
  subst hX
  exact congrArg₂ f ((he (ix2 a b) 0).trans (congrArg _ (Nat.one_mul _))) ((he (ix2 a b) 1).trans (congrArg _ (Nat.one_mul _)))

/-- The same of a block that sits where another does. -/
theorem has_block_of {n0 n1 N0 N1 : ℕ} {e : (⟨2, ![n0, n1]⟩ : Shape).Idx → (⟨2, ![N0, N1]⟩ : Shape).Idx} {i o : Fin 2 → ℕ} (he : Sits e i)
    (h : i = o) {X : (⟨2, ![N0, N1]⟩ : Shape).Idx → EReal} {f : ℕ → ℕ → EReal} (hX : X = whole N0 N1 f) :
    Has (fun y => X (e y)) (from_ (o 0 * n0) (o 1 * n1) f) := h ▸ has_block he hX

/-- What has the entries from a block's corner on agrees with the array under the block. -/
theorem eq_at {n0 n1 N0 N1 : ℕ} {e : (⟨2, ![n0, n1]⟩ : Shape).Idx → (⟨2, ![N0, N1]⟩ : Shape).Idx} {i : Fin 2 → ℕ} (he : Sits e i)
    {x : (⟨2, ![n0, n1]⟩ : Shape).Idx → EReal} {f : ℕ → ℕ → EReal} (hx : Has x (from_ (i 0 * n0) (i 1 * n1) f)) (y : (⟨2, ![n0, n1]⟩ : Shape).Idx) :
    x y = whole N0 N1 f (e y) := by
  obtain ⟨a, b, rfl⟩ := pair_eq y
  exact (hx a b).trans (has_block he rfl a b).symm

/-- Rows from `p` on of the product are the product of these rows, and columns likewise. -/
theorem times_from (n p q : ℕ) (f g : ℕ → ℕ → EReal) : times n (from_ p 0 f) (from_ 0 q g) = from_ p q (times n f g) := by
  funext a b; simp only [times, from_, Nat.zero_add]

theorem timesT_from (n p q : ℕ) (f g : ℕ → ℕ → EReal) : timesT n (from_ p 0 f) (from_ q 0 g) = from_ p q (timesT n f g) := by
  funext a b; simp only [timesT, from_, Nat.zero_add]

theorem plus_from (p q : ℕ) (f g : ℕ → ℕ → EReal) : plus (from_ p q f) (from_ p q g) = from_ p q (plus f g) := rfl

section Calls
variable {n0 n1 k0 k1 N0 N1 K0 K1 L0 L1 l0 l1 : ℕ} {f g h : ℕ → ℕ → EReal} {i j o : Fin 2 → ℕ}
variable {X : (⟨2, ![N0, K0]⟩ : Shape).Idx → EReal} {Y : (⟨2, ![L0, L1]⟩ : Shape).Idx → EReal} {Z : (⟨2, ![N0, N1]⟩ : Shape).Idx → EReal}
variable {ex : (⟨2, ![n0, k0]⟩ : Shape).Idx → (⟨2, ![N0, K0]⟩ : Shape).Idx} {ey : (⟨2, ![l0, l1]⟩ : Shape).Idx → (⟨2, ![L0, L1]⟩ : Shape).Idx}
variable {eo ez : (⟨2, ![n0, n1]⟩ : Shape).Idx → (⟨2, ![N0, N1]⟩ : Shape).Idx}

/-- A call that takes a block of rows by a block of columns leaves the block of the product. -/
theorem product_at (hx : Sits ex i) (hy : Sits ey j) (ho : Sits eo o) (hX : X = whole N0 K0 f) (hY : Y = whole L0 L1 g)
    (hi : i = ![o 0, 0] ∧ j = ![0, o 1]) (hl : l1 = n1) {r : (⟨2, ![n0, n1]⟩ : Shape).Idx → EReal}
    (hr : ∀ u v, Has (fun y => X (ex y)) u → Has (fun y => Y (ey y)) v → Has r (times k0 u v)) (y : (⟨2, ![n0, n1]⟩ : Shape).Idx) :
    r y = whole N0 N1 (times k0 f g) (eo y) := by
  obtain ⟨rfl, rfl⟩ := hi
  subst hl
  refine eq_at ho ?_ y
  have := hr _ _ (has_block hx hX) (has_block hy hY)
  simp only [Matrix.cons_val_zero, Matrix.cons_val_one, Nat.zero_mul, times_from] at this
  exact this

/-- The same of a product with the second matrix transposed. -/
theorem productT_at (hx : Sits ex i) (hy : Sits ey j) (ho : Sits eo o) (hX : X = whole N0 K0 f) (hY : Y = whole L0 L1 g)
    (hi : i = ![o 0, 0] ∧ j = ![o 1, 0]) (hl : l0 = n1) {r : (⟨2, ![n0, n1]⟩ : Shape).Idx → EReal}
    (hr : ∀ u v, Has (fun y => X (ex y)) u → Has (fun y => Y (ey y)) v → Has r (timesT k0 u v)) (y : (⟨2, ![n0, n1]⟩ : Shape).Idx) :
    r y = whole N0 N1 (timesT k0 f g) (eo y) := by
  obtain ⟨rfl, rfl⟩ := hi
  subst hl
  refine eq_at ho ?_ y
  have := hr _ _ (has_block hx hX) (has_block hy hY)
  simp only [Matrix.cons_val_zero, Matrix.cons_val_one, Nat.zero_mul, timesT_from] at this
  exact this

/-- A call that adds the block of another array to what it computes leaves the block of the sum. -/
theorem sum_at (hz : Sits ez j) (ho : Sits eo o) (hZ : Z = whole N0 N1 h) (hj : j = o) {w z : FVec Ideal ⟨2, ![n0, n1]⟩ .f32}
    (hw : ∀ y, w y = whole N0 N1 f (eo y)) (hb : z = fun y => Z (ez y)) (y : (⟨2, ![n0, n1]⟩ : Shape).Idx) :
    addf w z y = whole N0 N1 (plus f h) (eo y) := by
  subst hj hZ hb
  have e : ez y = eo y := funext fun a => Fin.ext ((hz y a).trans (ho y a).symm)
  exact congrArg₂ (· + ·) (hw y) (congrArg _ e)

end Calls

end Cert.Ffn

end
-- ==== Proof.FfnArrays.lean ====
/-
  The arrays the feed-forward calls leave.
-/
module

public import proofs.«01_k».proof.Proof.ProjSpec
public import proofs.«01_k».proof.Proof.Gen.Kernel2Ideal.Frame
public import Idealize.ShloMosaic.Lib.Pipeline.ValueKit.Geometry
public import Idealize.ShloMosaic.Lib.Pipeline.ValueKit.Acc
public import Idealize.ShloMosaic.Lib.Pipeline.Value
public import Idealize.ShloMosaic.Lib.IdealHost

@[expose] public section

set_option maxRecDepth 16384

noncomputable section

namespace Cert.Kernel2Ideal.Ffn

open Idealize.ShloMosaic Idealize.ShloMosaic.TcCoe Cert.Ffn
open Cert.Kernel2Ideal Cert.Kernel2Ideal.Gen
open scoped BigOperators

/-! ## The gated activation and its derivative -/

theorem has_pay2 {x y : FVec Ideal S256x2816 .f32} {f g : ℕ → ℕ → EReal} (hx : Has x f) (hy : Has y g) :
    Has (k2_pay1 (F := Ideal) x y) (fun a b => f a b * Ideal.logistic (f a b) * g a b) := fun a b => by
  unfold k2_pay1
  rw [shapeCast_self, shapeCast_self]
  show x (ix2 a b) * Ideal.logistic (x (ix2 a b)) * y (ix2 a b) = _
  rw [hx a b, hy a b]

theorem has_pay5_4 {x y z : FVec Ideal S256x2816 .f32} {f g k : ℕ → ℕ → EReal} (hx : Has x f) (hy : Has y g) (hz : Has z k) :
    Has (k5_pay4 (F := Ideal) x y z)
      (fun a b => k a b * g a b * Ideal.logistic (f a b) + f a b * (k a b * g a b) * (Ideal.logistic (f a b) * (1 - Ideal.logistic (f a b)))) := fun a b => by
  unfold k5_pay4 k5_pay3 k5_pay2 k5_pay1
  rw [shapeCast_self, shapeCast_self, shapeCast_self]
  show z (ix2 a b) * y (ix2 a b) * Ideal.logistic (x (ix2 a b))
    + x (ix2 a b) * (z (ix2 a b) * y (ix2 a b)) * (Ideal.logistic (x (ix2 a b)) * (Ideal.ofBits .f32 0x3F800000#32 - Ideal.logistic (x (ix2 a b)))) = _
  rw [hx a b, hy a b, hz a b, Ideal.ofBits_one_f32]

theorem has_pay5_5 {x z : FVec Ideal S256x2816 .f32} {f k : ℕ → ℕ → EReal} (hx : Has x f) (hz : Has z k) :
    Has (k5_pay5 (F := Ideal) x z) (fun a b => f a b * Ideal.logistic (f a b) * k a b) := fun a b => by
  unfold k5_pay5 k5_pay3 k5_pay2 k5_pay1
  rw [shapeCast_self, shapeCast_self]
  show x (ix2 a b) * Ideal.logistic (x (ix2 a b)) * z (ix2 a b) = _
  rw [hx a b, hz a b]

/-! ## Where the operands' blocks sit, by the output's block -/

theorem index0 : ∀ t : Fin cfg0.N, win0_0.index t = ![win0_2.index t 0, 0] ∧ win0_1.index t = ![0, win0_2.index t 1] :=
  (by decide +kernel : ∀ t : Fin grid0.N, _)
theorem index1 : ∀ t : Fin cfg1.N, win1_0.index t = ![win1_2.index t 0, 0] ∧ win1_1.index t = ![0, win1_2.index t 1] :=
  (by decide +kernel : ∀ t : Fin grid1.N, _)
theorem index2 : ∀ t : Fin cfg2.N, win2_0.index t = win2_2.index t ∧ win2_1.index t = win2_2.index t :=
  (by decide +kernel : ∀ t : Fin grid2.N, _)
theorem index3 : ∀ t : Fin cfg3.N, (win3_0.index t = ![win3_3.index t 0, 0] ∧ win3_1.index t = ![0, win3_3.index t 1]) ∧ win3_2.index t = win3_3.index t :=
  (by decide +kernel : ∀ t : Fin grid3.N, _)
theorem index4 : ∀ t : Fin cfg4.N, win4_0.index t = ![win4_2.index t 0, 0] ∧ win4_1.index t = ![win4_2.index t 1, 0] :=
  (by decide +kernel : ∀ t : Fin grid4.N, _)
theorem index5 : ∀ t : Fin cfg5.N, (win5_0.index t = win5_3.index t ∧ win5_1.index t = win5_3.index t ∧ win5_2.index t = win5_3.index t)
    ∧ win5_4.index t = win5_3.index t :=
  (by decide +kernel : ∀ t : Fin grid5.N, _)
theorem index6 : ∀ t : Fin cfg6.N, win6_0.index t = ![win6_2.index t 0, 0] ∧ win6_1.index t = ![win6_2.index t 1, 0] :=
  (by decide +kernel : ∀ t : Fin grid6.N, _)
theorem index7 : ∀ t : Fin cfg7.N, (win7_0.index t = ![win7_3.index t 0, 0] ∧ win7_1.index t = ![win7_3.index t 1, 0]) ∧ win7_2.index t = win7_3.index t :=
  (by decide +kernel : ∀ t : Fin grid7.N, _)

/-! ## The arrays -/

variable (V : (c : Dev nD) → (b : Ref sig .tc) → Buf (Elt Ideal) ((c : Thread nD τ).loc b)) (c : Dev nD) {f g k : ℕ → ℕ → EReal}

theorem arr0 (hf : (V c main_arg0 : S4096x1024.Idx → EReal) = whole 4096 1024 f) (hg : (V c main_arg2 : S1024x2816.Idx → EReal) = whole 1024 2816 g) :
    (dat0 V c).arrAt 2 cfg0.N = whole 4096 2816 (times 1024 f g) :=
  (dat0 V c).arrAt_eq_of_covers 2 _ (by decide +kernel) fun t _ y => by
    rw [after0_2]
    frame_out
    exact product_at (i := win0_0.index t) (j := win0_1.index t) (o := win0_2.index t) (ex := (win0_0.blk t).view.emb) (ey := (win0_1.blk t).view.emb)
      (eo := (win0_2.blk t).view.emb) (fun _ _ => rfl) (fun _ _ => rfl) (fun _ _ => rfl) hf hg (index0 t) rfl (fun _ _ => has_times) y

theorem arr1 (hf : (V c main_arg0 : S4096x1024.Idx → EReal) = whole 4096 1024 f) (hg : (V c main_arg3 : S1024x2816.Idx → EReal) = whole 1024 2816 g) :
    (dat1 V c).arrAt 2 cfg1.N = whole 4096 2816 (times 1024 f g) :=
  (dat1 V c).arrAt_eq_of_covers 2 _ (by decide +kernel) fun t _ y => by
    rw [after1_2]
    frame_out
    exact product_at (i := win1_0.index t) (j := win1_1.index t) (o := win1_2.index t) (ex := (win1_0.blk t).view.emb) (ey := (win1_1.blk t).view.emb)
      (eo := (win1_2.blk t).view.emb) (fun _ _ => rfl) (fun _ _ => rfl) (fun _ _ => rfl) hf hg (index1 t) rfl (fun _ _ => has_times) y

theorem arr2 (hf : (V c main_v0 : S4096x2816.Idx → EReal) = whole 4096 2816 f) (hg : (V c main_v1 : S4096x2816.Idx → EReal) = whole 4096 2816 g) :
    (dat2 V c).arrAt 2 cfg2.N = whole 4096 2816 (fun a b => f a b * Ideal.logistic (f a b) * g a b) :=
  (dat2 V c).arrAt_eq_of_covers 2 _ (by decide +kernel) fun t _ y => by
    rw [after2_2]
    frame_out
    exact eq_at (f := fun a b => f a b * Ideal.logistic (f a b) * g a b)
      (i := win2_2.index t) (e := (win2_2.blk t).view.emb) (fun _ _ => rfl)
      (has_pay2 (has_block_of (i := win2_0.index t) (e := (win2_0.blk t).view.emb) (fun _ _ => rfl) (index2 t).1 hf)
        (has_block_of (i := win2_1.index t) (e := (win2_1.blk t).view.emb) (fun _ _ => rfl) (index2 t).2 hg)) y

theorem arr3 (hf : (V c main_v4 : S4096x2816.Idx → EReal) = whole 4096 2816 f) (hg : (V c main_arg4 : S2816x1024.Idx → EReal) = whole 2816 1024 g)
    (hk : (V c main_arg1 : S4096x1024.Idx → EReal) = whole 4096 1024 k) :
    (dat3 V c).arrAt 3 cfg3.N = whole 4096 1024 (plus (times 2816 f g) k) :=
  (dat3 V c).arrAt_eq_of_covers 3 _ (by decide +kernel) fun t _ y => by
    rw [after3_3]
    frame_out
    unfold k3_pay1
    simp only [shapeCast_self]
    exact sum_at (j := win3_2.index t) (o := win3_3.index t) (ez := (win3_2.blk t).view.emb) (fun _ _ => rfl) (fun _ _ => rfl) hk (index3 t).2
      (product_at (i := win3_0.index t) (j := win3_1.index t) (o := win3_3.index t) (ex := (win3_0.blk t).view.emb) (ey := (win3_1.blk t).view.emb)
      (eo := (win3_3.blk t).view.emb) (fun _ _ => rfl) (fun _ _ => rfl) (fun _ _ => rfl) hf hg (index3 t).1 rfl (fun _ _ => has_times))
      rfl y

theorem arr4 (hf : (V c main_arg5 : S4096x1024.Idx → EReal) = whole 4096 1024 f) (hg : (V c main_arg4 : S2816x1024.Idx → EReal) = whole 2816 1024 g) :
    (dat4 V c).arrAt 2 cfg4.N = whole 4096 2816 (timesT 1024 f g) :=
  (dat4 V c).arrAt_eq_of_covers 2 _ (by decide +kernel) fun t _ y => by
    rw [after4_2]
    frame_out
    exact productT_at (i := win4_0.index t) (j := win4_1.index t) (o := win4_2.index t) (ex := (win4_0.blk t).view.emb) (ey := (win4_1.blk t).view.emb)
      (eo := (win4_2.blk t).view.emb) (fun _ _ => rfl) (fun _ _ => rfl) (fun _ _ => rfl) hf hg (index4 t) rfl (fun _ _ => has_timesT) y

theorem arr5_3 (hf : (V c main_v0 : S4096x2816.Idx → EReal) = whole 4096 2816 f) (hg : (V c main_v1 : S4096x2816.Idx → EReal) = whole 4096 2816 g)
    (hk : (V c main_v7 : S4096x2816.Idx → EReal) = whole 4096 2816 k) :
    (dat5 V c).arrAt 3 cfg5.N = whole 4096 2816
      (fun a b => k a b * g a b * Ideal.logistic (f a b) + f a b * (k a b * g a b) * (Ideal.logistic (f a b) * (1 - Ideal.logistic (f a b)))) :=
  (dat5 V c).arrAt_eq_of_covers 3 _ (by decide +kernel) fun t _ y => by
    rw [after5_3]
    frame_out
    exact eq_at (f := fun a b => k a b * g a b * Ideal.logistic (f a b) + f a b * (k a b * g a b) * (Ideal.logistic (f a b) * (1 - Ideal.logistic (f a b))))
      (i := win5_3.index t) (e := (win5_3.blk t).view.emb) (fun _ _ => rfl)
      (has_pay5_4 (has_block_of (i := win5_0.index t) (e := (win5_0.blk t).view.emb) (fun _ _ => rfl) (index5 t).1.1 hf)
        (has_block_of (i := win5_1.index t) (e := (win5_1.blk t).view.emb) (fun _ _ => rfl) (index5 t).1.2.1 hg)
        (has_block_of (i := win5_2.index t) (e := (win5_2.blk t).view.emb) (fun _ _ => rfl) (index5 t).1.2.2 hk)) y

theorem arr5_4 (hf : (V c main_v0 : S4096x2816.Idx → EReal) = whole 4096 2816 f) (hk : (V c main_v7 : S4096x2816.Idx → EReal) = whole 4096 2816 k) :
    (dat5 V c).arrAt 4 cfg5.N = whole 4096 2816 (fun a b => f a b * Ideal.logistic (f a b) * k a b) :=
  (dat5 V c).arrAt_eq_of_covers 4 _ (by decide +kernel) fun t _ y => by
    rw [after5_4]
    frame_out
    exact eq_at (f := fun a b => f a b * Ideal.logistic (f a b) * k a b)
      (i := win5_4.index t) (e := (win5_4.blk t).view.emb) (fun _ _ => rfl)
      (has_pay5_5 (has_block_of (i := win5_0.index t) (e := (win5_0.blk t).view.emb) (fun _ _ => rfl) ((index5 t).1.1.trans (index5 t).2.symm) hf)
        (has_block_of (i := win5_2.index t) (e := (win5_2.blk t).view.emb) (fun _ _ => rfl) ((index5 t).1.2.2.trans (index5 t).2.symm) hk)) y

theorem arr6 (hf : (V c main_v9_0 : S4096x2816.Idx → EReal) = whole 4096 2816 f) (hg : (V c main_arg2 : S1024x2816.Idx → EReal) = whole 1024 2816 g) :
    (dat6 V c).arrAt 2 cfg6.N = whole 4096 1024 (timesT 2816 f g) :=
  (dat6 V c).arrAt_eq_of_covers 2 _ (by decide +kernel) fun t _ y => by
    rw [after6_2]
    frame_out
    unfold k6_pay1
    simp only [shapeCast_self]
    exact productT_at (i := win6_0.index t) (j := win6_1.index t) (o := win6_2.index t) (ex := (win6_0.blk t).view.emb) (ey := (win6_1.blk t).view.emb)
      (eo := (win6_2.blk t).view.emb) (fun _ _ => rfl) (fun _ _ => rfl) (fun _ _ => rfl) hf hg (index6 t) rfl (fun _ _ => has_timesT) y

theorem arr7 (hf : (V c main_v9_1 : S4096x2816.Idx → EReal) = whole 4096 2816 f) (hg : (V c main_arg3 : S1024x2816.Idx → EReal) = whole 1024 2816 g)
    (hk : (V c main_v10 : S4096x1024.Idx → EReal) = whole 4096 1024 k) :
    (dat7 V c).arrAt 3 cfg7.N = whole 4096 1024 (plus (timesT 2816 f g) k) :=
  (dat7 V c).arrAt_eq_of_covers 3 _ (by decide +kernel) fun t _ y => by
    rw [after7_3]
    frame_out
    unfold k7_pay1
    simp only [shapeCast_self]
    exact sum_at (j := win7_2.index t) (o := win7_3.index t) (ez := (win7_2.blk t).view.emb) (fun _ _ => rfl) (fun _ _ => rfl) hk (index7 t).2
      (productT_at (i := win7_0.index t) (j := win7_1.index t) (o := win7_3.index t) (ex := (win7_0.blk t).view.emb) (ey := (win7_1.blk t).view.emb)
      (eo := (win7_3.blk t).view.emb) (fun _ _ => rfl) (fun _ _ => rfl) (fun _ _ => rfl) hf hg (index7 t).1 rfl (fun _ _ => has_timesT))
      rfl y

end Cert.Kernel2Ideal.Ffn

end
-- ==== Proof.FfnResults.lean ====
/-
  The run of the feed-forward calls: what every buffer holds at the end, and the five results in closed form.
-/
module

public import proofs.«01_k».proof.Proof.FfnArrays
public import Idealize.ShloMosaic.Adequacy
public import Idealize.ShloMosaic.Init

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen Cert.Ffn

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the buffers at `W11` and every counter at zero. -/
theorem run_main : θ_run defs (onTc (τ := τ) (main (F := F))) ⟨m, fun _ => 0, ρ⟩ (fun r =>
      (∀ c : Dev nD, ∀ b ∈ Pipeline.ucRefs τ sig, r.2.mem ((c : Thread nD τ).1, b) = W11 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨h, funext fun g => hz g (.inr (no_unscoped g.2))⟩)

end Run

/-! ## The results -/

variable (m : (ℓ : Loc nD τ sig) → Buf (Elt Ideal) ℓ) (ρ : Dev nD → PrngReg) (c : Dev nD)

/-- The entries of the arguments in memory. -/
def argsOf : Args where
  x := entries (n0 := 4096) (n1 := 1024) (m ((c.tc : Thread nD τ).loc main_arg0))
  res := entries (n0 := 4096) (n1 := 1024) (m ((c.tc : Thread nD τ).loc main_arg1))
  wg := entries (n0 := 1024) (n1 := 2816) (m ((c.tc : Thread nD τ).loc main_arg2))
  wu := entries (n0 := 1024) (n1 := 2816) (m ((c.tc : Thread nD τ).loc main_arg3))
  wo := entries (n0 := 2816) (n1 := 1024) (m ((c.tc : Thread nD τ).loc main_arg4))
  g := entries (n0 := 4096) (n1 := 1024) (m ((c.tc : Thread nD τ).loc main_arg5))

theorem arg0_at0 : (V0 m ρ c main_arg0 : S4096x1024.Idx → EReal) = whole 4096 1024 (argsOf m c).x :=
  (W0_args m ρ c main_arg0 (by decide)).trans (eq_whole (has_entries (n0 := 4096) (n1 := 1024) _))
theorem arg2_at0 : (V0 m ρ c main_arg2 : S1024x2816.Idx → EReal) = whole 1024 2816 (argsOf m c).wg :=
  (W0_args m ρ c main_arg2 (by decide)).trans (eq_whole (has_entries (n0 := 1024) (n1 := 2816) _))
theorem arg0_at1 : (V1 m ρ c main_arg0 : S4096x1024.Idx → EReal) = whole 4096 1024 (argsOf m c).x :=
  (W1_args m ρ c main_arg0 (by decide)).trans (eq_whole (has_entries (n0 := 4096) (n1 := 1024) _))
theorem arg3_at1 : (V1 m ρ c main_arg3 : S1024x2816.Idx → EReal) = whole 1024 2816 (argsOf m c).wu :=
  (W1_args m ρ c main_arg3 (by decide)).trans (eq_whole (has_entries (n0 := 1024) (n1 := 2816) _))
theorem arg4_at5 : (V5 m ρ c main_arg4 : S2816x1024.Idx → EReal) = whole 2816 1024 (argsOf m c).wo :=
  (W5_args m ρ c main_arg4 (by decide)).trans (eq_whole (has_entries (n0 := 2816) (n1 := 1024) _))
theorem arg1_at5 : (V5 m ρ c main_arg1 : S4096x1024.Idx → EReal) = whole 4096 1024 (argsOf m c).res :=
  (W5_args m ρ c main_arg1 (by decide)).trans (eq_whole (has_entries (n0 := 4096) (n1 := 1024) _))
theorem arg5_at6 : (V6 m ρ c main_arg5 : S4096x1024.Idx → EReal) = whole 4096 1024 (argsOf m c).g :=
  (W6_args m ρ c main_arg5 (by decide)).trans (eq_whole (has_entries (n0 := 4096) (n1 := 1024) _))
theorem arg4_at6 : (V6 m ρ c main_arg4 : S2816x1024.Idx → EReal) = whole 2816 1024 (argsOf m c).wo :=
  (W6_args m ρ c main_arg4 (by decide)).trans (eq_whole (has_entries (n0 := 2816) (n1 := 1024) _))
theorem arg2_at9 : (V9 m ρ c main_arg2 : S1024x2816.Idx → EReal) = whole 1024 2816 (argsOf m c).wg :=
  (W9_args m ρ c main_arg2 (by decide)).trans (eq_whole (has_entries (n0 := 1024) (n1 := 2816) _))
theorem arg3_at10 : (V10 m ρ c main_arg3 : S1024x2816.Idx → EReal) = whole 1024 2816 (argsOf m c).wu :=
  (W10_args m ρ c main_arg3 (by decide)).trans (eq_whole (has_entries (n0 := 1024) (n1 := 2816) _))

theorem gate1 : (W1 m ρ c (Proc.devRef .tc main_v0) : S4096x2816.Idx → EReal) = whole 4096 2816 (argsOf m c).gate :=
  (W1_arr m ρ c 2).trans (arr0 (V0 m ρ) c (arg0_at0 m ρ c) (arg2_at0 m ρ c))
theorem gate3 : (W3 m ρ c (Proc.devRef .tc main_v0) : S4096x2816.Idx → EReal) = whole 4096 2816 (argsOf m c).gate :=
  ((W3_of m ρ c main_v0 (by decide)).trans (W2_of m ρ c main_v0 (by decide +kernel))).trans (gate1 m ρ c)
theorem gate8 : (W8 m ρ c (Proc.devRef .tc main_v0) : S4096x2816.Idx → EReal) = whole 4096 2816 (argsOf m c).gate :=
  (((((W8_of m ρ c main_v0 (by decide)).trans (W7_of m ρ c main_v0 (by decide +kernel))).trans (W6_of m ρ c main_v0 (by decide +kernel))).trans (W5_of m ρ c main_v0 (by decide))).trans (W4_of m ρ c main_v0 (by decide +kernel))).trans (gate3 m ρ c)
theorem up2 : (W2 m ρ c (Proc.devRef .tc main_v1) : S4096x2816.Idx → EReal) = whole 4096 2816 (argsOf m c).up :=
  (W2_arr m ρ c 2).trans (arr1 (V1 m ρ) c (arg0_at1 m ρ c) (arg3_at1 m ρ c))
theorem up3 : (W3 m ρ c (Proc.devRef .tc main_v1) : S4096x2816.Idx → EReal) = whole 4096 2816 (argsOf m c).up :=
  (W3_of m ρ c main_v1 (by decide)).trans (up2 m ρ c)
theorem up8 : (W8 m ρ c (Proc.devRef .tc main_v1) : S4096x2816.Idx → EReal) = whole 4096 2816 (argsOf m c).up :=
  (((((W8_of m ρ c main_v1 (by decide)).trans (W7_of m ρ c main_v1 (by decide +kernel))).trans (W6_of m ρ c main_v1 (by decide +kernel))).trans (W5_of m ρ c main_v1 (by decide))).trans (W4_of m ρ c main_v1 (by decide +kernel))).trans (up3 m ρ c)
theorem hid4 : (W4 m ρ c (Proc.devRef .tc main_v4) : S4096x2816.Idx → EReal) = whole 4096 2816 (argsOf m c).hid :=
  (W4_arr m ρ c 2).trans (arr2 (V3 m ρ) c (gate3 m ρ c) (up3 m ρ c))
theorem hid5 : (W5 m ρ c (Proc.devRef .tc main_v4) : S4096x2816.Idx → EReal) = whole 4096 2816 (argsOf m c).hid :=
  (W5_of m ρ c main_v4 (by decide)).trans (hid4 m ρ c)
theorem end_hid : (W11 m ρ c (Proc.devRef .tc main_v4) : S4096x2816.Idx → EReal) = whole 4096 2816 (argsOf m c).hid :=
  ((((((W11_of m ρ c main_v4 (by decide +kernel)).trans (W10_of m ρ c main_v4 (by decide +kernel))).trans (W9_of m ρ c main_v4 (by decide +kernel))).trans (W8_of m ρ c main_v4 (by decide))).trans (W7_of m ρ c main_v4 (by decide +kernel))).trans (W6_of m ρ c main_v4 (by decide +kernel))).trans (hid5 m ρ c)
theorem out6 : (W6 m ρ c (Proc.devRef .tc main_v6) : S4096x1024.Idx → EReal) = whole 4096 1024 (argsOf m c).out :=
  (W6_arr m ρ c 3).trans (arr3 (V5 m ρ) c (hid5 m ρ c) (arg4_at5 m ρ c) (arg1_at5 m ρ c))
theorem end_out : (W11 m ρ c (Proc.devRef .tc main_v6) : S4096x1024.Idx → EReal) = whole 4096 1024 (argsOf m c).out :=
  (((((W11_of m ρ c main_v6 (by decide +kernel)).trans (W10_of m ρ c main_v6 (by decide +kernel))).trans (W9_of m ρ c main_v6 (by decide +kernel))).trans (W8_of m ρ c main_v6 (by decide))).trans (W7_of m ρ c main_v6 (by decide +kernel))).trans (out6 m ρ c)
theorem dhid7 : (W7 m ρ c (Proc.devRef .tc main_v7) : S4096x2816.Idx → EReal) = whole 4096 2816 (argsOf m c).dhid :=
  (W7_arr m ρ c 2).trans (arr4 (V6 m ρ) c (arg5_at6 m ρ c) (arg4_at6 m ρ c))
theorem dhid8 : (W8 m ρ c (Proc.devRef .tc main_v7) : S4096x2816.Idx → EReal) = whole 4096 2816 (argsOf m c).dhid :=
  (W8_of m ρ c main_v7 (by decide)).trans (dhid7 m ρ c)
theorem dgate9 : (W9 m ρ c (Proc.devRef .tc main_v9_0) : S4096x2816.Idx → EReal) = whole 4096 2816 (argsOf m c).dgate :=
  (W9_arr m ρ c 3).trans (arr5_3 (V8 m ρ) c (gate8 m ρ c) (up8 m ρ c) (dhid8 m ρ c))
theorem end_dgate : (W11 m ρ c (Proc.devRef .tc main_v9_0) : S4096x2816.Idx → EReal) = whole 4096 2816 (argsOf m c).dgate :=
  ((W11_of m ρ c main_v9_0 (by decide +kernel)).trans (W10_of m ρ c main_v9_0 (by decide +kernel))).trans (dgate9 m ρ c)
theorem dup9 : (W9 m ρ c (Proc.devRef .tc main_v9_1) : S4096x2816.Idx → EReal) = whole 4096 2816 (argsOf m c).dup :=
  (W9_arr m ρ c 4).trans (arr5_4 (V8 m ρ) c (gate8 m ρ c) (dhid8 m ρ c))
theorem dup10 : (W10 m ρ c (Proc.devRef .tc main_v9_1) : S4096x2816.Idx → EReal) = whole 4096 2816 (argsOf m c).dup :=
  (W10_of m ρ c main_v9_1 (by decide +kernel)).trans (dup9 m ρ c)
theorem end_dup : (W11 m ρ c (Proc.devRef .tc main_v9_1) : S4096x2816.Idx → EReal) = whole 4096 2816 (argsOf m c).dup :=
  ((W11_of m ρ c main_v9_1 (by decide +kernel)).trans (W10_of m ρ c main_v9_1 (by decide +kernel))).trans (dup9 m ρ c)
theorem dxg10 : (W10 m ρ c (Proc.devRef .tc main_v10) : S4096x1024.Idx → EReal) = whole 4096 1024 (argsOf m c).dxg :=
  (W10_arr m ρ c 2).trans (arr6 (V9 m ρ) c (dgate9 m ρ c) (arg2_at9 m ρ c))
theorem end_dx : (W11 m ρ c (Proc.devRef .tc main_v11) : S4096x1024.Idx → EReal) = whole 4096 1024 (argsOf m c).dx :=
  (W11_arr m ρ c 3).trans (arr7 (V10 m ρ) c (dup10 m ρ c) (arg3_at10 m ρ c) (dxg10 m ρ c))

/-- The kernel's run, in closed form. -/
theorem kernel_run : θ_run (defs (F := Ideal)) (onTc (τ := τ) (main (F := Ideal))) ⟨m, fun _ => 0, ρ⟩ (fun r => ∀ c : Dev nD,
      r.2.mem ((c.tc : Thread nD τ).loc main_v6) = whole 4096 1024 (argsOf m c).out
      ∧ r.2.mem ((c.tc : Thread nD τ).loc main_v4) = whole 4096 2816 (argsOf m c).hid
      ∧ r.2.mem ((c.tc : Thread nD τ).loc main_v9_0) = whole 4096 2816 (argsOf m c).dgate
      ∧ r.2.mem ((c.tc : Thread nD τ).loc main_v9_1) = whole 4096 2816 (argsOf m c).dup
      ∧ r.2.mem ((c.tc : Thread nD τ).loc main_v11) = whole 4096 1024 (argsOf m c).dx
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    have hb : ∀ b : Ref sig .tc, ¬ (Proc.devRef .tc b : DevRef τ sig).isScoped → r.2.mem ((c.tc : Thread nD τ).loc b) = W11 m ρ c (Proc.devRef .tc b) :=
      fun b hs => h.1 c _ (mem_uc b hs)
    have ha : ∀ a : Ref sig .tc, a ∈ argRefs → ¬ (Proc.devRef .tc a : DevRef τ sig).isScoped → r.2.mem ((c.tc : Thread nD τ).loc a) = m ((c.tc : Thread nD τ).loc a) :=
      fun a hm hs => (hb a hs).trans (W11_args m ρ c a hm)
    ⟨(hb main_v6 (by decide)).trans (end_out m ρ c), (hb main_v4 (by decide)).trans (end_hid m ρ c),
     (hb main_v9_0 (by decide)).trans (end_dgate m ρ c), (hb main_v9_1 (by decide)).trans (end_dup m ρ c), (hb main_v11 (by decide)).trans (end_dx m ρ c),
     ha main_arg0 (by decide) (by decide), ha main_arg1 (by decide) (by decide), ha main_arg2 (by decide) (by decide),
     ha main_arg3 (by decide) (by decide), ha main_arg4 (by decide) (by decide), ha main_arg5 (by decide) (by decide)⟩) (run_main m ρ)

end Cert.Kernel2Ideal.Ffn

end
-- ==== Proof.FfnRef.lean ====
/-
  The feed-forward reference in stages, and its five results in the same closed form as the kernel's.
-/
module

public import proofs.«01_k».proof.Proof.FfnSpec
public import proofs.«01_k».proof.Proof.Gen.Reference2Ideal
public import proofs.«01_k».proof.Proof.Gen.Reference2Ideal.Run
public import Idealize.ShloMosaic.Lib.IdealHost

@[expose] public section

set_option maxRecDepth 16384

noncomputable section

namespace Cert.Reference2Ideal.Ffn

open Idealize.ShloMosaic Idealize.ShloMosaic.TcCoe Cert.Ffn
open Cert.Reference2Ideal Cert.Reference2Ideal.Gen
open scoped BigOperators

/-- The gate and up weights side by side. -/
def weights (wg wu : FVec Ideal S1024x2816 .bf16) : FVec Ideal S1024x5632 .f32 :=
  concatenate S1024x5632 1 [⟨S1024x2816, extf .f32 wg bitsLt_bf16_f32⟩, ⟨S1024x2816, extf .f32 wu bitsLt_bf16_f32⟩] concatenates_S1024x2816_S1024x2816_S1024x5632_d1

def both (x : FVec Ideal S4096x1024 .bf16) (w : FVec Ideal S1024x5632 .f32) : FVec Ideal S4096x5632 .f32 :=
  Host.dotGeneral dot_S4096x1024_S1024x5632_S4096x5632_1_0_0_1_n_n none (extf .f32 x bitsLt_bf16_f32) w

def left (x : FVec Ideal S4096x5632 .f32) : FVec Ideal S4096x2816 .f32 := extractStridedSlice S4096x2816 ![0, 0] x slices_S4096x5632_S4096x2816_0_0
def right (x : FVec Ideal S4096x5632 .f32) : FVec Ideal S4096x2816 .f32 := extractStridedSlice S4096x2816 ![0, 2816] x slices_S4096x5632_S4096x2816_0_2816

def ones : FVec Ideal S4096x2816 .f32 := broadcastInDim S4096x2816 ![] bcast_S_S4096x2816 (constant S_ .f32 0x3F800000#32)

def sigm (x : FVec Ideal S4096x2816 .f32) : FVec Ideal S4096x2816 .f32 := Host.divf ones (addf ones (Host.exp (Host.negf x)))

def hidden (x y : FVec Ideal S4096x2816 .f32) : FVec Ideal S4096x2816 .f32 := mulf (mulf x (sigm x)) y

def dhidden (g : FVec Ideal S4096x1024 .f32) (w : FVec Ideal S2816x1024 .bf16) : FVec Ideal S4096x2816 .f32 :=
  Host.dotGeneral dot_S4096x1024_S2816x1024_S4096x2816_1_1_0_0_n_n none g (extf .f32 w bitsLt_bf16_f32)

def dleft (x y d : FVec Ideal S4096x2816 .f32) : FVec Ideal S4096x2816 .f32 :=
  addf (mulf (mulf d y) (sigm x)) (mulf (mulf x (mulf d y)) (mulf (sigm x) (subf ones (sigm x))))

def dboth (x y d : FVec Ideal S4096x2816 .f32) : FVec Ideal S4096x5632 .f32 :=
  concatenate S4096x5632 1 [⟨S4096x2816, dleft x y d⟩, ⟨S4096x2816, hidden x d⟩] concatenates_S4096x2816_S4096x2816_S4096x5632_d1

section Stages
variable (m : (ℓ : Loc nD τ sig) → Buf (Elt Ideal) ℓ) (c : Dev nD)

def arg0 : FVec Ideal S4096x1024 .bf16 := m ((c.tc : Thread nD τ).loc main_arg0)
def arg1 : FVec Ideal S4096x1024 .f32 := m ((c.tc : Thread nD τ).loc main_arg1)
def arg2 : FVec Ideal S1024x2816 .bf16 := m ((c.tc : Thread nD τ).loc main_arg2)
def arg3 : FVec Ideal S1024x2816 .bf16 := m ((c.tc : Thread nD τ).loc main_arg3)
def arg4 : FVec Ideal S2816x1024 .bf16 := m ((c.tc : Thread nD τ).loc main_arg4)
def arg5 : FVec Ideal S4096x1024 .f32 := m ((c.tc : Thread nD τ).loc main_arg5)
def wts : FVec Ideal S1024x5632 .f32 := weights (arg2 m c) (arg3 m c)
def gate : FVec Ideal S4096x2816 .f32 := left (both (arg0 m c) (wts m c))
def up : FVec Ideal S4096x2816 .f32 := right (both (arg0 m c) (wts m c))
def dh : FVec Ideal S4096x2816 .f32 := dhidden (arg5 m c) (arg4 m c)
def dgu : FVec Ideal S4096x5632 .f32 := dboth (gate m c) (up m c) (dh m c)
/-- The five results. -/
def res0 : FVec Ideal S4096x1024 .f32 :=
  addf (arg1 m c) (Host.dotGeneral dot_S4096x2816_S2816x1024_S4096x1024_1_0_0_1_n_n none (hidden (gate m c) (up m c)) (extf .f32 (arg4 m c) bitsLt_bf16_f32))
def res1 : FVec Ideal S4096x2816 .bf16 := truncf .bf16 (hidden (gate m c) (up m c)) bitsLt_bf16_f32
def res2 : FVec Ideal S4096x2816 .bf16 := truncf .bf16 (left (dgu m c)) bitsLt_bf16_f32
def res3 : FVec Ideal S4096x2816 .bf16 := truncf .bf16 (right (dgu m c)) bitsLt_bf16_f32
def res4 : FVec Ideal S4096x1024 .f32 := Host.dotGeneral dot_S4096x5632_S1024x5632_S4096x1024_1_1_0_0_n_n none (dgu m c) (wts m c)

theorem res2_eq : Value.res_main_v21 m c = res2 m c := rfl
theorem res3_eq : Value.res_main_v22 m c = res3 m c := rfl
theorem res4_eq : Value.res_main_v17 m c = res4 m c := rfl
end Stages

/-! ## The stages, entry by entry -/

theorem has_weights {wg wu : FVec Ideal S1024x2816 .bf16} {f g : ℕ → ℕ → EReal} (hf : Has wg f) (hg : Has wu g) :
    Has (weights wg wu) (fun a b => if b < 2816 then f a b else g a (b - 2816)) := fun a b => by
  unfold weights
  pointwise
  split
  · rename_i hb; exact hf a ⟨b.val, hb⟩
  · exact hg a ⟨b.val - 2816, by have := b.isLt; omega⟩

theorem has_both {x : FVec Ideal S4096x1024 .bf16} {w : FVec Ideal S1024x5632 .f32} {f g : ℕ → ℕ → EReal} (hx : Has x f) (hw : Has w g) :
    Has (both x w) (fun a b => ∑ d ∈ Finset.range 1024, f a d * g d b) := fun a b => by
  unfold both
  pointwise
  rw [Finset.sum_range]
  exact Finset.sum_congr rfl fun d _ => congrArg₂ (· * ·) (hx a d) (hw d b)

theorem has_left {x : FVec Ideal S4096x5632 .f32} {f : ℕ → ℕ → EReal} (hx : Has x f) : Has (left x) f := fun a b => by
  unfold left
  pointwise
  exact hx a ⟨b.val, by have := b.isLt; omega⟩

theorem has_right {x : FVec Ideal S4096x5632 .f32} {f : ℕ → ℕ → EReal} (hx : Has x f) : Has (right x) (fun a b => f a (2816 + b)) := fun a b => by
  unfold right
  pointwise
  exact hx a ⟨2816 + b.val, by have := b.isLt; omega⟩

theorem ones_at (i : S4096x2816.Idx) : ones i = 1 := Ideal.ofBits_one_f32

theorem has_sigm {x : FVec Ideal S4096x2816 .f32} {f : ℕ → ℕ → EReal} (hx : Has x f) : Has (sigm x) (fun a b => Ideal.logistic (f a b)) := fun a b => by
  show Ideal.div (ones (ix2 a b)) (ones (ix2 a b) + Ideal.exp (-(x (ix2 a b)))) = _
  rw [ones_at, hx a b]
  rfl

theorem has_hidden {x y : FVec Ideal S4096x2816 .f32} {f g : ℕ → ℕ → EReal} (hx : Has x f) (hy : Has y g) :
    Has (hidden x y) (fun a b => f a b * Ideal.logistic (f a b) * g a b) := fun a b => by
  show x (ix2 a b) * sigm x (ix2 a b) * y (ix2 a b) = _
  rw [has_sigm hx a b, hx a b, hy a b]

theorem has_dhidden {g : FVec Ideal S4096x1024 .f32} {w : FVec Ideal S2816x1024 .bf16} {f k : ℕ → ℕ → EReal} (hg : Has g f) (hw : Has w k) :
    Has (dhidden g w) (fun a b => ∑ d ∈ Finset.range 1024, f a d * k b d) := fun a b => by
  unfold dhidden
  pointwise
  rw [Finset.sum_range]
  exact Finset.sum_congr rfl fun d _ => congrArg₂ (· * ·) (hg a d) (hw b d)

theorem has_dleft {x y d : FVec Ideal S4096x2816 .f32} {f g k : ℕ → ℕ → EReal} (hx : Has x f) (hy : Has y g) (hd : Has d k) :
    Has (dleft x y d) (fun a b => k a b * g a b * Ideal.logistic (f a b) + f a b * (k a b * g a b) * (Ideal.logistic (f a b) * (1 - Ideal.logistic (f a b)))) := fun a b => by
  show d (ix2 a b) * y (ix2 a b) * sigm x (ix2 a b) + x (ix2 a b) * (d (ix2 a b) * y (ix2 a b)) * (sigm x (ix2 a b) * (ones (ix2 a b) - sigm x (ix2 a b))) = _
  rw [has_sigm hx a b, hx a b, hy a b, hd a b, ones_at]

theorem has_dboth {x y d : FVec Ideal S4096x2816 .f32} {f g : ℕ → ℕ → EReal} (hl : Has (dleft x y d) f) (hr : Has (hidden x d) g) :
    Has (dboth x y d) (fun a b => if b < 2816 then f a b else g a (b - 2816)) := fun a b => by
  unfold dboth
  generalize dleft x y d = l at hl ⊢
  generalize hidden x d = r at hr ⊢
  pointwise
  split
  · rename_i hb; exact hl a ⟨b.val, hb⟩
  · exact hr a ⟨b.val - 2816, by have := b.isLt; omega⟩

theorem has_last {x : FVec Ideal S4096x2816 .f32} {w : FVec Ideal S2816x1024 .bf16} {f g : ℕ → ℕ → EReal} (hx : Has x f) (hw : Has w g) :
    Has (Host.dotGeneral dot_S4096x2816_S2816x1024_S4096x1024_1_0_0_1_n_n none x (extf .f32 w bitsLt_bf16_f32))
      (fun a b => ∑ d ∈ Finset.range 2816, f a d * g d b) := fun a b => by
  pointwise
  rw [Finset.sum_range]
  exact Finset.sum_congr rfl fun d _ => congrArg₂ (· * ·) (hx a d) (hw d b)

theorem has_dx {x : FVec Ideal S4096x5632 .f32} {w : FVec Ideal S1024x5632 .f32} {f g : ℕ → ℕ → EReal} (hx : Has x f) (hw : Has w g) :
    Has (Host.dotGeneral dot_S4096x5632_S1024x5632_S4096x1024_1_1_0_0_n_n none x w)
      (fun a b => ∑ d ∈ Finset.range 5632, f a d * g b d) := fun a b => by
  pointwise
  rw [Finset.sum_range]
  exact Finset.sum_congr rfl fun d _ => congrArg₂ (· * ·) (hx a d) (hw b d)

theorem sum_halves (f : ℕ → EReal) : ∑ d ∈ Finset.range 5632, f d = ∑ d ∈ Finset.range 2816, f d + ∑ d ∈ Finset.range 2816, f (2816 + d) :=
  Finset.sum_range_add f 2816 2816

/-! ## The results -/

section Results
variable {m : (ℓ : Loc nD τ sig) → Buf (Elt Ideal) ℓ} {c : Dev nD} {A : Args}
variable (h0 : Has (arg0 m c) A.x) (h1 : Has (arg1 m c) A.res) (h2 : Has (arg2 m c) A.wg) (h3 : Has (arg3 m c) A.wu) (h4 : Has (arg4 m c) A.wo)
  (h5 : Has (arg5 m c) A.g)

include h0 h2 h3 in
theorem has_gate : Has (gate m c) A.gate := fun a b => by
  refine (has_left (has_both h0 (has_weights h2 h3)) a b).trans (Finset.sum_congr rfl fun d _ => ?_)
  rw [if_pos b.isLt]

include h0 h2 h3 in
theorem has_up : Has (up m c) A.up := fun a b => by
  refine (has_right (has_both h0 (has_weights h2 h3)) a b).trans (Finset.sum_congr rfl fun d _ => ?_)
  rw [if_neg (by omega), Nat.add_sub_cancel_left]

include h4 h5 in
theorem has_dh : Has (dh m c) A.dhid := has_dhidden h5 h4

include h0 h2 h3 in
theorem has_hid : Has (hidden (gate m c) (up m c)) A.hid := has_hidden (has_gate h0 h2 h3) (has_up h0 h2 h3)

include h0 h1 h2 h3 h4 in
theorem has_res0 : Has (res0 m c) A.out := fun a b =>
  (congrArg₂ (· + ·) (h1 a b) (has_last (has_hid h0 h2 h3) h4 a b)).trans (add_comm _ _)

include h0 h2 h3 in
theorem has_res1 : Has (res1 m c) A.hid := has_hid h0 h2 h3

include h0 h2 h3 h4 h5 in
theorem has_dgu : Has (dgu m c) (fun a b => if b < 2816 then A.dgate a b else A.dup a (b - 2816)) :=
  has_dboth (has_dleft (has_gate h0 h2 h3) (has_up h0 h2 h3) (has_dh h4 h5)) (has_hidden (has_gate h0 h2 h3) (has_dh h4 h5))

include h0 h2 h3 h4 h5 in
theorem has_res2 : Has (res2 m c) A.dgate := fun a b =>
  (has_left (has_dgu h0 h2 h3 h4 h5) a b).trans (if_pos b.isLt)

include h0 h2 h3 h4 h5 in
theorem has_res3 : Has (res3 m c) A.dup := fun a b => by
  refine (has_right (has_dgu h0 h2 h3 h4 h5) a b).trans ?_
  dsimp only
  rw [if_neg (by omega), Nat.add_sub_cancel_left]

include h0 h2 h3 h4 h5 in
theorem has_res4 : Has (res4 m c) A.dx := fun a b => by
  refine (has_dx (has_dgu h0 h2 h3 h4 h5) (has_weights h2 h3) a b).trans ?_
  refine (sum_halves _).trans ((add_comm _ _).trans ?_)
  refine congrArg₂ (· + ·) (Finset.sum_congr rfl fun d _ => ?_) (Finset.sum_congr rfl fun d hd => ?_)
  · rw [if_neg (by omega), if_neg (by omega), Nat.add_sub_cancel_left]
  · rw [if_pos (Finset.mem_range.1 hd), if_pos (Finset.mem_range.1 hd)]

end Results

end Cert.Reference2Ideal.Ffn

end
-- ==== Proof.RowSum.lean ====
/-
  A weight's gradient: its sums over 4096 rows, gathered in four blocks of 1024 rows, anew for every block of the output; and
  that of a call that takes all rows at once.
-/
module

public import proofs.«01_k».proof.Proof.ProjSpec
public import Idealize.ShloMosaic.Lib.ValueLayout

@[expose] public section

noncomputable section

namespace Cert.Ffn

open Idealize.ShloMosaic
open scoped BigOperators

theorem has_entries_of {n0 n1 : ℕ} {x y : (⟨2, ![n0, n1]⟩ : Shape).Idx → EReal} (h : x = y) : Has x (entries y) := h ▸ has_entries _

/-- The sum over `n` rows and the sum over the next `k`. -/
theorem Ttimes_more (n k p q : ℕ) (f g : ℕ → ℕ → EReal) :
    plus (Ttimes n (from_ 0 p f) (from_ 0 q g)) (Ttimes k (from_ n p f) (from_ n q g)) = Ttimes (n + k) (from_ 0 p f) (from_ 0 q g) := by
  funext a b
  simp only [plus, Ttimes, from_, Nat.zero_add, Finset.sum_range_add]

/-- What a point's two blocks of rows give: their product, the first transposed. -/
abbrev rows (n0 n1 : ℕ) {φ₁ φ₂ : FTy} (x : FVec Ideal ⟨2, ![1024, n0]⟩ φ₁) (y : FVec Ideal ⟨2, ![1024, n1]⟩ φ₂) : FVec Ideal ⟨2, ![n0, n1]⟩ .f32 :=
  matmul (firstTransposed n0 1024 n1) none x y (constant ⟨2, ![n0, n1]⟩ .f32 0x00000000#32)

section Gather
variable {n0 n1 N0 N1 N : ℕ} {φ₁ φ₂ : FTy} {f g : ℕ → ℕ → EReal} {X : (⟨2, ![4096, N0]⟩ : Shape).Idx → EReal} {Y : (⟨2, ![4096, N1]⟩ : Shape).Idx → EReal}
variable {ex : Fin N → (⟨2, ![1024, n0]⟩ : Shape).Idx → (⟨2, ![4096, N0]⟩ : Shape).Idx} {ey : Fin N → (⟨2, ![1024, n1]⟩ : Shape).Idx → (⟨2, ![4096, N1]⟩ : Shape).Idx}
variable {eo : Fin N → (⟨2, ![n0, n1]⟩ : Shape).Idx → (⟨2, ![N0, N1]⟩ : Shape).Idx} {i j k : Fin N → Fin 2 → ℕ} (o : ℕ → Fin 2 → ℕ)
variable (S : (n : ℕ) → n < N → FVec Ideal ⟨2, ![n0, n1]⟩ .f32)

/-- An accumulator that starts with the point's rows at the first rows of an output's block `o`, and adds them at the others, holds the
    sum over the rows so far. -/
theorem gathered (hx : ∀ t, Sits (ex t) (i t)) (hy : ∀ t, Sits (ey t) (j t)) (hX : X = whole 4096 N0 f) (hY : Y = whole 4096 N1 g)
    (hi : ∀ t : Fin N, i t = ![t.val % 4, o (t.val / 4) 0] ∧ j t = ![t.val % 4, o (t.val / 4) 1] ∧ k t = o (t.val / 4))
    (first : ∀ t : Fin N, t.val % 4 = 0 → ∀ y, S t.val t.isLt y = rows n0 n1 (φ₁ := φ₁) (φ₂ := φ₂) (fun y => X (ex t y)) (fun y => Y (ey t y)) y)
    (next : ∀ t : Fin N, ¬t.val % 4 = 0 → ∀ y, S t.val t.isLt y
      = addf (S (t.val - 1) (Nat.lt_of_le_of_lt (Nat.sub_le _ _) t.isLt)) (rows n0 n1 (φ₁ := φ₁) (φ₂ := φ₂) (fun y => X (ex t y)) (fun y => Y (ey t y))) y)
    (n : ℕ) (hn : n < N) :
    Has (S n hn) (Ttimes (n % 4 * 1024 + 1024) (from_ 0 (o (n / 4) 0 * n0) f) (from_ 0 (o (n / 4) 1 * n1) g)) := by
  have point (t : Fin N) : Has (rows n0 n1 (φ₁ := φ₁) (φ₂ := φ₂) (fun y => X (ex t y)) (fun y => Y (ey t y)))
      (Ttimes 1024 (from_ (t.val % 4 * 1024) (o (t.val / 4) 0 * n0) f) (from_ (t.val % 4 * 1024) (o (t.val / 4) 1 * n1) g)) := by
    have bx := has_block (hx t) hX
    have bY := has_block (hy t) hY
    rw [(hi t).1] at bx
    rw [(hi t).2.1] at bY
    exact has_Ttimes bx bY
  have start (t : Fin N) (h0 : t.val % 4 = 0) : Has (S t.val t.isLt)
      (Ttimes (t.val % 4 * 1024 + 1024) (from_ 0 (o (t.val / 4) 0 * n0) f) (from_ 0 (o (t.val / 4) 1 * n1) g)) := fun a b => by
    refine (first t h0 _).trans ((point t a b).trans ?_)
    simp only [h0, Nat.zero_mul, Nat.zero_add]
  induction n with
  | zero => exact start ⟨0, hn⟩ rfl
  | succ n ih =>
    by_cases h0 : (n + 1) % 4 = 0
    · exact start ⟨n + 1, hn⟩ h0
    · have h1 : (n + 1) % 4 = n % 4 + 1 := by omega
      have h2 : (n + 1) / 4 = n / 4 := by omega
      have p := point ⟨n + 1, hn⟩
      simp only [h1, h2, Nat.succ_mul] at p ⊢
      intro a b
      refine (next ⟨n + 1, hn⟩ h0 _).trans ((has_plus (ih (Nat.lt_of_succ_lt hn)) p a b).trans ?_)
      rw [Ttimes_more]

/-- So at a block's last rows it holds the block of the gradient. -/
theorem gradient_at (hx : ∀ t, Sits (ex t) (i t)) (hy : ∀ t, Sits (ey t) (j t)) (ho : ∀ t, Sits (eo t) (k t)) (hX : X = whole 4096 N0 f)
    (hY : Y = whole 4096 N1 g)
    (hi : ∀ t : Fin N, i t = ![t.val % 4, o (t.val / 4) 0] ∧ j t = ![t.val % 4, o (t.val / 4) 1] ∧ k t = o (t.val / 4))
    (first : ∀ t : Fin N, t.val % 4 = 0 → ∀ y, S t.val t.isLt y = rows n0 n1 (φ₁ := φ₁) (φ₂ := φ₂) (fun y => X (ex t y)) (fun y => Y (ey t y)) y)
    (next : ∀ t : Fin N, ¬t.val % 4 = 0 → ∀ y, S t.val t.isLt y
      = addf (S (t.val - 1) (Nat.lt_of_le_of_lt (Nat.sub_le _ _) t.isLt)) (rows n0 n1 (φ₁ := φ₁) (φ₂ := φ₂) (fun y => X (ex t y)) (fun y => Y (ey t y))) y)
    (t : Fin N) (h3 : t.val % 4 = 3) (y : (⟨2, ![n0, n1]⟩ : Shape).Idx) : S t.val t.isLt y = whole N0 N1 (Ttimes 4096 f g) (eo t y) := by
  refine eq_at (ho t) (fun a b => ?_) y
  refine (gathered o S hx hy hX hY hi first next t.val t.isLt a b).trans ?_
  rw [h3, (hi t).2.2]
  simp only [Ttimes, from_, Nat.zero_add]

end Gather

theorem Ttimes_from (n p q : ℕ) (f g : ℕ → ℕ → EReal) : Ttimes n (from_ 0 p f) (from_ 0 q g) = from_ p q (Ttimes n f g) := by
  funext a b; simp only [Ttimes, from_, Nat.zero_add]

/-- A call that takes all rows at once leaves the block of the product, the first matrix transposed. -/
theorem Tproduct_at {n0 n1 k0 l0 l1 k1 N0 N1 K0 K1 L0 L1 : ℕ} {f g : ℕ → ℕ → EReal} {i j o : Fin 2 → ℕ}
    {X : (⟨2, ![K0, K1]⟩ : Shape).Idx → EReal} {Y : (⟨2, ![L0, L1]⟩ : Shape).Idx → EReal}
    {ex : (⟨2, ![k0, k1]⟩ : Shape).Idx → (⟨2, ![K0, K1]⟩ : Shape).Idx} {ey : (⟨2, ![l0, l1]⟩ : Shape).Idx → (⟨2, ![L0, L1]⟩ : Shape).Idx}
    {eo : (⟨2, ![n0, n1]⟩ : Shape).Idx → (⟨2, ![N0, N1]⟩ : Shape).Idx}
    (hx : Sits ex i) (hy : Sits ey j) (ho : Sits eo o) (hX : X = whole K0 K1 f) (hY : Y = whole L0 L1 g)
    (hi : i = ![0, o 0] ∧ j = ![0, o 1]) (hk : k1 = n0) (hl : l1 = n1) {r : (⟨2, ![n0, n1]⟩ : Shape).Idx → EReal}
    (hr : ∀ u v, Has (fun y => X (ex y)) u → Has (fun y => Y (ey y)) v → Has r (Ttimes k0 u v)) (y : (⟨2, ![n0, n1]⟩ : Shape).Idx) :
    r y = whole N0 N1 (Ttimes k0 f g) (eo y) := by
  obtain ⟨rfl, rfl⟩ := hi
  subst hk hl
  refine eq_at ho ?_ y
  have := hr _ _ (has_block hx hX) (has_block hy hY)
  simp only [Matrix.cons_val_zero, Matrix.cons_val_one, Nat.zero_mul, Ttimes_from] at this
  exact this

/-- The reference's gradient: the transpose of the product with the other matrix transposed. -/
theorem has_gradient {N0 N1 K : ℕ} {x : FVec Ideal ⟨2, ![K, N0]⟩ .f32} {y : FVec Ideal ⟨2, ![K, N1]⟩ .f32} {f g : ℕ → ℕ → EReal}
    (hx : Has x f) (hy : Has y g) (h : (⟨2, ![N1, N0]⟩ : Shape).Transposes [1, 0] ⟨2, ![N0, N1]⟩) :
    Has (transpose ⟨2, ![N0, N1]⟩ [1, 0] (Host.dotGeneral (firstTransposed N1 K N0) none y x) h) (Ttimes K f g) := fun a b => by
  refine (ValueIdx.transpose_ix2_apply _ h a b).trans ((has_dot (has_Ttimes hy hx) b a).trans ?_)
  exact Finset.sum_congr rfl fun _ _ => mul_comm _ _

end Cert.Ffn

end
-- ==== Proof.FfnAlgebraic.lean ====
/-
  The feed-forward kernel and its reference leave equal results: both leave the five matrices that `Args` names.
-/
module

public import proofs.«01_k».proof.Defs
public import proofs.«01_k».proof.Proof.FfnResults
public import proofs.«01_k».proof.Proof.FfnRef
public import proofs.«01_k».proof.Proof.RowSum

@[expose] public section

set_option maxRecDepth 16384

noncomputable section

namespace Cert.Kernel2Ideal.Ffn

open Idealize.ShloMosaic Idealize.ShloMosaic.TcCoe Idealize.SL.Sem Cert.Ffn
open Cert.Kernel2Ideal Cert.Kernel2Ideal.Gen

theorem algebraic : Cert.algebraic_Kernel2Ideal_Reference2Ideal (hKernel2Ideal := Cert.Kernel2Ideal.Gen.facts)
    (hReference2Ideal := Cert.Reference2Ideal.Gen.facts) := by
  intro m g m' g' hpre hargs
  refine ⟨fun c => whole 4096 1024 (argsOf m c).out, fun c => whole 4096 2816 (argsOf m c).hid, fun c => whole 4096 2816 (argsOf m c).dgate,
    fun c => whole 4096 2816 (argsOf m c).dup, fun c => whole 4096 1024 (argsOf m c).dx, kernel_run m g, ?_⟩
  refine (θ_run _ _ _).mono (fun r h c => ?_) (Cert.Reference2Ideal.Value.run (F := Ideal) m' g')
  obtain ⟨r0, r1, r2, r3, r4, hrest⟩ := h c
  obtain ⟨a0, a1, a2, a3, a4, a5⟩ := hargs c
  have h0 : Has (Cert.Reference2Ideal.Ffn.arg0 m' c) (argsOf m c).x := has_entries_of a0
  have h1 : Has (Cert.Reference2Ideal.Ffn.arg1 m' c) (argsOf m c).res := has_entries_of a1
  have h2 : Has (Cert.Reference2Ideal.Ffn.arg2 m' c) (argsOf m c).wg := has_entries_of a2
  have h3 : Has (Cert.Reference2Ideal.Ffn.arg3 m' c) (argsOf m c).wu := has_entries_of a3
  have h4 : Has (Cert.Reference2Ideal.Ffn.arg4 m' c) (argsOf m c).wo := has_entries_of a4
  have h5 : Has (Cert.Reference2Ideal.Ffn.arg5 m' c) (argsOf m c).g := has_entries_of a5
  have e0 : r.2.mem ((c.tc : Thread nD τ).loc Cert.Reference2Ideal.main_v11) = Cert.Reference2Ideal.Ffn.res0 m' c := r0
  have e1 : r.2.mem ((c.tc : Thread nD τ).loc Cert.Reference2Ideal.main_v20) = Cert.Reference2Ideal.Ffn.res1 m' c := r1
  have e2 := r2.trans (Cert.Reference2Ideal.Ffn.res2_eq m' c)
  have e3 := r3.trans (Cert.Reference2Ideal.Ffn.res3_eq m' c)
  have e4 := r4.trans (Cert.Reference2Ideal.Ffn.res4_eq m' c)
  exact ⟨e0.trans (eq_whole (Cert.Reference2Ideal.Ffn.has_res0 h0 h1 h2 h3 h4)), e1.trans (eq_whole (Cert.Reference2Ideal.Ffn.has_res1 h0 h2 h3)),
    e2.trans (eq_whole (Cert.Reference2Ideal.Ffn.has_res2 h0 h2 h3 h4 h5)), e3.trans (eq_whole (Cert.Reference2Ideal.Ffn.has_res3 h0 h2 h3 h4 h5)),
    e4.trans (eq_whole (Cert.Reference2Ideal.Ffn.has_res4 h0 h2 h3 h4 h5)), hrest⟩

end Cert.Kernel2Ideal.Ffn

end
-- ==== Proof.WeightGrad3.lean ====
/-
  The weight gradient of the feed-forward part's out weights: its sum over the rows,
  gathered in blocks of 1024 rows, is the reference's.
-/
module

public import proofs.«01_k».proof.Defs
public import proofs.«01_k».proof.Proof.RowSum
public import proofs.«01_k».proof.Proof.Gen.Kernel3Ideal.Value
public import proofs.«01_k».proof.Proof.Gen.Reference3Ideal
public import proofs.«01_k».proof.Proof.Gen.Reference3Ideal.Run
public import Idealize.ShloMosaic.Lib.Pipeline.ValueKit.Geometry
public import Idealize.ShloMosaic.Lib.Pipeline.ValueKit.Acc
public import Idealize.ShloMosaic.Lib.Pipeline.Value
public import Idealize.ShloMosaic.Lib.Pipeline.ReadBack
public import Idealize.ShloMosaic.Lib.IdealHost

@[expose] public section

set_option maxRecDepth 16384

noncomputable section

namespace Cert.Kernel3Ideal.Ffn

open Idealize.ShloMosaic Idealize.ShloMosaic.TcCoe Idealize.SL.Sem Cert.Ffn
open Cert.Kernel3Ideal Cert.Kernel3Ideal.Gen

/-- The output's blocks, one below the other, and the operands' blocks at them. -/
theorem index : ∀ t : Fin cfg0.N, win0_0.index t = ![t.val % 4, t.val / 4] ∧ win0_1.index t = ![t.val % 4, 0] ∧ win0_2.index t = ![t.val / 4, 0] :=
  (by decide +kernel : ∀ t : Fin grid0.N, _)

variable (m : (ℓ : Loc nD τ sig) → Buf (Elt Ideal) ℓ) (c : Dev nD)

/-- The accumulator at a block's first rows. -/
theorem first (t : Fin cfg0.N) (h0 : t.val % 4 = 0) (y : S1408x1024.Idx) : (outsAt0 m c t.val t.isLt).2 y = k0_pay1 (iblk m c 0 t) (iblk m c 1 t) y := by
  rw [outsAt0_A m c t h0 (by omega) (by omega)]
  frame_out
  rw [k0_pay2, shapeCast_self]

/-- The accumulator at the others. -/
theorem next (t : Fin cfg0.N) (h0 : ¬t.val % 4 = 0) (y : S1408x1024.Idx) : (outsAt0 m c t.val t.isLt).2 y
    = addf (F := Ideal) (φ := .f32) (outsAt0 m c (t.val - 1) (Nat.lt_of_le_of_lt (Nat.sub_le _ _) t.isLt)).2 (k0_pay1 (iblk m c 0 t) (iblk m c 1 t)) y := by
  by_cases h2 : t.val % 4 = 3
  · rw [outsAt0_C m c t h0 (by omega) h2]
    frame_out
    rw [read_unread_whole, k0_pay3, shapeCast_self]
  · rw [outsAt0_B m c t h0 (by omega) h2]
    frame_out
    rw [read_unread_whole, k0_pay3, shapeCast_self]

/-- The output's block, once the block's last rows are in, is the accumulator. -/
theorem last (t : Fin cfg0.N) (h3 : t.val % 4 = 3) (y : S1408x1024.Idx) :
    (show FVec Ideal S1408x1024 .bf16 from (outsAt0 m c t.val t.isLt).1) y = (show FVec Ideal S1408x1024 .f32 from (outsAt0 m c t.val t.isLt).2) y := by
  rw [outsAt0_C m c t (by omega) (by omega) h3]
  frame_out
  rfl

/-- The gradient: every entry the sum over all rows. -/
theorem gradient : (dats m 0 c).arrAt 2 cfg0.N = whole 2816 1024 (Ttimes 4096 (entries (n0 := 4096) (n1 := 2816) (m ((c.tc : Thread nD τ).loc main_arg0)))
    (entries (n0 := 4096) (n1 := 1024) (m ((c.tc : Thread nD τ).loc main_arg1)))) :=
  (dats m 0 c).arrAt_eq_of_covers 2 _ (by decide +kernel) fun t ht y => by
    have h3 : t.val % 4 = 3 := (flush0_2 t).1 ht
    rw [after0_2]
    exact (last m c t h3 y).trans (gradient_at (fun q => ![q, 0]) (fun n hn => (outsAt0 m c n hn).2) (i := fun t => win0_0.index t) (j := fun t => win0_1.index t)
      (k := fun t => win0_2.index t) (ex := fun t => (win0_0.blk t).view.emb) (ey := fun t => (win0_1.blk t).view.emb) (eo := fun t => (win0_2.blk t).view.emb)
      (fun _ _ _ => rfl) (fun _ _ _ => rfl) (fun _ _ _ => rfl) (eq_whole (has_entries _)) (eq_whole (has_entries _)) index (first m c) (next m c) t h3 y)

/-- The kernel and the reference leave equal gradients. -/
theorem algebraic : Cert.algebraic_Kernel3Ideal_Reference3Ideal (hKernel3Ideal := Cert.Kernel3Ideal.Gen.facts)
    (hReference3Ideal := Cert.Reference3Ideal.Gen.facts) := fun m g m' g' _ hargs =>
  ⟨fun c => whole 2816 1024 (Ttimes 4096 (entries (n0 := 4096) (n1 := 2816) (m ((c.tc : Thread nD τ).loc main_arg0)))
      (entries (n0 := 4096) (n1 := 1024) (m ((c.tc : Thread nD τ).loc main_arg1)))),
    (θ_run _ _ _).mono (fun r h c => ⟨(h c).1.trans (gradient m c), (h c).2⟩) (Cert.Kernel3Ideal.Value.run_blocks m g),
    (θ_run _ _ _).mono (fun r h c => ⟨(h c).1.trans (eq_whole (has_gradient (has_entries_of (hargs c).1) (has_entries_of (hargs c).2) _)), (h c).2⟩)
      (Cert.Reference3Ideal.Value.run (F := Ideal) m' g')⟩

end Cert.Kernel3Ideal.Ffn

end
-- ==== Proof.WeightGrad4.lean ====
/-
  The weight gradient of the feed-forward part's gate or up weights: its sum over the rows,
  gathered in blocks of 1024 rows, is the reference's.
-/
module

public import proofs.«01_k».proof.Defs
public import proofs.«01_k».proof.Proof.RowSum
public import proofs.«01_k».proof.Proof.Gen.Kernel4Ideal.Value
public import proofs.«01_k».proof.Proof.Gen.Reference4Ideal
public import proofs.«01_k».proof.Proof.Gen.Reference4Ideal.Run
public import Idealize.ShloMosaic.Lib.Pipeline.ValueKit.Geometry
public import Idealize.ShloMosaic.Lib.Pipeline.ValueKit.Acc
public import Idealize.ShloMosaic.Lib.Pipeline.Value
public import Idealize.ShloMosaic.Lib.Pipeline.ReadBack
public import Idealize.ShloMosaic.Lib.IdealHost

@[expose] public section

set_option maxRecDepth 16384

noncomputable section

namespace Cert.Kernel4Ideal.Ffn

open Idealize.ShloMosaic Idealize.ShloMosaic.TcCoe Idealize.SL.Sem Cert.Ffn
open Cert.Kernel4Ideal Cert.Kernel4Ideal.Gen

/-- The output's blocks, side by side, and the operands' blocks at them. -/
theorem index : ∀ t : Fin cfg0.N, win0_0.index t = ![t.val % 4, 0] ∧ win0_1.index t = ![t.val % 4, t.val / 4] ∧ win0_2.index t = ![0, t.val / 4] :=
  (by decide +kernel : ∀ t : Fin grid0.N, _)

variable (m : (ℓ : Loc nD τ sig) → Buf (Elt Ideal) ℓ) (c : Dev nD)

/-- The accumulator at a block's first rows. -/
theorem first (t : Fin cfg0.N) (h0 : t.val % 4 = 0) (y : S1024x1408.Idx) : (outsAt0 m c t.val t.isLt).2 y = k0_pay1 (iblk m c 0 t) (iblk m c 1 t) y := by
  rw [outsAt0_A m c t h0 (by omega) (by omega)]
  frame_out
  rw [k0_pay2, shapeCast_self]

/-- The accumulator at the others. -/
theorem next (t : Fin cfg0.N) (h0 : ¬t.val % 4 = 0) (y : S1024x1408.Idx) : (outsAt0 m c t.val t.isLt).2 y
    = addf (F := Ideal) (φ := .f32) (outsAt0 m c (t.val - 1) (Nat.lt_of_le_of_lt (Nat.sub_le _ _) t.isLt)).2 (k0_pay1 (iblk m c 0 t) (iblk m c 1 t)) y := by
  by_cases h2 : t.val % 4 = 3
  · rw [outsAt0_C m c t h0 (by omega) h2]
    frame_out
    rw [read_unread_whole, k0_pay3, shapeCast_self]
  · rw [outsAt0_B m c t h0 (by omega) h2]
    frame_out
    rw [read_unread_whole, k0_pay3, shapeCast_self]

/-- The output's block, once the block's last rows are in, is the accumulator. -/
theorem last (t : Fin cfg0.N) (h3 : t.val % 4 = 3) (y : S1024x1408.Idx) :
    (show FVec Ideal S1024x1408 .bf16 from (outsAt0 m c t.val t.isLt).1) y = (show FVec Ideal S1024x1408 .f32 from (outsAt0 m c t.val t.isLt).2) y := by
  rw [outsAt0_C m c t (by omega) (by omega) h3]
  frame_out
  rfl

/-- The gradient: every entry the sum over all rows. -/
theorem gradient : (dats m 0 c).arrAt 2 cfg0.N = whole 1024 2816 (Ttimes 4096 (entries (n0 := 4096) (n1 := 1024) (m ((c.tc : Thread nD τ).loc main_arg0)))
    (entries (n0 := 4096) (n1 := 2816) (m ((c.tc : Thread nD τ).loc main_arg1)))) :=
  (dats m 0 c).arrAt_eq_of_covers 2 _ (by decide +kernel) fun t ht y => by
    have h3 : t.val % 4 = 3 := (flush0_2 t).1 ht
    rw [after0_2]
    exact (last m c t h3 y).trans (gradient_at (fun q => ![0, q]) (fun n hn => (outsAt0 m c n hn).2) (i := fun t => win0_0.index t) (j := fun t => win0_1.index t)
      (k := fun t => win0_2.index t) (ex := fun t => (win0_0.blk t).view.emb) (ey := fun t => (win0_1.blk t).view.emb) (eo := fun t => (win0_2.blk t).view.emb)
      (fun _ _ _ => rfl) (fun _ _ _ => rfl) (fun _ _ _ => rfl) (eq_whole (has_entries _)) (eq_whole (has_entries _)) index (first m c) (next m c) t h3 y)

/-- The kernel and the reference leave equal gradients. -/
theorem algebraic : Cert.algebraic_Kernel4Ideal_Reference4Ideal (hKernel4Ideal := Cert.Kernel4Ideal.Gen.facts)
    (hReference4Ideal := Cert.Reference4Ideal.Gen.facts) := fun m g m' g' _ hargs =>
  ⟨fun c => whole 1024 2816 (Ttimes 4096 (entries (n0 := 4096) (n1 := 1024) (m ((c.tc : Thread nD τ).loc main_arg0)))
      (entries (n0 := 4096) (n1 := 2816) (m ((c.tc : Thread nD τ).loc main_arg1)))),
    (θ_run _ _ _).mono (fun r h c => ⟨(h c).1.trans (gradient m c), (h c).2⟩) (Cert.Kernel4Ideal.Value.run_blocks m g),
    (θ_run _ _ _).mono (fun r h c => ⟨(h c).1.trans (eq_whole (has_gradient (has_entries_of (hargs c).1) (has_entries_of (hargs c).2) _)), (h c).2⟩)
      (Cert.Reference4Ideal.Value.run (F := Ideal) m' g')⟩

end Cert.Kernel4Ideal.Ffn

end
-- ==== Proof.ProjFrames.lean ====
/-
  The frames of the projections' kernels at machine words, from the runs of the ideal texts, and of their references.
-/
module

public import proofs.«01_k».proof.Defs
public import proofs.«01_k».proof.Proof.Gen.Kernel5
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel17
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Kernel18
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Kernel19
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Kernel20
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Kernel21
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Kernel22
public import proofs.«01_k».proof.Proof.Gen.Kernel22Ideal.Frame
public import proofs.«01_k».proof.Proof.Gen.Reference22Ideal
public import proofs.«01_k».proof.Proof.Gen.Reference22Ideal.Run
public import Idealize.ShloMosaic.Adequacy
public import Idealize.ShloMosaic.Init

@[expose] public section

set_option maxRecDepth 16384

noncomputable section

open Idealize.ShloMosaic Idealize.SL.Sem

namespace Cert.Kernel5Ideal.Ffn

theorem frame_kernel : Cert.quiescent_Kernel5 (hKernel5 := Kernel5.Gen.facts) :=
  Eq.mpr (by chain_rfl) fun m ρ (_ : True) => Gen.frame (F := Bits) m ρ

theorem frame_ideal : Cert.quiescent_Kernel5Ideal (hKernel5Ideal := Kernel5Ideal.Gen.facts) := fun m ρ _ => Gen.frame (F := Ideal) m ρ

theorem frame_reference : Cert.quiescent_Reference5Ideal (hReference5Ideal := Cert.Reference5Ideal.Gen.facts) := fun m ρ _ =>
  (θ_run _ _ _).mono (fun r h => ⟨fun c => (h c).2.2.2.2.2.2.2.2.2, sem_eq_zero_of_no_sems (by decide) r.2⟩) (Cert.Reference5Ideal.Value.run (F := Ideal) m ρ)

end Cert.Kernel5Ideal.Ffn

namespace Cert.Kernel6Ideal.Ffn

theorem frame_kernel : Cert.quiescent_Kernel6 (hKernel6 := Kernel6.Gen.facts) :=
  Eq.mpr (by chain_rfl) fun m ρ (_ : True) => Gen.frame (F := Bits) m ρ

theorem frame_ideal : Cert.quiescent_Kernel6Ideal (hKernel6Ideal := Kernel6Ideal.Gen.facts) := fun m ρ _ => Gen.frame (F := Ideal) m ρ

theorem frame_reference : Cert.quiescent_Reference6Ideal (hReference6Ideal := Cert.Reference6Ideal.Gen.facts) := fun m ρ _ =>
  (θ_run _ _ _).mono (fun r h => ⟨fun c => (h c).2, sem_eq_zero_of_no_sems (by decide) r.2⟩) (Cert.Reference6Ideal.Value.run (F := Ideal) m ρ)

end Cert.Kernel6Ideal.Ffn

namespace Cert.Kernel7Ideal.Ffn

theorem frame_kernel : Cert.quiescent_Kernel7 (hKernel7 := Kernel7.Gen.facts) :=
  Eq.mpr (by chain_rfl) fun m ρ (_ : True) => Gen.frame (F := Bits) m ρ

theorem frame_ideal : Cert.quiescent_Kernel7Ideal (hKernel7Ideal := Kernel7Ideal.Gen.facts) := fun m ρ _ => Gen.frame (F := Ideal) m ρ

theorem frame_reference : Cert.quiescent_Reference7Ideal (hReference7Ideal := Cert.Reference7Ideal.Gen.facts) := fun m ρ _ =>
  (θ_run _ _ _).mono (fun r h => ⟨fun c => (h c).2, sem_eq_zero_of_no_sems (by decide) r.2⟩) (Cert.Reference7Ideal.Value.run (F := Ideal) m ρ)

end Cert.Kernel7Ideal.Ffn

namespace Cert.Kernel8Ideal.Ffn

theorem frame_kernel : Cert.quiescent_Kernel8 (hKernel8 := Kernel8.Gen.facts) :=
  Eq.mpr (by chain_rfl) fun m ρ (_ : True) => Gen.frame (F := Bits) m ρ

theorem frame_ideal : Cert.quiescent_Kernel8Ideal (hKernel8Ideal := Kernel8Ideal.Gen.facts) := fun m ρ _ => Gen.frame (F := Ideal) m ρ

theorem frame_reference : Cert.quiescent_Reference8Ideal (hReference8Ideal := Cert.Reference8Ideal.Gen.facts) := fun m ρ _ =>
  (θ_run _ _ _).mono (fun r h => ⟨fun c => (h c).2, sem_eq_zero_of_no_sems (by decide) r.2⟩) (Cert.Reference8Ideal.Value.run (F := Ideal) m ρ)

end Cert.Kernel8Ideal.Ffn

namespace Cert.Kernel9Ideal.Ffn

theorem frame_kernel : Cert.quiescent_Kernel9 (hKernel9 := Kernel9.Gen.facts) :=
  Eq.mpr (by chain_rfl) fun m ρ (_ : True) => Gen.frame (F := Bits) m ρ

theorem frame_ideal : Cert.quiescent_Kernel9Ideal (hKernel9Ideal := Kernel9Ideal.Gen.facts) := fun m ρ _ => Gen.frame (F := Ideal) m ρ

theorem frame_reference : Cert.quiescent_Reference9Ideal (hReference9Ideal := Cert.Reference9Ideal.Gen.facts) := fun m ρ _ =>
  (θ_run _ _ _).mono (fun r h => ⟨fun c => (h c).2, sem_eq_zero_of_no_sems (by decide) r.2⟩) (Cert.Reference9Ideal.Value.run (F := Ideal) m ρ)

end Cert.Kernel9Ideal.Ffn

namespace Cert.Kernel10Ideal.Ffn

theorem frame_kernel : Cert.quiescent_Kernel10 (hKernel10 := Kernel10.Gen.facts) :=
  Eq.mpr (by chain_rfl) fun m ρ (_ : True) => Gen.frame (F := Bits) m ρ

theorem frame_ideal : Cert.quiescent_Kernel10Ideal (hKernel10Ideal := Kernel10Ideal.Gen.facts) := fun m ρ _ => Gen.frame (F := Ideal) m ρ

theorem frame_reference : Cert.quiescent_Reference10Ideal (hReference10Ideal := Cert.Reference10Ideal.Gen.facts) := fun m ρ _ =>
  (θ_run _ _ _).mono (fun r h => ⟨fun c => (h c).2.2.2.2, sem_eq_zero_of_no_sems (by decide) r.2⟩) (Cert.Reference10Ideal.Value.run (F := Ideal) m ρ)

end Cert.Kernel10Ideal.Ffn

namespace Cert.Kernel11Ideal.Ffn

theorem frame_kernel : Cert.quiescent_Kernel11 (hKernel11 := Kernel11.Gen.facts) :=
  Eq.mpr (by chain_rfl) fun m ρ (_ : True) => Gen.frame (F := Bits) m ρ

theorem frame_ideal : Cert.quiescent_Kernel11Ideal (hKernel11Ideal := Kernel11Ideal.Gen.facts) := fun m ρ _ => Gen.frame (F := Ideal) m ρ

theorem frame_reference : Cert.quiescent_Reference11Ideal (hReference11Ideal := Cert.Reference11Ideal.Gen.facts) := fun m ρ _ =>
  (θ_run _ _ _).mono (fun r h => ⟨fun c => (h c).2, sem_eq_zero_of_no_sems (by decide) r.2⟩) (Cert.Reference11Ideal.Value.run (F := Ideal) m ρ)

end Cert.Kernel11Ideal.Ffn

namespace Cert.Kernel12Ideal.Ffn

theorem frame_kernel : Cert.quiescent_Kernel12 (hKernel12 := Kernel12.Gen.facts) :=
  Eq.mpr (by chain_rfl) fun m ρ (_ : True) => Gen.frame (F := Bits) m ρ

theorem frame_ideal : Cert.quiescent_Kernel12Ideal (hKernel12Ideal := Kernel12Ideal.Gen.facts) := fun m ρ _ => Gen.frame (F := Ideal) m ρ

theorem frame_reference : Cert.quiescent_Reference12Ideal (hReference12Ideal := Cert.Reference12Ideal.Gen.facts) := fun m ρ _ =>
  (θ_run _ _ _).mono (fun r h => ⟨fun c => (h c).2, sem_eq_zero_of_no_sems (by decide) r.2⟩) (Cert.Reference12Ideal.Value.run (F := Ideal) m ρ)

end Cert.Kernel12Ideal.Ffn

namespace Cert.Kernel13Ideal.Ffn

theorem frame_kernel : Cert.quiescent_Kernel13 (hKernel13 := Kernel13.Gen.facts) :=
  Eq.mpr (by chain_rfl) fun m ρ (_ : True) => Gen.frame (F := Bits) m ρ

theorem frame_ideal : Cert.quiescent_Kernel13Ideal (hKernel13Ideal := Kernel13Ideal.Gen.facts) := fun m ρ _ => Gen.frame (F := Ideal) m ρ

theorem frame_reference : Cert.quiescent_Reference13Ideal (hReference13Ideal := Cert.Reference13Ideal.Gen.facts) := fun m ρ _ =>
  (θ_run _ _ _).mono (fun r h => ⟨fun c => (h c).2.2.2.2.2.2, sem_eq_zero_of_no_sems (by decide) r.2⟩) (Cert.Reference13Ideal.Value.run (F := Ideal) m ρ)

end Cert.Kernel13Ideal.Ffn

namespace Cert.Kernel14Ideal.Ffn

theorem frame_kernel : Cert.quiescent_Kernel14 (hKernel14 := Kernel14.Gen.facts) :=
  Eq.mpr (by chain_rfl) fun m ρ (_ : True) => Gen.frame (F := Bits) m ρ

theorem frame_ideal : Cert.quiescent_Kernel14Ideal (hKernel14Ideal := Kernel14Ideal.Gen.facts) := fun m ρ _ => Gen.frame (F := Ideal) m ρ

theorem frame_reference : Cert.quiescent_Reference14Ideal (hReference14Ideal := Cert.Reference14Ideal.Gen.facts) := fun m ρ _ =>
  (θ_run _ _ _).mono (fun r h => ⟨fun c => (h c).2, sem_eq_zero_of_no_sems (by decide) r.2⟩) (Cert.Reference14Ideal.Value.run (F := Ideal) m ρ)

end Cert.Kernel14Ideal.Ffn

namespace Cert.Kernel15Ideal.Ffn

theorem frame_kernel : Cert.quiescent_Kernel15 (hKernel15 := Kernel15.Gen.facts) :=
  Eq.mpr (by chain_rfl) fun m ρ (_ : True) => Gen.frame (F := Bits) m ρ

theorem frame_ideal : Cert.quiescent_Kernel15Ideal (hKernel15Ideal := Kernel15Ideal.Gen.facts) := fun m ρ _ => Gen.frame (F := Ideal) m ρ

theorem frame_reference : Cert.quiescent_Reference15Ideal (hReference15Ideal := Cert.Reference15Ideal.Gen.facts) := fun m ρ _ =>
  (θ_run _ _ _).mono (fun r h => ⟨fun c => (h c).2, sem_eq_zero_of_no_sems (by decide) r.2⟩) (Cert.Reference15Ideal.Value.run (F := Ideal) m ρ)

end Cert.Kernel15Ideal.Ffn

namespace Cert.Kernel16Ideal.Ffn

theorem frame_kernel : Cert.quiescent_Kernel16 (hKernel16 := Kernel16.Gen.facts) :=
  Eq.mpr (by chain_rfl) fun m ρ (_ : True) => Gen.frame (F := Bits) m ρ

theorem frame_ideal : Cert.quiescent_Kernel16Ideal (hKernel16Ideal := Kernel16Ideal.Gen.facts) := fun m ρ _ => Gen.frame (F := Ideal) m ρ

theorem frame_reference : Cert.quiescent_Reference16Ideal (hReference16Ideal := Cert.Reference16Ideal.Gen.facts) := fun m ρ _ =>
  (θ_run _ _ _).mono (fun r h => ⟨fun c => (h c).2, sem_eq_zero_of_no_sems (by decide) r.2⟩) (Cert.Reference16Ideal.Value.run (F := Ideal) m ρ)

end Cert.Kernel16Ideal.Ffn

namespace Cert.Kernel17Ideal.Ffn

theorem frame_kernel : Cert.quiescent_Kernel17 (hKernel17 := Kernel17.Gen.facts) :=
  Eq.mpr (by chain_rfl) fun m ρ (_ : True) => Gen.frame (F := Bits) m ρ

theorem frame_ideal : Cert.quiescent_Kernel17Ideal (hKernel17Ideal := Kernel17Ideal.Gen.facts) := fun m ρ _ => Gen.frame (F := Ideal) m ρ

theorem frame_reference : Cert.quiescent_Reference17Ideal (hReference17Ideal := Cert.Reference17Ideal.Gen.facts) := fun m ρ _ =>
  (θ_run _ _ _).mono (fun r h => ⟨fun c => (h c).2, sem_eq_zero_of_no_sems (by decide) r.2⟩) (Cert.Reference17Ideal.Value.run (F := Ideal) m ρ)

end Cert.Kernel17Ideal.Ffn

namespace Cert.Kernel18Ideal.Ffn

theorem frame_kernel : Cert.quiescent_Kernel18 (hKernel18 := Kernel18.Gen.facts) :=
  Eq.mpr (by chain_rfl) fun m ρ (_ : True) => Gen.frame (F := Bits) m ρ

theorem frame_ideal : Cert.quiescent_Kernel18Ideal (hKernel18Ideal := Kernel18Ideal.Gen.facts) := fun m ρ _ => Gen.frame (F := Ideal) m ρ

theorem frame_reference : Cert.quiescent_Reference18Ideal (hReference18Ideal := Cert.Reference18Ideal.Gen.facts) := fun m ρ _ =>
  (θ_run _ _ _).mono (fun r h => ⟨fun c => (h c).2, sem_eq_zero_of_no_sems (by decide) r.2⟩) (Cert.Reference18Ideal.Value.run (F := Ideal) m ρ)

end Cert.Kernel18Ideal.Ffn

namespace Cert.Kernel19Ideal.Ffn

theorem frame_kernel : Cert.quiescent_Kernel19 (hKernel19 := Kernel19.Gen.facts) :=
  Eq.mpr (by chain_rfl) fun m ρ (_ : True) => Gen.frame (F := Bits) m ρ

theorem frame_ideal : Cert.quiescent_Kernel19Ideal (hKernel19Ideal := Kernel19Ideal.Gen.facts) := fun m ρ _ => Gen.frame (F := Ideal) m ρ

theorem frame_reference : Cert.quiescent_Reference19Ideal (hReference19Ideal := Cert.Reference19Ideal.Gen.facts) := fun m ρ _ =>
  (θ_run _ _ _).mono (fun r h => ⟨fun c => (h c).2, sem_eq_zero_of_no_sems (by decide) r.2⟩) (Cert.Reference19Ideal.Value.run (F := Ideal) m ρ)

end Cert.Kernel19Ideal.Ffn

namespace Cert.Kernel20Ideal.Ffn

theorem frame_kernel : Cert.quiescent_Kernel20 (hKernel20 := Kernel20.Gen.facts) :=
  Eq.mpr (by chain_rfl) fun m ρ (_ : True) => Gen.frame (F := Bits) m ρ

theorem frame_ideal : Cert.quiescent_Kernel20Ideal (hKernel20Ideal := Kernel20Ideal.Gen.facts) := fun m ρ _ => Gen.frame (F := Ideal) m ρ

theorem frame_reference : Cert.quiescent_Reference20Ideal (hReference20Ideal := Cert.Reference20Ideal.Gen.facts) := fun m ρ _ =>
  (θ_run _ _ _).mono (fun r h => ⟨fun c => (h c).2, sem_eq_zero_of_no_sems (by decide) r.2⟩) (Cert.Reference20Ideal.Value.run (F := Ideal) m ρ)

end Cert.Kernel20Ideal.Ffn

namespace Cert.Kernel21Ideal.Ffn

theorem frame_kernel : Cert.quiescent_Kernel21 (hKernel21 := Kernel21.Gen.facts) :=
  Eq.mpr (by chain_rfl) fun m ρ (_ : True) => Gen.frame (F := Bits) m ρ

theorem frame_ideal : Cert.quiescent_Kernel21Ideal (hKernel21Ideal := Kernel21Ideal.Gen.facts) := fun m ρ _ => Gen.frame (F := Ideal) m ρ

theorem frame_reference : Cert.quiescent_Reference21Ideal (hReference21Ideal := Cert.Reference21Ideal.Gen.facts) := fun m ρ _ =>
  (θ_run _ _ _).mono (fun r h => ⟨fun c => (h c).2.2.2.2.2, sem_eq_zero_of_no_sems (by decide) r.2⟩) (Cert.Reference21Ideal.Value.run (F := Ideal) m ρ)

end Cert.Kernel21Ideal.Ffn

namespace Cert.Kernel22Ideal.Ffn

theorem frame_kernel : Cert.quiescent_Kernel22 (hKernel22 := Kernel22.Gen.facts) :=
  Eq.mpr (by chain_rfl) fun m ρ (_ : True) => Gen.frame (F := Bits) m ρ

theorem frame_ideal : Cert.quiescent_Kernel22Ideal (hKernel22Ideal := Kernel22Ideal.Gen.facts) := fun m ρ _ => Gen.frame (F := Ideal) m ρ

theorem frame_reference : Cert.quiescent_Reference22Ideal (hReference22Ideal := Cert.Reference22Ideal.Gen.facts) := fun m ρ _ =>
  (θ_run _ _ _).mono (fun r h => ⟨fun c => (h c).2.2.2.2, sem_eq_zero_of_no_sems (by decide) r.2⟩) (Cert.Reference22Ideal.Value.run (F := Ideal) m ρ)

end Cert.Kernel22Ideal.Ffn

end
-- ==== Proof.InArrays.lean ====
/-
  The arrays the in-projection's sixteen calls leave: eight products with the weights, and the chain of
  eight products that gathers the input's gradient.
-/
module

public import proofs.«01_k».proof.Proof.ProjSpec
public import proofs.«01_k».proof.Proof.Gen.Kernel5Ideal.Frame
public import Idealize.ShloMosaic.Lib.Pipeline.ValueKit.Geometry
public import Idealize.ShloMosaic.Lib.Pipeline.ValueKit.Acc
public import Idealize.ShloMosaic.Lib.Pipeline.Value
public import Idealize.ShloMosaic.Lib.IdealHost

@[expose] public section

set_option maxRecDepth 16384

noncomputable section

namespace Cert.Kernel5Ideal.Ffn

open Idealize.ShloMosaic Idealize.ShloMosaic.TcCoe Cert.Ffn
open Cert.Kernel5Ideal Cert.Kernel5Ideal.Gen
open scoped BigOperators

/-! ## Where the operands' blocks sit, by the output's block -/

theorem index0 : ∀ t : Fin cfg0.N, win0_0.index t = ![win0_2.index t 0, 0] ∧ win0_1.index t = ![0, win0_2.index t 1] :=
  (by decide +kernel : ∀ t : Fin grid0.N, _)
theorem index1 : ∀ t : Fin cfg1.N, win1_0.index t = ![win1_2.index t 0, 0] ∧ win1_1.index t = ![0, win1_2.index t 1] :=
  (by decide +kernel : ∀ t : Fin grid1.N, _)
theorem index2 : ∀ t : Fin cfg2.N, win2_0.index t = ![win2_2.index t 0, 0] ∧ win2_1.index t = ![0, win2_2.index t 1] :=
  (by decide +kernel : ∀ t : Fin grid2.N, _)
theorem index3 : ∀ t : Fin cfg3.N, win3_0.index t = ![win3_2.index t 0, 0] ∧ win3_1.index t = ![0, win3_2.index t 1] :=
  (by decide +kernel : ∀ t : Fin grid3.N, _)
theorem index4 : ∀ t : Fin cfg4.N, win4_0.index t = ![win4_2.index t 0, 0] ∧ win4_1.index t = ![0, win4_2.index t 1] :=
  (by decide +kernel : ∀ t : Fin grid4.N, _)
theorem index5 : ∀ t : Fin cfg5.N, win5_0.index t = ![win5_2.index t 0, 0] ∧ win5_1.index t = ![0, win5_2.index t 1] :=
  (by decide +kernel : ∀ t : Fin grid5.N, _)
theorem index6 : ∀ t : Fin cfg6.N, win6_0.index t = ![win6_2.index t 0, 0] ∧ win6_1.index t = ![0, win6_2.index t 1] :=
  (by decide +kernel : ∀ t : Fin grid6.N, _)
theorem index7 : ∀ t : Fin cfg7.N, win7_0.index t = ![win7_2.index t 0, 0] ∧ win7_1.index t = ![0, win7_2.index t 1] :=
  (by decide +kernel : ∀ t : Fin grid7.N, _)
theorem index8 : ∀ t : Fin cfg8.N, win8_0.index t = ![win8_2.index t 0, 0] ∧ win8_1.index t = ![win8_2.index t 1, 0] :=
  (by decide +kernel : ∀ t : Fin grid8.N, _)
theorem index9 : ∀ t : Fin cfg9.N, (win9_0.index t = ![win9_3.index t 0, 0] ∧ win9_1.index t = ![win9_3.index t 1, 0]) ∧ win9_2.index t = win9_3.index t :=
  (by decide +kernel : ∀ t : Fin grid9.N, _)
theorem index10 : ∀ t : Fin cfg10.N, (win10_0.index t = ![win10_3.index t 0, 0] ∧ win10_1.index t = ![win10_3.index t 1, 0]) ∧ win10_2.index t = win10_3.index t :=
  (by decide +kernel : ∀ t : Fin grid10.N, _)
theorem index11 : ∀ t : Fin cfg11.N, (win11_0.index t = ![win11_3.index t 0, 0] ∧ win11_1.index t = ![win11_3.index t 1, 0]) ∧ win11_2.index t = win11_3.index t :=
  (by decide +kernel : ∀ t : Fin grid11.N, _)
theorem index12 : ∀ t : Fin cfg12.N, (win12_0.index t = ![win12_3.index t 0, 0] ∧ win12_1.index t = ![win12_3.index t 1, 0]) ∧ win12_2.index t = win12_3.index t :=
  (by decide +kernel : ∀ t : Fin grid12.N, _)
theorem index13 : ∀ t : Fin cfg13.N, (win13_0.index t = ![win13_3.index t 0, 0] ∧ win13_1.index t = ![win13_3.index t 1, 0]) ∧ win13_2.index t = win13_3.index t :=
  (by decide +kernel : ∀ t : Fin grid13.N, _)
theorem index14 : ∀ t : Fin cfg14.N, (win14_0.index t = ![win14_3.index t 0, 0] ∧ win14_1.index t = ![win14_3.index t 1, 0]) ∧ win14_2.index t = win14_3.index t :=
  (by decide +kernel : ∀ t : Fin grid14.N, _)
theorem index15 : ∀ t : Fin cfg15.N, (win15_0.index t = ![win15_3.index t 0, 0] ∧ win15_1.index t = ![win15_3.index t 1, 0]) ∧ win15_2.index t = win15_3.index t :=
  (by decide +kernel : ∀ t : Fin grid15.N, _)

/-! ## The arrays -/

variable (V : (c : Dev nD) → (b : Ref sig .tc) → Buf (Elt Ideal) ((c : Thread nD τ).loc b)) (c : Dev nD) {f g k : ℕ → ℕ → EReal}

theorem arr0 (hf : (V c main_arg0 : S4096x1024.Idx → EReal) = whole 4096 1024 f) (hg : (V c main_arg1 : S1024x1024.Idx → EReal) = whole 1024 1024 g) :
    (dat0 V c).arrAt 2 cfg0.N = whole 4096 1024 (times 1024 f g) :=
  (dat0 V c).arrAt_eq_of_covers 2 _ (by decide +kernel) fun t _ y => by
    rw [after0_2]
    frame_out
    exact product_at (i := win0_0.index t) (j := win0_1.index t) (o := win0_2.index t) (ex := (win0_0.blk t).view.emb) (ey := (win0_1.blk t).view.emb)
      (eo := (win0_2.blk t).view.emb) (fun _ _ => rfl) (fun _ _ => rfl) (fun _ _ => rfl) hf hg (index0 t) rfl (fun _ _ => has_times) y

theorem arr1 (hf : (V c main_arg0 : S4096x1024.Idx → EReal) = whole 4096 1024 f) (hg : (V c main_arg2 : S1024x2048.Idx → EReal) = whole 1024 2048 g) :
    (dat1 V c).arrAt 2 cfg1.N = whole 4096 2048 (times 1024 f g) :=
  (dat1 V c).arrAt_eq_of_covers 2 _ (by decide +kernel) fun t _ y => by
    rw [after1_2]
    frame_out
    exact product_at (i := win1_0.index t) (j := win1_1.index t) (o := win1_2.index t) (ex := (win1_0.blk t).view.emb) (ey := (win1_1.blk t).view.emb)
      (eo := (win1_2.blk t).view.emb) (fun _ _ => rfl) (fun _ _ => rfl) (fun _ _ => rfl) hf hg (index1 t) rfl (fun _ _ => has_times) y

theorem arr2 (hf : (V c main_arg0 : S4096x1024.Idx → EReal) = whole 4096 1024 f) (hg : (V c main_arg3 : S1024x128.Idx → EReal) = whole 1024 128 g) :
    (dat2 V c).arrAt 2 cfg2.N = whole 4096 128 (times 1024 f g) :=
  (dat2 V c).arrAt_eq_of_covers 2 _ (by decide +kernel) fun t _ y => by
    rw [after2_2]
    frame_out
    exact product_at (i := win2_0.index t) (j := win2_1.index t) (o := win2_2.index t) (ex := (win2_0.blk t).view.emb) (ey := (win2_1.blk t).view.emb)
      (eo := (win2_2.blk t).view.emb) (fun _ _ => rfl) (fun _ _ => rfl) (fun _ _ => rfl) hf hg (index2 t) rfl (fun _ _ => has_times) y

theorem arr3 (hf : (V c main_arg0 : S4096x1024.Idx → EReal) = whole 4096 1024 f) (hg : (V c main_arg4 : S1024x2048.Idx → EReal) = whole 1024 2048 g) :
    (dat3 V c).arrAt 2 cfg3.N = whole 4096 2048 (times 1024 f g) :=
  (dat3 V c).arrAt_eq_of_covers 2 _ (by decide +kernel) fun t _ y => by
    rw [after3_2]
    frame_out
    exact product_at (i := win3_0.index t) (j := win3_1.index t) (o := win3_2.index t) (ex := (win3_0.blk t).view.emb) (ey := (win3_1.blk t).view.emb)
      (eo := (win3_2.blk t).view.emb) (fun _ _ => rfl) (fun _ _ => rfl) (fun _ _ => rfl) hf hg (index3 t) rfl (fun _ _ => has_times) y

theorem arr4 (hf : (V c main_arg0 : S4096x1024.Idx → EReal) = whole 4096 1024 f) (hg : (V c main_arg5 : S1024x384.Idx → EReal) = whole 1024 384 g) :
    (dat4 V c).arrAt 2 cfg4.N = whole 4096 384 (times 1024 f g) :=
  (dat4 V c).arrAt_eq_of_covers 2 _ (by decide +kernel) fun t _ y => by
    rw [after4_2]
    frame_out
    exact product_at (i := win4_0.index t) (j := win4_1.index t) (o := win4_2.index t) (ex := (win4_0.blk t).view.emb) (ey := (win4_1.blk t).view.emb)
      (eo := (win4_2.blk t).view.emb) (fun _ _ => rfl) (fun _ _ => rfl) (fun _ _ => rfl) hf hg (index4 t) rfl (fun _ _ => has_times) y

theorem arr5 (hf : (V c main_arg0 : S4096x1024.Idx → EReal) = whole 4096 1024 f) (hg : (V c main_arg6 : S1024x256.Idx → EReal) = whole 1024 256 g) :
    (dat5 V c).arrAt 2 cfg5.N = whole 4096 256 (times 1024 f g) :=
  (dat5 V c).arrAt_eq_of_covers 2 _ (by decide +kernel) fun t _ y => by
    rw [after5_2]
    frame_out
    exact product_at (i := win5_0.index t) (j := win5_1.index t) (o := win5_2.index t) (ex := (win5_0.blk t).view.emb) (ey := (win5_1.blk t).view.emb)
      (eo := (win5_2.blk t).view.emb) (fun _ _ => rfl) (fun _ _ => rfl) (fun _ _ => rfl) hf hg (index5 t) rfl (fun _ _ => has_times) y

theorem arr6 (hf : (V c main_arg0 : S4096x1024.Idx → EReal) = whole 4096 1024 f) (hg : (V c main_arg7 : S1024x128.Idx → EReal) = whole 1024 128 g) :
    (dat6 V c).arrAt 2 cfg6.N = whole 4096 128 (times 1024 f g) :=
  (dat6 V c).arrAt_eq_of_covers 2 _ (by decide +kernel) fun t _ y => by
    rw [after6_2]
    frame_out
    exact product_at (i := win6_0.index t) (j := win6_1.index t) (o := win6_2.index t) (ex := (win6_0.blk t).view.emb) (ey := (win6_1.blk t).view.emb)
      (eo := (win6_2.blk t).view.emb) (fun _ _ => rfl) (fun _ _ => rfl) (fun _ _ => rfl) hf hg (index6 t) rfl (fun _ _ => has_times) y

theorem arr7 (hf : (V c main_arg0 : S4096x1024.Idx → EReal) = whole 4096 1024 f) (hg : (V c main_arg8 : S1024x3072.Idx → EReal) = whole 1024 3072 g) :
    (dat7 V c).arrAt 2 cfg7.N = whole 4096 3072 (times 1024 f g) :=
  (dat7 V c).arrAt_eq_of_covers 2 _ (by decide +kernel) fun t _ y => by
    rw [after7_2]
    frame_out
    exact product_at (i := win7_0.index t) (j := win7_1.index t) (o := win7_2.index t) (ex := (win7_0.blk t).view.emb) (ey := (win7_1.blk t).view.emb)
      (eo := (win7_2.blk t).view.emb) (fun _ _ => rfl) (fun _ _ => rfl) (fun _ _ => rfl) hf hg (index7 t) rfl (fun _ _ => has_times) y

theorem arr8 (hf : (V c main_arg9 : S4096x1024.Idx → EReal) = whole 4096 1024 f) (hg : (V c main_arg1 : S1024x1024.Idx → EReal) = whole 1024 1024 g) :
    (dat8 V c).arrAt 2 cfg8.N = whole 4096 1024 (timesT 1024 f g) :=
  (dat8 V c).arrAt_eq_of_covers 2 _ (by decide +kernel) fun t _ y => by
    rw [after8_2]
    frame_out
    exact productT_at (i := win8_0.index t) (j := win8_1.index t) (o := win8_2.index t) (ex := (win8_0.blk t).view.emb) (ey := (win8_1.blk t).view.emb)
      (eo := (win8_2.blk t).view.emb) (fun _ _ => rfl) (fun _ _ => rfl) (fun _ _ => rfl) hf hg (index8 t) rfl (fun _ _ => has_timesT) y

theorem arr9 (hf : (V c main_arg10 : S4096x2048.Idx → EReal) = whole 4096 2048 f) (hg : (V c main_arg2 : S1024x2048.Idx → EReal) = whole 1024 2048 g) (hk : (V c main_v8 : S4096x1024.Idx → EReal) = whole 4096 1024 k) :
    (dat9 V c).arrAt 3 cfg9.N = whole 4096 1024 (plus (timesT 2048 f g) k) :=
  (dat9 V c).arrAt_eq_of_covers 3 _ (by decide +kernel) fun t _ y => by
    rw [after9_3]
    frame_out
    exact sum_at (j := win9_2.index t) (o := win9_3.index t) (ez := (win9_2.blk t).view.emb) (fun _ _ => rfl) (fun _ _ => rfl) hk (index9 t).2
      (productT_at (i := win9_0.index t) (j := win9_1.index t) (o := win9_3.index t) (ex := (win9_0.blk t).view.emb) (ey := (win9_1.blk t).view.emb)
      (eo := (win9_3.blk t).view.emb) (fun _ _ => rfl) (fun _ _ => rfl) (fun _ _ => rfl) hf hg (index9 t).1 rfl (fun _ _ => has_timesT))
      (shapeCast_self _ _) y

theorem arr10 (hf : (V c main_arg11 : S4096x128.Idx → EReal) = whole 4096 128 f) (hg : (V c main_arg3 : S1024x128.Idx → EReal) = whole 1024 128 g) (hk : (V c main_v9 : S4096x1024.Idx → EReal) = whole 4096 1024 k) :
    (dat10 V c).arrAt 3 cfg10.N = whole 4096 1024 (plus (timesT 128 f g) k) :=
  (dat10 V c).arrAt_eq_of_covers 3 _ (by decide +kernel) fun t _ y => by
    rw [after10_3]
    frame_out
    exact sum_at (j := win10_2.index t) (o := win10_3.index t) (ez := (win10_2.blk t).view.emb) (fun _ _ => rfl) (fun _ _ => rfl) hk (index10 t).2
      (productT_at (i := win10_0.index t) (j := win10_1.index t) (o := win10_3.index t) (ex := (win10_0.blk t).view.emb) (ey := (win10_1.blk t).view.emb)
      (eo := (win10_3.blk t).view.emb) (fun _ _ => rfl) (fun _ _ => rfl) (fun _ _ => rfl) hf hg (index10 t).1 rfl (fun _ _ => has_timesT))
      (shapeCast_self _ _) y

theorem arr11 (hf : (V c main_arg12 : S4096x2048.Idx → EReal) = whole 4096 2048 f) (hg : (V c main_arg4 : S1024x2048.Idx → EReal) = whole 1024 2048 g) (hk : (V c main_v10 : S4096x1024.Idx → EReal) = whole 4096 1024 k) :
    (dat11 V c).arrAt 3 cfg11.N = whole 4096 1024 (plus (timesT 2048 f g) k) :=
  (dat11 V c).arrAt_eq_of_covers 3 _ (by decide +kernel) fun t _ y => by
    rw [after11_3]
    frame_out
    exact sum_at (j := win11_2.index t) (o := win11_3.index t) (ez := (win11_2.blk t).view.emb) (fun _ _ => rfl) (fun _ _ => rfl) hk (index11 t).2
      (productT_at (i := win11_0.index t) (j := win11_1.index t) (o := win11_3.index t) (ex := (win11_0.blk t).view.emb) (ey := (win11_1.blk t).view.emb)
      (eo := (win11_3.blk t).view.emb) (fun _ _ => rfl) (fun _ _ => rfl) (fun _ _ => rfl) hf hg (index11 t).1 rfl (fun _ _ => has_timesT))
      (shapeCast_self _ _) y

theorem arr12 (hf : (V c main_arg13 : S4096x384.Idx → EReal) = whole 4096 384 f) (hg : (V c main_arg5 : S1024x384.Idx → EReal) = whole 1024 384 g) (hk : (V c main_v11 : S4096x1024.Idx → EReal) = whole 4096 1024 k) :
    (dat12 V c).arrAt 3 cfg12.N = whole 4096 1024 (plus (timesT 384 f g) k) :=
  (dat12 V c).arrAt_eq_of_covers 3 _ (by decide +kernel) fun t _ y => by
    rw [after12_3]
    frame_out
    exact sum_at (j := win12_2.index t) (o := win12_3.index t) (ez := (win12_2.blk t).view.emb) (fun _ _ => rfl) (fun _ _ => rfl) hk (index12 t).2
      (productT_at (i := win12_0.index t) (j := win12_1.index t) (o := win12_3.index t) (ex := (win12_0.blk t).view.emb) (ey := (win12_1.blk t).view.emb)
      (eo := (win12_3.blk t).view.emb) (fun _ _ => rfl) (fun _ _ => rfl) (fun _ _ => rfl) hf hg (index12 t).1 rfl (fun _ _ => has_timesT))
      (shapeCast_self _ _) y

theorem arr13 (hf : (V c main_arg14 : S4096x256.Idx → EReal) = whole 4096 256 f) (hg : (V c main_arg6 : S1024x256.Idx → EReal) = whole 1024 256 g) (hk : (V c main_v12 : S4096x1024.Idx → EReal) = whole 4096 1024 k) :
    (dat13 V c).arrAt 3 cfg13.N = whole 4096 1024 (plus (timesT 256 f g) k) :=
  (dat13 V c).arrAt_eq_of_covers 3 _ (by decide +kernel) fun t _ y => by
    rw [after13_3]
    frame_out
    exact sum_at (j := win13_2.index t) (o := win13_3.index t) (ez := (win13_2.blk t).view.emb) (fun _ _ => rfl) (fun _ _ => rfl) hk (index13 t).2
      (productT_at (i := win13_0.index t) (j := win13_1.index t) (o := win13_3.index t) (ex := (win13_0.blk t).view.emb) (ey := (win13_1.blk t).view.emb)
      (eo := (win13_3.blk t).view.emb) (fun _ _ => rfl) (fun _ _ => rfl) (fun _ _ => rfl) hf hg (index13 t).1 rfl (fun _ _ => has_timesT))
      (shapeCast_self _ _) y

theorem arr14 (hf : (V c main_arg15 : S4096x128.Idx → EReal) = whole 4096 128 f) (hg : (V c main_arg7 : S1024x128.Idx → EReal) = whole 1024 128 g) (hk : (V c main_v13 : S4096x1024.Idx → EReal) = whole 4096 1024 k) :
    (dat14 V c).arrAt 3 cfg14.N = whole 4096 1024 (plus (timesT 128 f g) k) :=
  (dat14 V c).arrAt_eq_of_covers 3 _ (by decide +kernel) fun t _ y => by
    rw [after14_3]
    frame_out
    exact sum_at (j := win14_2.index t) (o := win14_3.index t) (ez := (win14_2.blk t).view.emb) (fun _ _ => rfl) (fun _ _ => rfl) hk (index14 t).2
      (productT_at (i := win14_0.index t) (j := win14_1.index t) (o := win14_3.index t) (ex := (win14_0.blk t).view.emb) (ey := (win14_1.blk t).view.emb)
      (eo := (win14_3.blk t).view.emb) (fun _ _ => rfl) (fun _ _ => rfl) (fun _ _ => rfl) hf hg (index14 t).1 rfl (fun _ _ => has_timesT))
      (shapeCast_self _ _) y

theorem arr15 (hf : (V c main_arg16 : S4096x3072.Idx → EReal) = whole 4096 3072 f) (hg : (V c main_arg8 : S1024x3072.Idx → EReal) = whole 1024 3072 g) (hk : (V c main_v14 : S4096x1024.Idx → EReal) = whole 4096 1024 k) :
    (dat15 V c).arrAt 3 cfg15.N = whole 4096 1024 (plus (timesT 3072 f g) k) :=
  (dat15 V c).arrAt_eq_of_covers 3 _ (by decide +kernel) fun t _ y => by
    rw [after15_3]
    frame_out
    exact sum_at (j := win15_2.index t) (o := win15_3.index t) (ez := (win15_2.blk t).view.emb) (fun _ _ => rfl) (fun _ _ => rfl) hk (index15 t).2
      (productT_at (i := win15_0.index t) (j := win15_1.index t) (o := win15_3.index t) (ex := (win15_0.blk t).view.emb) (ey := (win15_1.blk t).view.emb)
      (eo := (win15_3.blk t).view.emb) (fun _ _ => rfl) (fun _ _ => rfl) (fun _ _ => rfl) hf hg (index15 t).1 rfl (fun _ _ => has_timesT))
      (shapeCast_self _ _) y

end Cert.Kernel5Ideal.Ffn

end
-- ==== Proof.InResults.lean ====
/-
  The run of the in-projection's calls: what every buffer holds at the end, and the nine results in closed form.
-/
module

public import proofs.«01_k».proof.Proof.InArrays
public import Idealize.ShloMosaic.Adequacy
public import Idealize.ShloMosaic.Init

@[expose] public section

set_option maxRecDepth 16384

noncomputable section

namespace Cert.Kernel5Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen Cert.Ffn

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the buffers at `W16` and every counter at zero. -/
theorem run_main : θ_run defs (onTc (τ := τ) (main (F := F))) ⟨m, fun _ => 0, ρ⟩ (fun r =>
      (∀ c : Dev nD, ∀ b ∈ Pipeline.ucRefs τ sig, r.2.mem ((c : Thread nD τ).1, b) = W16 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => ⟨h, funext fun g => hz g (.inr (no_unscoped g.2))⟩)

end Run

/-! ## The results -/

variable (m : (ℓ : Loc nD τ sig) → Buf (Elt Ideal) ℓ) (ρ : Dev nD → PrngReg) (c : Dev nD)

/-! The arguments' entries. -/

def arg0 : ℕ → ℕ → EReal := entries (n0 := 4096) (n1 := 1024) (m ((c.tc : Thread nD τ).loc main_arg0))
def arg1 : ℕ → ℕ → EReal := entries (n0 := 1024) (n1 := 1024) (m ((c.tc : Thread nD τ).loc main_arg1))
def arg2 : ℕ → ℕ → EReal := entries (n0 := 1024) (n1 := 2048) (m ((c.tc : Thread nD τ).loc main_arg2))
def arg3 : ℕ → ℕ → EReal := entries (n0 := 1024) (n1 := 128) (m ((c.tc : Thread nD τ).loc main_arg3))
def arg4 : ℕ → ℕ → EReal := entries (n0 := 1024) (n1 := 2048) (m ((c.tc : Thread nD τ).loc main_arg4))
def arg5 : ℕ → ℕ → EReal := entries (n0 := 1024) (n1 := 384) (m ((c.tc : Thread nD τ).loc main_arg5))
def arg6 : ℕ → ℕ → EReal := entries (n0 := 1024) (n1 := 256) (m ((c.tc : Thread nD τ).loc main_arg6))
def arg7 : ℕ → ℕ → EReal := entries (n0 := 1024) (n1 := 128) (m ((c.tc : Thread nD τ).loc main_arg7))
def arg8 : ℕ → ℕ → EReal := entries (n0 := 1024) (n1 := 3072) (m ((c.tc : Thread nD τ).loc main_arg8))
def arg9 : ℕ → ℕ → EReal := entries (n0 := 4096) (n1 := 1024) (m ((c.tc : Thread nD τ).loc main_arg9))
def arg10 : ℕ → ℕ → EReal := entries (n0 := 4096) (n1 := 2048) (m ((c.tc : Thread nD τ).loc main_arg10))
def arg11 : ℕ → ℕ → EReal := entries (n0 := 4096) (n1 := 128) (m ((c.tc : Thread nD τ).loc main_arg11))
def arg12 : ℕ → ℕ → EReal := entries (n0 := 4096) (n1 := 2048) (m ((c.tc : Thread nD τ).loc main_arg12))
def arg13 : ℕ → ℕ → EReal := entries (n0 := 4096) (n1 := 384) (m ((c.tc : Thread nD τ).loc main_arg13))
def arg14 : ℕ → ℕ → EReal := entries (n0 := 4096) (n1 := 256) (m ((c.tc : Thread nD τ).loc main_arg14))
def arg15 : ℕ → ℕ → EReal := entries (n0 := 4096) (n1 := 128) (m ((c.tc : Thread nD τ).loc main_arg15))
def arg16 : ℕ → ℕ → EReal := entries (n0 := 4096) (n1 := 3072) (m ((c.tc : Thread nD τ).loc main_arg16))

theorem arg0_eq : (m ((c.tc : Thread nD τ).loc main_arg0) : S4096x1024.Idx → EReal) = whole 4096 1024 (arg0 m c) := eq_whole (has_entries _)
theorem arg1_eq : (m ((c.tc : Thread nD τ).loc main_arg1) : S1024x1024.Idx → EReal) = whole 1024 1024 (arg1 m c) := eq_whole (has_entries _)
theorem arg2_eq : (m ((c.tc : Thread nD τ).loc main_arg2) : S1024x2048.Idx → EReal) = whole 1024 2048 (arg2 m c) := eq_whole (has_entries _)
theorem arg3_eq : (m ((c.tc : Thread nD τ).loc main_arg3) : S1024x128.Idx → EReal) = whole 1024 128 (arg3 m c) := eq_whole (has_entries _)
theorem arg4_eq : (m ((c.tc : Thread nD τ).loc main_arg4) : S1024x2048.Idx → EReal) = whole 1024 2048 (arg4 m c) := eq_whole (has_entries _)
theorem arg5_eq : (m ((c.tc : Thread nD τ).loc main_arg5) : S1024x384.Idx → EReal) = whole 1024 384 (arg5 m c) := eq_whole (has_entries _)
theorem arg6_eq : (m ((c.tc : Thread nD τ).loc main_arg6) : S1024x256.Idx → EReal) = whole 1024 256 (arg6 m c) := eq_whole (has_entries _)
theorem arg7_eq : (m ((c.tc : Thread nD τ).loc main_arg7) : S1024x128.Idx → EReal) = whole 1024 128 (arg7 m c) := eq_whole (has_entries _)
theorem arg8_eq : (m ((c.tc : Thread nD τ).loc main_arg8) : S1024x3072.Idx → EReal) = whole 1024 3072 (arg8 m c) := eq_whole (has_entries _)
theorem arg9_eq : (m ((c.tc : Thread nD τ).loc main_arg9) : S4096x1024.Idx → EReal) = whole 4096 1024 (arg9 m c) := eq_whole (has_entries _)
theorem arg10_eq : (m ((c.tc : Thread nD τ).loc main_arg10) : S4096x2048.Idx → EReal) = whole 4096 2048 (arg10 m c) := eq_whole (has_entries _)
theorem arg11_eq : (m ((c.tc : Thread nD τ).loc main_arg11) : S4096x128.Idx → EReal) = whole 4096 128 (arg11 m c) := eq_whole (has_entries _)
theorem arg12_eq : (m ((c.tc : Thread nD τ).loc main_arg12) : S4096x2048.Idx → EReal) = whole 4096 2048 (arg12 m c) := eq_whole (has_entries _)
theorem arg13_eq : (m ((c.tc : Thread nD τ).loc main_arg13) : S4096x384.Idx → EReal) = whole 4096 384 (arg13 m c) := eq_whole (has_entries _)
theorem arg14_eq : (m ((c.tc : Thread nD τ).loc main_arg14) : S4096x256.Idx → EReal) = whole 4096 256 (arg14 m c) := eq_whole (has_entries _)
theorem arg15_eq : (m ((c.tc : Thread nD τ).loc main_arg15) : S4096x128.Idx → EReal) = whole 4096 128 (arg15 m c) := eq_whole (has_entries _)
theorem arg16_eq : (m ((c.tc : Thread nD τ).loc main_arg16) : S4096x3072.Idx → EReal) = whole 4096 3072 (arg16 m c) := eq_whole (has_entries _)

/-! What each call computes of them. -/

def val0 : ℕ → ℕ → EReal := times 1024 (arg0 m c) (arg1 m c)
def val1 : ℕ → ℕ → EReal := times 1024 (arg0 m c) (arg2 m c)
def val2 : ℕ → ℕ → EReal := times 1024 (arg0 m c) (arg3 m c)
def val3 : ℕ → ℕ → EReal := times 1024 (arg0 m c) (arg4 m c)
def val4 : ℕ → ℕ → EReal := times 1024 (arg0 m c) (arg5 m c)
def val5 : ℕ → ℕ → EReal := times 1024 (arg0 m c) (arg6 m c)
def val6 : ℕ → ℕ → EReal := times 1024 (arg0 m c) (arg7 m c)
def val7 : ℕ → ℕ → EReal := times 1024 (arg0 m c) (arg8 m c)
def val8 : ℕ → ℕ → EReal := timesT 1024 (arg9 m c) (arg1 m c)
def val9 : ℕ → ℕ → EReal := plus (timesT 2048 (arg10 m c) (arg2 m c)) (val8 m c)
def val10 : ℕ → ℕ → EReal := plus (timesT 128 (arg11 m c) (arg3 m c)) (val9 m c)
def val11 : ℕ → ℕ → EReal := plus (timesT 2048 (arg12 m c) (arg4 m c)) (val10 m c)
def val12 : ℕ → ℕ → EReal := plus (timesT 384 (arg13 m c) (arg5 m c)) (val11 m c)
def val13 : ℕ → ℕ → EReal := plus (timesT 256 (arg14 m c) (arg6 m c)) (val12 m c)
def val14 : ℕ → ℕ → EReal := plus (timesT 128 (arg15 m c) (arg7 m c)) (val13 m c)
def val15 : ℕ → ℕ → EReal := plus (timesT 3072 (arg16 m c) (arg8 m c)) (val14 m c)

theorem left0 : (W1 m ρ c (Proc.devRef .tc main_v0) : S4096x1024.Idx → EReal) = whole 4096 1024 (val0 m c) :=
  (W1_arr m ρ c 2).trans (arr0 (V0 m ρ) c ((W0_args m ρ c main_arg0 (by decide)).trans (arg0_eq m c)) ((W0_args m ρ c main_arg1 (by decide)).trans (arg1_eq m c)))
theorem left1 : (W2 m ρ c (Proc.devRef .tc main_v1) : S4096x2048.Idx → EReal) = whole 4096 2048 (val1 m c) :=
  (W2_arr m ρ c 2).trans (arr1 (V1 m ρ) c ((W1_args m ρ c main_arg0 (by decide)).trans (arg0_eq m c)) ((W1_args m ρ c main_arg2 (by decide)).trans (arg2_eq m c)))
theorem left2 : (W3 m ρ c (Proc.devRef .tc main_v2) : S4096x128.Idx → EReal) = whole 4096 128 (val2 m c) :=
  (W3_arr m ρ c 2).trans (arr2 (V2 m ρ) c ((W2_args m ρ c main_arg0 (by decide)).trans (arg0_eq m c)) ((W2_args m ρ c main_arg3 (by decide)).trans (arg3_eq m c)))
theorem left3 : (W4 m ρ c (Proc.devRef .tc main_v3) : S4096x2048.Idx → EReal) = whole 4096 2048 (val3 m c) :=
  (W4_arr m ρ c 2).trans (arr3 (V3 m ρ) c ((W3_args m ρ c main_arg0 (by decide)).trans (arg0_eq m c)) ((W3_args m ρ c main_arg4 (by decide)).trans (arg4_eq m c)))
theorem left4 : (W5 m ρ c (Proc.devRef .tc main_v4) : S4096x384.Idx → EReal) = whole 4096 384 (val4 m c) :=
  (W5_arr m ρ c 2).trans (arr4 (V4 m ρ) c ((W4_args m ρ c main_arg0 (by decide)).trans (arg0_eq m c)) ((W4_args m ρ c main_arg5 (by decide)).trans (arg5_eq m c)))
theorem left5 : (W6 m ρ c (Proc.devRef .tc main_v5) : S4096x256.Idx → EReal) = whole 4096 256 (val5 m c) :=
  (W6_arr m ρ c 2).trans (arr5 (V5 m ρ) c ((W5_args m ρ c main_arg0 (by decide)).trans (arg0_eq m c)) ((W5_args m ρ c main_arg6 (by decide)).trans (arg6_eq m c)))
theorem left6 : (W7 m ρ c (Proc.devRef .tc main_v6) : S4096x128.Idx → EReal) = whole 4096 128 (val6 m c) :=
  (W7_arr m ρ c 2).trans (arr6 (V6 m ρ) c ((W6_args m ρ c main_arg0 (by decide)).trans (arg0_eq m c)) ((W6_args m ρ c main_arg7 (by decide)).trans (arg7_eq m c)))
theorem left7 : (W8 m ρ c (Proc.devRef .tc main_v7) : S4096x3072.Idx → EReal) = whole 4096 3072 (val7 m c) :=
  (W8_arr m ρ c 2).trans (arr7 (V7 m ρ) c ((W7_args m ρ c main_arg0 (by decide)).trans (arg0_eq m c)) ((W7_args m ρ c main_arg8 (by decide)).trans (arg8_eq m c)))
theorem left8 : (W9 m ρ c (Proc.devRef .tc main_v8) : S4096x1024.Idx → EReal) = whole 4096 1024 (val8 m c) :=
  (W9_arr m ρ c 2).trans (arr8 (V8 m ρ) c ((W8_args m ρ c main_arg9 (by decide)).trans (arg9_eq m c)) ((W8_args m ρ c main_arg1 (by decide)).trans (arg1_eq m c)))
theorem left9 : (W10 m ρ c (Proc.devRef .tc main_v9) : S4096x1024.Idx → EReal) = whole 4096 1024 (val9 m c) :=
  (W10_arr m ρ c 3).trans (arr9 (V9 m ρ) c ((W9_args m ρ c main_arg10 (by decide)).trans (arg10_eq m c)) ((W9_args m ρ c main_arg2 (by decide)).trans (arg2_eq m c)) (left8 m ρ c))
theorem left10 : (W11 m ρ c (Proc.devRef .tc main_v10) : S4096x1024.Idx → EReal) = whole 4096 1024 (val10 m c) :=
  (W11_arr m ρ c 3).trans (arr10 (V10 m ρ) c ((W10_args m ρ c main_arg11 (by decide)).trans (arg11_eq m c)) ((W10_args m ρ c main_arg3 (by decide)).trans (arg3_eq m c)) (left9 m ρ c))
theorem left11 : (W12 m ρ c (Proc.devRef .tc main_v11) : S4096x1024.Idx → EReal) = whole 4096 1024 (val11 m c) :=
  (W12_arr m ρ c 3).trans (arr11 (V11 m ρ) c ((W11_args m ρ c main_arg12 (by decide)).trans (arg12_eq m c)) ((W11_args m ρ c main_arg4 (by decide)).trans (arg4_eq m c)) (left10 m ρ c))
theorem left12 : (W13 m ρ c (Proc.devRef .tc main_v12) : S4096x1024.Idx → EReal) = whole 4096 1024 (val12 m c) :=
  (W13_arr m ρ c 3).trans (arr12 (V12 m ρ) c ((W12_args m ρ c main_arg13 (by decide)).trans (arg13_eq m c)) ((W12_args m ρ c main_arg5 (by decide)).trans (arg5_eq m c)) (left11 m ρ c))
theorem left13 : (W14 m ρ c (Proc.devRef .tc main_v13) : S4096x1024.Idx → EReal) = whole 4096 1024 (val13 m c) :=
  (W14_arr m ρ c 3).trans (arr13 (V13 m ρ) c ((W13_args m ρ c main_arg14 (by decide)).trans (arg14_eq m c)) ((W13_args m ρ c main_arg6 (by decide)).trans (arg6_eq m c)) (left12 m ρ c))
theorem left14 : (W15 m ρ c (Proc.devRef .tc main_v14) : S4096x1024.Idx → EReal) = whole 4096 1024 (val14 m c) :=
  (W15_arr m ρ c 3).trans (arr14 (V14 m ρ) c ((W14_args m ρ c main_arg15 (by decide)).trans (arg15_eq m c)) ((W14_args m ρ c main_arg7 (by decide)).trans (arg7_eq m c)) (left13 m ρ c))
theorem left15 : (W16 m ρ c (Proc.devRef .tc main_v15) : S4096x1024.Idx → EReal) = whole 4096 1024 (val15 m c) :=
  (W16_arr m ρ c 3).trans (arr15 (V15 m ρ) c ((W15_args m ρ c main_arg16 (by decide)).trans (arg16_eq m c)) ((W15_args m ρ c main_arg8 (by decide)).trans (arg8_eq m c)) (left14 m ρ c))

/-! No later call writes an earlier one's result. -/

/-- The eight products, the last first. -/
abbrev products : List (Ref sig .tc) := [main_v7, main_v6, main_v5, main_v4, main_v3, main_v2, main_v1, main_v0]

variable {b : Ref sig .tc}

theorem from8 (h : b ∈ products) : W16 m ρ c (Proc.devRef .tc b) = W8 m ρ c (Proc.devRef .tc b) :=
  (((((((W16_of m ρ c b ((by decide +kernel : ∀ b ∈ products, ∀ w : Fin cfg15.W, Pipeline.arrRef spec15 w = b → (cfg15.win w).isOut = false) b h)).trans
    (W15_of m ρ c b ((by decide +kernel : ∀ b ∈ products, ∀ w : Fin cfg14.W, Pipeline.arrRef spec14 w = b → (cfg14.win w).isOut = false) b h))).trans
    (W14_of m ρ c b ((by decide +kernel : ∀ b ∈ products, ∀ w : Fin cfg13.W, Pipeline.arrRef spec13 w = b → (cfg13.win w).isOut = false) b h))).trans
    (W13_of m ρ c b ((by decide +kernel : ∀ b ∈ products, ∀ w : Fin cfg12.W, Pipeline.arrRef spec12 w = b → (cfg12.win w).isOut = false) b h))).trans
    (W12_of m ρ c b ((by decide +kernel : ∀ b ∈ products, ∀ w : Fin cfg11.W, Pipeline.arrRef spec11 w = b → (cfg11.win w).isOut = false) b h))).trans
    (W11_of m ρ c b ((by decide +kernel : ∀ b ∈ products, ∀ w : Fin cfg10.W, Pipeline.arrRef spec10 w = b → (cfg10.win w).isOut = false) b h))).trans
    (W10_of m ρ c b ((by decide +kernel : ∀ b ∈ products, ∀ w : Fin cfg9.W, Pipeline.arrRef spec9 w = b → (cfg9.win w).isOut = false) b h))).trans
    (W9_of m ρ c b ((by decide +kernel : ∀ b ∈ products, ∀ w : Fin cfg8.W, Pipeline.arrRef spec8 w = b → (cfg8.win w).isOut = false) b h))
theorem from7 (h : b ∈ products.drop 1) : W16 m ρ c (Proc.devRef .tc b) = W7 m ρ c (Proc.devRef .tc b) :=
  (from8 m ρ c ((by decide : ∀ b ∈ products.drop 1, b ∈ products) b h)).trans
    (W8_of m ρ c b ((by decide +kernel : ∀ b ∈ products.drop 1, ∀ w : Fin cfg7.W, Pipeline.arrRef spec7 w = b → (cfg7.win w).isOut = false) b h))
theorem from6 (h : b ∈ products.drop 2) : W16 m ρ c (Proc.devRef .tc b) = W6 m ρ c (Proc.devRef .tc b) :=
  (from7 m ρ c ((by decide : ∀ b ∈ products.drop 2, b ∈ products.drop 1) b h)).trans
    (W7_of m ρ c b ((by decide +kernel : ∀ b ∈ products.drop 2, ∀ w : Fin cfg6.W, Pipeline.arrRef spec6 w = b → (cfg6.win w).isOut = false) b h))
theorem from5 (h : b ∈ products.drop 3) : W16 m ρ c (Proc.devRef .tc b) = W5 m ρ c (Proc.devRef .tc b) :=
  (from6 m ρ c ((by decide : ∀ b ∈ products.drop 3, b ∈ products.drop 2) b h)).trans
    (W6_of m ρ c b ((by decide +kernel : ∀ b ∈ products.drop 3, ∀ w : Fin cfg5.W, Pipeline.arrRef spec5 w = b → (cfg5.win w).isOut = false) b h))
theorem from4 (h : b ∈ products.drop 4) : W16 m ρ c (Proc.devRef .tc b) = W4 m ρ c (Proc.devRef .tc b) :=
  (from5 m ρ c ((by decide : ∀ b ∈ products.drop 4, b ∈ products.drop 3) b h)).trans
    (W5_of m ρ c b ((by decide +kernel : ∀ b ∈ products.drop 4, ∀ w : Fin cfg4.W, Pipeline.arrRef spec4 w = b → (cfg4.win w).isOut = false) b h))
theorem from3 (h : b ∈ products.drop 5) : W16 m ρ c (Proc.devRef .tc b) = W3 m ρ c (Proc.devRef .tc b) :=
  (from4 m ρ c ((by decide : ∀ b ∈ products.drop 5, b ∈ products.drop 4) b h)).trans
    (W4_of m ρ c b ((by decide +kernel : ∀ b ∈ products.drop 5, ∀ w : Fin cfg3.W, Pipeline.arrRef spec3 w = b → (cfg3.win w).isOut = false) b h))
theorem from2 (h : b ∈ products.drop 6) : W16 m ρ c (Proc.devRef .tc b) = W2 m ρ c (Proc.devRef .tc b) :=
  (from3 m ρ c ((by decide : ∀ b ∈ products.drop 6, b ∈ products.drop 5) b h)).trans
    (W3_of m ρ c b ((by decide +kernel : ∀ b ∈ products.drop 6, ∀ w : Fin cfg2.W, Pipeline.arrRef spec2 w = b → (cfg2.win w).isOut = false) b h))
theorem from1 (h : b ∈ products.drop 7) : W16 m ρ c (Proc.devRef .tc b) = W1 m ρ c (Proc.devRef .tc b) :=
  (from2 m ρ c ((by decide : ∀ b ∈ products.drop 7, b ∈ products.drop 6) b h)).trans
    (W2_of m ρ c b ((by decide +kernel : ∀ b ∈ products.drop 7, ∀ w : Fin cfg1.W, Pipeline.arrRef spec1 w = b → (cfg1.win w).isOut = false) b h))

/-- The kernel's run, in closed form. -/
theorem kernel_run : θ_run (defs (F := Ideal)) (onTc (τ := τ) (main (F := Ideal))) ⟨m, fun _ => 0, ρ⟩ (fun r => ∀ c : Dev nD,
      r.2.mem ((c.tc : Thread nD τ).loc main_v0) = whole 4096 1024 (val0 m c)
      ∧ r.2.mem ((c.tc : Thread nD τ).loc main_v1) = whole 4096 2048 (val1 m c)
      ∧ r.2.mem ((c.tc : Thread nD τ).loc main_v2) = whole 4096 128 (val2 m c)
      ∧ r.2.mem ((c.tc : Thread nD τ).loc main_v3) = whole 4096 2048 (val3 m c)
      ∧ r.2.mem ((c.tc : Thread nD τ).loc main_v4) = whole 4096 384 (val4 m c)
      ∧ r.2.mem ((c.tc : Thread nD τ).loc main_v5) = whole 4096 256 (val5 m c)
      ∧ r.2.mem ((c.tc : Thread nD τ).loc main_v6) = whole 4096 128 (val6 m c)
      ∧ r.2.mem ((c.tc : Thread nD τ).loc main_v7) = whole 4096 3072 (val7 m c)
      ∧ r.2.mem ((c.tc : Thread nD τ).loc main_v15) = whole 4096 1024 (val15 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    have hb : ∀ b : Ref sig .tc, ¬ (Proc.devRef .tc b : DevRef τ sig).isScoped → r.2.mem ((c.tc : Thread nD τ).loc b) = W16 m ρ c (Proc.devRef .tc b) :=
      fun b hs => h.1 c _ (mem_uc b hs)
    have ha : ∀ a : Ref sig .tc, a ∈ argRefs → ¬ (Proc.devRef .tc a : DevRef τ sig).isScoped → r.2.mem ((c.tc : Thread nD τ).loc a) = m ((c.tc : Thread nD τ).loc a) :=
      fun a hm hs => (hb a hs).trans (W16_args m ρ c a hm)
    ⟨(hb main_v0 (by decide)).trans ((from1 m ρ c (by decide)).trans (left0 m ρ c)),
     (hb main_v1 (by decide)).trans ((from2 m ρ c (by decide)).trans (left1 m ρ c)),
     (hb main_v2 (by decide)).trans ((from3 m ρ c (by decide)).trans (left2 m ρ c)),
     (hb main_v3 (by decide)).trans ((from4 m ρ c (by decide)).trans (left3 m ρ c)),
     (hb main_v4 (by decide)).trans ((from5 m ρ c (by decide)).trans (left4 m ρ c)),
     (hb main_v5 (by decide)).trans ((from6 m ρ c (by decide)).trans (left5 m ρ c)),
     (hb main_v6 (by decide)).trans ((from7 m ρ c (by decide)).trans (left6 m ρ c)),
     (hb main_v7 (by decide)).trans ((from8 m ρ c (by decide)).trans (left7 m ρ c)),
     (hb main_v15 (by decide)).trans (left15 m ρ c),
     ha main_arg0 (by decide) (by decide),
     ha main_arg1 (by decide) (by decide),
     ha main_arg2 (by decide) (by decide),
     ha main_arg3 (by decide) (by decide),
     ha main_arg4 (by decide) (by decide),
     ha main_arg5 (by decide) (by decide),
     ha main_arg6 (by decide) (by decide),
     ha main_arg7 (by decide) (by decide),
     ha main_arg8 (by decide) (by decide),
     ha main_arg9 (by decide) (by decide),
     ha main_arg10 (by decide) (by decide),
     ha main_arg11 (by decide) (by decide),
     ha main_arg12 (by decide) (by decide),
     ha main_arg13 (by decide) (by decide),
     ha main_arg14 (by decide) (by decide),
     ha main_arg15 (by decide) (by decide),
     ha main_arg16 (by decide) (by decide)⟩) (run_main m ρ)

end Cert.Kernel5Ideal.Ffn

end
-- ==== Proof.InAlgebraic.lean ====
/-
  The in-projection's kernel and its reference leave equal results.
-/
module

public import proofs.«01_k».proof.Proof.InResults
public import proofs.«01_k».proof.Defs
public import proofs.«01_k».proof.Proof.Gen.Reference5Ideal
public import proofs.«01_k».proof.Proof.Gen.Reference5Ideal.Run
public import Idealize.ShloMosaic.Lib.IdealHost

@[expose] public section

set_option maxRecDepth 16384

noncomputable section

namespace Cert.Kernel5Ideal.Ffn

open Idealize.ShloMosaic Idealize.ShloMosaic.TcCoe Idealize.SL.Sem Cert.Ffn
open Cert.Kernel5Ideal Cert.Kernel5Ideal.Gen

/-- The reference adds the eight parts of the gradient from the last to the first, the kernel from the first on. -/
theorem reassociate (m : (ℓ : Loc nD τ sig) → Buf (Elt Ideal) ℓ) (c : Dev nD) :
    plus (plus (plus (plus (plus (plus (plus (timesT 3072 (arg16 m c) (arg8 m c)) (timesT 128 (arg15 m c) (arg7 m c))) (timesT 256 (arg14 m c) (arg6 m c))) (timesT 384 (arg13 m c) (arg5 m c))) (timesT 2048 (arg12 m c) (arg4 m c))) (timesT 128 (arg11 m c) (arg3 m c))) (timesT 2048 (arg10 m c) (arg2 m c))) (timesT 1024 (arg9 m c) (arg1 m c)) = val15 m c := by
  simp only [val15, val14, val13, val12, val11, val10, val9, val8, plus_assoc]

/-- The kernel and the reference leave equal products and equal gradients. -/
theorem algebraic : Cert.algebraic_Kernel5Ideal_Reference5Ideal (hKernel5Ideal := Cert.Kernel5Ideal.Gen.facts)
    (hReference5Ideal := Cert.Reference5Ideal.Gen.facts) := by
  intro m g m' g' hpre hargs
  refine ⟨fun c => whole 4096 1024 (val0 m c), fun c => whole 4096 2048 (val1 m c), fun c => whole 4096 128 (val2 m c), fun c => whole 4096 2048 (val3 m c), fun c => whole 4096 384 (val4 m c), fun c => whole 4096 256 (val5 m c), fun c => whole 4096 128 (val6 m c), fun c => whole 4096 3072 (val7 m c), fun c => whole 4096 1024 (val15 m c), kernel_run m g, ?_⟩
  refine (θ_run _ _ _).mono (fun r h c => ?_) (Cert.Reference5Ideal.Value.run (F := Ideal) m' g')
  obtain ⟨r0, r1, r2, r3, r4, r5, r6, r7, r8, hrest⟩ := h c
  obtain ⟨a0, a1, a2, a3, a4, a5, a6, a7, a8, a9, a10, a11, a12, a13, a14, a15, a16⟩ := hargs c
  have h0 : Has (n0 := 4096) (n1 := 1024) (m' ((c.tc : Thread nD τ).loc Cert.Reference5Ideal.main_arg0)) (arg0 m c) := fun a b => (congrFun (a0.trans (arg0_eq m c)) (ix2 a b))
  have h1 : Has (n0 := 1024) (n1 := 1024) (m' ((c.tc : Thread nD τ).loc Cert.Reference5Ideal.main_arg1)) (arg1 m c) := fun a b => (congrFun (a1.trans (arg1_eq m c)) (ix2 a b))
  have h2 : Has (n0 := 1024) (n1 := 2048) (m' ((c.tc : Thread nD τ).loc Cert.Reference5Ideal.main_arg2)) (arg2 m c) := fun a b => (congrFun (a2.trans (arg2_eq m c)) (ix2 a b))
  have h3 : Has (n0 := 1024) (n1 := 128) (m' ((c.tc : Thread nD τ).loc Cert.Reference5Ideal.main_arg3)) (arg3 m c) := fun a b => (congrFun (a3.trans (arg3_eq m c)) (ix2 a b))
  have h4 : Has (n0 := 1024) (n1 := 2048) (m' ((c.tc : Thread nD τ).loc Cert.Reference5Ideal.main_arg4)) (arg4 m c) := fun a b => (congrFun (a4.trans (arg4_eq m c)) (ix2 a b))
  have h5 : Has (n0 := 1024) (n1 := 384) (m' ((c.tc : Thread nD τ).loc Cert.Reference5Ideal.main_arg5)) (arg5 m c) := fun a b => (congrFun (a5.trans (arg5_eq m c)) (ix2 a b))
  have h6 : Has (n0 := 1024) (n1 := 256) (m' ((c.tc : Thread nD τ).loc Cert.Reference5Ideal.main_arg6)) (arg6 m c) := fun a b => (congrFun (a6.trans (arg6_eq m c)) (ix2 a b))
  have h7 : Has (n0 := 1024) (n1 := 128) (m' ((c.tc : Thread nD τ).loc Cert.Reference5Ideal.main_arg7)) (arg7 m c) := fun a b => (congrFun (a7.trans (arg7_eq m c)) (ix2 a b))
  have h8 : Has (n0 := 1024) (n1 := 3072) (m' ((c.tc : Thread nD τ).loc Cert.Reference5Ideal.main_arg8)) (arg8 m c) := fun a b => (congrFun (a8.trans (arg8_eq m c)) (ix2 a b))
  have h9 : Has (n0 := 4096) (n1 := 1024) (m' ((c.tc : Thread nD τ).loc Cert.Reference5Ideal.main_arg9)) (arg9 m c) := fun a b => (congrFun (a9.trans (arg9_eq m c)) (ix2 a b))
  have h10 : Has (n0 := 4096) (n1 := 2048) (m' ((c.tc : Thread nD τ).loc Cert.Reference5Ideal.main_arg10)) (arg10 m c) := fun a b => (congrFun (a10.trans (arg10_eq m c)) (ix2 a b))
  have h11 : Has (n0 := 4096) (n1 := 128) (m' ((c.tc : Thread nD τ).loc Cert.Reference5Ideal.main_arg11)) (arg11 m c) := fun a b => (congrFun (a11.trans (arg11_eq m c)) (ix2 a b))
  have h12 : Has (n0 := 4096) (n1 := 2048) (m' ((c.tc : Thread nD τ).loc Cert.Reference5Ideal.main_arg12)) (arg12 m c) := fun a b => (congrFun (a12.trans (arg12_eq m c)) (ix2 a b))
  have h13 : Has (n0 := 4096) (n1 := 384) (m' ((c.tc : Thread nD τ).loc Cert.Reference5Ideal.main_arg13)) (arg13 m c) := fun a b => (congrFun (a13.trans (arg13_eq m c)) (ix2 a b))
  have h14 : Has (n0 := 4096) (n1 := 256) (m' ((c.tc : Thread nD τ).loc Cert.Reference5Ideal.main_arg14)) (arg14 m c) := fun a b => (congrFun (a14.trans (arg14_eq m c)) (ix2 a b))
  have h15 : Has (n0 := 4096) (n1 := 128) (m' ((c.tc : Thread nD τ).loc Cert.Reference5Ideal.main_arg15)) (arg15 m c) := fun a b => (congrFun (a15.trans (arg15_eq m c)) (ix2 a b))
  have h16 : Has (n0 := 4096) (n1 := 3072) (m' ((c.tc : Thread nD τ).loc Cert.Reference5Ideal.main_arg16)) (arg16 m c) := fun a b => (congrFun (a16.trans (arg16_eq m c)) (ix2 a b))
  exact ⟨r0.trans (eq_whole (has_dot (has_times h0 h1))),
    r1.trans (eq_whole (has_dot (has_times h0 h2))),
    r2.trans (eq_whole (has_dot (has_times h0 h3))),
    r3.trans (eq_whole (has_dot (has_times h0 h4))),
    r4.trans (eq_whole (has_dot (has_times h0 h5))),
    r5.trans (eq_whole (has_dot (has_times h0 h6))),
    r6.trans (eq_whole (has_dot (has_times h0 h7))),
    r7.trans (eq_whole (has_dot (has_times h0 h8))),
    r8.trans (eq_whole (reassociate m c ▸ (has_plus (has_plus (has_plus (has_plus (has_plus (has_plus (has_plus (has_dot (has_timesT h16 h8)) (has_dot (has_timesT h15 h7))) (has_dot (has_timesT h14 h6))) (has_dot (has_timesT h13 h5))) (has_dot (has_timesT h12 h4))) (has_dot (has_timesT h11 h3))) (has_dot (has_timesT h10 h2))) (has_dot (has_timesT h9 h1))))), hrest⟩

end Cert.Kernel5Ideal.Ffn

end
-- ==== Proof.OutArrays.lean ====
/-
  The arrays the four out-projection calls leave.
-/
module

public import proofs.«01_k».proof.Proof.ProjSpec
public import proofs.«01_k».proof.Proof.Gen.Kernel10Ideal.Frame
public import Idealize.ShloMosaic.Lib.Pipeline.ValueKit.Geometry
public import Idealize.ShloMosaic.Lib.Pipeline.ValueKit.Acc
public import Idealize.ShloMosaic.Lib.Pipeline.Value
public import Idealize.ShloMosaic.Lib.IdealHost

@[expose] public section

set_option maxRecDepth 16384

noncomputable section

namespace Cert.Kernel10Ideal.Ffn

open Idealize.ShloMosaic Idealize.ShloMosaic.TcCoe Cert.Ffn
open Cert.Kernel10Ideal Cert.Kernel10Ideal.Gen
open scoped BigOperators

/-! ## Where the operands' blocks sit, by the output's block -/

theorem index0 : ∀ t : Fin cfg0.N, win0_0.index t = ![win0_2.index t 0, 0] ∧ win0_1.index t = ![0, win0_2.index t 1] :=
  (by decide +kernel : ∀ t : Fin grid0.N, _)
theorem index1 : ∀ t : Fin cfg1.N, win1_0.index t = ![win1_2.index t 0, 0] ∧ win1_1.index t = ![win1_2.index t 1, 0] :=
  (by decide +kernel : ∀ t : Fin grid1.N, _)
theorem index2 : ∀ t : Fin cfg2.N, (win2_0.index t = ![win2_3.index t 0, 0] ∧ win2_1.index t = ![0, win2_3.index t 1]) ∧ win2_2.index t = win2_3.index t :=
  (by decide +kernel : ∀ t : Fin grid2.N, _)
theorem index3 : ∀ t : Fin cfg3.N, win3_0.index t = ![win3_2.index t 0, 0] ∧ win3_1.index t = ![win3_2.index t 1, 0] :=
  (by decide +kernel : ∀ t : Fin grid3.N, _)

/-! ## The arrays -/

variable (V : (c : Dev nD) → (b : Ref sig .tc) → Buf (Elt Ideal) ((c : Thread nD τ).loc b)) (c : Dev nD) {f g k : ℕ → ℕ → EReal}

theorem arr0 (hf : (V c main_arg0 : S4096x1024.Idx → EReal) = whole 4096 1024 f) (hg : (V c main_arg1 : S1024x1024.Idx → EReal) = whole 1024 1024 g) :
    (dat0 V c).arrAt 2 cfg0.N = whole 4096 1024 (times 1024 f g) :=
  (dat0 V c).arrAt_eq_of_covers 2 _ (by decide +kernel) fun t _ y => by
    rw [after0_2]
    frame_out
    exact product_at (i := win0_0.index t) (j := win0_1.index t) (o := win0_2.index t) (ex := (win0_0.blk t).view.emb) (ey := (win0_1.blk t).view.emb)
      (eo := (win0_2.blk t).view.emb) (fun _ _ => rfl) (fun _ _ => rfl) (fun _ _ => rfl) hf hg (index0 t) rfl (fun _ _ => has_times) y

theorem arr1 (hf : (V c main_arg5 : S4096x1024.Idx → EReal) = whole 4096 1024 f) (hg : (V c main_arg1 : S1024x1024.Idx → EReal) = whole 1024 1024 g) :
    (dat1 V c).arrAt 2 cfg1.N = whole 4096 1024 (timesT 1024 f g) :=
  (dat1 V c).arrAt_eq_of_covers 2 _ (by decide +kernel) fun t _ y => by
    rw [after1_2]
    frame_out
    exact productT_at (i := win1_0.index t) (j := win1_1.index t) (o := win1_2.index t) (ex := (win1_0.blk t).view.emb) (ey := (win1_1.blk t).view.emb)
      (eo := (win1_2.blk t).view.emb) (fun _ _ => rfl) (fun _ _ => rfl) (fun _ _ => rfl) hf hg (index1 t) rfl (fun _ _ => has_timesT) y

theorem arr2 (hf : (V c main_arg2 : S4096x1024.Idx → EReal) = whole 4096 1024 f) (hg : (V c main_arg3 : S1024x1024.Idx → EReal) = whole 1024 1024 g) (hk : (V c main_arg4 : S4096x1024.Idx → EReal) = whole 4096 1024 k) :
    (dat2 V c).arrAt 3 cfg2.N = whole 4096 1024 (plus (times 1024 f g) k) :=
  (dat2 V c).arrAt_eq_of_covers 3 _ (by decide +kernel) fun t _ y => by
    rw [after2_3]
    frame_out
    exact sum_at (j := win2_2.index t) (o := win2_3.index t) (ez := (win2_2.blk t).view.emb) (fun _ _ => rfl) (fun _ _ => rfl) hk (index2 t).2
      (product_at (i := win2_0.index t) (j := win2_1.index t) (o := win2_3.index t) (ex := (win2_0.blk t).view.emb) (ey := (win2_1.blk t).view.emb)
      (eo := (win2_3.blk t).view.emb) (fun _ _ => rfl) (fun _ _ => rfl) (fun _ _ => rfl) hf hg (index2 t).1 rfl (fun _ _ => has_times))
      rfl y

theorem arr3 (hf : (V c main_arg6 : S4096x1024.Idx → EReal) = whole 4096 1024 f) (hg : (V c main_arg3 : S1024x1024.Idx → EReal) = whole 1024 1024 g) :
    (dat3 V c).arrAt 2 cfg3.N = whole 4096 1024 (timesT 1024 f g) :=
  (dat3 V c).arrAt_eq_of_covers 2 _ (by decide +kernel) fun t _ y => by
    rw [after3_2]
    frame_out
    exact productT_at (i := win3_0.index t) (j := win3_1.index t) (o := win3_2.index t) (ex := (win3_0.blk t).view.emb) (ey := (win3_1.blk t).view.emb)
      (eo := (win3_2.blk t).view.emb) (fun _ _ => rfl) (fun _ _ => rfl) (fun _ _ => rfl) hf hg (index3 t) rfl (fun _ _ => has_timesT) y

end Cert.Kernel10Ideal.Ffn

end
-- ==== Proof.OutResults.lean ====
/-
  The run of the out-projections' calls: what every buffer holds at the end, and the four results in closed form.
-/
module

public import proofs.«01_k».proof.Proof.OutArrays
public import Idealize.ShloMosaic.Adequacy
public import Idealize.ShloMosaic.Init

@[expose] public section

set_option maxRecDepth 16384

noncomputable section

namespace Cert.Kernel10Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel10Ideal Cert.Kernel10Ideal.Gen Cert.Ffn

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the buffers at `W4` and every counter at zero. -/
theorem run_main : θ_run defs (onTc (τ := τ) (main (F := F))) ⟨m, fun _ => 0, ρ⟩ (fun r =>
      (∀ c : Dev nD, ∀ b ∈ Pipeline.ucRefs τ sig, r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end Run

/-! ## The results -/

variable (m : (ℓ : Loc nD τ sig) → Buf (Elt Ideal) ℓ) (ρ : Dev nD → PrngReg) (c : Dev nD)

/-! The arguments' entries. -/

def arg0 : ℕ → ℕ → EReal := entries (n0 := 4096) (n1 := 1024) (m ((c.tc : Thread nD τ).loc main_arg0))
def arg1 : ℕ → ℕ → EReal := entries (n0 := 1024) (n1 := 1024) (m ((c.tc : Thread nD τ).loc main_arg1))
def arg2 : ℕ → ℕ → EReal := entries (n0 := 4096) (n1 := 1024) (m ((c.tc : Thread nD τ).loc main_arg2))
def arg3 : ℕ → ℕ → EReal := entries (n0 := 1024) (n1 := 1024) (m ((c.tc : Thread nD τ).loc main_arg3))
def arg4 : ℕ → ℕ → EReal := entries (n0 := 4096) (n1 := 1024) (m ((c.tc : Thread nD τ).loc main_arg4))
def arg5 : ℕ → ℕ → EReal := entries (n0 := 4096) (n1 := 1024) (m ((c.tc : Thread nD τ).loc main_arg5))
def arg6 : ℕ → ℕ → EReal := entries (n0 := 4096) (n1 := 1024) (m ((c.tc : Thread nD τ).loc main_arg6))

theorem arg0_eq : (m ((c.tc : Thread nD τ).loc main_arg0) : S4096x1024.Idx → EReal) = whole 4096 1024 (arg0 m c) := eq_whole (has_entries _)
theorem arg1_eq : (m ((c.tc : Thread nD τ).loc main_arg1) : S1024x1024.Idx → EReal) = whole 1024 1024 (arg1 m c) := eq_whole (has_entries _)
theorem arg2_eq : (m ((c.tc : Thread nD τ).loc main_arg2) : S4096x1024.Idx → EReal) = whole 4096 1024 (arg2 m c) := eq_whole (has_entries _)
theorem arg3_eq : (m ((c.tc : Thread nD τ).loc main_arg3) : S1024x1024.Idx → EReal) = whole 1024 1024 (arg3 m c) := eq_whole (has_entries _)
theorem arg4_eq : (m ((c.tc : Thread nD τ).loc main_arg4) : S4096x1024.Idx → EReal) = whole 4096 1024 (arg4 m c) := eq_whole (has_entries _)
theorem arg5_eq : (m ((c.tc : Thread nD τ).loc main_arg5) : S4096x1024.Idx → EReal) = whole 4096 1024 (arg5 m c) := eq_whole (has_entries _)
theorem arg6_eq : (m ((c.tc : Thread nD τ).loc main_arg6) : S4096x1024.Idx → EReal) = whole 4096 1024 (arg6 m c) := eq_whole (has_entries _)

/-! What each call computes of them. -/

def val0 : ℕ → ℕ → EReal := times 1024 (arg0 m c) (arg1 m c)
def val1 : ℕ → ℕ → EReal := timesT 1024 (arg5 m c) (arg1 m c)
def val2 : ℕ → ℕ → EReal := plus (times 1024 (arg2 m c) (arg3 m c)) (arg4 m c)
def val3 : ℕ → ℕ → EReal := timesT 1024 (arg6 m c) (arg3 m c)

theorem left0 : (W1 m ρ c (Proc.devRef .tc main_v0) : S4096x1024.Idx → EReal) = whole 4096 1024 (val0 m c) :=
  (W1_arr m ρ c 2).trans (arr0 (V0 m ρ) c ((W0_args m ρ c main_arg0 (by decide)).trans (arg0_eq m c)) ((W0_args m ρ c main_arg1 (by decide)).trans (arg1_eq m c)))
theorem left1 : (W2 m ρ c (Proc.devRef .tc main_v1) : S4096x1024.Idx → EReal) = whole 4096 1024 (val1 m c) :=
  (W2_arr m ρ c 2).trans (arr1 (V1 m ρ) c ((W1_args m ρ c main_arg5 (by decide)).trans (arg5_eq m c)) ((W1_args m ρ c main_arg1 (by decide)).trans (arg1_eq m c)))
theorem left2 : (W3 m ρ c (Proc.devRef .tc main_v2) : S4096x1024.Idx → EReal) = whole 4096 1024 (val2 m c) :=
  (W3_arr m ρ c 3).trans (arr2 (V2 m ρ) c ((W2_args m ρ c main_arg2 (by decide)).trans (arg2_eq m c)) ((W2_args m ρ c main_arg3 (by decide)).trans (arg3_eq m c)) ((W2_args m ρ c main_arg4 (by decide)).trans (arg4_eq m c)))
theorem left3 : (W4 m ρ c (Proc.devRef .tc main_v3) : S4096x1024.Idx → EReal) = whole 4096 1024 (val3 m c) :=
  (W4_arr m ρ c 2).trans (arr3 (V3 m ρ) c ((W3_args m ρ c main_arg6 (by decide)).trans (arg6_eq m c)) ((W3_args m ρ c main_arg3 (by decide)).trans (arg3_eq m c)))

theorem end0 : W4 m ρ c (Proc.devRef .tc main_v0) = W1 m ρ c (Proc.devRef .tc main_v0) :=
  (((W4_of m ρ c main_v0 (by decide +kernel)).trans (W3_of m ρ c main_v0 (by decide +kernel))).trans (W2_of m ρ c main_v0 (by decide +kernel)))
theorem end1 : W4 m ρ c (Proc.devRef .tc main_v1) = W2 m ρ c (Proc.devRef .tc main_v1) :=
  ((W4_of m ρ c main_v1 (by decide +kernel)).trans (W3_of m ρ c main_v1 (by decide +kernel)))
theorem end2 : W4 m ρ c (Proc.devRef .tc main_v2) = W3 m ρ c (Proc.devRef .tc main_v2) :=
  (W4_of m ρ c main_v2 (by decide +kernel))

/-- The kernel's run, in closed form. -/
theorem kernel_run : θ_run (defs (F := Ideal)) (onTc (τ := τ) (main (F := Ideal))) ⟨m, fun _ => 0, ρ⟩ (fun r => ∀ c : Dev nD,
      r.2.mem ((c.tc : Thread nD τ).loc main_v0) = whole 4096 1024 (val0 m c)
      ∧ r.2.mem ((c.tc : Thread nD τ).loc main_v1) = whole 4096 1024 (val1 m c)
      ∧ r.2.mem ((c.tc : Thread nD τ).loc main_v2) = whole 4096 1024 (val2 m c)
      ∧ r.2.mem ((c.tc : Thread nD τ).loc main_v3) = whole 4096 1024 (val3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    have hb : ∀ b : Ref sig .tc, ¬ (Proc.devRef .tc b : DevRef τ sig).isScoped → r.2.mem ((c.tc : Thread nD τ).loc b) = W4 m ρ c (Proc.devRef .tc b) :=
      fun b hs => h.1 c _ (mem_uc b hs)
    have ha : ∀ a : Ref sig .tc, a ∈ argRefs → ¬ (Proc.devRef .tc a : DevRef τ sig).isScoped → r.2.mem ((c.tc : Thread nD τ).loc a) = m ((c.tc : Thread nD τ).loc a) :=
      fun a hm hs => (hb a hs).trans (W4_args m ρ c a hm)
    ⟨(hb main_v0 (by decide)).trans ((end0 m ρ c).trans (left0 m ρ c)),
     (hb main_v1 (by decide)).trans ((end1 m ρ c).trans (left1 m ρ c)),
     (hb main_v2 (by decide)).trans ((end2 m ρ c).trans (left2 m ρ c)),
     (hb main_v3 (by decide)).trans (left3 m ρ c),
     ha main_arg0 (by decide) (by decide),
     ha main_arg1 (by decide) (by decide),
     ha main_arg2 (by decide) (by decide),
     ha main_arg3 (by decide) (by decide),
     ha main_arg4 (by decide) (by decide),
     ha main_arg5 (by decide) (by decide),
     ha main_arg6 (by decide) (by decide)⟩) (run_main m ρ)

end Cert.Kernel10Ideal.Ffn

end
-- ==== Proof.OutAlgebraic.lean ====
/-
  The out-projections' kernel and its reference leave equal results.
-/
module

public import proofs.«01_k».proof.Proof.OutResults
public import proofs.«01_k».proof.Defs
public import proofs.«01_k».proof.Proof.Gen.Reference10Ideal
public import proofs.«01_k».proof.Proof.Gen.Reference10Ideal.Run
public import Idealize.ShloMosaic.Lib.IdealHost

@[expose] public section

set_option maxRecDepth 16384

noncomputable section

namespace Cert.Kernel10Ideal.Ffn

open Idealize.ShloMosaic Idealize.ShloMosaic.TcCoe Idealize.SL.Sem Cert.Ffn
open Cert.Kernel10Ideal Cert.Kernel10Ideal.Gen

/-- The kernel and the reference leave equal products and equal gradients. -/
theorem algebraic : Cert.algebraic_Kernel10Ideal_Reference10Ideal (hKernel10Ideal := Cert.Kernel10Ideal.Gen.facts)
    (hReference10Ideal := Cert.Reference10Ideal.Gen.facts) := by
  intro m g m' g' hpre hargs
  refine ⟨fun c => whole 4096 1024 (val0 m c), fun c => whole 4096 1024 (val1 m c), fun c => whole 4096 1024 (val2 m c), fun c => whole 4096 1024 (val3 m c), kernel_run m g, ?_⟩
  refine (θ_run _ _ _).mono (fun r h c => ?_) (Cert.Reference10Ideal.Value.run (F := Ideal) m' g')
  obtain ⟨r0, r1, r2, r3, hrest⟩ := h c
  obtain ⟨a0, a1, a2, a3, a4, a5, a6⟩ := hargs c
  have h0 : Has (n0 := 4096) (n1 := 1024) (m' ((c.tc : Thread nD τ).loc Cert.Reference10Ideal.main_arg0)) (arg0 m c) := fun a b => (congrFun (a0.trans (arg0_eq m c)) (ix2 a b))
  have h1 : Has (n0 := 1024) (n1 := 1024) (m' ((c.tc : Thread nD τ).loc Cert.Reference10Ideal.main_arg1)) (arg1 m c) := fun a b => (congrFun (a1.trans (arg1_eq m c)) (ix2 a b))
  have h2 : Has (n0 := 4096) (n1 := 1024) (m' ((c.tc : Thread nD τ).loc Cert.Reference10Ideal.main_arg2)) (arg2 m c) := fun a b => (congrFun (a2.trans (arg2_eq m c)) (ix2 a b))
  have h3 : Has (n0 := 1024) (n1 := 1024) (m' ((c.tc : Thread nD τ).loc Cert.Reference10Ideal.main_arg3)) (arg3 m c) := fun a b => (congrFun (a3.trans (arg3_eq m c)) (ix2 a b))
  have h4 : Has (n0 := 4096) (n1 := 1024) (m' ((c.tc : Thread nD τ).loc Cert.Reference10Ideal.main_arg4)) (arg4 m c) := fun a b => (congrFun (a4.trans (arg4_eq m c)) (ix2 a b))
  have h5 : Has (n0 := 4096) (n1 := 1024) (m' ((c.tc : Thread nD τ).loc Cert.Reference10Ideal.main_arg5)) (arg5 m c) := fun a b => (congrFun (a5.trans (arg5_eq m c)) (ix2 a b))
  have h6 : Has (n0 := 4096) (n1 := 1024) (m' ((c.tc : Thread nD τ).loc Cert.Reference10Ideal.main_arg6)) (arg6 m c) := fun a b => (congrFun (a6.trans (arg6_eq m c)) (ix2 a b))
  exact ⟨r0.trans (eq_whole (has_dot (has_times h0 h1))),
    r1.trans (eq_whole (has_dot (has_timesT h5 h1))),
    r2.trans (eq_whole ((plus_comm (arg4 m c) _).subst (motive := fun f => Has _ f) (has_plus h4 (has_dot (has_times h2 h3))))),
    r3.trans (eq_whole (has_dot (has_timesT h6 h3))), hrest⟩

end Cert.Kernel10Ideal.Ffn

end
-- ==== Proof.UpArrays.lean ====
/-
  The arrays the eight calls of the two up-projections leave.
-/
module

public import proofs.«01_k».proof.Proof.ProjSpec
public import proofs.«01_k».proof.Proof.Gen.Kernel13Ideal.Frame
public import Idealize.ShloMosaic.Lib.Pipeline.ValueKit.Geometry
public import Idealize.ShloMosaic.Lib.Pipeline.ValueKit.Acc
public import Idealize.ShloMosaic.Lib.Pipeline.Value
public import Idealize.ShloMosaic.Lib.IdealHost

@[expose] public section

set_option maxRecDepth 16384

noncomputable section

namespace Cert.Kernel13Ideal.Ffn

open Idealize.ShloMosaic Idealize.ShloMosaic.TcCoe Cert.Ffn
open Cert.Kernel13Ideal Cert.Kernel13Ideal.Gen
open scoped BigOperators

/-! ## Where the operands' blocks sit, by the output's block -/

theorem index0 : ∀ t : Fin cfg0.N, win0_0.index t = ![win0_2.index t 0, 0] ∧ win0_1.index t = ![0, win0_2.index t 1] :=
  (by decide +kernel : ∀ t : Fin grid0.N, _)
theorem index1 : ∀ t : Fin cfg1.N, win1_0.index t = ![win1_2.index t 0, 0] ∧ win1_1.index t = ![0, win1_2.index t 1] :=
  (by decide +kernel : ∀ t : Fin grid1.N, _)
theorem index2 : ∀ t : Fin cfg2.N, win2_0.index t = ![win2_2.index t 0, 0] ∧ win2_1.index t = ![win2_2.index t 1, 0] :=
  (by decide +kernel : ∀ t : Fin grid2.N, _)
theorem index3 : ∀ t : Fin cfg3.N, (win3_0.index t = ![win3_3.index t 0, 0] ∧ win3_1.index t = ![win3_3.index t 1, 0]) ∧ win3_2.index t = win3_3.index t :=
  (by decide +kernel : ∀ t : Fin grid3.N, _)
theorem index4 : ∀ t : Fin cfg4.N, win4_0.index t = ![win4_2.index t 0, 0] ∧ win4_1.index t = ![0, win4_2.index t 1] :=
  (by decide +kernel : ∀ t : Fin grid4.N, _)
theorem index5 : ∀ t : Fin cfg5.N, win5_0.index t = ![win5_2.index t 0, 0] ∧ win5_1.index t = ![0, win5_2.index t 1] :=
  (by decide +kernel : ∀ t : Fin grid5.N, _)
theorem index6 : ∀ t : Fin cfg6.N, win6_0.index t = ![win6_2.index t 0, 0] ∧ win6_1.index t = ![win6_2.index t 1, 0] :=
  (by decide +kernel : ∀ t : Fin grid6.N, _)
theorem index7 : ∀ t : Fin cfg7.N, (win7_0.index t = ![win7_3.index t 0, 0] ∧ win7_1.index t = ![win7_3.index t 1, 0]) ∧ win7_2.index t = win7_3.index t :=
  (by decide +kernel : ∀ t : Fin grid7.N, _)

/-! ## The arrays -/

variable (V : (c : Dev nD) → (b : Ref sig .tc) → Buf (Elt Ideal) ((c : Thread nD τ).loc b)) (c : Dev nD) {f g k : ℕ → ℕ → EReal}

theorem arr0 (hf : (V c main_arg0 : S4096x384.Idx → EReal) = whole 4096 384 f) (hg : (V c main_arg2 : S384x1024.Idx → EReal) = whole 384 1024 g) :
    (dat0 V c).arrAt 2 cfg0.N = whole 4096 1024 (times 384 f g) :=
  (dat0 V c).arrAt_eq_of_covers 2 _ (by decide +kernel) fun t _ y => by
    rw [after0_2]
    frame_out
    exact product_at (i := win0_0.index t) (j := win0_1.index t) (o := win0_2.index t) (ex := (win0_0.blk t).view.emb) (ey := (win0_1.blk t).view.emb)
      (eo := (win0_2.blk t).view.emb) (fun _ _ => rfl) (fun _ _ => rfl) (fun _ _ => rfl) hf hg (index0 t) rfl (fun _ _ => has_times) y

theorem arr1 (hf : (V c main_arg0 : S4096x384.Idx → EReal) = whole 4096 384 f) (hg : (V c main_arg3 : S384x1024.Idx → EReal) = whole 384 1024 g) :
    (dat1 V c).arrAt 2 cfg1.N = whole 4096 1024 (times 384 f g) :=
  (dat1 V c).arrAt_eq_of_covers 2 _ (by decide +kernel) fun t _ y => by
    rw [after1_2]
    frame_out
    exact product_at (i := win1_0.index t) (j := win1_1.index t) (o := win1_2.index t) (ex := (win1_0.blk t).view.emb) (ey := (win1_1.blk t).view.emb)
      (eo := (win1_2.blk t).view.emb) (fun _ _ => rfl) (fun _ _ => rfl) (fun _ _ => rfl) hf hg (index1 t) rfl (fun _ _ => has_times) y

theorem arr2 (hf : (V c main_arg6 : S4096x1024.Idx → EReal) = whole 4096 1024 f) (hg : (V c main_arg2 : S384x1024.Idx → EReal) = whole 384 1024 g) :
    (dat2 V c).arrAt 2 cfg2.N = whole 4096 384 (timesT 1024 f g) :=
  (dat2 V c).arrAt_eq_of_covers 2 _ (by decide +kernel) fun t _ y => by
    rw [after2_2]
    frame_out
    exact productT_at (i := win2_0.index t) (j := win2_1.index t) (o := win2_2.index t) (ex := (win2_0.blk t).view.emb) (ey := (win2_1.blk t).view.emb)
      (eo := (win2_2.blk t).view.emb) (fun _ _ => rfl) (fun _ _ => rfl) (fun _ _ => rfl) hf hg (index2 t) rfl (fun _ _ => has_timesT) y

theorem arr3 (hf : (V c main_arg7 : S4096x1024.Idx → EReal) = whole 4096 1024 f) (hg : (V c main_arg3 : S384x1024.Idx → EReal) = whole 384 1024 g) (hk : (V c main_v2 : S4096x384.Idx → EReal) = whole 4096 384 k) :
    (dat3 V c).arrAt 3 cfg3.N = whole 4096 384 (plus (timesT 1024 f g) k) :=
  (dat3 V c).arrAt_eq_of_covers 3 _ (by decide +kernel) fun t _ y => by
    rw [after3_3]
    frame_out
    exact sum_at (j := win3_2.index t) (o := win3_3.index t) (ez := (win3_2.blk t).view.emb) (fun _ _ => rfl) (fun _ _ => rfl) hk (index3 t).2
      (productT_at (i := win3_0.index t) (j := win3_1.index t) (o := win3_3.index t) (ex := (win3_0.blk t).view.emb) (ey := (win3_1.blk t).view.emb)
      (eo := (win3_3.blk t).view.emb) (fun _ _ => rfl) (fun _ _ => rfl) (fun _ _ => rfl) hf hg (index3 t).1 rfl (fun _ _ => has_timesT))
      (shapeCast_self _ _) y

theorem arr4 (hf : (V c main_arg1 : S4096x256.Idx → EReal) = whole 4096 256 f) (hg : (V c main_arg4 : S256x1024.Idx → EReal) = whole 256 1024 g) :
    (dat4 V c).arrAt 2 cfg4.N = whole 4096 1024 (times 256 f g) :=
  (dat4 V c).arrAt_eq_of_covers 2 _ (by decide +kernel) fun t _ y => by
    rw [after4_2]
    frame_out
    exact product_at (i := win4_0.index t) (j := win4_1.index t) (o := win4_2.index t) (ex := (win4_0.blk t).view.emb) (ey := (win4_1.blk t).view.emb)
      (eo := (win4_2.blk t).view.emb) (fun _ _ => rfl) (fun _ _ => rfl) (fun _ _ => rfl) hf hg (index4 t) rfl (fun _ _ => has_times) y

theorem arr5 (hf : (V c main_arg1 : S4096x256.Idx → EReal) = whole 4096 256 f) (hg : (V c main_arg5 : S256x1024.Idx → EReal) = whole 256 1024 g) :
    (dat5 V c).arrAt 2 cfg5.N = whole 4096 1024 (times 256 f g) :=
  (dat5 V c).arrAt_eq_of_covers 2 _ (by decide +kernel) fun t _ y => by
    rw [after5_2]
    frame_out
    exact product_at (i := win5_0.index t) (j := win5_1.index t) (o := win5_2.index t) (ex := (win5_0.blk t).view.emb) (ey := (win5_1.blk t).view.emb)
      (eo := (win5_2.blk t).view.emb) (fun _ _ => rfl) (fun _ _ => rfl) (fun _ _ => rfl) hf hg (index5 t) rfl (fun _ _ => has_times) y

theorem arr6 (hf : (V c main_arg8 : S4096x1024.Idx → EReal) = whole 4096 1024 f) (hg : (V c main_arg4 : S256x1024.Idx → EReal) = whole 256 1024 g) :
    (dat6 V c).arrAt 2 cfg6.N = whole 4096 256 (timesT 1024 f g) :=
  (dat6 V c).arrAt_eq_of_covers 2 _ (by decide +kernel) fun t _ y => by
    rw [after6_2]
    frame_out
    exact productT_at (i := win6_0.index t) (j := win6_1.index t) (o := win6_2.index t) (ex := (win6_0.blk t).view.emb) (ey := (win6_1.blk t).view.emb)
      (eo := (win6_2.blk t).view.emb) (fun _ _ => rfl) (fun _ _ => rfl) (fun _ _ => rfl) hf hg (index6 t) rfl (fun _ _ => has_timesT) y

theorem arr7 (hf : (V c main_arg9 : S4096x1024.Idx → EReal) = whole 4096 1024 f) (hg : (V c main_arg5 : S256x1024.Idx → EReal) = whole 256 1024 g) (hk : (V c main_v6 : S4096x256.Idx → EReal) = whole 4096 256 k) :
    (dat7 V c).arrAt 3 cfg7.N = whole 4096 256 (plus (timesT 1024 f g) k) :=
  (dat7 V c).arrAt_eq_of_covers 3 _ (by decide +kernel) fun t _ y => by
    rw [after7_3]
    frame_out
    exact sum_at (j := win7_2.index t) (o := win7_3.index t) (ez := (win7_2.blk t).view.emb) (fun _ _ => rfl) (fun _ _ => rfl) hk (index7 t).2
      (productT_at (i := win7_0.index t) (j := win7_1.index t) (o := win7_3.index t) (ex := (win7_0.blk t).view.emb) (ey := (win7_1.blk t).view.emb)
      (eo := (win7_3.blk t).view.emb) (fun _ _ => rfl) (fun _ _ => rfl) (fun _ _ => rfl) hf hg (index7 t).1 rfl (fun _ _ => has_timesT))
      (shapeCast_self _ _) y

end Cert.Kernel13Ideal.Ffn

end
-- ==== Proof.UpResults.lean ====
/-
  The run of the up-projections' calls: what every buffer holds at the end, and the six results in closed form.
-/
module

public import proofs.«01_k».proof.Proof.UpArrays
public import Idealize.ShloMosaic.Adequacy
public import Idealize.ShloMosaic.Init

@[expose] public section

set_option maxRecDepth 16384

noncomputable section

namespace Cert.Kernel13Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel13Ideal Cert.Kernel13Ideal.Gen Cert.Ffn

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the buffers at `W8` and every counter at zero. -/
theorem run_main : θ_run defs (onTc (τ := τ) (main (F := F))) ⟨m, fun _ => 0, ρ⟩ (fun r =>
      (∀ c : Dev nD, ∀ b ∈ Pipeline.ucRefs τ sig, r.2.mem ((c : Thread nD τ).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

end Run

/-! ## The results -/

variable (m : (ℓ : Loc nD τ sig) → Buf (Elt Ideal) ℓ) (ρ : Dev nD → PrngReg) (c : Dev nD)

/-! The arguments' entries. -/

def arg0 : ℕ → ℕ → EReal := entries (n0 := 4096) (n1 := 384) (m ((c.tc : Thread nD τ).loc main_arg0))
def arg1 : ℕ → ℕ → EReal := entries (n0 := 4096) (n1 := 256) (m ((c.tc : Thread nD τ).loc main_arg1))
def arg2 : ℕ → ℕ → EReal := entries (n0 := 384) (n1 := 1024) (m ((c.tc : Thread nD τ).loc main_arg2))
def arg3 : ℕ → ℕ → EReal := entries (n0 := 384) (n1 := 1024) (m ((c.tc : Thread nD τ).loc main_arg3))
def arg4 : ℕ → ℕ → EReal := entries (n0 := 256) (n1 := 1024) (m ((c.tc : Thread nD τ).loc main_arg4))
def arg5 : ℕ → ℕ → EReal := entries (n0 := 256) (n1 := 1024) (m ((c.tc : Thread nD τ).loc main_arg5))
def arg6 : ℕ → ℕ → EReal := entries (n0 := 4096) (n1 := 1024) (m ((c.tc : Thread nD τ).loc main_arg6))
def arg7 : ℕ → ℕ → EReal := entries (n0 := 4096) (n1 := 1024) (m ((c.tc : Thread nD τ).loc main_arg7))
def arg8 : ℕ → ℕ → EReal := entries (n0 := 4096) (n1 := 1024) (m ((c.tc : Thread nD τ).loc main_arg8))
def arg9 : ℕ → ℕ → EReal := entries (n0 := 4096) (n1 := 1024) (m ((c.tc : Thread nD τ).loc main_arg9))

theorem arg0_eq : (m ((c.tc : Thread nD τ).loc main_arg0) : S4096x384.Idx → EReal) = whole 4096 384 (arg0 m c) := eq_whole (has_entries _)
theorem arg1_eq : (m ((c.tc : Thread nD τ).loc main_arg1) : S4096x256.Idx → EReal) = whole 4096 256 (arg1 m c) := eq_whole (has_entries _)
theorem arg2_eq : (m ((c.tc : Thread nD τ).loc main_arg2) : S384x1024.Idx → EReal) = whole 384 1024 (arg2 m c) := eq_whole (has_entries _)
theorem arg3_eq : (m ((c.tc : Thread nD τ).loc main_arg3) : S384x1024.Idx → EReal) = whole 384 1024 (arg3 m c) := eq_whole (has_entries _)
theorem arg4_eq : (m ((c.tc : Thread nD τ).loc main_arg4) : S256x1024.Idx → EReal) = whole 256 1024 (arg4 m c) := eq_whole (has_entries _)
theorem arg5_eq : (m ((c.tc : Thread nD τ).loc main_arg5) : S256x1024.Idx → EReal) = whole 256 1024 (arg5 m c) := eq_whole (has_entries _)
theorem arg6_eq : (m ((c.tc : Thread nD τ).loc main_arg6) : S4096x1024.Idx → EReal) = whole 4096 1024 (arg6 m c) := eq_whole (has_entries _)
theorem arg7_eq : (m ((c.tc : Thread nD τ).loc main_arg7) : S4096x1024.Idx → EReal) = whole 4096 1024 (arg7 m c) := eq_whole (has_entries _)
theorem arg8_eq : (m ((c.tc : Thread nD τ).loc main_arg8) : S4096x1024.Idx → EReal) = whole 4096 1024 (arg8 m c) := eq_whole (has_entries _)
theorem arg9_eq : (m ((c.tc : Thread nD τ).loc main_arg9) : S4096x1024.Idx → EReal) = whole 4096 1024 (arg9 m c) := eq_whole (has_entries _)

/-! What each call computes of them. -/

def val0 : ℕ → ℕ → EReal := times 384 (arg0 m c) (arg2 m c)
def val1 : ℕ → ℕ → EReal := times 384 (arg0 m c) (arg3 m c)
def val2 : ℕ → ℕ → EReal := timesT 1024 (arg6 m c) (arg2 m c)
def val3 : ℕ → ℕ → EReal := plus (timesT 1024 (arg7 m c) (arg3 m c)) (val2 m c)
def val4 : ℕ → ℕ → EReal := times 256 (arg1 m c) (arg4 m c)
def val5 : ℕ → ℕ → EReal := times 256 (arg1 m c) (arg5 m c)
def val6 : ℕ → ℕ → EReal := timesT 1024 (arg8 m c) (arg4 m c)
def val7 : ℕ → ℕ → EReal := plus (timesT 1024 (arg9 m c) (arg5 m c)) (val6 m c)

theorem left0 : (W1 m ρ c (Proc.devRef .tc main_v0) : S4096x1024.Idx → EReal) = whole 4096 1024 (val0 m c) :=
  (W1_arr m ρ c 2).trans (arr0 (V0 m ρ) c ((W0_args m ρ c main_arg0 (by decide)).trans (arg0_eq m c)) ((W0_args m ρ c main_arg2 (by decide)).trans (arg2_eq m c)))
theorem left1 : (W2 m ρ c (Proc.devRef .tc main_v1) : S4096x1024.Idx → EReal) = whole 4096 1024 (val1 m c) :=
  (W2_arr m ρ c 2).trans (arr1 (V1 m ρ) c ((W1_args m ρ c main_arg0 (by decide)).trans (arg0_eq m c)) ((W1_args m ρ c main_arg3 (by decide)).trans (arg3_eq m c)))
theorem left2 : (W3 m ρ c (Proc.devRef .tc main_v2) : S4096x384.Idx → EReal) = whole 4096 384 (val2 m c) :=
  (W3_arr m ρ c 2).trans (arr2 (V2 m ρ) c ((W2_args m ρ c main_arg6 (by decide)).trans (arg6_eq m c)) ((W2_args m ρ c main_arg2 (by decide)).trans (arg2_eq m c)))
theorem left3 : (W4 m ρ c (Proc.devRef .tc main_v3) : S4096x384.Idx → EReal) = whole 4096 384 (val3 m c) :=
  (W4_arr m ρ c 3).trans (arr3 (V3 m ρ) c ((W3_args m ρ c main_arg7 (by decide)).trans (arg7_eq m c)) ((W3_args m ρ c main_arg3 (by decide)).trans (arg3_eq m c)) (left2 m ρ c))
theorem left4 : (W5 m ρ c (Proc.devRef .tc main_v4) : S4096x1024.Idx → EReal) = whole 4096 1024 (val4 m c) :=
  (W5_arr m ρ c 2).trans (arr4 (V4 m ρ) c ((W4_args m ρ c main_arg1 (by decide)).trans (arg1_eq m c)) ((W4_args m ρ c main_arg4 (by decide)).trans (arg4_eq m c)))
theorem left5 : (W6 m ρ c (Proc.devRef .tc main_v5) : S4096x1024.Idx → EReal) = whole 4096 1024 (val5 m c) :=
  (W6_arr m ρ c 2).trans (arr5 (V5 m ρ) c ((W5_args m ρ c main_arg1 (by decide)).trans (arg1_eq m c)) ((W5_args m ρ c main_arg5 (by decide)).trans (arg5_eq m c)))
theorem left6 : (W7 m ρ c (Proc.devRef .tc main_v6) : S4096x256.Idx → EReal) = whole 4096 256 (val6 m c) :=
  (W7_arr m ρ c 2).trans (arr6 (V6 m ρ) c ((W6_args m ρ c main_arg8 (by decide)).trans (arg8_eq m c)) ((W6_args m ρ c main_arg4 (by decide)).trans (arg4_eq m c)))
theorem left7 : (W8 m ρ c (Proc.devRef .tc main_v7) : S4096x256.Idx → EReal) = whole 4096 256 (val7 m c) :=
  (W8_arr m ρ c 3).trans (arr7 (V7 m ρ) c ((W7_args m ρ c main_arg9 (by decide)).trans (arg9_eq m c)) ((W7_args m ρ c main_arg5 (by decide)).trans (arg5_eq m c)) (left6 m ρ c))

/-! No later call writes an earlier one's result. -/

/-- The eight results, the last but one first. -/
abbrev products : List (Ref sig .tc) := [main_v6, main_v5, main_v4, main_v3, main_v2, main_v1, main_v0]

variable {b : Ref sig .tc}

theorem from7 (h : b ∈ products) : W8 m ρ c (Proc.devRef .tc b) = W7 m ρ c (Proc.devRef .tc b) :=
  (W8_of m ρ c b ((by decide +kernel : ∀ b ∈ products, ∀ w : Fin cfg7.W, Pipeline.arrRef spec7 w = b → (cfg7.win w).isOut = false) b h))
theorem from6 (h : b ∈ products.drop 1) : W8 m ρ c (Proc.devRef .tc b) = W6 m ρ c (Proc.devRef .tc b) :=
  (from7 m ρ c ((by decide : ∀ b ∈ products.drop 1, b ∈ products) b h)).trans
    (W7_of m ρ c b ((by decide +kernel : ∀ b ∈ products.drop 1, ∀ w : Fin cfg6.W, Pipeline.arrRef spec6 w = b → (cfg6.win w).isOut = false) b h))
theorem from5 (h : b ∈ products.drop 2) : W8 m ρ c (Proc.devRef .tc b) = W5 m ρ c (Proc.devRef .tc b) :=
  (from6 m ρ c ((by decide : ∀ b ∈ products.drop 2, b ∈ products.drop 1) b h)).trans
    (W6_of m ρ c b ((by decide +kernel : ∀ b ∈ products.drop 2, ∀ w : Fin cfg5.W, Pipeline.arrRef spec5 w = b → (cfg5.win w).isOut = false) b h))
theorem from4 (h : b ∈ products.drop 3) : W8 m ρ c (Proc.devRef .tc b) = W4 m ρ c (Proc.devRef .tc b) :=
  (from5 m ρ c ((by decide : ∀ b ∈ products.drop 3, b ∈ products.drop 2) b h)).trans
    (W5_of m ρ c b ((by decide +kernel : ∀ b ∈ products.drop 3, ∀ w : Fin cfg4.W, Pipeline.arrRef spec4 w = b → (cfg4.win w).isOut = false) b h))
theorem from3 (h : b ∈ products.drop 4) : W8 m ρ c (Proc.devRef .tc b) = W3 m ρ c (Proc.devRef .tc b) :=
  (from4 m ρ c ((by decide : ∀ b ∈ products.drop 4, b ∈ products.drop 3) b h)).trans
    (W4_of m ρ c b ((by decide +kernel : ∀ b ∈ products.drop 4, ∀ w : Fin cfg3.W, Pipeline.arrRef spec3 w = b → (cfg3.win w).isOut = false) b h))
theorem from2 (h : b ∈ products.drop 5) : W8 m ρ c (Proc.devRef .tc b) = W2 m ρ c (Proc.devRef .tc b) :=
  (from3 m ρ c ((by decide : ∀ b ∈ products.drop 5, b ∈ products.drop 4) b h)).trans
    (W3_of m ρ c b ((by decide +kernel : ∀ b ∈ products.drop 5, ∀ w : Fin cfg2.W, Pipeline.arrRef spec2 w = b → (cfg2.win w).isOut = false) b h))
theorem from1 (h : b ∈ products.drop 6) : W8 m ρ c (Proc.devRef .tc b) = W1 m ρ c (Proc.devRef .tc b) :=
  (from2 m ρ c ((by decide : ∀ b ∈ products.drop 6, b ∈ products.drop 5) b h)).trans
    (W2_of m ρ c b ((by decide +kernel : ∀ b ∈ products.drop 6, ∀ w : Fin cfg1.W, Pipeline.arrRef spec1 w = b → (cfg1.win w).isOut = false) b h))

/-- The kernel's run, in closed form. -/
theorem kernel_run : θ_run (defs (F := Ideal)) (onTc (τ := τ) (main (F := Ideal))) ⟨m, fun _ => 0, ρ⟩ (fun r => ∀ c : Dev nD,
      r.2.mem ((c.tc : Thread nD τ).loc main_v0) = whole 4096 1024 (val0 m c)
      ∧ r.2.mem ((c.tc : Thread nD τ).loc main_v1) = whole 4096 1024 (val1 m c)
      ∧ r.2.mem ((c.tc : Thread nD τ).loc main_v3) = whole 4096 384 (val3 m c)
      ∧ r.2.mem ((c.tc : Thread nD τ).loc main_v4) = whole 4096 1024 (val4 m c)
      ∧ r.2.mem ((c.tc : Thread nD τ).loc main_v5) = whole 4096 1024 (val5 m c)
      ∧ r.2.mem ((c.tc : Thread nD τ).loc main_v7) = whole 4096 256 (val7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    have hb : ∀ b : Ref sig .tc, ¬ (Proc.devRef .tc b : DevRef τ sig).isScoped → r.2.mem ((c.tc : Thread nD τ).loc b) = W8 m ρ c (Proc.devRef .tc b) :=
      fun b hs => h.1 c _ (mem_uc b hs)
    have ha : ∀ a : Ref sig .tc, a ∈ argRefs → ¬ (Proc.devRef .tc a : DevRef τ sig).isScoped → r.2.mem ((c.tc : Thread nD τ).loc a) = m ((c.tc : Thread nD τ).loc a) :=
      fun a hm hs => (hb a hs).trans (W8_args m ρ c a hm)
    ⟨(hb main_v0 (by decide)).trans ((from1 m ρ c (by decide)).trans (left0 m ρ c)),
     (hb main_v1 (by decide)).trans ((from2 m ρ c (by decide)).trans (left1 m ρ c)),
     (hb main_v3 (by decide)).trans ((from4 m ρ c (by decide)).trans (left3 m ρ c)),
     (hb main_v4 (by decide)).trans ((from5 m ρ c (by decide)).trans (left4 m ρ c)),
     (hb main_v5 (by decide)).trans ((from6 m ρ c (by decide)).trans (left5 m ρ c)),
     (hb main_v7 (by decide)).trans (left7 m ρ c),
     ha main_arg0 (by decide) (by decide),
     ha main_arg1 (by decide) (by decide),
     ha main_arg2 (by decide) (by decide),
     ha main_arg3 (by decide) (by decide),
     ha main_arg4 (by decide) (by decide),
     ha main_arg5 (by decide) (by decide),
     ha main_arg6 (by decide) (by decide),
     ha main_arg7 (by decide) (by decide),
     ha main_arg8 (by decide) (by decide),
     ha main_arg9 (by decide) (by decide)⟩) (run_main m ρ)

end Cert.Kernel13Ideal.Ffn

end
-- ==== Proof.UpAlgebraic.lean ====
/-
  The up-projections' kernel and its reference leave equal results.
-/
module

public import proofs.«01_k».proof.Proof.UpResults
public import proofs.«01_k».proof.Defs
public import proofs.«01_k».proof.Proof.Gen.Reference13Ideal
public import proofs.«01_k».proof.Proof.Gen.Reference13Ideal.Run
public import Idealize.ShloMosaic.Lib.IdealHost

@[expose] public section

set_option maxRecDepth 16384

noncomputable section

namespace Cert.Kernel13Ideal.Ffn

open Idealize.ShloMosaic Idealize.ShloMosaic.TcCoe Idealize.SL.Sem Cert.Ffn
open Cert.Kernel13Ideal Cert.Kernel13Ideal.Gen

/-- The kernel and the reference leave equal products and equal gradients. -/
theorem algebraic : Cert.algebraic_Kernel13Ideal_Reference13Ideal (hKernel13Ideal := Cert.Kernel13Ideal.Gen.facts)
    (hReference13Ideal := Cert.Reference13Ideal.Gen.facts) := by
  intro m g m' g' hpre hargs
  refine ⟨fun c => whole 4096 1024 (val0 m c), fun c => whole 4096 1024 (val1 m c), fun c => whole 4096 384 (val3 m c), fun c => whole 4096 1024 (val4 m c), fun c => whole 4096 1024 (val5 m c), fun c => whole 4096 256 (val7 m c), kernel_run m g, ?_⟩
  refine (θ_run _ _ _).mono (fun r h c => ?_) (Cert.Reference13Ideal.Value.run (F := Ideal) m' g')
  obtain ⟨r0, r1, r2, r3, r4, r5, hrest⟩ := h c
  obtain ⟨a0, a1, a2, a3, a4, a5, a6, a7, a8, a9⟩ := hargs c
  have h0 : Has (n0 := 4096) (n1 := 384) (m' ((c.tc : Thread nD τ).loc Cert.Reference13Ideal.main_arg0)) (arg0 m c) := fun a b => (congrFun (a0.trans (arg0_eq m c)) (ix2 a b))
  have h1 : Has (n0 := 4096) (n1 := 256) (m' ((c.tc : Thread nD τ).loc Cert.Reference13Ideal.main_arg1)) (arg1 m c) := fun a b => (congrFun (a1.trans (arg1_eq m c)) (ix2 a b))
  have h2 : Has (n0 := 384) (n1 := 1024) (m' ((c.tc : Thread nD τ).loc Cert.Reference13Ideal.main_arg2)) (arg2 m c) := fun a b => (congrFun (a2.trans (arg2_eq m c)) (ix2 a b))
  have h3 : Has (n0 := 384) (n1 := 1024) (m' ((c.tc : Thread nD τ).loc Cert.Reference13Ideal.main_arg3)) (arg3 m c) := fun a b => (congrFun (a3.trans (arg3_eq m c)) (ix2 a b))
  have h4 : Has (n0 := 256) (n1 := 1024) (m' ((c.tc : Thread nD τ).loc Cert.Reference13Ideal.main_arg4)) (arg4 m c) := fun a b => (congrFun (a4.trans (arg4_eq m c)) (ix2 a b))
  have h5 : Has (n0 := 256) (n1 := 1024) (m' ((c.tc : Thread nD τ).loc Cert.Reference13Ideal.main_arg5)) (arg5 m c) := fun a b => (congrFun (a5.trans (arg5_eq m c)) (ix2 a b))
  have h6 : Has (n0 := 4096) (n1 := 1024) (m' ((c.tc : Thread nD τ).loc Cert.Reference13Ideal.main_arg6)) (arg6 m c) := fun a b => (congrFun (a6.trans (arg6_eq m c)) (ix2 a b))
  have h7 : Has (n0 := 4096) (n1 := 1024) (m' ((c.tc : Thread nD τ).loc Cert.Reference13Ideal.main_arg7)) (arg7 m c) := fun a b => (congrFun (a7.trans (arg7_eq m c)) (ix2 a b))
  have h8 : Has (n0 := 4096) (n1 := 1024) (m' ((c.tc : Thread nD τ).loc Cert.Reference13Ideal.main_arg8)) (arg8 m c) := fun a b => (congrFun (a8.trans (arg8_eq m c)) (ix2 a b))
  have h9 : Has (n0 := 4096) (n1 := 1024) (m' ((c.tc : Thread nD τ).loc Cert.Reference13Ideal.main_arg9)) (arg9 m c) := fun a b => (congrFun (a9.trans (arg9_eq m c)) (ix2 a b))
  exact ⟨r0.trans (eq_whole (has_dot (has_times h0 h2))),
    r1.trans (eq_whole (has_dot (has_times h0 h3))),
    r2.trans (eq_whole (has_plus (has_dot (has_timesT h7 h3)) (has_dot (has_timesT h6 h2)))),
    r3.trans (eq_whole (has_dot (has_times h1 h4))),
    r4.trans (eq_whole (has_dot (has_times h1 h5))),
    r5.trans (eq_whole (has_plus (has_dot (has_timesT h9 h5)) (has_dot (has_timesT h8 h4)))), hrest⟩

end Cert.Kernel13Ideal.Ffn

end
-- ==== Proof.InWeightGrad.lean ====
/-
  The weight gradients of the in-projection's narrow parts: their sums over the rows, gathered in blocks of
  1024 rows, are the reference's.
-/
module

public import proofs.«01_k».proof.Defs
public import proofs.«01_k».proof.Proof.RowSum
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17Ideal.Value
public import proofs.«01_k».proof.Proof.Gen.Reference17Ideal
public import proofs.«01_k».proof.Proof.Gen.Reference17Ideal.Run
public import Idealize.ShloMosaic.Lib.Pipeline.ValueKit.Geometry
public import Idealize.ShloMosaic.Lib.Pipeline.ValueKit.Acc
public import Idealize.ShloMosaic.Lib.Pipeline.Value
public import Idealize.ShloMosaic.Lib.Pipeline.ReadBack
public import Idealize.ShloMosaic.Lib.IdealHost

@[expose] public section

set_option maxRecDepth 16384

noncomputable section

/-! ## The part dt of the in-projection -/

namespace Cert.Kernel14Ideal.Ffn

open Idealize.ShloMosaic Idealize.ShloMosaic.TcCoe Idealize.SL.Sem Cert.Ffn
open Cert.Kernel14Ideal Cert.Kernel14Ideal.Gen

/-- The output's block is the whole, and the operands' blocks hold whole rows. -/
theorem index : ∀ t : Fin cfg0.N, win0_0.index t = ![t.val % 4, 0] ∧ win0_1.index t = ![t.val % 4, 0] ∧ win0_2.index t = ![0, 0] :=
  (by decide +kernel : ∀ t : Fin grid0.N, _)

theorem points : cfg0.N = 4 := by decide +kernel

variable (m : (ℓ : Loc nD τ sig) → Buf (Elt Ideal) ℓ) (c : Dev nD)

/-- The accumulator at a block's first rows. -/
theorem first (t : Fin cfg0.N) (h0 : t.val % 4 = 0) (y : S1024x128.Idx) : (outsAt0 m c t.val t.isLt).2 y = k0_pay1 (iblk m c 0 t) (iblk m c 1 t) y := by
  rw [outsAt0_A m c t h0 (by have := t.isLt.trans_eq points; omega) (by omega)]
  frame_out
  rw [k0_pay2, shapeCast_self]

/-- The accumulator at the others. -/
theorem next (t : Fin cfg0.N) (h0 : ¬t.val % 4 = 0) (y : S1024x128.Idx) : (outsAt0 m c t.val t.isLt).2 y
    = addf (F := Ideal) (φ := .f32) (outsAt0 m c (t.val - 1) (Nat.lt_of_le_of_lt (Nat.sub_le _ _) t.isLt)).2 (k0_pay1 (iblk m c 0 t) (iblk m c 1 t)) y := by
  by_cases h2 : t.val % 4 = 3
  · rw [outsAt0_C m c t h0 (by omega) h2]
    frame_out
    rw [read_unread_whole, k0_pay3, shapeCast_self]
  · rw [outsAt0_B m c t h0 (by omega) h2]
    frame_out
    rw [read_unread_whole, k0_pay3, shapeCast_self]

/-- The output's block, once the block's last rows are in, is the accumulator. -/
theorem last (t : Fin cfg0.N) (h3 : t.val % 4 = 3) (y : S1024x128.Idx) :
    (show FVec Ideal S1024x128 .bf16 from (outsAt0 m c t.val t.isLt).1) y = (show FVec Ideal S1024x128 .f32 from (outsAt0 m c t.val t.isLt).2) y := by
  rw [outsAt0_C m c t (by omega) (by omega) h3]
  frame_out
  rfl

/-- The gradient: every entry the sum over all rows. -/
theorem gradient : (dats m 0 c).arrAt 2 cfg0.N = whole 1024 128 (Ttimes 4096 (entries (n0 := 4096) (n1 := 1024) (m ((c.tc : Thread nD τ).loc main_arg0)))
    (entries (n0 := 4096) (n1 := 128) (m ((c.tc : Thread nD τ).loc main_arg1)))) :=
  (dats m 0 c).arrAt_eq_of_covers 2 _ (by decide +kernel) fun t ht y => by
    have h3 : t.val % 4 = 3 := (flush0_2 t).1 ht
    rw [after0_2]
    exact (last m c t h3 y).trans (gradient_at (fun _ => ![0, 0]) (fun n hn => (outsAt0 m c n hn).2) (i := fun t => win0_0.index t) (j := fun t => win0_1.index t)
      (k := fun t => win0_2.index t) (ex := fun t => (win0_0.blk t).view.emb) (ey := fun t => (win0_1.blk t).view.emb) (eo := fun t => (win0_2.blk t).view.emb)
      (fun _ _ _ => rfl) (fun _ _ _ => rfl) (fun _ _ _ => rfl) (eq_whole (has_entries _)) (eq_whole (has_entries _)) index (first m c) (next m c) t h3 y)

/-- The kernel and the reference leave equal gradients. -/
theorem algebraic : Cert.algebraic_Kernel14Ideal_Reference14Ideal (hKernel14Ideal := Cert.Kernel14Ideal.Gen.facts)
    (hReference14Ideal := Cert.Reference14Ideal.Gen.facts) := fun m g m' g' _ hargs =>
  ⟨fun c => whole 1024 128 (Ttimes 4096 (entries (n0 := 4096) (n1 := 1024) (m ((c.tc : Thread nD τ).loc main_arg0)))
      (entries (n0 := 4096) (n1 := 128) (m ((c.tc : Thread nD τ).loc main_arg1)))),
    (θ_run _ _ _).mono (fun r h c => ⟨(h c).1.trans (gradient m c), (h c).2⟩) (Cert.Kernel14Ideal.Value.run_blocks m g),
    (θ_run _ _ _).mono (fun r h c => ⟨(h c).1.trans (eq_whole (has_gradient (has_entries_of (hargs c).1) (has_entries_of (hargs c).2) _)), (h c).2⟩)
      (Cert.Reference14Ideal.Value.run (F := Ideal) m' g')⟩

end Cert.Kernel14Ideal.Ffn

/-! ## The part q of the in-projection -/

namespace Cert.Kernel15Ideal.Ffn

open Idealize.ShloMosaic Idealize.ShloMosaic.TcCoe Idealize.SL.Sem Cert.Ffn
open Cert.Kernel15Ideal Cert.Kernel15Ideal.Gen

/-- The output's block is the whole, and the operands' blocks hold whole rows. -/
theorem index : ∀ t : Fin cfg0.N, win0_0.index t = ![t.val % 4, 0] ∧ win0_1.index t = ![t.val % 4, 0] ∧ win0_2.index t = ![0, 0] :=
  (by decide +kernel : ∀ t : Fin grid0.N, _)

theorem points : cfg0.N = 4 := by decide +kernel

variable (m : (ℓ : Loc nD τ sig) → Buf (Elt Ideal) ℓ) (c : Dev nD)

/-- The accumulator at a block's first rows. -/
theorem first (t : Fin cfg0.N) (h0 : t.val % 4 = 0) (y : S1024x384.Idx) : (outsAt0 m c t.val t.isLt).2 y = k0_pay1 (iblk m c 0 t) (iblk m c 1 t) y := by
  rw [outsAt0_A m c t h0 (by have := t.isLt.trans_eq points; omega) (by omega)]
  frame_out
  rw [k0_pay2, shapeCast_self]

/-- The accumulator at the others. -/
theorem next (t : Fin cfg0.N) (h0 : ¬t.val % 4 = 0) (y : S1024x384.Idx) : (outsAt0 m c t.val t.isLt).2 y
    = addf (F := Ideal) (φ := .f32) (outsAt0 m c (t.val - 1) (Nat.lt_of_le_of_lt (Nat.sub_le _ _) t.isLt)).2 (k0_pay1 (iblk m c 0 t) (iblk m c 1 t)) y := by
  by_cases h2 : t.val % 4 = 3
  · rw [outsAt0_C m c t h0 (by omega) h2]
    frame_out
    rw [read_unread_whole, k0_pay3, shapeCast_self]
  · rw [outsAt0_B m c t h0 (by omega) h2]
    frame_out
    rw [read_unread_whole, k0_pay3, shapeCast_self]

/-- The output's block, once the block's last rows are in, is the accumulator. -/
theorem last (t : Fin cfg0.N) (h3 : t.val % 4 = 3) (y : S1024x384.Idx) :
    (show FVec Ideal S1024x384 .bf16 from (outsAt0 m c t.val t.isLt).1) y = (show FVec Ideal S1024x384 .f32 from (outsAt0 m c t.val t.isLt).2) y := by
  rw [outsAt0_C m c t (by omega) (by omega) h3]
  frame_out
  rfl

/-- The gradient: every entry the sum over all rows. -/
theorem gradient : (dats m 0 c).arrAt 2 cfg0.N = whole 1024 384 (Ttimes 4096 (entries (n0 := 4096) (n1 := 1024) (m ((c.tc : Thread nD τ).loc main_arg0)))
    (entries (n0 := 4096) (n1 := 384) (m ((c.tc : Thread nD τ).loc main_arg1)))) :=
  (dats m 0 c).arrAt_eq_of_covers 2 _ (by decide +kernel) fun t ht y => by
    have h3 : t.val % 4 = 3 := (flush0_2 t).1 ht
    rw [after0_2]
    exact (last m c t h3 y).trans (gradient_at (fun _ => ![0, 0]) (fun n hn => (outsAt0 m c n hn).2) (i := fun t => win0_0.index t) (j := fun t => win0_1.index t)
      (k := fun t => win0_2.index t) (ex := fun t => (win0_0.blk t).view.emb) (ey := fun t => (win0_1.blk t).view.emb) (eo := fun t => (win0_2.blk t).view.emb)
      (fun _ _ _ => rfl) (fun _ _ _ => rfl) (fun _ _ _ => rfl) (eq_whole (has_entries _)) (eq_whole (has_entries _)) index (first m c) (next m c) t h3 y)

/-- The kernel and the reference leave equal gradients. -/
theorem algebraic : Cert.algebraic_Kernel15Ideal_Reference15Ideal (hKernel15Ideal := Cert.Kernel15Ideal.Gen.facts)
    (hReference15Ideal := Cert.Reference15Ideal.Gen.facts) := fun m g m' g' _ hargs =>
  ⟨fun c => whole 1024 384 (Ttimes 4096 (entries (n0 := 4096) (n1 := 1024) (m ((c.tc : Thread nD τ).loc main_arg0)))
      (entries (n0 := 4096) (n1 := 384) (m ((c.tc : Thread nD τ).loc main_arg1)))),
    (θ_run _ _ _).mono (fun r h c => ⟨(h c).1.trans (gradient m c), (h c).2⟩) (Cert.Kernel15Ideal.Value.run_blocks m g),
    (θ_run _ _ _).mono (fun r h c => ⟨(h c).1.trans (eq_whole (has_gradient (has_entries_of (hargs c).1) (has_entries_of (hargs c).2) _)), (h c).2⟩)
      (Cert.Reference15Ideal.Value.run (F := Ideal) m' g')⟩

end Cert.Kernel15Ideal.Ffn

/-! ## The part ckv of the in-projection -/

namespace Cert.Kernel16Ideal.Ffn

open Idealize.ShloMosaic Idealize.ShloMosaic.TcCoe Idealize.SL.Sem Cert.Ffn
open Cert.Kernel16Ideal Cert.Kernel16Ideal.Gen

/-- The output's block is the whole, and the operands' blocks hold whole rows. -/
theorem index : ∀ t : Fin cfg0.N, win0_0.index t = ![t.val % 4, 0] ∧ win0_1.index t = ![t.val % 4, 0] ∧ win0_2.index t = ![0, 0] :=
  (by decide +kernel : ∀ t : Fin grid0.N, _)

theorem points : cfg0.N = 4 := by decide +kernel

variable (m : (ℓ : Loc nD τ sig) → Buf (Elt Ideal) ℓ) (c : Dev nD)

/-- The accumulator at a block's first rows. -/
theorem first (t : Fin cfg0.N) (h0 : t.val % 4 = 0) (y : S1024x256.Idx) : (outsAt0 m c t.val t.isLt).2 y = k0_pay1 (iblk m c 0 t) (iblk m c 1 t) y := by
  rw [outsAt0_A m c t h0 (by have := t.isLt.trans_eq points; omega) (by omega)]
  frame_out
  rw [k0_pay2, shapeCast_self]

/-- The accumulator at the others. -/
theorem next (t : Fin cfg0.N) (h0 : ¬t.val % 4 = 0) (y : S1024x256.Idx) : (outsAt0 m c t.val t.isLt).2 y
    = addf (F := Ideal) (φ := .f32) (outsAt0 m c (t.val - 1) (Nat.lt_of_le_of_lt (Nat.sub_le _ _) t.isLt)).2 (k0_pay1 (iblk m c 0 t) (iblk m c 1 t)) y := by
  by_cases h2 : t.val % 4 = 3
  · rw [outsAt0_C m c t h0 (by omega) h2]
    frame_out
    rw [read_unread_whole, k0_pay3, shapeCast_self]
  · rw [outsAt0_B m c t h0 (by omega) h2]
    frame_out
    rw [read_unread_whole, k0_pay3, shapeCast_self]

/-- The output's block, once the block's last rows are in, is the accumulator. -/
theorem last (t : Fin cfg0.N) (h3 : t.val % 4 = 3) (y : S1024x256.Idx) :
    (show FVec Ideal S1024x256 .bf16 from (outsAt0 m c t.val t.isLt).1) y = (show FVec Ideal S1024x256 .f32 from (outsAt0 m c t.val t.isLt).2) y := by
  rw [outsAt0_C m c t (by omega) (by omega) h3]
  frame_out
  rfl

/-- The gradient: every entry the sum over all rows. -/
theorem gradient : (dats m 0 c).arrAt 2 cfg0.N = whole 1024 256 (Ttimes 4096 (entries (n0 := 4096) (n1 := 1024) (m ((c.tc : Thread nD τ).loc main_arg0)))
    (entries (n0 := 4096) (n1 := 256) (m ((c.tc : Thread nD τ).loc main_arg1)))) :=
  (dats m 0 c).arrAt_eq_of_covers 2 _ (by decide +kernel) fun t ht y => by
    have h3 : t.val % 4 = 3 := (flush0_2 t).1 ht
    rw [after0_2]
    exact (last m c t h3 y).trans (gradient_at (fun _ => ![0, 0]) (fun n hn => (outsAt0 m c n hn).2) (i := fun t => win0_0.index t) (j := fun t => win0_1.index t)
      (k := fun t => win0_2.index t) (ex := fun t => (win0_0.blk t).view.emb) (ey := fun t => (win0_1.blk t).view.emb) (eo := fun t => (win0_2.blk t).view.emb)
      (fun _ _ _ => rfl) (fun _ _ _ => rfl) (fun _ _ _ => rfl) (eq_whole (has_entries _)) (eq_whole (has_entries _)) index (first m c) (next m c) t h3 y)

/-- The kernel and the reference leave equal gradients. -/
theorem algebraic : Cert.algebraic_Kernel16Ideal_Reference16Ideal (hKernel16Ideal := Cert.Kernel16Ideal.Gen.facts)
    (hReference16Ideal := Cert.Reference16Ideal.Gen.facts) := fun m g m' g' _ hargs =>
  ⟨fun c => whole 1024 256 (Ttimes 4096 (entries (n0 := 4096) (n1 := 1024) (m ((c.tc : Thread nD τ).loc main_arg0)))
      (entries (n0 := 4096) (n1 := 256) (m ((c.tc : Thread nD τ).loc main_arg1)))),
    (θ_run _ _ _).mono (fun r h c => ⟨(h c).1.trans (gradient m c), (h c).2⟩) (Cert.Kernel16Ideal.Value.run_blocks m g),
    (θ_run _ _ _).mono (fun r h c => ⟨(h c).1.trans (eq_whole (has_gradient (has_entries_of (hargs c).1) (has_entries_of (hargs c).2) _)), (h c).2⟩)
      (Cert.Reference16Ideal.Value.run (F := Ideal) m' g')⟩

end Cert.Kernel16Ideal.Ffn

/-! ## The part kr of the in-projection -/

namespace Cert.Kernel17Ideal.Ffn

open Idealize.ShloMosaic Idealize.ShloMosaic.TcCoe Idealize.SL.Sem Cert.Ffn
open Cert.Kernel17Ideal Cert.Kernel17Ideal.Gen

/-- The output's block is the whole, and the operands' blocks hold whole rows. -/
theorem index : ∀ t : Fin cfg0.N, win0_0.index t = ![t.val % 4, 0] ∧ win0_1.index t = ![t.val % 4, 0] ∧ win0_2.index t = ![0, 0] :=
  (by decide +kernel : ∀ t : Fin grid0.N, _)

theorem points : cfg0.N = 4 := by decide +kernel

variable (m : (ℓ : Loc nD τ sig) → Buf (Elt Ideal) ℓ) (c : Dev nD)

/-- The accumulator at a block's first rows. -/
theorem first (t : Fin cfg0.N) (h0 : t.val % 4 = 0) (y : S1024x128.Idx) : (outsAt0 m c t.val t.isLt).2 y = k0_pay1 (iblk m c 0 t) (iblk m c 1 t) y := by
  rw [outsAt0_A m c t h0 (by have := t.isLt.trans_eq points; omega) (by omega)]
  frame_out
  rw [k0_pay2, shapeCast_self]

/-- The accumulator at the others. -/
theorem next (t : Fin cfg0.N) (h0 : ¬t.val % 4 = 0) (y : S1024x128.Idx) : (outsAt0 m c t.val t.isLt).2 y
    = addf (F := Ideal) (φ := .f32) (outsAt0 m c (t.val - 1) (Nat.lt_of_le_of_lt (Nat.sub_le _ _) t.isLt)).2 (k0_pay1 (iblk m c 0 t) (iblk m c 1 t)) y := by
  by_cases h2 : t.val % 4 = 3
  · rw [outsAt0_C m c t h0 (by omega) h2]
    frame_out
    rw [read_unread_whole, k0_pay3, shapeCast_self]
  · rw [outsAt0_B m c t h0 (by omega) h2]
    frame_out
    rw [read_unread_whole, k0_pay3, shapeCast_self]

/-- The output's block, once the block's last rows are in, is the accumulator. -/
theorem last (t : Fin cfg0.N) (h3 : t.val % 4 = 3) (y : S1024x128.Idx) :
    (show FVec Ideal S1024x128 .bf16 from (outsAt0 m c t.val t.isLt).1) y = (show FVec Ideal S1024x128 .f32 from (outsAt0 m c t.val t.isLt).2) y := by
  rw [outsAt0_C m c t (by omega) (by omega) h3]
  frame_out
  rfl

/-- The gradient: every entry the sum over all rows. -/
theorem gradient : (dats m 0 c).arrAt 2 cfg0.N = whole 1024 128 (Ttimes 4096 (entries (n0 := 4096) (n1 := 1024) (m ((c.tc : Thread nD τ).loc main_arg0)))
    (entries (n0 := 4096) (n1 := 128) (m ((c.tc : Thread nD τ).loc main_arg1)))) :=
  (dats m 0 c).arrAt_eq_of_covers 2 _ (by decide +kernel) fun t ht y => by
    have h3 : t.val % 4 = 3 := (flush0_2 t).1 ht
    rw [after0_2]
    exact (last m c t h3 y).trans (gradient_at (fun _ => ![0, 0]) (fun n hn => (outsAt0 m c n hn).2) (i := fun t => win0_0.index t) (j := fun t => win0_1.index t)
      (k := fun t => win0_2.index t) (ex := fun t => (win0_0.blk t).view.emb) (ey := fun t => (win0_1.blk t).view.emb) (eo := fun t => (win0_2.blk t).view.emb)
      (fun _ _ _ => rfl) (fun _ _ _ => rfl) (fun _ _ _ => rfl) (eq_whole (has_entries _)) (eq_whole (has_entries _)) index (first m c) (next m c) t h3 y)

/-- The kernel and the reference leave equal gradients. -/
theorem algebraic : Cert.algebraic_Kernel17Ideal_Reference17Ideal (hKernel17Ideal := Cert.Kernel17Ideal.Gen.facts)
    (hReference17Ideal := Cert.Reference17Ideal.Gen.facts) := fun m g m' g' _ hargs =>
  ⟨fun c => whole 1024 128 (Ttimes 4096 (entries (n0 := 4096) (n1 := 1024) (m ((c.tc : Thread nD τ).loc main_arg0)))
      (entries (n0 := 4096) (n1 := 128) (m ((c.tc : Thread nD τ).loc main_arg1)))),
    (θ_run _ _ _).mono (fun r h c => ⟨(h c).1.trans (gradient m c), (h c).2⟩) (Cert.Kernel17Ideal.Value.run_blocks m g),
    (θ_run _ _ _).mono (fun r h c => ⟨(h c).1.trans (eq_whole (has_gradient (has_entries_of (hargs c).1) (has_entries_of (hargs c).2) _)), (h c).2⟩)
      (Cert.Reference17Ideal.Value.run (F := Ideal) m' g')⟩

end Cert.Kernel17Ideal.Ffn

end
-- ==== Proof.UpWeightGrad.lean ====
/-
  The weight gradients of the attention's up-projections: their sums over the rows, gathered in blocks of
  1024 rows, are the reference's.
-/
module

public import proofs.«01_k».proof.Defs
public import proofs.«01_k».proof.Proof.RowSum
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20Ideal.Value
public import proofs.«01_k».proof.Proof.Gen.Reference20Ideal
public import proofs.«01_k».proof.Proof.Gen.Reference20Ideal.Run
public import Idealize.ShloMosaic.Lib.Pipeline.ValueKit.Geometry
public import Idealize.ShloMosaic.Lib.Pipeline.ValueKit.Acc
public import Idealize.ShloMosaic.Lib.Pipeline.Value
public import Idealize.ShloMosaic.Lib.Pipeline.ReadBack
public import Idealize.ShloMosaic.Lib.IdealHost

@[expose] public section

set_option maxRecDepth 16384

noncomputable section

/-! ## The content or rotary part of q's up-projection -/

namespace Cert.Kernel18Ideal.Ffn

open Idealize.ShloMosaic Idealize.ShloMosaic.TcCoe Idealize.SL.Sem Cert.Ffn
open Cert.Kernel18Ideal Cert.Kernel18Ideal.Gen

/-- The output's block is the whole, and the operands' blocks hold whole rows. -/
theorem index : ∀ t : Fin cfg0.N, win0_0.index t = ![t.val % 4, 0] ∧ win0_1.index t = ![t.val % 4, 0] ∧ win0_2.index t = ![0, 0] :=
  (by decide +kernel : ∀ t : Fin grid0.N, _)

theorem points : cfg0.N = 4 := by decide +kernel

variable (m : (ℓ : Loc nD τ sig) → Buf (Elt Ideal) ℓ) (c : Dev nD)

/-- The accumulator at a block's first rows. -/
theorem first (t : Fin cfg0.N) (h0 : t.val % 4 = 0) (y : S384x1024.Idx) : (outsAt0 m c t.val t.isLt).2 y = k0_pay1 (iblk m c 0 t) (iblk m c 1 t) y := by
  rw [outsAt0_A m c t h0 (by have := t.isLt.trans_eq points; omega) (by omega)]
  frame_out
  rw [k0_pay2, shapeCast_self]

/-- The accumulator at the others. -/
theorem next (t : Fin cfg0.N) (h0 : ¬t.val % 4 = 0) (y : S384x1024.Idx) : (outsAt0 m c t.val t.isLt).2 y
    = addf (F := Ideal) (φ := .f32) (outsAt0 m c (t.val - 1) (Nat.lt_of_le_of_lt (Nat.sub_le _ _) t.isLt)).2 (k0_pay1 (iblk m c 0 t) (iblk m c 1 t)) y := by
  by_cases h2 : t.val % 4 = 3
  · rw [outsAt0_C m c t h0 (by omega) h2]
    frame_out
    rw [read_unread_whole, k0_pay3, shapeCast_self]
  · rw [outsAt0_B m c t h0 (by omega) h2]
    frame_out
    rw [read_unread_whole, k0_pay3, shapeCast_self]

/-- The output's block, once the block's last rows are in, is the accumulator. -/
theorem last (t : Fin cfg0.N) (h3 : t.val % 4 = 3) (y : S384x1024.Idx) :
    (show FVec Ideal S384x1024 .bf16 from (outsAt0 m c t.val t.isLt).1) y = (show FVec Ideal S384x1024 .f32 from (outsAt0 m c t.val t.isLt).2) y := by
  rw [outsAt0_C m c t (by omega) (by omega) h3]
  frame_out
  rfl

/-- The gradient: every entry the sum over all rows. -/
theorem gradient : (dats m 0 c).arrAt 2 cfg0.N = whole 384 1024 (Ttimes 4096 (entries (n0 := 4096) (n1 := 384) (m ((c.tc : Thread nD τ).loc main_arg0)))
    (entries (n0 := 4096) (n1 := 1024) (m ((c.tc : Thread nD τ).loc main_arg1)))) :=
  (dats m 0 c).arrAt_eq_of_covers 2 _ (by decide +kernel) fun t ht y => by
    have h3 : t.val % 4 = 3 := (flush0_2 t).1 ht
    rw [after0_2]
    exact (last m c t h3 y).trans (gradient_at (fun _ => ![0, 0]) (fun n hn => (outsAt0 m c n hn).2) (i := fun t => win0_0.index t) (j := fun t => win0_1.index t)
      (k := fun t => win0_2.index t) (ex := fun t => (win0_0.blk t).view.emb) (ey := fun t => (win0_1.blk t).view.emb) (eo := fun t => (win0_2.blk t).view.emb)
      (fun _ _ _ => rfl) (fun _ _ _ => rfl) (fun _ _ _ => rfl) (eq_whole (has_entries _)) (eq_whole (has_entries _)) index (first m c) (next m c) t h3 y)

/-- The kernel and the reference leave equal gradients. -/
theorem algebraic : Cert.algebraic_Kernel18Ideal_Reference18Ideal (hKernel18Ideal := Cert.Kernel18Ideal.Gen.facts)
    (hReference18Ideal := Cert.Reference18Ideal.Gen.facts) := fun m g m' g' _ hargs =>
  ⟨fun c => whole 384 1024 (Ttimes 4096 (entries (n0 := 4096) (n1 := 384) (m ((c.tc : Thread nD τ).loc main_arg0)))
      (entries (n0 := 4096) (n1 := 1024) (m ((c.tc : Thread nD τ).loc main_arg1)))),
    (θ_run _ _ _).mono (fun r h c => ⟨(h c).1.trans (gradient m c), (h c).2⟩) (Cert.Kernel18Ideal.Value.run_blocks m g),
    (θ_run _ _ _).mono (fun r h c => ⟨(h c).1.trans (eq_whole (has_gradient (has_entries_of (hargs c).1) (has_entries_of (hargs c).2) _)), (h c).2⟩)
      (Cert.Reference18Ideal.Value.run (F := Ideal) m' g')⟩

end Cert.Kernel18Ideal.Ffn

/-! ## The content part of the keys' up-projection -/

namespace Cert.Kernel19Ideal.Ffn

open Idealize.ShloMosaic Idealize.ShloMosaic.TcCoe Idealize.SL.Sem Cert.Ffn
open Cert.Kernel19Ideal Cert.Kernel19Ideal.Gen

/-- The output's block is the whole, and the operands' blocks hold whole rows. -/
theorem index : ∀ t : Fin cfg0.N, win0_0.index t = ![t.val % 4, 0] ∧ win0_1.index t = ![t.val % 4, 0] ∧ win0_2.index t = ![0, 0] :=
  (by decide +kernel : ∀ t : Fin grid0.N, _)

theorem points : cfg0.N = 4 := by decide +kernel

variable (m : (ℓ : Loc nD τ sig) → Buf (Elt Ideal) ℓ) (c : Dev nD)

/-- The accumulator at a block's first rows. -/
theorem first (t : Fin cfg0.N) (h0 : t.val % 4 = 0) (y : S256x1024.Idx) : (outsAt0 m c t.val t.isLt).2 y = k0_pay1 (iblk m c 0 t) (iblk m c 1 t) y := by
  rw [outsAt0_A m c t h0 (by have := t.isLt.trans_eq points; omega) (by omega)]
  frame_out
  rw [k0_pay2, shapeCast_self]

/-- The accumulator at the others. -/
theorem next (t : Fin cfg0.N) (h0 : ¬t.val % 4 = 0) (y : S256x1024.Idx) : (outsAt0 m c t.val t.isLt).2 y
    = addf (F := Ideal) (φ := .f32) (outsAt0 m c (t.val - 1) (Nat.lt_of_le_of_lt (Nat.sub_le _ _) t.isLt)).2 (k0_pay1 (iblk m c 0 t) (iblk m c 1 t)) y := by
  by_cases h2 : t.val % 4 = 3
  · rw [outsAt0_C m c t h0 (by omega) h2]
    frame_out
    rw [read_unread_whole, k0_pay3, shapeCast_self]
  · rw [outsAt0_B m c t h0 (by omega) h2]
    frame_out
    rw [read_unread_whole, k0_pay3, shapeCast_self]

/-- The output's block, once the block's last rows are in, is the accumulator. -/
theorem last (t : Fin cfg0.N) (h3 : t.val % 4 = 3) (y : S256x1024.Idx) :
    (show FVec Ideal S256x1024 .bf16 from (outsAt0 m c t.val t.isLt).1) y = (show FVec Ideal S256x1024 .f32 from (outsAt0 m c t.val t.isLt).2) y := by
  rw [outsAt0_C m c t (by omega) (by omega) h3]
  frame_out
  rfl

/-- The gradient: every entry the sum over all rows. -/
theorem gradient : (dats m 0 c).arrAt 2 cfg0.N = whole 256 1024 (Ttimes 4096 (entries (n0 := 4096) (n1 := 256) (m ((c.tc : Thread nD τ).loc main_arg0)))
    (entries (n0 := 4096) (n1 := 1024) (m ((c.tc : Thread nD τ).loc main_arg1)))) :=
  (dats m 0 c).arrAt_eq_of_covers 2 _ (by decide +kernel) fun t ht y => by
    have h3 : t.val % 4 = 3 := (flush0_2 t).1 ht
    rw [after0_2]
    exact (last m c t h3 y).trans (gradient_at (fun _ => ![0, 0]) (fun n hn => (outsAt0 m c n hn).2) (i := fun t => win0_0.index t) (j := fun t => win0_1.index t)
      (k := fun t => win0_2.index t) (ex := fun t => (win0_0.blk t).view.emb) (ey := fun t => (win0_1.blk t).view.emb) (eo := fun t => (win0_2.blk t).view.emb)
      (fun _ _ _ => rfl) (fun _ _ _ => rfl) (fun _ _ _ => rfl) (eq_whole (has_entries _)) (eq_whole (has_entries _)) index (first m c) (next m c) t h3 y)

/-- The kernel and the reference leave equal gradients. -/
theorem algebraic : Cert.algebraic_Kernel19Ideal_Reference19Ideal (hKernel19Ideal := Cert.Kernel19Ideal.Gen.facts)
    (hReference19Ideal := Cert.Reference19Ideal.Gen.facts) := fun m g m' g' _ hargs =>
  ⟨fun c => whole 256 1024 (Ttimes 4096 (entries (n0 := 4096) (n1 := 256) (m ((c.tc : Thread nD τ).loc main_arg0)))
      (entries (n0 := 4096) (n1 := 1024) (m ((c.tc : Thread nD τ).loc main_arg1)))),
    (θ_run _ _ _).mono (fun r h c => ⟨(h c).1.trans (gradient m c), (h c).2⟩) (Cert.Kernel19Ideal.Value.run_blocks m g),
    (θ_run _ _ _).mono (fun r h c => ⟨(h c).1.trans (eq_whole (has_gradient (has_entries_of (hargs c).1) (has_entries_of (hargs c).2) _)), (h c).2⟩)
      (Cert.Reference19Ideal.Value.run (F := Ideal) m' g')⟩

end Cert.Kernel19Ideal.Ffn

/-! ## The up-projection of v -/

namespace Cert.Kernel20Ideal.Ffn

open Idealize.ShloMosaic Idealize.ShloMosaic.TcCoe Idealize.SL.Sem Cert.Ffn
open Cert.Kernel20Ideal Cert.Kernel20Ideal.Gen

/-- The output's block is the whole, and the operands' blocks hold whole rows. -/
theorem index : ∀ t : Fin cfg0.N, win0_0.index t = ![t.val % 4, 0] ∧ win0_1.index t = ![t.val % 4, 0] ∧ win0_2.index t = ![0, 0] :=
  (by decide +kernel : ∀ t : Fin grid0.N, _)

theorem points : cfg0.N = 4 := by decide +kernel

variable (m : (ℓ : Loc nD τ sig) → Buf (Elt Ideal) ℓ) (c : Dev nD)

/-- The accumulator at a block's first rows. -/
theorem first (t : Fin cfg0.N) (h0 : t.val % 4 = 0) (y : S256x1024.Idx) : (outsAt0 m c t.val t.isLt).2 y = k0_pay1 (iblk m c 0 t) (iblk m c 1 t) y := by
  rw [outsAt0_A m c t h0 (by have := t.isLt.trans_eq points; omega) (by omega)]
  frame_out
  rw [k0_pay2, shapeCast_self]

/-- The accumulator at the others. -/
theorem next (t : Fin cfg0.N) (h0 : ¬t.val % 4 = 0) (y : S256x1024.Idx) : (outsAt0 m c t.val t.isLt).2 y
    = addf (F := Ideal) (φ := .f32) (outsAt0 m c (t.val - 1) (Nat.lt_of_le_of_lt (Nat.sub_le _ _) t.isLt)).2 (k0_pay1 (iblk m c 0 t) (iblk m c 1 t)) y := by
  by_cases h2 : t.val % 4 = 3
  · rw [outsAt0_C m c t h0 (by omega) h2]
    frame_out
    rw [read_unread_whole, k0_pay3, shapeCast_self]
  · rw [outsAt0_B m c t h0 (by omega) h2]
    frame_out
    rw [read_unread_whole, k0_pay3, shapeCast_self]

/-- The output's block, once the block's last rows are in, is the accumulator. -/
theorem last (t : Fin cfg0.N) (h3 : t.val % 4 = 3) (y : S256x1024.Idx) :
    (show FVec Ideal S256x1024 .bf16 from (outsAt0 m c t.val t.isLt).1) y = (show FVec Ideal S256x1024 .f32 from (outsAt0 m c t.val t.isLt).2) y := by
  rw [outsAt0_C m c t (by omega) (by omega) h3]
  frame_out
  rfl

/-- The gradient: every entry the sum over all rows. -/
theorem gradient : (dats m 0 c).arrAt 2 cfg0.N = whole 256 1024 (Ttimes 4096 (entries (n0 := 4096) (n1 := 256) (m ((c.tc : Thread nD τ).loc main_arg0)))
    (entries (n0 := 4096) (n1 := 1024) (m ((c.tc : Thread nD τ).loc main_arg1)))) :=
  (dats m 0 c).arrAt_eq_of_covers 2 _ (by decide +kernel) fun t ht y => by
    have h3 : t.val % 4 = 3 := (flush0_2 t).1 ht
    rw [after0_2]
    exact (last m c t h3 y).trans (gradient_at (fun _ => ![0, 0]) (fun n hn => (outsAt0 m c n hn).2) (i := fun t => win0_0.index t) (j := fun t => win0_1.index t)
      (k := fun t => win0_2.index t) (ex := fun t => (win0_0.blk t).view.emb) (ey := fun t => (win0_1.blk t).view.emb) (eo := fun t => (win0_2.blk t).view.emb)
      (fun _ _ _ => rfl) (fun _ _ _ => rfl) (fun _ _ _ => rfl) (eq_whole (has_entries _)) (eq_whole (has_entries _)) index (first m c) (next m c) t h3 y)

/-- The kernel and the reference leave equal gradients. -/
theorem algebraic : Cert.algebraic_Kernel20Ideal_Reference20Ideal (hKernel20Ideal := Cert.Kernel20Ideal.Gen.facts)
    (hReference20Ideal := Cert.Reference20Ideal.Gen.facts) := fun m g m' g' _ hargs =>
  ⟨fun c => whole 256 1024 (Ttimes 4096 (entries (n0 := 4096) (n1 := 256) (m ((c.tc : Thread nD τ).loc main_arg0)))
      (entries (n0 := 4096) (n1 := 1024) (m ((c.tc : Thread nD τ).loc main_arg1)))),
    (θ_run _ _ _).mono (fun r h c => ⟨(h c).1.trans (gradient m c), (h c).2⟩) (Cert.Kernel20Ideal.Value.run_blocks m g),
    (θ_run _ _ _).mono (fun r h c => ⟨(h c).1.trans (eq_whole (has_gradient (has_entries_of (hargs c).1) (has_entries_of (hargs c).2) _)), (h c).2⟩)
      (Cert.Reference20Ideal.Value.run (F := Ideal) m' g')⟩

end Cert.Kernel20Ideal.Ffn

end
-- ==== Proof.MemArrays.lean ====
/-
  The arrays the six calls of the memory's keys and values leave.
-/
module

public import proofs.«01_k».proof.Proof.RowSum
public import proofs.«01_k».proof.Proof.Gen.Kernel21Ideal.Frame
public import Idealize.ShloMosaic.Lib.Pipeline.ValueKit.Geometry
public import Idealize.ShloMosaic.Lib.Pipeline.ValueKit.Acc
public import Idealize.ShloMosaic.Lib.Pipeline.Value
public import Idealize.ShloMosaic.Lib.IdealHost

@[expose] public section

set_option maxRecDepth 16384

noncomputable section

namespace Cert.Kernel21Ideal.Ffn

open Idealize.ShloMosaic Idealize.ShloMosaic.TcCoe Cert.Ffn
open Cert.Kernel21Ideal Cert.Kernel21Ideal.Gen
open scoped BigOperators

/-! ## Where the operands' blocks sit, by the output's block -/

theorem index0 : ∀ t : Fin cfg0.N, win0_0.index t = ![win0_2.index t 0, 0] ∧ win0_1.index t = ![0, win0_2.index t 1] :=
  (by decide +kernel : ∀ t : Fin grid0.N, _)
theorem index1 : ∀ t : Fin cfg1.N, win1_0.index t = ![win1_2.index t 0, 0] ∧ win1_1.index t = ![0, win1_2.index t 1] :=
  (by decide +kernel : ∀ t : Fin grid1.N, _)
theorem index2 : ∀ t : Fin cfg2.N, win2_0.index t = ![win2_2.index t 0, 0] ∧ win2_1.index t = ![win2_2.index t 1, 0] :=
  (by decide +kernel : ∀ t : Fin grid2.N, _)
theorem index3 : ∀ t : Fin cfg3.N, (win3_0.index t = ![win3_3.index t 0, 0] ∧ win3_1.index t = ![win3_3.index t 1, 0]) ∧ win3_2.index t = win3_3.index t :=
  (by decide +kernel : ∀ t : Fin grid3.N, _)
theorem index4 : ∀ t : Fin cfg4.N, win4_0.index t = ![0, win4_2.index t 0] ∧ win4_1.index t = ![0, win4_2.index t 1] :=
  (by decide +kernel : ∀ t : Fin grid4.N, _)
theorem index5 : ∀ t : Fin cfg5.N, win5_0.index t = ![0, win5_2.index t 0] ∧ win5_1.index t = ![0, win5_2.index t 1] :=
  (by decide +kernel : ∀ t : Fin grid5.N, _)

/-! ## The arrays -/

variable (V : (c : Dev nD) → (b : Ref sig .tc) → Buf (Elt Ideal) ((c : Thread nD τ).loc b)) (c : Dev nD) {f g k : ℕ → ℕ → EReal}

theorem arr0 (hf : (V c main_arg0 : S256x1024.Idx → EReal) = whole 256 1024 f) (hg : (V c main_arg1 : S1024x1024.Idx → EReal) = whole 1024 1024 g) :
    (dat0 V c).arrAt 2 cfg0.N = whole 256 1024 (times 1024 f g) :=
  (dat0 V c).arrAt_eq_of_covers 2 _ (by decide +kernel) fun t _ y => by
    rw [after0_2]
    frame_out
    exact product_at (i := win0_0.index t) (j := win0_1.index t) (o := win0_2.index t) (ex := (win0_0.blk t).view.emb) (ey := (win0_1.blk t).view.emb)
      (eo := (win0_2.blk t).view.emb) (fun _ _ => rfl) (fun _ _ => rfl) (fun _ _ => rfl) hf hg (index0 t) rfl (fun _ _ => has_times) y

theorem arr1 (hf : (V c main_arg0 : S256x1024.Idx → EReal) = whole 256 1024 f) (hg : (V c main_arg2 : S1024x1024.Idx → EReal) = whole 1024 1024 g) :
    (dat1 V c).arrAt 2 cfg1.N = whole 256 1024 (times 1024 f g) :=
  (dat1 V c).arrAt_eq_of_covers 2 _ (by decide +kernel) fun t _ y => by
    rw [after1_2]
    frame_out
    exact product_at (i := win1_0.index t) (j := win1_1.index t) (o := win1_2.index t) (ex := (win1_0.blk t).view.emb) (ey := (win1_1.blk t).view.emb)
      (eo := (win1_2.blk t).view.emb) (fun _ _ => rfl) (fun _ _ => rfl) (fun _ _ => rfl) hf hg (index1 t) rfl (fun _ _ => has_times) y

theorem arr2 (hf : (V c main_arg3 : S256x1024.Idx → EReal) = whole 256 1024 f) (hg : (V c main_arg1 : S1024x1024.Idx → EReal) = whole 1024 1024 g) :
    (dat2 V c).arrAt 2 cfg2.N = whole 256 1024 (timesT 1024 f g) :=
  (dat2 V c).arrAt_eq_of_covers 2 _ (by decide +kernel) fun t _ y => by
    rw [after2_2]
    frame_out
    exact productT_at (i := win2_0.index t) (j := win2_1.index t) (o := win2_2.index t) (ex := (win2_0.blk t).view.emb) (ey := (win2_1.blk t).view.emb)
      (eo := (win2_2.blk t).view.emb) (fun _ _ => rfl) (fun _ _ => rfl) (fun _ _ => rfl) hf hg (index2 t) rfl (fun _ _ => has_timesT) y

theorem arr3 (hf : (V c main_arg4 : S256x1024.Idx → EReal) = whole 256 1024 f) (hg : (V c main_arg2 : S1024x1024.Idx → EReal) = whole 1024 1024 g) (hk : (V c main_v2 : S256x1024.Idx → EReal) = whole 256 1024 k) :
    (dat3 V c).arrAt 3 cfg3.N = whole 256 1024 (plus (timesT 1024 f g) k) :=
  (dat3 V c).arrAt_eq_of_covers 3 _ (by decide +kernel) fun t _ y => by
    rw [after3_3]
    frame_out
    exact sum_at (j := win3_2.index t) (o := win3_3.index t) (ez := (win3_2.blk t).view.emb) (fun _ _ => rfl) (fun _ _ => rfl) hk (index3 t).2
      (productT_at (i := win3_0.index t) (j := win3_1.index t) (o := win3_3.index t) (ex := (win3_0.blk t).view.emb) (ey := (win3_1.blk t).view.emb)
      (eo := (win3_3.blk t).view.emb) (fun _ _ => rfl) (fun _ _ => rfl) (fun _ _ => rfl) hf hg (index3 t).1 rfl (fun _ _ => has_timesT))
      (shapeCast_self _ _) y

theorem arr4 (hf : (V c main_arg0 : S256x1024.Idx → EReal) = whole 256 1024 f) (hg : (V c main_arg3 : S256x1024.Idx → EReal) = whole 256 1024 g) :
    (dat4 V c).arrAt 2 cfg4.N = whole 1024 1024 (Ttimes 256 f g) :=
  (dat4 V c).arrAt_eq_of_covers 2 _ (by decide +kernel) fun t _ y => by
    rw [after4_2]
    frame_out
    exact Tproduct_at (i := win4_0.index t) (j := win4_1.index t) (o := win4_2.index t) (ex := (win4_0.blk t).view.emb) (ey := (win4_1.blk t).view.emb)
      (eo := (win4_2.blk t).view.emb) (fun _ _ => rfl) (fun _ _ => rfl) (fun _ _ => rfl) hf hg (index4 t) rfl rfl (fun _ _ => has_Ttimes (φ₁ := .bf16) (φ₂ := .bf16)) y

theorem arr5 (hf : (V c main_arg0 : S256x1024.Idx → EReal) = whole 256 1024 f) (hg : (V c main_arg4 : S256x1024.Idx → EReal) = whole 256 1024 g) :
    (dat5 V c).arrAt 2 cfg5.N = whole 1024 1024 (Ttimes 256 f g) :=
  (dat5 V c).arrAt_eq_of_covers 2 _ (by decide +kernel) fun t _ y => by
    rw [after5_2]
    frame_out
    exact Tproduct_at (i := win5_0.index t) (j := win5_1.index t) (o := win5_2.index t) (ex := (win5_0.blk t).view.emb) (ey := (win5_1.blk t).view.emb)
      (eo := (win5_2.blk t).view.emb) (fun _ _ => rfl) (fun _ _ => rfl) (fun _ _ => rfl) hf hg (index5 t) rfl rfl (fun _ _ => has_Ttimes (φ₁ := .bf16) (φ₂ := .bf16)) y

end Cert.Kernel21Ideal.Ffn

end
-- ==== Proof.MemResults.lean ====
/-
  The run of the calls of the memory's keys and values: what every buffer holds at the end, and the five results in closed form.
-/
module

public import proofs.«01_k».proof.Proof.MemArrays
public import Idealize.ShloMosaic.Adequacy
public import Idealize.ShloMosaic.Init

@[expose] public section

set_option maxRecDepth 16384

noncomputable section

namespace Cert.Kernel21Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel21Ideal Cert.Kernel21Ideal.Gen Cert.Ffn

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the buffers at `W6` and every counter at zero. -/
theorem run_main : θ_run defs (onTc (τ := τ) (main (F := F))) ⟨m, fun _ => 0, ρ⟩ (fun r =>
      (∀ c : Dev nD, ∀ b ∈ Pipeline.ucRefs τ sig, r.2.mem ((c : Thread nD τ).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

end Run

/-! ## The results -/

variable (m : (ℓ : Loc nD τ sig) → Buf (Elt Ideal) ℓ) (ρ : Dev nD → PrngReg) (c : Dev nD)

/-! The arguments' entries. -/

def arg0 : ℕ → ℕ → EReal := entries (n0 := 256) (n1 := 1024) (m ((c.tc : Thread nD τ).loc main_arg0))
def arg1 : ℕ → ℕ → EReal := entries (n0 := 1024) (n1 := 1024) (m ((c.tc : Thread nD τ).loc main_arg1))
def arg2 : ℕ → ℕ → EReal := entries (n0 := 1024) (n1 := 1024) (m ((c.tc : Thread nD τ).loc main_arg2))
def arg3 : ℕ → ℕ → EReal := entries (n0 := 256) (n1 := 1024) (m ((c.tc : Thread nD τ).loc main_arg3))
def arg4 : ℕ → ℕ → EReal := entries (n0 := 256) (n1 := 1024) (m ((c.tc : Thread nD τ).loc main_arg4))

theorem arg0_eq : (m ((c.tc : Thread nD τ).loc main_arg0) : S256x1024.Idx → EReal) = whole 256 1024 (arg0 m c) := eq_whole (has_entries _)
theorem arg1_eq : (m ((c.tc : Thread nD τ).loc main_arg1) : S1024x1024.Idx → EReal) = whole 1024 1024 (arg1 m c) := eq_whole (has_entries _)
theorem arg2_eq : (m ((c.tc : Thread nD τ).loc main_arg2) : S1024x1024.Idx → EReal) = whole 1024 1024 (arg2 m c) := eq_whole (has_entries _)
theorem arg3_eq : (m ((c.tc : Thread nD τ).loc main_arg3) : S256x1024.Idx → EReal) = whole 256 1024 (arg3 m c) := eq_whole (has_entries _)
theorem arg4_eq : (m ((c.tc : Thread nD τ).loc main_arg4) : S256x1024.Idx → EReal) = whole 256 1024 (arg4 m c) := eq_whole (has_entries _)

/-! What each call computes of them. -/

def val0 : ℕ → ℕ → EReal := times 1024 (arg0 m c) (arg1 m c)
def val1 : ℕ → ℕ → EReal := times 1024 (arg0 m c) (arg2 m c)
def val2 : ℕ → ℕ → EReal := timesT 1024 (arg3 m c) (arg1 m c)
def val3 : ℕ → ℕ → EReal := plus (timesT 1024 (arg4 m c) (arg2 m c)) (val2 m c)
def val4 : ℕ → ℕ → EReal := Ttimes 256 (arg0 m c) (arg3 m c)
def val5 : ℕ → ℕ → EReal := Ttimes 256 (arg0 m c) (arg4 m c)

theorem left0 : (W1 m ρ c (Proc.devRef .tc main_v0) : S256x1024.Idx → EReal) = whole 256 1024 (val0 m c) :=
  (W1_arr m ρ c 2).trans (arr0 (V0 m ρ) c ((W0_args m ρ c main_arg0 (by decide)).trans (arg0_eq m c)) ((W0_args m ρ c main_arg1 (by decide)).trans (arg1_eq m c)))
theorem left1 : (W2 m ρ c (Proc.devRef .tc main_v1) : S256x1024.Idx → EReal) = whole 256 1024 (val1 m c) :=
  (W2_arr m ρ c 2).trans (arr1 (V1 m ρ) c ((W1_args m ρ c main_arg0 (by decide)).trans (arg0_eq m c)) ((W1_args m ρ c main_arg2 (by decide)).trans (arg2_eq m c)))
theorem left2 : (W3 m ρ c (Proc.devRef .tc main_v2) : S256x1024.Idx → EReal) = whole 256 1024 (val2 m c) :=
  (W3_arr m ρ c 2).trans (arr2 (V2 m ρ) c ((W2_args m ρ c main_arg3 (by decide)).trans (arg3_eq m c)) ((W2_args m ρ c main_arg1 (by decide)).trans (arg1_eq m c)))
theorem left3 : (W4 m ρ c (Proc.devRef .tc main_v3) : S256x1024.Idx → EReal) = whole 256 1024 (val3 m c) :=
  (W4_arr m ρ c 3).trans (arr3 (V3 m ρ) c ((W3_args m ρ c main_arg4 (by decide)).trans (arg4_eq m c)) ((W3_args m ρ c main_arg2 (by decide)).trans (arg2_eq m c)) (left2 m ρ c))
theorem left4 : (W5 m ρ c (Proc.devRef .tc main_v4) : S1024x1024.Idx → EReal) = whole 1024 1024 (val4 m c) :=
  (W5_arr m ρ c 2).trans (arr4 (V4 m ρ) c ((W4_args m ρ c main_arg0 (by decide)).trans (arg0_eq m c)) ((W4_args m ρ c main_arg3 (by decide)).trans (arg3_eq m c)))
theorem left5 : (W6 m ρ c (Proc.devRef .tc main_v5) : S1024x1024.Idx → EReal) = whole 1024 1024 (val5 m c) :=
  (W6_arr m ρ c 2).trans (arr5 (V5 m ρ) c ((W5_args m ρ c main_arg0 (by decide)).trans (arg0_eq m c)) ((W5_args m ρ c main_arg4 (by decide)).trans (arg4_eq m c)))

/-! No later call writes an earlier one's result. -/

/-- The six results, the last but one first. -/
abbrev products : List (Ref sig .tc) := [main_v4, main_v3, main_v2, main_v1, main_v0]

variable {b : Ref sig .tc}

theorem from5 (h : b ∈ products) : W6 m ρ c (Proc.devRef .tc b) = W5 m ρ c (Proc.devRef .tc b) :=
  (W6_of m ρ c b ((by decide +kernel : ∀ b ∈ products, ∀ w : Fin cfg5.W, Pipeline.arrRef spec5 w = b → (cfg5.win w).isOut = false) b h))
theorem from4 (h : b ∈ products.drop 1) : W6 m ρ c (Proc.devRef .tc b) = W4 m ρ c (Proc.devRef .tc b) :=
  (from5 m ρ c ((by decide : ∀ b ∈ products.drop 1, b ∈ products) b h)).trans
    (W5_of m ρ c b ((by decide +kernel : ∀ b ∈ products.drop 1, ∀ w : Fin cfg4.W, Pipeline.arrRef spec4 w = b → (cfg4.win w).isOut = false) b h))
theorem from3 (h : b ∈ products.drop 2) : W6 m ρ c (Proc.devRef .tc b) = W3 m ρ c (Proc.devRef .tc b) :=
  (from4 m ρ c ((by decide : ∀ b ∈ products.drop 2, b ∈ products.drop 1) b h)).trans
    (W4_of m ρ c b ((by decide +kernel : ∀ b ∈ products.drop 2, ∀ w : Fin cfg3.W, Pipeline.arrRef spec3 w = b → (cfg3.win w).isOut = false) b h))
theorem from2 (h : b ∈ products.drop 3) : W6 m ρ c (Proc.devRef .tc b) = W2 m ρ c (Proc.devRef .tc b) :=
  (from3 m ρ c ((by decide : ∀ b ∈ products.drop 3, b ∈ products.drop 2) b h)).trans
    (W3_of m ρ c b ((by decide +kernel : ∀ b ∈ products.drop 3, ∀ w : Fin cfg2.W, Pipeline.arrRef spec2 w = b → (cfg2.win w).isOut = false) b h))
theorem from1 (h : b ∈ products.drop 4) : W6 m ρ c (Proc.devRef .tc b) = W1 m ρ c (Proc.devRef .tc b) :=
  (from2 m ρ c ((by decide : ∀ b ∈ products.drop 4, b ∈ products.drop 3) b h)).trans
    (W2_of m ρ c b ((by decide +kernel : ∀ b ∈ products.drop 4, ∀ w : Fin cfg1.W, Pipeline.arrRef spec1 w = b → (cfg1.win w).isOut = false) b h))

/-- The kernel's run, in closed form. -/
theorem kernel_run : θ_run (defs (F := Ideal)) (onTc (τ := τ) (main (F := Ideal))) ⟨m, fun _ => 0, ρ⟩ (fun r => ∀ c : Dev nD,
      r.2.mem ((c.tc : Thread nD τ).loc main_v0) = whole 256 1024 (val0 m c)
      ∧ r.2.mem ((c.tc : Thread nD τ).loc main_v1) = whole 256 1024 (val1 m c)
      ∧ r.2.mem ((c.tc : Thread nD τ).loc main_v3) = whole 256 1024 (val3 m c)
      ∧ r.2.mem ((c.tc : Thread nD τ).loc main_v4) = whole 1024 1024 (val4 m c)
      ∧ r.2.mem ((c.tc : Thread nD τ).loc main_v5) = whole 1024 1024 (val5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    have hb : ∀ b : Ref sig .tc, ¬ (Proc.devRef .tc b : DevRef τ sig).isScoped → r.2.mem ((c.tc : Thread nD τ).loc b) = W6 m ρ c (Proc.devRef .tc b) :=
      fun b hs => h.1 c _ (mem_uc b hs)
    have ha : ∀ a : Ref sig .tc, a ∈ argRefs → ¬ (Proc.devRef .tc a : DevRef τ sig).isScoped → r.2.mem ((c.tc : Thread nD τ).loc a) = m ((c.tc : Thread nD τ).loc a) :=
      fun a hm hs => (hb a hs).trans (W6_args m ρ c a hm)
    ⟨(hb main_v0 (by decide)).trans ((from1 m ρ c (by decide)).trans (left0 m ρ c)),
     (hb main_v1 (by decide)).trans ((from2 m ρ c (by decide)).trans (left1 m ρ c)),
     (hb main_v3 (by decide)).trans ((from4 m ρ c (by decide)).trans (left3 m ρ c)),
     (hb main_v4 (by decide)).trans ((from5 m ρ c (by decide)).trans (left4 m ρ c)),
     (hb main_v5 (by decide)).trans (left5 m ρ c),
     ha main_arg0 (by decide) (by decide),
     ha main_arg1 (by decide) (by decide),
     ha main_arg2 (by decide) (by decide),
     ha main_arg3 (by decide) (by decide),
     ha main_arg4 (by decide) (by decide)⟩) (run_main m ρ)

end Cert.Kernel21Ideal.Ffn

end
-- ==== Proof.MemAlgebraic.lean ====
/-
  The kernel of the memory's keys and values and its reference leave equal results.
-/
module

public import proofs.«01_k».proof.Proof.MemResults
public import proofs.«01_k».proof.Defs
public import proofs.«01_k».proof.Proof.Gen.Reference21Ideal
public import proofs.«01_k».proof.Proof.Gen.Reference21Ideal.Run
public import Idealize.ShloMosaic.Lib.IdealHost

@[expose] public section

set_option maxRecDepth 16384

noncomputable section

namespace Cert.Kernel21Ideal.Ffn

open Idealize.ShloMosaic Idealize.ShloMosaic.TcCoe Idealize.SL.Sem Cert.Ffn
open Cert.Kernel21Ideal Cert.Kernel21Ideal.Gen

/-- The kernel and the reference leave equal products and equal gradients. -/
theorem algebraic : Cert.algebraic_Kernel21Ideal_Reference21Ideal (hKernel21Ideal := Cert.Kernel21Ideal.Gen.facts)
    (hReference21Ideal := Cert.Reference21Ideal.Gen.facts) := by
  intro m g m' g' hpre hargs
  refine ⟨fun c => whole 256 1024 (val0 m c), fun c => whole 256 1024 (val1 m c), fun c => whole 256 1024 (val3 m c), fun c => whole 1024 1024 (val4 m c), fun c => whole 1024 1024 (val5 m c), kernel_run m g, ?_⟩
  refine (θ_run _ _ _).mono (fun r h c => ?_) (Cert.Reference21Ideal.Value.run (F := Ideal) m' g')
  obtain ⟨r0, r1, r2, r3, r4, hrest⟩ := h c
  obtain ⟨a0, a1, a2, a3, a4⟩ := hargs c
  have h0 : Has (n0 := 256) (n1 := 1024) (m' ((c.tc : Thread nD τ).loc Cert.Reference21Ideal.main_arg0)) (arg0 m c) := has_entries_of a0
  have h1 : Has (n0 := 1024) (n1 := 1024) (m' ((c.tc : Thread nD τ).loc Cert.Reference21Ideal.main_arg1)) (arg1 m c) := has_entries_of a1
  have h2 : Has (n0 := 1024) (n1 := 1024) (m' ((c.tc : Thread nD τ).loc Cert.Reference21Ideal.main_arg2)) (arg2 m c) := has_entries_of a2
  have h3 : Has (n0 := 256) (n1 := 1024) (m' ((c.tc : Thread nD τ).loc Cert.Reference21Ideal.main_arg3)) (arg3 m c) := has_entries_of a3
  have h4 : Has (n0 := 256) (n1 := 1024) (m' ((c.tc : Thread nD τ).loc Cert.Reference21Ideal.main_arg4)) (arg4 m c) := has_entries_of a4
  exact ⟨r0.trans (eq_whole (has_dot (has_times h0 h1))),
    r1.trans (eq_whole (has_dot (has_times h0 h2))),
    r2.trans (eq_whole (has_plus (has_dot (has_timesT h4 h2)) (has_dot (has_timesT h3 h1)))),
    r3.trans (eq_whole (has_gradient h0 h3 _)),
    r4.trans (eq_whole (has_gradient h0 h4 _)), hrest⟩

end Cert.Kernel21Ideal.Ffn

end
-- ==== Proof.RowSpec.lean ====
/-
  The calls that work row by row, in closed form: the gated linear unit, the merge of the mixers and the norm; and the
  operations they are made of, entry by entry.
-/
module

public import proofs.«01_k».proof.Proof.ProjSpec
public import Idealize.ShloMosaic.Lib.IdealHost

@[expose] public section

noncomputable section

namespace Cert.Ffn

open Idealize.ShloMosaic
open scoped BigOperators

def product (f g : ℕ → ℕ → EReal) : ℕ → ℕ → EReal := fun a b => f a b * g a b
def sigmoid (f : ℕ → ℕ → EReal) : ℕ → ℕ → EReal := fun a b => Ideal.logistic (f a b)
/-- The rows of `f` with those of `g` after them, from column `n` on. -/
def beside (n : ℕ) (f g : ℕ → ℕ → EReal) : ℕ → ℕ → EReal := fun a b => if b < n then f a b else g a (b - n)
/-- The first row for every row. -/
def repeated (g : ℕ → ℕ → EReal) : ℕ → ℕ → EReal := fun _ b => g 0 b
/-- The first half of the columns times the sigmoid of the second. -/
def gated (f : ℕ → ℕ → EReal) : ℕ → ℕ → EReal := product (from_ 0 0 f) (sigmoid (from_ 0 1024 f))
/-- The sigmoid's derivative, by the sigmoid. -/
def slope (s : ℕ → ℕ → EReal) : ℕ → ℕ → EReal := fun a b => s a b * (1 - s a b)
def dgated (f d : ℕ → ℕ → EReal) : ℕ → ℕ → EReal :=
  beside 1024 (product d (sigmoid (from_ 0 1024 f))) (product (product (from_ 0 0 f) d) (slope (sigmoid (from_ 0 1024 f))))
def gates (f g : ℕ → ℕ → EReal) : ℕ → ℕ → EReal := sigmoid (plus f (repeated g))
def merged (f g x y z : ℕ → ℕ → EReal) : ℕ → ℕ → EReal :=
  plus (plus (product (from_ 0 0 (gates f g)) x) (product (from_ 0 1024 (gates f g)) y)) (product (from_ 0 2048 (gates f g)) z)
/-- What a row is divided by in the norm, inverted. -/
def inverse (f : ℕ → ℕ → EReal) (a : ℕ) : EReal :=
  Ideal.rsqrt (Ideal.div (∑ d ∈ Finset.range 1024, f a d * f a d) (Ideal.ofBits .f32 0x44800000#32) + Ideal.ofBits .f32 0x358637BD#32)
def normed (f g : ℕ → ℕ → EReal) : ℕ → ℕ → EReal := fun a b => f a b * inverse f a * g 0 b

/-! ## Operations -/

section Operations
variable {n0 n1 : ℕ} {φ : FTy} {x y : FVec Ideal ⟨2, ![n0, n1]⟩ φ} {f g : ℕ → ℕ → EReal}

theorem has_product (hx : Has x f) (hy : Has y g) : Has (mulf x y) (product f g) := fun a b => congrArg₂ (· * ·) (hx a b) (hy a b)

theorem has_logistic (hx : Has x f) : Has (logistic x) (sigmoid f) := fun a b => congrArg Ideal.logistic (hx a b)

/-- The reference's sigmoid, whose ones are an array. -/
theorem has_sigmoid (h1 : ∀ i, y i = 1) (hx : Has x f) : Has (Host.divf y (addf y (Host.exp (Host.negf x)))) (sigmoid f) := fun a b => by
  show Ideal.div (y (ix2 a b)) (y (ix2 a b) + Ideal.exp (-(x (ix2 a b)))) = _
  rw [h1, hx a b]
  rfl

theorem has_slope (h1 : ∀ i, y i = 1) (hx : Has x f) : Has (mulf x (subf y x)) (slope f) := fun a b => by
  show x (ix2 a b) * (y (ix2 a b) - x (ix2 a b)) = _
  rw [h1, hx a b]
  rfl

theorem has_at (hx : Has x f) (j : (⟨2, ![n0, n1]⟩ : Shape).Idx) : x j = f (j 0).val (j 1).val := by
  obtain ⟨a, b, rfl⟩ := pair_eq j
  exact hx a b

/-- The columns from `o` on. -/
theorem has_columns {n o : ℕ} (hx : Has x f) (h : (⟨2, ![n0, n1]⟩ : Shape).Slices ![0, o] ⟨2, ![n0, n]⟩) :
    Has (extractStridedSlice ⟨2, ![n0, n]⟩ ![0, o] x h) (from_ 0 o f) := fun a b => by
  pointwise
  exact (has_at hx _).trans (by simp [Shape.Idx.norm2, from_])

/-- Two matrices side by side. -/
theorem has_beside {u v : FVec Ideal ⟨2, ![n0, 1024]⟩ φ} (hu : Has u f) (hv : Has v g)
    (h : Shape.Concatenates [⟨2, ![n0, 1024]⟩, ⟨2, ![n0, 1024]⟩] ⟨2, ![n0, 2048]⟩ 1) :
    Has (concatenate ⟨2, ![n0, 2048]⟩ 1 [⟨_, u⟩, ⟨_, v⟩] h) (beside 1024 f g) := fun a b => by
  pointwise
  unfold beside
  split
  · exact (has_at hu _).trans (by simp [Shape.Idx.norm2])
  · exact (has_at hv _).trans (by simp [Shape.Idx.norm2])

/-- A row repeated, by the kernel. -/
theorem has_repeated {v : FVec Ideal ⟨2, ![1, n1]⟩ φ} (hn : n1 ≠ 1) (hv : Has v g) (h : (⟨2, ![1, n1]⟩ : Shape).Broadcasts ⟨2, ![n0, n1]⟩) :
    Has (broadcastTo ⟨2, ![n0, n1]⟩ v h) (repeated g) := fun a b => by
  pointwise
  exact (has_at hv _).trans (by simp [repeated, Shape.Idx.norm2, hn])

/-- A row repeated, by the reference. -/
theorem has_repeated' {v : FVec Ideal ⟨2, ![1, n1]⟩ φ} (hn : n1 ≠ 1) (hv : Has v g) (h : (⟨2, ![1, n1]⟩ : Shape).BroadcastsInDim ⟨2, ![n0, n1]⟩ ![0, 1]) :
    Has (broadcastInDim ⟨2, ![n0, n1]⟩ ![0, 1] h v) (repeated g) := fun a b => by
  pointwise
  exact (has_at hv _).trans (by simp [repeated, Shape.Idx.norm2, hn])

/-- The norm of one row, whose sum runs over the row's entries. -/
theorem normed_entry {x : (⟨2, ![n0, 1024]⟩ : Shape).Idx → EReal} {v : (⟨2, ![1, 1024]⟩ : Shape).Idx → EReal} (hx : Has x f) (hv : Has v g)
    (a : Fin n0) (b : Fin 1024) :
    x (ix2 a b) * Ideal.rsqrt (Ideal.div (∑ d : Fin 1024, x (ix2 a d) * x (ix2 a d)) (Ideal.ofBits .f32 0x44800000#32) + Ideal.ofBits .f32 0x358637BD#32) * v (ix2 0 b) =
      normed f g a.val b.val := by
  have hs : ∑ d : Fin 1024, x (ix2 a d) * x (ix2 a d) = ∑ d ∈ Finset.range 1024, f a.val d * f a.val d :=
    (Finset.sum_congr rfl fun d _ => by rw [hx a d]).trans (Fin.sum_univ_eq_sum_range (fun d => f a.val d * f a.val d) 1024)
  rw [hs, hx a b, hv 0 b]
  rfl

end Operations

/-- Zeros beside one matrix, and another beside zeros, are together the two beside each other. -/
theorem beside_zeros (n : ℕ) (f g : ℕ → ℕ → EReal) : plus (beside n (fun _ _ => 0) g) (beside n f fun _ _ => 0) = beside n f g := by
  funext a b
  simp only [plus, beside]
  split
  · exact zero_add _
  · exact add_zero _

/-! ## Blocks of rows -/

section Blocks
variable {n0 n1 N0 N1 : ℕ} {f : ℕ → ℕ → EReal} {i o : Fin 2 → ℕ} {p : ℕ}
variable {X : (⟨2, ![N0, N1]⟩ : Shape).Idx → EReal} {e : (⟨2, ![n0, n1]⟩ : Shape).Idx → (⟨2, ![N0, N1]⟩ : Shape).Idx}

theorem has_rows (he : Sits e i) (hi : i = ![p, 0]) (hX : X = whole N0 N1 f) : Has (fun y => X (e y)) (from_ (p * n0) 0 f) := by
  subst hi
  have := has_block he hX
  simpa only [Matrix.cons_val_zero, Matrix.cons_val_one, Nat.zero_mul] using this

theorem eq_rows (he : Sits e o) (ho : o 1 = 0) {r : (⟨2, ![n0, n1]⟩ : Shape).Idx → EReal} (hr : Has r (from_ (o 0 * n0) 0 f))
    (y : (⟨2, ![n0, n1]⟩ : Shape).Idx) : r y = whole N0 N1 f (e y) :=
  eq_at he (by rw [ho, Nat.zero_mul]; exact hr) y

end Blocks

section Rows
variable (p : ℕ) (f d x y z : ℕ → ℕ → EReal) (g : ℕ → ℕ → EReal)

theorem gated_rows : gated (from_ p 0 f) = from_ p 0 (gated f) := by
  funext a b; simp only [gated, product, sigmoid, from_, Nat.zero_add]

theorem dgated_rows : dgated (from_ p 0 f) (from_ p 0 d) = from_ p 0 (dgated f d) := by
  funext a b; simp only [dgated, beside, product, sigmoid, slope, from_, Nat.zero_add]

theorem merged_rows : merged (from_ p 0 f) (from_ 0 0 g) (from_ p 0 x) (from_ p 0 y) (from_ p 0 z) = from_ p 0 (merged f g x y z) := by
  funext a b; simp only [merged, gates, repeated, plus, product, sigmoid, from_, Nat.zero_add]

theorem normed_rows : normed (from_ p 0 f) (from_ 0 0 g) = from_ p 0 (normed f g) := by
  funext a b; simp only [normed, inverse, from_, Nat.zero_add]

end Rows

end Cert.Ffn

end
-- ==== Proof.RowArrays.lean ====
/-
  The arrays the four calls that work row by row leave.
-/
module

public import proofs.«01_k».proof.Proof.RowSpec
public import proofs.«01_k».proof.Proof.Gen.Kernel22Ideal.Frame
public import Idealize.ShloMosaic.Lib.Pipeline.ValueKit.Geometry
public import Idealize.ShloMosaic.Lib.Pipeline.ValueKit.Acc
public import Idealize.ShloMosaic.Lib.Pipeline.Value
public import Idealize.ShloMosaic.Lib.IdealHost

@[expose] public section

set_option maxRecDepth 16384

noncomputable section

namespace Cert.Kernel22Ideal.Ffn

open Idealize.ShloMosaic Idealize.ShloMosaic.TcCoe Cert.Ffn
open Cert.Kernel22Ideal Cert.Kernel22Ideal.Gen
open scoped BigOperators

/-! ## Where the operands' blocks sit, by the output's block -/

theorem index0 : ∀ t : Fin cfg0.N, win0_0.index t = ![win0_1.index t 0, 0] ∧ win0_1.index t 1 = 0 :=
  (by decide +kernel : ∀ t : Fin grid0.N, _)
theorem index1 : ∀ t : Fin cfg1.N, win1_0.index t = ![win1_5.index t 0, 0] ∧ win1_1.index t = ![0, 0] ∧ win1_2.index t = ![win1_5.index t 0, 0] ∧ win1_3.index t = ![win1_5.index t 0, 0] ∧ win1_4.index t = ![win1_5.index t 0, 0] ∧ win1_5.index t 1 = 0 :=
  (by decide +kernel : ∀ t : Fin grid1.N, _)
theorem index2 : ∀ t : Fin cfg2.N, win2_0.index t = ![win2_2.index t 0, 0] ∧ win2_1.index t = ![0, 0] ∧ win2_2.index t 1 = 0 :=
  (by decide +kernel : ∀ t : Fin grid2.N, _)
theorem index3 : ∀ t : Fin cfg3.N, win3_0.index t = ![win3_2.index t 0, 0] ∧ win3_1.index t = ![win3_2.index t 0, 0] ∧ win3_2.index t 1 = 0 :=
  (by decide +kernel : ∀ t : Fin grid3.N, _)

/-! ## The calls on one block -/

section Payloads
variable {f g p q r : ℕ → ℕ → EReal}

theorem has_pay0 {x : FVec Ideal S256x2048 .f32} (hx : Has x f) : Has (n0 := 256) (n1 := 1024) (k0_pay1 (F := Ideal) x) (gated f) :=
  has_product (has_columns hx _) (has_logistic (has_columns hx _))

theorem has_pay1 {x : FVec Ideal S256x3072 .f32} {v : FVec Ideal S1x3072 .f32} {u0 u1 u2 : FVec Ideal S256x1024 .f32}
    (hx : Has x f) (hv : Has v g) (h0 : Has u0 p) (h1 : Has u1 q) (h2 : Has u2 r) : Has (n0 := 256) (n1 := 1024) (k1_pay1 (F := Ideal) x v u0 u1 u2) (merged f g p q r) :=
  have hg := has_logistic (φ := .f32) (has_plus hx (has_repeated (by decide) hv broadcasts_S1x3072_S256x3072))
  has_plus (has_plus (has_product (has_columns hg _) h0) (has_product (has_columns hg _) h1)) (has_product (has_columns hg _) h2)

theorem has_pay2 {x : FVec Ideal S256x1024 .f32} {v : FVec Ideal S1x1024 .f32} (hx : Has x f) (hv : Has v g) : Has (n0 := 256) (n1 := 1024) (k2_pay1 (F := Ideal) x v) (normed f g) := fun a b => by
  unfold k2_pay1
  pointwise
  exact normed_entry hx hv a b

theorem has_pay3 {x : FVec Ideal S256x2048 .f32} {d : FVec Ideal S256x1024 .f32} (hx : Has x f) (hd : Has d g) : Has (n0 := 256) (n1 := 2048) (k3_pay1 (F := Ideal) x d) (dgated f g) := by
  have hs := has_logistic (φ := .f32) (has_columns hx slices_S256x2048_o0_1024_S256x1024)
  have hz : Has (broadcast S256x1024 (Scalar.ofBits .f32 0x00000000#32) : FVec Ideal S256x1024 .f32) (fun _ _ => 0) := fun _ _ => Ideal.ofBits_zero_f32
  have hl := has_product (φ := .f32) hd hs
  have hr := has_product (φ := .f32) (has_product (has_columns hx slices_S256x2048_o0_0_S256x1024) hd)
    (has_slope (y := broadcast S256x1024 (Scalar.ofBits .f32 0x3F800000#32)) (fun _ => Ideal.ofBits_one_f32) hs)
  unfold dgated
  rw [← beside_zeros]
  exact has_plus (has_beside hz hr concatenates_S256x1024_S256x1024_S256x2048_d1) (has_beside hl hz concatenates_S256x1024_S256x1024_S256x2048_d1)

end Payloads

/-! ## The arrays -/

variable (V : (c : Dev nD) → (b : Ref sig .tc) → Buf (Elt Ideal) ((c : Thread nD τ).loc b)) (c : Dev nD) {f g x y z : ℕ → ℕ → EReal}

theorem arr0 (hf : (V c main_arg0 : S4096x2048.Idx → EReal) = whole 4096 2048 f) :
    (dat0 V c).arrAt 1 cfg0.N = whole 4096 1024 (gated f) :=
  (dat0 V c).arrAt_eq_of_covers 1 _ (by decide +kernel) fun t _ j => by
    rw [after0_1]
    frame_out
    have h := has_pay0 (has_rows (i := win0_0.index t) (e := (win0_0.blk t).view.emb) (fun _ _ => rfl) (index0 t).1 hf)
    exact eq_rows (o := win0_1.index t) (e := (win0_1.blk t).view.emb) (fun _ _ => rfl) (index0 t).2 (gated_rows _ _ ▸ h) j

theorem arr1 (hf : (V c main_arg2 : S4096x3072.Idx → EReal) = whole 4096 3072 f) (hg : (V c main_arg3 : S1x3072.Idx → EReal) = whole 1 3072 g) (hx : (V c main_arg4 : S4096x1024.Idx → EReal) = whole 4096 1024 x) (hy : (V c main_arg5 : S4096x1024.Idx → EReal) = whole 4096 1024 y) (hz : (V c main_arg6 : S4096x1024.Idx → EReal) = whole 4096 1024 z) :
    (dat1 V c).arrAt 5 cfg1.N = whole 4096 1024 (merged f g x y z) :=
  (dat1 V c).arrAt_eq_of_covers 5 _ (by decide +kernel) fun t _ j => by
    rw [after1_5]
    frame_out
    have h := has_pay1 (has_rows (i := win1_0.index t) (e := (win1_0.blk t).view.emb) (fun _ _ => rfl) (index1 t).1 hf) (has_rows (i := win1_1.index t) (e := (win1_1.blk t).view.emb) (fun _ _ => rfl) (index1 t).2.1 hg) (has_rows (i := win1_2.index t) (e := (win1_2.blk t).view.emb) (fun _ _ => rfl) (index1 t).2.2.1 hx) (has_rows (i := win1_3.index t) (e := (win1_3.blk t).view.emb) (fun _ _ => rfl) (index1 t).2.2.2.1 hy) (has_rows (i := win1_4.index t) (e := (win1_4.blk t).view.emb) (fun _ _ => rfl) (index1 t).2.2.2.2.1 hz)
    exact eq_rows (o := win1_5.index t) (e := (win1_5.blk t).view.emb) (fun _ _ => rfl) (index1 t).2.2.2.2.2 (merged_rows _ _ _ _ _ _ ▸ h) j

theorem arr2 (hf : (V c main_arg7 : S4096x1024.Idx → EReal) = whole 4096 1024 f) (hg : (V c main_arg8 : S1x1024.Idx → EReal) = whole 1 1024 g) :
    (dat2 V c).arrAt 2 cfg2.N = whole 4096 1024 (normed f g) :=
  (dat2 V c).arrAt_eq_of_covers 2 _ (by decide +kernel) fun t _ j => by
    rw [after2_2]
    frame_out
    have h := has_pay2 (has_rows (i := win2_0.index t) (e := (win2_0.blk t).view.emb) (fun _ _ => rfl) (index2 t).1 hf) (has_rows (i := win2_1.index t) (e := (win2_1.blk t).view.emb) (fun _ _ => rfl) (index2 t).2.1 hg)
    exact eq_rows (o := win2_2.index t) (e := (win2_2.blk t).view.emb) (fun _ _ => rfl) (index2 t).2.2 (normed_rows _ _ _ ▸ h) j

theorem arr3 (hf : (V c main_arg0 : S4096x2048.Idx → EReal) = whole 4096 2048 f) (hg : (V c main_arg1 : S4096x1024.Idx → EReal) = whole 4096 1024 g) :
    (dat3 V c).arrAt 2 cfg3.N = whole 4096 2048 (dgated f g) :=
  (dat3 V c).arrAt_eq_of_covers 2 _ (by decide +kernel) fun t _ j => by
    rw [after3_2]
    frame_out
    have h := has_pay3 (has_rows (i := win3_0.index t) (e := (win3_0.blk t).view.emb) (fun _ _ => rfl) (index3 t).1 hf) (has_rows (i := win3_1.index t) (e := (win3_1.blk t).view.emb) (fun _ _ => rfl) (index3 t).2.1 hg)
    exact eq_rows (o := win3_2.index t) (e := (win3_2.blk t).view.emb) (fun _ _ => rfl) (index3 t).2.2 (dgated_rows _ _ _ ▸ h) j

end Cert.Kernel22Ideal.Ffn

end
-- ==== Proof.RowResults.lean ====
/-
  The run of the calls that work row by row: what every buffer holds at the end, and the four results in closed form.
-/
module

public import proofs.«01_k».proof.Proof.RowArrays
public import Idealize.ShloMosaic.Adequacy
public import Idealize.ShloMosaic.Init

@[expose] public section

set_option maxRecDepth 16384

noncomputable section

namespace Cert.Kernel22Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel22Ideal Cert.Kernel22Ideal.Gen Cert.Ffn

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the buffers at `W7` and every counter at zero. -/
theorem run_main : θ_run defs (onTc (τ := τ) (main (F := F))) ⟨m, fun _ => 0, ρ⟩ (fun r =>
      (∀ c : Dev nD, ∀ b ∈ Pipeline.ucRefs τ sig, r.2.mem ((c : Thread nD τ).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

end Run

/-! ## The results -/

variable (m : (ℓ : Loc nD τ sig) → Buf (Elt Ideal) ℓ) (ρ : Dev nD → PrngReg) (c : Dev nD)

/-! The arguments' entries. -/

def arg0 : ℕ → ℕ → EReal := entries (n0 := 4096) (n1 := 2048) (m ((c.tc : Thread nD τ).loc main_arg0))
def arg1 : ℕ → ℕ → EReal := entries (n0 := 4096) (n1 := 1024) (m ((c.tc : Thread nD τ).loc main_arg1))
def arg2 : ℕ → ℕ → EReal := entries (n0 := 4096) (n1 := 3072) (m ((c.tc : Thread nD τ).loc main_arg2))
def arg3 : ℕ → ℕ → EReal := entries (n0 := 1) (n1 := 3072) (m ((c.tc : Thread nD τ).loc main_arg3))
def arg4 : ℕ → ℕ → EReal := entries (n0 := 4096) (n1 := 1024) (m ((c.tc : Thread nD τ).loc main_arg4))
def arg5 : ℕ → ℕ → EReal := entries (n0 := 4096) (n1 := 1024) (m ((c.tc : Thread nD τ).loc main_arg5))
def arg6 : ℕ → ℕ → EReal := entries (n0 := 4096) (n1 := 1024) (m ((c.tc : Thread nD τ).loc main_arg6))
def arg7 : ℕ → ℕ → EReal := entries (n0 := 4096) (n1 := 1024) (m ((c.tc : Thread nD τ).loc main_arg7))
def arg8 : ℕ → ℕ → EReal := entries (n0 := 1) (n1 := 1024) (m ((c.tc : Thread nD τ).loc main_arg8))

theorem arg0_eq : (m ((c.tc : Thread nD τ).loc main_arg0) : S4096x2048.Idx → EReal) = whole 4096 2048 (arg0 m c) := eq_whole (has_entries _)
theorem arg1_eq : (m ((c.tc : Thread nD τ).loc main_arg1) : S4096x1024.Idx → EReal) = whole 4096 1024 (arg1 m c) := eq_whole (has_entries _)
theorem arg2_eq : (m ((c.tc : Thread nD τ).loc main_arg2) : S4096x3072.Idx → EReal) = whole 4096 3072 (arg2 m c) := eq_whole (has_entries _)
theorem arg3_eq : (m ((c.tc : Thread nD τ).loc main_arg3) : S1x3072.Idx → EReal) = whole 1 3072 (arg3 m c) := eq_whole (has_entries _)
theorem arg4_eq : (m ((c.tc : Thread nD τ).loc main_arg4) : S4096x1024.Idx → EReal) = whole 4096 1024 (arg4 m c) := eq_whole (has_entries _)
theorem arg5_eq : (m ((c.tc : Thread nD τ).loc main_arg5) : S4096x1024.Idx → EReal) = whole 4096 1024 (arg5 m c) := eq_whole (has_entries _)
theorem arg6_eq : (m ((c.tc : Thread nD τ).loc main_arg6) : S4096x1024.Idx → EReal) = whole 4096 1024 (arg6 m c) := eq_whole (has_entries _)
theorem arg7_eq : (m ((c.tc : Thread nD τ).loc main_arg7) : S4096x1024.Idx → EReal) = whole 4096 1024 (arg7 m c) := eq_whole (has_entries _)
theorem arg8_eq : (m ((c.tc : Thread nD τ).loc main_arg8) : S1x1024.Idx → EReal) = whole 1 1024 (arg8 m c) := eq_whole (has_entries _)

/-! What each call computes of them. -/

def val0 : ℕ → ℕ → EReal := gated (arg0 m c)
def val1 : ℕ → ℕ → EReal := merged (arg2 m c) (arg3 m c) (arg4 m c) (arg5 m c) (arg6 m c)
def val2 : ℕ → ℕ → EReal := normed (arg7 m c) (arg8 m c)
def val3 : ℕ → ℕ → EReal := dgated (arg0 m c) (arg1 m c)

theorem left0 : (W2 m ρ c (Proc.devRef .tc main_v1) : S4096x1024.Idx → EReal) = whole 4096 1024 (val0 m c) :=
  (W2_arr m ρ c 1).trans (arr0 (V1 m ρ) c ((W1_args m ρ c main_arg0 (by decide)).trans (arg0_eq m c)))
theorem left1 : (W3 m ρ c (Proc.devRef .tc main_v2) : S4096x1024.Idx → EReal) = whole 4096 1024 (val1 m c) :=
  (W3_arr m ρ c 5).trans (arr1 (V2 m ρ) c ((W2_args m ρ c main_arg2 (by decide)).trans (arg2_eq m c)) ((W2_args m ρ c main_arg3 (by decide)).trans (arg3_eq m c)) ((W2_args m ρ c main_arg4 (by decide)).trans (arg4_eq m c)) ((W2_args m ρ c main_arg5 (by decide)).trans (arg5_eq m c)) ((W2_args m ρ c main_arg6 (by decide)).trans (arg6_eq m c)))
theorem left2 : (W5 m ρ c (Proc.devRef .tc main_v4) : S4096x1024.Idx → EReal) = whole 4096 1024 (val2 m c) :=
  (W5_arr m ρ c 2).trans (arr2 (V4 m ρ) c ((W4_args m ρ c main_arg7 (by decide)).trans (arg7_eq m c)) ((W4_args m ρ c main_arg8 (by decide)).trans (arg8_eq m c)))
theorem left3 : (W7 m ρ c (Proc.devRef .tc main_v6) : S4096x2048.Idx → EReal) = whole 4096 2048 (val3 m c) :=
  (W7_arr m ρ c 2).trans (arr3 (V6 m ρ) c ((W6_args m ρ c main_arg0 (by decide)).trans (arg0_eq m c)) ((W6_args m ρ c main_arg1 (by decide)).trans (arg1_eq m c)))

/-! No later call writes an earlier one's result. -/

theorem end2 : (W7 m ρ c (Proc.devRef .tc main_v4) : S4096x1024.Idx → EReal) = whole 4096 1024 (val2 m c) :=
  ((W7_of m ρ c main_v4 (by decide +kernel)).trans (W6_of m ρ c main_v4 (by decide))).trans (left2 m ρ c)
theorem end1 : (W7 m ρ c (Proc.devRef .tc main_v2) : S4096x1024.Idx → EReal) = whole 4096 1024 (val1 m c) :=
  ((((W7_of m ρ c main_v2 (by decide +kernel)).trans (W6_of m ρ c main_v2 (by decide))).trans (W5_of m ρ c main_v2 (by decide +kernel))).trans
    (W4_of m ρ c main_v2 (by decide))).trans (left1 m ρ c)
theorem end0 : (W7 m ρ c (Proc.devRef .tc main_v1) : S4096x1024.Idx → EReal) = whole 4096 1024 (val0 m c) :=
  (((((W7_of m ρ c main_v1 (by decide +kernel)).trans (W6_of m ρ c main_v1 (by decide))).trans (W5_of m ρ c main_v1 (by decide +kernel))).trans
    (W4_of m ρ c main_v1 (by decide))).trans (W3_of m ρ c main_v1 (by decide +kernel))).trans (left0 m ρ c)

/-- The kernel's run, in closed form. -/
theorem kernel_run : θ_run (defs (F := Ideal)) (onTc (τ := τ) (main (F := Ideal))) ⟨m, fun _ => 0, ρ⟩ (fun r => ∀ c : Dev nD,
      r.2.mem ((c.tc : Thread nD τ).loc main_v1) = whole 4096 1024 (val0 m c)
      ∧ r.2.mem ((c.tc : Thread nD τ).loc main_v6) = whole 4096 2048 (val3 m c)
      ∧ r.2.mem ((c.tc : Thread nD τ).loc main_v2) = whole 4096 1024 (val1 m c)
      ∧ r.2.mem ((c.tc : Thread nD τ).loc main_v4) = whole 4096 1024 (val2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have hb : ∀ b : Ref sig .tc, ¬ (Proc.devRef .tc b : DevRef τ sig).isScoped → r.2.mem ((c.tc : Thread nD τ).loc b) = W7 m ρ c (Proc.devRef .tc b) :=
      fun b hs => h.1 c _ (mem_uc b hs)
    have ha : ∀ a : Ref sig .tc, a ∈ argRefs → ¬ (Proc.devRef .tc a : DevRef τ sig).isScoped → r.2.mem ((c.tc : Thread nD τ).loc a) = m ((c.tc : Thread nD τ).loc a) :=
      fun a hm hs => (hb a hs).trans (W7_args m ρ c a hm)
    ⟨(hb main_v1 (by decide)).trans (end0 m ρ c),
     (hb main_v6 (by decide)).trans (left3 m ρ c),
     (hb main_v2 (by decide)).trans (end1 m ρ c),
     (hb main_v4 (by decide)).trans (end2 m ρ c),
     ha main_arg0 (by decide) (by decide),
     ha main_arg1 (by decide) (by decide),
     ha main_arg2 (by decide) (by decide),
     ha main_arg3 (by decide) (by decide),
     ha main_arg4 (by decide) (by decide),
     ha main_arg5 (by decide) (by decide),
     ha main_arg6 (by decide) (by decide),
     ha main_arg7 (by decide) (by decide),
     ha main_arg8 (by decide) (by decide)⟩) (run_main m ρ)

end Cert.Kernel22Ideal.Ffn

end
-- ==== Proof.RowAlgebraic.lean ====
/-
  The kernel of the row-wise calls and its reference leave equal results.
-/
module

public import proofs.«01_k».proof.Proof.RowResults
public import proofs.«01_k».proof.Proof.RowSum
public import proofs.«01_k».proof.Defs
public import proofs.«01_k».proof.Proof.Gen.Reference22Ideal
public import proofs.«01_k».proof.Proof.Gen.Reference22Ideal.Run
public import Idealize.ShloMosaic.Lib.IdealHost

@[expose] public section

set_option maxRecDepth 16384

noncomputable section

namespace Cert.Kernel22Ideal.Ffn

open Idealize.ShloMosaic Idealize.ShloMosaic.TcCoe Idealize.SL.Sem Cert.Ffn

section Reference
open Cert.Reference22Ideal Cert.Reference22Ideal.Gen
variable {f g p q r : ℕ → ℕ → EReal}

/-- The reference's sigmoid of the right half. -/
abbrev sig (x : FVec Ideal S4096x2048 .f32) : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32))
      (Host.exp (Host.negf (extractStridedSlice S4096x1024 ![0, 1024] x slices_S4096x2048_S4096x1024_0_1024))))

theorem has_sig {x : FVec Ideal S4096x2048 .f32} (hx : Has x f) : Has (n0 := 4096) (n1 := 1024) (sig x) (sigmoid (from_ 0 1024 f)) :=
  has_sigmoid (φ := .f32) (fun _ => Ideal.ofBits_one_f32) (has_columns (φ := .f32) hx slices_S4096x2048_S4096x1024_0_1024)

/-- The reference's gated linear unit. -/
theorem has_glu {x : FVec Ideal S4096x2048 .f32} (hx : Has x f) :
    Has (n0 := 4096) (n1 := 1024) (mulf (extractStridedSlice S4096x1024 ![0, 0] x slices_S4096x2048_S4096x1024_0_0) (sig x)) (gated f) :=
  has_product (φ := .f32) (has_columns (φ := .f32) hx slices_S4096x2048_S4096x1024_0_0) (has_sig hx)

/-- The reference's gradient of the gated linear unit. -/
theorem has_glu_gradient {x : FVec Ideal S4096x2048 .f32} {d : FVec Ideal S4096x1024 .f32} (hx : Has x f) (hd : Has d g) :
    Has (n0 := 4096) (n1 := 2048) (concatenate S4096x2048 1 [⟨S4096x1024, mulf d (sig x)⟩,
      ⟨S4096x1024, mulf (mulf (extractStridedSlice S4096x1024 ![0, 0] x slices_S4096x2048_S4096x1024_0_0) d)
        (mulf (sig x) (subf (broadcastInDim S4096x1024 ![] bcast_S_S4096x1024 (constant S_ .f32 0x3F800000#32)) (sig x)))⟩]
      concatenates_S4096x1024_S4096x1024_S4096x2048_d1) (dgated f g) :=
  has_beside (φ := .f32) (has_product (φ := .f32) hd (has_sig hx))
    (has_product (φ := .f32) (has_product (φ := .f32) (has_columns (φ := .f32) hx slices_S4096x2048_S4096x1024_0_0) hd)
      (has_slope (φ := .f32) (fun _ => Ideal.ofBits_one_f32) (has_sig hx))) _

/-- The reference's gates of the three mixers. -/
abbrev sigs (x : FVec Ideal S4096x3072 .f32) (v : FVec Ideal S1x3072 .f32) : FVec Ideal S4096x3072 .f32 :=
  Host.divf (broadcastInDim S4096x3072 ![] bcast_S_S4096x3072 (constant S_ .f32 0x3F800000#32))
    (addf (broadcastInDim S4096x3072 ![] bcast_S_S4096x3072 (constant S_ .f32 0x3F800000#32))
      (Host.exp (Host.negf (addf x (broadcastInDim S4096x3072 ![0, 1] bcast_S1x3072_S4096x3072_0_1 v)))))

theorem has_sigs {x : FVec Ideal S4096x3072 .f32} {v : FVec Ideal S1x3072 .f32} (hx : Has x f) (hv : Has v g) :
    Has (n0 := 4096) (n1 := 3072) (sigs x v) (gates f g) :=
  has_sigmoid (φ := .f32) (fun _ => Ideal.ofBits_one_f32) (has_plus hx (has_repeated' (φ := .f32) (by decide) hv bcast_S1x3072_S4096x3072_0_1))

/-- The reference's merge. -/
theorem has_merged {x : FVec Ideal S4096x3072 .f32} {v : FVec Ideal S1x3072 .f32} {u0 u1 u2 : FVec Ideal S4096x1024 .f32}
    (hx : Has x f) (hv : Has v g) (h0 : Has u0 p) (h1 : Has u1 q) (h2 : Has u2 r) :
    Has (n0 := 4096) (n1 := 1024)
      (addf (addf (mulf (extractStridedSlice S4096x1024 ![0, 0] (sigs x v) slices_S4096x3072_S4096x1024_0_0) u0)
        (mulf (extractStridedSlice S4096x1024 ![0, 1024] (sigs x v) slices_S4096x3072_S4096x1024_0_1024) u1))
        (mulf (extractStridedSlice S4096x1024 ![0, 2048] (sigs x v) slices_S4096x3072_S4096x1024_0_2048) u2)) (merged f g p q r) :=
  has_plus (has_plus (has_product (has_columns (has_sigs hx hv) slices_S4096x3072_S4096x1024_0_0) h0)
    (has_product (has_columns (has_sigs hx hv) slices_S4096x3072_S4096x1024_0_1024) h1))
    (has_product (has_columns (has_sigs hx hv) slices_S4096x3072_S4096x1024_0_2048) h2)

/-- The reference's norm. -/
theorem has_norm {x : FVec Ideal S4096x1024 .f32} {v : FVec Ideal S1x1024 .f32} (hx : Has x f) (hv : Has v g) :
    Has (n0 := 4096) (n1 := 1024)
      (mulf (mulf x (broadcastInDim S4096x1024 ![0, 1] bcast_S4096x1_S4096x1024_0_1
        (Host.rsqrt (addf (Host.divf (broadcastInDim S4096x1 ![0] bcast_S4096_S4096x1_0
            (Host.reduceAdd (mulf x x) (constant S_ .f32 0x00000000#32) reducesTo_S4096x1024_S4096_d1 h_S_))
          (broadcastInDim S4096x1 ![] bcast_S_S4096x1 (constant S_ .f32 0x44800000#32)))
          (broadcastInDim S4096x1 ![] bcast_S_S4096x1 (constant S_ .f32 0x358637BD#32))))))
        (broadcastInDim S4096x1024 ![0, 1] bcast_S1x1024_S4096x1024_0_1 v)) (normed f g) := fun a b => by
  pointwise
  exact normed_entry hx hv a b

end Reference

open Cert.Kernel22Ideal Cert.Kernel22Ideal.Gen

/-- The kernel and the reference leave equal results. -/
theorem algebraic : Cert.algebraic_Kernel22Ideal_Reference22Ideal (hKernel22Ideal := Cert.Kernel22Ideal.Gen.facts)
    (hReference22Ideal := Cert.Reference22Ideal.Gen.facts) := by
  intro m g m' g' hpre hargs
  refine ⟨fun c => whole 4096 1024 (val0 m c), fun c => whole 4096 2048 (val3 m c), fun c => whole 4096 1024 (val1 m c), fun c => whole 4096 1024 (val2 m c), kernel_run m g, ?_⟩
  refine (θ_run _ _ _).mono (fun r h c => ?_) (Cert.Reference22Ideal.Value.run (F := Ideal) m' g')
  obtain ⟨a0, a1, a2, a3, a4, a5, a6, a7, a8⟩ := hargs c
  have h0 : Has (n0 := 4096) (n1 := 2048) (m' ((c.tc : Thread nD τ).loc Cert.Reference22Ideal.main_arg0)) (arg0 m c) := has_entries_of a0
  have h1 : Has (n0 := 4096) (n1 := 1024) (m' ((c.tc : Thread nD τ).loc Cert.Reference22Ideal.main_arg1)) (arg1 m c) := has_entries_of a1
  have h2 : Has (n0 := 4096) (n1 := 3072) (m' ((c.tc : Thread nD τ).loc Cert.Reference22Ideal.main_arg2)) (arg2 m c) := has_entries_of a2
  have h3 : Has (n0 := 1) (n1 := 3072) (m' ((c.tc : Thread nD τ).loc Cert.Reference22Ideal.main_arg3)) (arg3 m c) := has_entries_of a3
  have h4 : Has (n0 := 4096) (n1 := 1024) (m' ((c.tc : Thread nD τ).loc Cert.Reference22Ideal.main_arg4)) (arg4 m c) := has_entries_of a4
  have h5 : Has (n0 := 4096) (n1 := 1024) (m' ((c.tc : Thread nD τ).loc Cert.Reference22Ideal.main_arg5)) (arg5 m c) := has_entries_of a5
  have h6 : Has (n0 := 4096) (n1 := 1024) (m' ((c.tc : Thread nD τ).loc Cert.Reference22Ideal.main_arg6)) (arg6 m c) := has_entries_of a6
  have h7 : Has (n0 := 4096) (n1 := 1024) (m' ((c.tc : Thread nD τ).loc Cert.Reference22Ideal.main_arg7)) (arg7 m c) := has_entries_of a7
  have h8 : Has (n0 := 1) (n1 := 1024) (m' ((c.tc : Thread nD τ).loc Cert.Reference22Ideal.main_arg8)) (arg8 m c) := has_entries_of a8
  obtain ⟨r0, r1, r2, r3, hrest⟩ := h c
  exact ⟨r0.trans (eq_whole (has_glu h0)), r1.trans (eq_whole (has_glu_gradient h0 h1)), r2.trans (eq_whole (has_merged h2 h3 h4 h5 h6)),
    r3.trans (eq_whole (has_norm h7 h8)), hrest⟩

end Cert.Kernel22Ideal.Ffn

end
-- ==== Proof.WeightGrad6.lean ====
/-
  The weight gradient of the in-projection's first part, and of every square weight with such operands: its sum over the rows,
  gathered in blocks of 1024 rows, is the reference's.
-/
module

public import proofs.«01_k».proof.Defs
public import proofs.«01_k».proof.Proof.RowSum
public import proofs.«01_k».proof.Proof.Gen.Kernel6Ideal.Value
public import proofs.«01_k».proof.Proof.Gen.Reference6Ideal
public import proofs.«01_k».proof.Proof.Gen.Reference6Ideal.Run
public import Idealize.ShloMosaic.Lib.Pipeline.ValueKit.Geometry
public import Idealize.ShloMosaic.Lib.Pipeline.ValueKit.Acc
public import Idealize.ShloMosaic.Lib.Pipeline.Value
public import Idealize.ShloMosaic.Lib.Pipeline.ReadBack
public import Idealize.ShloMosaic.Lib.IdealHost

@[expose] public section

set_option maxRecDepth 16384

noncomputable section

namespace Cert.Kernel6Ideal.Ffn

open Idealize.ShloMosaic Idealize.ShloMosaic.TcCoe Idealize.SL.Sem Cert.Ffn
open Cert.Kernel6Ideal Cert.Kernel6Ideal.Gen

/-- The output's block is the whole, and the operands' blocks hold whole rows. -/
theorem index : ∀ t : Fin cfg0.N, win0_0.index t = ![t.val % 4, 0] ∧ win0_1.index t = ![t.val % 4, 0] ∧ win0_2.index t = ![0, 0] :=
  (by decide +kernel : ∀ t : Fin grid0.N, _)

theorem points : cfg0.N = 4 := by decide +kernel

variable (m : (ℓ : Loc nD τ sig) → Buf (Elt Ideal) ℓ) (c : Dev nD)

/-- The accumulator at a block's first rows. -/
theorem first (t : Fin cfg0.N) (h0 : t.val % 4 = 0) (y : S1024x1024.Idx) : (outsAt0 m c t.val t.isLt).2 y = k0_pay1 (iblk m c 0 t) (iblk m c 1 t) y := by
  rw [outsAt0_A m c t h0 (by have := t.isLt.trans_eq points; omega) (by omega)]
  frame_out
  rw [k0_pay2, shapeCast_self]

/-- The accumulator at the others. -/
theorem next (t : Fin cfg0.N) (h0 : ¬t.val % 4 = 0) (y : S1024x1024.Idx) : (outsAt0 m c t.val t.isLt).2 y
    = addf (F := Ideal) (φ := .f32) (outsAt0 m c (t.val - 1) (Nat.lt_of_le_of_lt (Nat.sub_le _ _) t.isLt)).2 (k0_pay1 (iblk m c 0 t) (iblk m c 1 t)) y := by
  by_cases h2 : t.val % 4 = 3
  · rw [outsAt0_C m c t h0 (by omega) h2]
    frame_out
    rw [read_unread_whole, k0_pay3, shapeCast_self]
  · rw [outsAt0_B m c t h0 (by omega) h2]
    frame_out
    rw [read_unread_whole, k0_pay3, shapeCast_self]

/-- The output's block, once the block's last rows are in, is the accumulator. -/
theorem last (t : Fin cfg0.N) (h3 : t.val % 4 = 3) (y : S1024x1024.Idx) :
    (show FVec Ideal S1024x1024 .bf16 from (outsAt0 m c t.val t.isLt).1) y = (show FVec Ideal S1024x1024 .f32 from (outsAt0 m c t.val t.isLt).2) y := by
  rw [outsAt0_C m c t (by omega) (by omega) h3]
  frame_out
  rfl

/-- The gradient: every entry the sum over all rows. -/
theorem gradient : (dats m 0 c).arrAt 2 cfg0.N = whole 1024 1024 (Ttimes 4096 (entries (n0 := 4096) (n1 := 1024) (m ((c.tc : Thread nD τ).loc main_arg0)))
    (entries (n0 := 4096) (n1 := 1024) (m ((c.tc : Thread nD τ).loc main_arg1)))) :=
  (dats m 0 c).arrAt_eq_of_covers 2 _ (by decide +kernel) fun t ht y => by
    have h3 : t.val % 4 = 3 := (flush0_2 t).1 ht
    rw [after0_2]
    exact (last m c t h3 y).trans (gradient_at (fun _ => ![0, 0]) (fun n hn => (outsAt0 m c n hn).2) (i := fun t => win0_0.index t) (j := fun t => win0_1.index t)
      (k := fun t => win0_2.index t) (ex := fun t => (win0_0.blk t).view.emb) (ey := fun t => (win0_1.blk t).view.emb) (eo := fun t => (win0_2.blk t).view.emb)
      (fun _ _ _ => rfl) (fun _ _ _ => rfl) (fun _ _ _ => rfl) (eq_whole (has_entries _)) (eq_whole (has_entries _)) index (first m c) (next m c) t h3 y)

/-- The kernel and the reference leave equal gradients. -/
theorem algebraic : Cert.algebraic_Kernel6Ideal_Reference6Ideal (hKernel6Ideal := Cert.Kernel6Ideal.Gen.facts)
    (hReference6Ideal := Cert.Reference6Ideal.Gen.facts) := fun m g m' g' _ hargs =>
  ⟨fun c => whole 1024 1024 (Ttimes 4096 (entries (n0 := 4096) (n1 := 1024) (m ((c.tc : Thread nD τ).loc main_arg0)))
      (entries (n0 := 4096) (n1 := 1024) (m ((c.tc : Thread nD τ).loc main_arg1)))),
    (θ_run _ _ _).mono (fun r h c => ⟨(h c).1.trans (gradient m c), (h c).2⟩) (Cert.Kernel6Ideal.Value.run_blocks m g),
    (θ_run _ _ _).mono (fun r h c => ⟨(h c).1.trans (eq_whole (has_gradient (has_entries_of (hargs c).1) (has_entries_of (hargs c).2) _)), (h c).2⟩)
      (Cert.Reference6Ideal.Value.run (F := Ideal) m' g')⟩

end Cert.Kernel6Ideal.Ffn

end
-- ==== Proof.WeightGrad7.lean ====
/-
  The weight gradient of the in-projection's second part: its sum over the rows, gathered in blocks of 1024 rows, is the reference's.
-/
module

public import proofs.«01_k».proof.Defs
public import proofs.«01_k».proof.Proof.RowSum
public import proofs.«01_k».proof.Proof.Gen.Kernel7Ideal.Value
public import proofs.«01_k».proof.Proof.Gen.Reference7Ideal
public import proofs.«01_k».proof.Proof.Gen.Reference7Ideal.Run
public import Idealize.ShloMosaic.Lib.Pipeline.ValueKit.Geometry
public import Idealize.ShloMosaic.Lib.Pipeline.ValueKit.Acc
public import Idealize.ShloMosaic.Lib.Pipeline.Value
public import Idealize.ShloMosaic.Lib.Pipeline.ReadBack
public import Idealize.ShloMosaic.Lib.IdealHost

@[expose] public section

set_option maxRecDepth 16384

noncomputable section

namespace Cert.Kernel7Ideal.Ffn

open Idealize.ShloMosaic Idealize.ShloMosaic.TcCoe Idealize.SL.Sem Cert.Ffn
open Cert.Kernel7Ideal Cert.Kernel7Ideal.Gen

/-- The output's blocks, side by side, and the operands' blocks at them. -/
theorem index : ∀ t : Fin cfg0.N, win0_0.index t = ![t.val % 4, 0] ∧ win0_1.index t = ![t.val % 4, t.val / 4] ∧ win0_2.index t = ![0, t.val / 4] :=
  (by decide +kernel : ∀ t : Fin grid0.N, _)

variable (m : (ℓ : Loc nD τ sig) → Buf (Elt Ideal) ℓ) (c : Dev nD)

/-- The accumulator at a block's first rows. -/
theorem first (t : Fin cfg0.N) (h0 : t.val % 4 = 0) (y : S1024x1024.Idx) : (outsAt0 m c t.val t.isLt).2 y = k0_pay1 (iblk m c 0 t) (iblk m c 1 t) y := by
  rw [outsAt0_A m c t h0 (by omega) (by omega)]
  frame_out
  rw [k0_pay2, shapeCast_self]

/-- The accumulator at the others. -/
theorem next (t : Fin cfg0.N) (h0 : ¬t.val % 4 = 0) (y : S1024x1024.Idx) : (outsAt0 m c t.val t.isLt).2 y
    = addf (F := Ideal) (φ := .f32) (outsAt0 m c (t.val - 1) (Nat.lt_of_le_of_lt (Nat.sub_le _ _) t.isLt)).2 (k0_pay1 (iblk m c 0 t) (iblk m c 1 t)) y := by
  by_cases h2 : t.val % 4 = 3
  · rw [outsAt0_C m c t h0 (by omega) h2]
    frame_out
    rw [read_unread_whole, k0_pay3, shapeCast_self]
  · rw [outsAt0_B m c t h0 (by omega) h2]
    frame_out
    rw [read_unread_whole, k0_pay3, shapeCast_self]

/-- The output's block, once the block's last rows are in, is the accumulator. -/
theorem last (t : Fin cfg0.N) (h3 : t.val % 4 = 3) (y : S1024x1024.Idx) :
    (show FVec Ideal S1024x1024 .bf16 from (outsAt0 m c t.val t.isLt).1) y = (show FVec Ideal S1024x1024 .f32 from (outsAt0 m c t.val t.isLt).2) y := by
  rw [outsAt0_C m c t (by omega) (by omega) h3]
  frame_out
  rfl

/-- The gradient: every entry the sum over all rows. -/
theorem gradient : (dats m 0 c).arrAt 2 cfg0.N = whole 1024 2048 (Ttimes 4096 (entries (n0 := 4096) (n1 := 1024) (m ((c.tc : Thread nD τ).loc main_arg0)))
    (entries (n0 := 4096) (n1 := 2048) (m ((c.tc : Thread nD τ).loc main_arg1)))) :=
  (dats m 0 c).arrAt_eq_of_covers 2 _ (by decide +kernel) fun t ht y => by
    have h3 : t.val % 4 = 3 := (flush0_2 t).1 ht
    rw [after0_2]
    exact (last m c t h3 y).trans (gradient_at (fun q => ![0, q]) (fun n hn => (outsAt0 m c n hn).2) (i := fun t => win0_0.index t) (j := fun t => win0_1.index t)
      (k := fun t => win0_2.index t) (ex := fun t => (win0_0.blk t).view.emb) (ey := fun t => (win0_1.blk t).view.emb) (eo := fun t => (win0_2.blk t).view.emb)
      (fun _ _ _ => rfl) (fun _ _ _ => rfl) (fun _ _ _ => rfl) (eq_whole (has_entries _)) (eq_whole (has_entries _)) index (first m c) (next m c) t h3 y)

/-- The kernel and the reference leave equal gradients. -/
theorem algebraic : Cert.algebraic_Kernel7Ideal_Reference7Ideal (hKernel7Ideal := Cert.Kernel7Ideal.Gen.facts)
    (hReference7Ideal := Cert.Reference7Ideal.Gen.facts) := fun m g m' g' _ hargs =>
  ⟨fun c => whole 1024 2048 (Ttimes 4096 (entries (n0 := 4096) (n1 := 1024) (m ((c.tc : Thread nD τ).loc main_arg0)))
      (entries (n0 := 4096) (n1 := 2048) (m ((c.tc : Thread nD τ).loc main_arg1)))),
    (θ_run _ _ _).mono (fun r h c => ⟨(h c).1.trans (gradient m c), (h c).2⟩) (Cert.Kernel7Ideal.Value.run_blocks m g),
    (θ_run _ _ _).mono (fun r h c => ⟨(h c).1.trans (eq_whole (has_gradient (has_entries_of (hargs c).1) (has_entries_of (hargs c).2) _)), (h c).2⟩)
      (Cert.Reference7Ideal.Value.run (F := Ideal) m' g')⟩

end Cert.Kernel7Ideal.Ffn

end
-- ==== Proof.WeightGrad8.lean ====
/-
  The weight gradient of the in-projection's fourth part: its sum over the rows,
  gathered in blocks of 1024 rows, is the reference's.
-/
module

public import proofs.«01_k».proof.Defs
public import proofs.«01_k».proof.Proof.RowSum
public import proofs.«01_k».proof.Proof.Gen.Kernel8Ideal.Value
public import proofs.«01_k».proof.Proof.Gen.Reference8Ideal
public import proofs.«01_k».proof.Proof.Gen.Reference8Ideal.Run
public import Idealize.ShloMosaic.Lib.Pipeline.ValueKit.Geometry
public import Idealize.ShloMosaic.Lib.Pipeline.ValueKit.Acc
public import Idealize.ShloMosaic.Lib.Pipeline.Value
public import Idealize.ShloMosaic.Lib.Pipeline.ReadBack
public import Idealize.ShloMosaic.Lib.IdealHost

@[expose] public section

set_option maxRecDepth 16384

noncomputable section

namespace Cert.Kernel8Ideal.Ffn

open Idealize.ShloMosaic Idealize.ShloMosaic.TcCoe Idealize.SL.Sem Cert.Ffn
open Cert.Kernel8Ideal Cert.Kernel8Ideal.Gen

/-- The output's blocks, side by side, and the operands' blocks at them. -/
theorem index : ∀ t : Fin cfg0.N, win0_0.index t = ![t.val % 4, 0] ∧ win0_1.index t = ![t.val % 4, t.val / 4] ∧ win0_2.index t = ![0, t.val / 4] :=
  (by decide +kernel : ∀ t : Fin grid0.N, _)

variable (m : (ℓ : Loc nD τ sig) → Buf (Elt Ideal) ℓ) (c : Dev nD)

/-- The accumulator at a block's first rows. -/
theorem first (t : Fin cfg0.N) (h0 : t.val % 4 = 0) (y : S1024x1024.Idx) : (outsAt0 m c t.val t.isLt).2 y = k0_pay1 (iblk m c 0 t) (iblk m c 1 t) y := by
  rw [outsAt0_A m c t h0 (by omega) (by omega)]
  frame_out
  rw [k0_pay2, shapeCast_self]

/-- The accumulator at the others. -/
theorem next (t : Fin cfg0.N) (h0 : ¬t.val % 4 = 0) (y : S1024x1024.Idx) : (outsAt0 m c t.val t.isLt).2 y
    = addf (F := Ideal) (φ := .f32) (outsAt0 m c (t.val - 1) (Nat.lt_of_le_of_lt (Nat.sub_le _ _) t.isLt)).2 (k0_pay1 (iblk m c 0 t) (iblk m c 1 t)) y := by
  by_cases h2 : t.val % 4 = 3
  · rw [outsAt0_C m c t h0 (by omega) h2]
    frame_out
    rw [read_unread_whole, k0_pay3, shapeCast_self]
  · rw [outsAt0_B m c t h0 (by omega) h2]
    frame_out
    rw [read_unread_whole, k0_pay3, shapeCast_self]

/-- The output's block, once the block's last rows are in, is the accumulator. -/
theorem last (t : Fin cfg0.N) (h3 : t.val % 4 = 3) (y : S1024x1024.Idx) :
    (show FVec Ideal S1024x1024 .bf16 from (outsAt0 m c t.val t.isLt).1) y = (show FVec Ideal S1024x1024 .f32 from (outsAt0 m c t.val t.isLt).2) y := by
  rw [outsAt0_C m c t (by omega) (by omega) h3]
  frame_out
  rfl

/-- The gradient: every entry the sum over all rows. -/
theorem gradient : (dats m 0 c).arrAt 2 cfg0.N = whole 1024 2048 (Ttimes 4096 (entries (n0 := 4096) (n1 := 1024) (m ((c.tc : Thread nD τ).loc main_arg0)))
    (entries (n0 := 4096) (n1 := 2048) (m ((c.tc : Thread nD τ).loc main_arg1)))) :=
  (dats m 0 c).arrAt_eq_of_covers 2 _ (by decide +kernel) fun t ht y => by
    have h3 : t.val % 4 = 3 := (flush0_2 t).1 ht
    rw [after0_2]
    exact (last m c t h3 y).trans (gradient_at (fun q => ![0, q]) (fun n hn => (outsAt0 m c n hn).2) (i := fun t => win0_0.index t) (j := fun t => win0_1.index t)
      (k := fun t => win0_2.index t) (ex := fun t => (win0_0.blk t).view.emb) (ey := fun t => (win0_1.blk t).view.emb) (eo := fun t => (win0_2.blk t).view.emb)
      (fun _ _ _ => rfl) (fun _ _ _ => rfl) (fun _ _ _ => rfl) (eq_whole (has_entries _)) (eq_whole (has_entries _)) index (first m c) (next m c) t h3 y)

/-- The kernel and the reference leave equal gradients. -/
theorem algebraic : Cert.algebraic_Kernel8Ideal_Reference8Ideal (hKernel8Ideal := Cert.Kernel8Ideal.Gen.facts)
    (hReference8Ideal := Cert.Reference8Ideal.Gen.facts) := fun m g m' g' _ hargs =>
  ⟨fun c => whole 1024 2048 (Ttimes 4096 (entries (n0 := 4096) (n1 := 1024) (m ((c.tc : Thread nD τ).loc main_arg0)))
      (entries (n0 := 4096) (n1 := 2048) (m ((c.tc : Thread nD τ).loc main_arg1)))),
    (θ_run _ _ _).mono (fun r h c => ⟨(h c).1.trans (gradient m c), (h c).2⟩) (Cert.Kernel8Ideal.Value.run_blocks m g),
    (θ_run _ _ _).mono (fun r h c => ⟨(h c).1.trans (eq_whole (has_gradient (has_entries_of (hargs c).1) (has_entries_of (hargs c).2) _)), (h c).2⟩)
      (Cert.Reference8Ideal.Value.run (F := Ideal) m' g')⟩

end Cert.Kernel8Ideal.Ffn

end
-- ==== Proof.WeightGrad9.lean ====
/-
  The weight gradient of the in-projection's last part: its sum over the rows,
  gathered in blocks of 1024 rows, is the reference's.
-/
module

public import proofs.«01_k».proof.Defs
public import proofs.«01_k».proof.Proof.RowSum
public import proofs.«01_k».proof.Proof.Gen.Kernel9Ideal.Value
public import proofs.«01_k».proof.Proof.Gen.Reference9Ideal
public import proofs.«01_k».proof.Proof.Gen.Reference9Ideal.Run
public import Idealize.ShloMosaic.Lib.Pipeline.ValueKit.Geometry
public import Idealize.ShloMosaic.Lib.Pipeline.ValueKit.Acc
public import Idealize.ShloMosaic.Lib.Pipeline.Value
public import Idealize.ShloMosaic.Lib.Pipeline.ReadBack
public import Idealize.ShloMosaic.Lib.IdealHost

@[expose] public section

set_option maxRecDepth 16384

noncomputable section

namespace Cert.Kernel9Ideal.Ffn

open Idealize.ShloMosaic Idealize.ShloMosaic.TcCoe Idealize.SL.Sem Cert.Ffn
open Cert.Kernel9Ideal Cert.Kernel9Ideal.Gen

/-- The output's blocks, side by side, and the operands' blocks at them. -/
theorem index : ∀ t : Fin cfg0.N, win0_0.index t = ![t.val % 4, 0] ∧ win0_1.index t = ![t.val % 4, t.val / 4] ∧ win0_2.index t = ![0, t.val / 4] :=
  (by decide +kernel : ∀ t : Fin grid0.N, _)

variable (m : (ℓ : Loc nD τ sig) → Buf (Elt Ideal) ℓ) (c : Dev nD)

/-- The accumulator at a block's first rows. -/
theorem first (t : Fin cfg0.N) (h0 : t.val % 4 = 0) (y : S1024x1536.Idx) : (outsAt0 m c t.val t.isLt).2 y = k0_pay1 (iblk m c 0 t) (iblk m c 1 t) y := by
  rw [outsAt0_A m c t h0 (by omega) (by omega)]
  frame_out
  rw [k0_pay2, shapeCast_self]

/-- The accumulator at the others. -/
theorem next (t : Fin cfg0.N) (h0 : ¬t.val % 4 = 0) (y : S1024x1536.Idx) : (outsAt0 m c t.val t.isLt).2 y
    = addf (F := Ideal) (φ := .f32) (outsAt0 m c (t.val - 1) (Nat.lt_of_le_of_lt (Nat.sub_le _ _) t.isLt)).2 (k0_pay1 (iblk m c 0 t) (iblk m c 1 t)) y := by
  by_cases h2 : t.val % 4 = 3
  · rw [outsAt0_C m c t h0 (by omega) h2]
    frame_out
    rw [read_unread_whole, k0_pay3, shapeCast_self]
  · rw [outsAt0_B m c t h0 (by omega) h2]
    frame_out
    rw [read_unread_whole, k0_pay3, shapeCast_self]

/-- The output's block, once the block's last rows are in, is the accumulator. -/
theorem last (t : Fin cfg0.N) (h3 : t.val % 4 = 3) (y : S1024x1536.Idx) :
    (show FVec Ideal S1024x1536 .bf16 from (outsAt0 m c t.val t.isLt).1) y = (show FVec Ideal S1024x1536 .f32 from (outsAt0 m c t.val t.isLt).2) y := by
  rw [outsAt0_C m c t (by omega) (by omega) h3]
  frame_out
  rfl

/-- The gradient: every entry the sum over all rows. -/
theorem gradient : (dats m 0 c).arrAt 2 cfg0.N = whole 1024 3072 (Ttimes 4096 (entries (n0 := 4096) (n1 := 1024) (m ((c.tc : Thread nD τ).loc main_arg0)))
    (entries (n0 := 4096) (n1 := 3072) (m ((c.tc : Thread nD τ).loc main_arg1)))) :=
  (dats m 0 c).arrAt_eq_of_covers 2 _ (by decide +kernel) fun t ht y => by
    have h3 : t.val % 4 = 3 := (flush0_2 t).1 ht
    rw [after0_2]
    exact (last m c t h3 y).trans (gradient_at (fun q => ![0, q]) (fun n hn => (outsAt0 m c n hn).2) (i := fun t => win0_0.index t) (j := fun t => win0_1.index t)
      (k := fun t => win0_2.index t) (ex := fun t => (win0_0.blk t).view.emb) (ey := fun t => (win0_1.blk t).view.emb) (eo := fun t => (win0_2.blk t).view.emb)
      (fun _ _ _ => rfl) (fun _ _ _ => rfl) (fun _ _ _ => rfl) (eq_whole (has_entries _)) (eq_whole (has_entries _)) index (first m c) (next m c) t h3 y)

/-- The kernel and the reference leave equal gradients. -/
theorem algebraic : Cert.algebraic_Kernel9Ideal_Reference9Ideal (hKernel9Ideal := Cert.Kernel9Ideal.Gen.facts)
    (hReference9Ideal := Cert.Reference9Ideal.Gen.facts) := fun m g m' g' _ hargs =>
  ⟨fun c => whole 1024 3072 (Ttimes 4096 (entries (n0 := 4096) (n1 := 1024) (m ((c.tc : Thread nD τ).loc main_arg0)))
      (entries (n0 := 4096) (n1 := 3072) (m ((c.tc : Thread nD τ).loc main_arg1)))),
    (θ_run _ _ _).mono (fun r h c => ⟨(h c).1.trans (gradient m c), (h c).2⟩) (Cert.Kernel9Ideal.Value.run_blocks m g),
    (θ_run _ _ _).mono (fun r h c => ⟨(h c).1.trans (eq_whole (has_gradient (has_entries_of (hargs c).1) (has_entries_of (hargs c).2) _)), (h c).2⟩)
      (Cert.Reference9Ideal.Value.run (F := Ideal) m' g')⟩

end Cert.Kernel9Ideal.Ffn

end
-- ==== Proof.WeightGrad11.lean ====
/-
  The weight gradient of the out product of the merged mixers, or of the cross-attention: its sum over the rows,
  gathered in blocks of 1024 rows, is the reference's.
-/
module

public import proofs.«01_k».proof.Defs
public import proofs.«01_k».proof.Proof.RowSum
public import proofs.«01_k».proof.Proof.Gen.Kernel11Ideal.Value
public import proofs.«01_k».proof.Proof.Gen.Reference11Ideal
public import proofs.«01_k».proof.Proof.Gen.Reference11Ideal.Run
public import Idealize.ShloMosaic.Lib.Pipeline.ValueKit.Geometry
public import Idealize.ShloMosaic.Lib.Pipeline.ValueKit.Acc
public import Idealize.ShloMosaic.Lib.Pipeline.Value
public import Idealize.ShloMosaic.Lib.Pipeline.ReadBack
public import Idealize.ShloMosaic.Lib.IdealHost

@[expose] public section

set_option maxRecDepth 16384

noncomputable section

namespace Cert.Kernel11Ideal.Ffn

open Idealize.ShloMosaic Idealize.ShloMosaic.TcCoe Idealize.SL.Sem Cert.Ffn
open Cert.Kernel11Ideal Cert.Kernel11Ideal.Gen

/-- The output's block is the whole, and the operands' blocks hold whole rows. -/
theorem index : ∀ t : Fin cfg0.N, win0_0.index t = ![t.val % 4, 0] ∧ win0_1.index t = ![t.val % 4, 0] ∧ win0_2.index t = ![0, 0] :=
  (by decide +kernel : ∀ t : Fin grid0.N, _)

theorem points : cfg0.N = 4 := by decide +kernel

variable (m : (ℓ : Loc nD τ sig) → Buf (Elt Ideal) ℓ) (c : Dev nD)

/-- The accumulator at a block's first rows. -/
theorem first (t : Fin cfg0.N) (h0 : t.val % 4 = 0) (y : S1024x1024.Idx) : (outsAt0 m c t.val t.isLt).2 y = k0_pay1 (iblk m c 0 t) (iblk m c 1 t) y := by
  rw [outsAt0_A m c t h0 (by have := t.isLt.trans_eq points; omega) (by omega)]
  frame_out
  rw [k0_pay2, shapeCast_self]

/-- The accumulator at the others. -/
theorem next (t : Fin cfg0.N) (h0 : ¬t.val % 4 = 0) (y : S1024x1024.Idx) : (outsAt0 m c t.val t.isLt).2 y
    = addf (F := Ideal) (φ := .f32) (outsAt0 m c (t.val - 1) (Nat.lt_of_le_of_lt (Nat.sub_le _ _) t.isLt)).2 (k0_pay1 (iblk m c 0 t) (iblk m c 1 t)) y := by
  by_cases h2 : t.val % 4 = 3
  · rw [outsAt0_C m c t h0 (by omega) h2]
    frame_out
    rw [read_unread_whole, k0_pay3, shapeCast_self]
  · rw [outsAt0_B m c t h0 (by omega) h2]
    frame_out
    rw [read_unread_whole, k0_pay3, shapeCast_self]

/-- The output's block, once the block's last rows are in, is the accumulator. -/
theorem last (t : Fin cfg0.N) (h3 : t.val % 4 = 3) (y : S1024x1024.Idx) :
    (show FVec Ideal S1024x1024 .bf16 from (outsAt0 m c t.val t.isLt).1) y = (show FVec Ideal S1024x1024 .f32 from (outsAt0 m c t.val t.isLt).2) y := by
  rw [outsAt0_C m c t (by omega) (by omega) h3]
  frame_out
  rfl

/-- The gradient: every entry the sum over all rows. -/
theorem gradient : (dats m 0 c).arrAt 2 cfg0.N = whole 1024 1024 (Ttimes 4096 (entries (n0 := 4096) (n1 := 1024) (m ((c.tc : Thread nD τ).loc main_arg0)))
    (entries (n0 := 4096) (n1 := 1024) (m ((c.tc : Thread nD τ).loc main_arg1)))) :=
  (dats m 0 c).arrAt_eq_of_covers 2 _ (by decide +kernel) fun t ht y => by
    have h3 : t.val % 4 = 3 := (flush0_2 t).1 ht
    rw [after0_2]
    exact (last m c t h3 y).trans (gradient_at (fun _ => ![0, 0]) (fun n hn => (outsAt0 m c n hn).2) (i := fun t => win0_0.index t) (j := fun t => win0_1.index t)
      (k := fun t => win0_2.index t) (ex := fun t => (win0_0.blk t).view.emb) (ey := fun t => (win0_1.blk t).view.emb) (eo := fun t => (win0_2.blk t).view.emb)
      (fun _ _ _ => rfl) (fun _ _ _ => rfl) (fun _ _ _ => rfl) (eq_whole (has_entries _)) (eq_whole (has_entries _)) index (first m c) (next m c) t h3 y)

/-- The kernel and the reference leave equal gradients. -/
theorem algebraic : Cert.algebraic_Kernel11Ideal_Reference11Ideal (hKernel11Ideal := Cert.Kernel11Ideal.Gen.facts)
    (hReference11Ideal := Cert.Reference11Ideal.Gen.facts) := fun m g m' g' _ hargs =>
  ⟨fun c => whole 1024 1024 (Ttimes 4096 (entries (n0 := 4096) (n1 := 1024) (m ((c.tc : Thread nD τ).loc main_arg0)))
      (entries (n0 := 4096) (n1 := 1024) (m ((c.tc : Thread nD τ).loc main_arg1)))),
    (θ_run _ _ _).mono (fun r h c => ⟨(h c).1.trans (gradient m c), (h c).2⟩) (Cert.Kernel11Ideal.Value.run_blocks m g),
    (θ_run _ _ _).mono (fun r h c => ⟨(h c).1.trans (eq_whole (has_gradient (has_entries_of (hargs c).1) (has_entries_of (hargs c).2) _)), (h c).2⟩)
      (Cert.Reference11Ideal.Value.run (F := Ideal) m' g')⟩

end Cert.Kernel11Ideal.Ffn

end
-- ==== Proof.WeightGrad12.lean ====
/-
  The weight gradient of the out product of the attention: its sum over the rows,
  gathered in blocks of 1024 rows, is the reference's.
-/
module

public import proofs.«01_k».proof.Defs
public import proofs.«01_k».proof.Proof.RowSum
public import proofs.«01_k».proof.Proof.Gen.Kernel12Ideal.Value
public import proofs.«01_k».proof.Proof.Gen.Reference12Ideal
public import proofs.«01_k».proof.Proof.Gen.Reference12Ideal.Run
public import Idealize.ShloMosaic.Lib.Pipeline.ValueKit.Geometry
public import Idealize.ShloMosaic.Lib.Pipeline.ValueKit.Acc
public import Idealize.ShloMosaic.Lib.Pipeline.Value
public import Idealize.ShloMosaic.Lib.Pipeline.ReadBack
public import Idealize.ShloMosaic.Lib.IdealHost

@[expose] public section

set_option maxRecDepth 16384

noncomputable section

namespace Cert.Kernel12Ideal.Ffn

open Idealize.ShloMosaic Idealize.ShloMosaic.TcCoe Idealize.SL.Sem Cert.Ffn
open Cert.Kernel12Ideal Cert.Kernel12Ideal.Gen

/-- The output's block is the whole, and the operands' blocks hold whole rows. -/
theorem index : ∀ t : Fin cfg0.N, win0_0.index t = ![t.val % 4, 0] ∧ win0_1.index t = ![t.val % 4, 0] ∧ win0_2.index t = ![0, 0] :=
  (by decide +kernel : ∀ t : Fin grid0.N, _)

theorem points : cfg0.N = 4 := by decide +kernel

variable (m : (ℓ : Loc nD τ sig) → Buf (Elt Ideal) ℓ) (c : Dev nD)

/-- The accumulator at a block's first rows. -/
theorem first (t : Fin cfg0.N) (h0 : t.val % 4 = 0) (y : S1024x1024.Idx) : (outsAt0 m c t.val t.isLt).2 y = k0_pay1 (iblk m c 0 t) (iblk m c 1 t) y := by
  rw [outsAt0_A m c t h0 (by have := t.isLt.trans_eq points; omega) (by omega)]
  frame_out
  rw [k0_pay2, shapeCast_self]

/-- The accumulator at the others. -/
theorem next (t : Fin cfg0.N) (h0 : ¬t.val % 4 = 0) (y : S1024x1024.Idx) : (outsAt0 m c t.val t.isLt).2 y
    = addf (F := Ideal) (φ := .f32) (outsAt0 m c (t.val - 1) (Nat.lt_of_le_of_lt (Nat.sub_le _ _) t.isLt)).2 (k0_pay1 (iblk m c 0 t) (iblk m c 1 t)) y := by
  by_cases h2 : t.val % 4 = 3
  · rw [outsAt0_C m c t h0 (by omega) h2]
    frame_out
    rw [read_unread_whole, k0_pay3, shapeCast_self]
  · rw [outsAt0_B m c t h0 (by omega) h2]
    frame_out
    rw [read_unread_whole, k0_pay3, shapeCast_self]

/-- The output's block, once the block's last rows are in, is the accumulator. -/
theorem last (t : Fin cfg0.N) (h3 : t.val % 4 = 3) (y : S1024x1024.Idx) :
    (show FVec Ideal S1024x1024 .bf16 from (outsAt0 m c t.val t.isLt).1) y = (show FVec Ideal S1024x1024 .f32 from (outsAt0 m c t.val t.isLt).2) y := by
  rw [outsAt0_C m c t (by omega) (by omega) h3]
  frame_out
  rfl

/-- The gradient: every entry the sum over all rows. -/
theorem gradient : (dats m 0 c).arrAt 2 cfg0.N = whole 1024 1024 (Ttimes 4096 (entries (n0 := 4096) (n1 := 1024) (m ((c.tc : Thread nD τ).loc main_arg0)))
    (entries (n0 := 4096) (n1 := 1024) (m ((c.tc : Thread nD τ).loc main_arg1)))) :=
  (dats m 0 c).arrAt_eq_of_covers 2 _ (by decide +kernel) fun t ht y => by
    have h3 : t.val % 4 = 3 := (flush0_2 t).1 ht
    rw [after0_2]
    exact (last m c t h3 y).trans (gradient_at (fun _ => ![0, 0]) (fun n hn => (outsAt0 m c n hn).2) (i := fun t => win0_0.index t) (j := fun t => win0_1.index t)
      (k := fun t => win0_2.index t) (ex := fun t => (win0_0.blk t).view.emb) (ey := fun t => (win0_1.blk t).view.emb) (eo := fun t => (win0_2.blk t).view.emb)
      (fun _ _ _ => rfl) (fun _ _ _ => rfl) (fun _ _ _ => rfl) (eq_whole (has_entries _)) (eq_whole (has_entries _)) index (first m c) (next m c) t h3 y)

/-- The kernel and the reference leave equal gradients. -/
theorem algebraic : Cert.algebraic_Kernel12Ideal_Reference12Ideal (hKernel12Ideal := Cert.Kernel12Ideal.Gen.facts)
    (hReference12Ideal := Cert.Reference12Ideal.Gen.facts) := fun m g m' g' _ hargs =>
  ⟨fun c => whole 1024 1024 (Ttimes 4096 (entries (n0 := 4096) (n1 := 1024) (m ((c.tc : Thread nD τ).loc main_arg0)))
      (entries (n0 := 4096) (n1 := 1024) (m ((c.tc : Thread nD τ).loc main_arg1)))),
    (θ_run _ _ _).mono (fun r h c => ⟨(h c).1.trans (gradient m c), (h c).2⟩) (Cert.Kernel12Ideal.Value.run_blocks m g),
    (θ_run _ _ _).mono (fun r h c => ⟨(h c).1.trans (eq_whole (has_gradient (has_entries_of (hargs c).1) (has_entries_of (hargs c).2) _)), (h c).2⟩)
      (Cert.Reference12Ideal.Value.run (F := Ideal) m' g')⟩

end Cert.Kernel12Ideal.Ffn

end
-- ==== Proof.lean ====
/-
  The proof of the claims of `Defs`: the frames, from the run of the two calls and from the reference's run, the meaning of
  the mask's constant, and the equality of the results.
-/
module

public import proofs.«01_k».proof.Defs
public import proofs.«01_k».proof.Proof.Frames
public import proofs.«01_k».proof.Proof.Algebraic
public import proofs.«01_k».proof.Proof.FfnFrames
public import proofs.«01_k».proof.Proof.FfnAlgebraic
public import proofs.«01_k».proof.Proof.WeightGrad3
public import proofs.«01_k».proof.Proof.WeightGrad4
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel5
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Kernel22
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Pre_finite
public import proofs.«01_k».proof.Proof.ProjFrames
public import proofs.«01_k».proof.Proof.InAlgebraic
public import proofs.«01_k».proof.Proof.OutAlgebraic
public import proofs.«01_k».proof.Proof.UpAlgebraic
public import proofs.«01_k».proof.Proof.InWeightGrad
public import proofs.«01_k».proof.Proof.UpWeightGrad
public import proofs.«01_k».proof.Proof.MemAlgebraic
public import proofs.«01_k».proof.Proof.RowAlgebraic
public import proofs.«01_k».proof.Proof.WeightGrad6
public import proofs.«01_k».proof.Proof.WeightGrad7
public import proofs.«01_k».proof.Proof.WeightGrad8
public import proofs.«01_k».proof.Proof.WeightGrad9
public import proofs.«01_k».proof.Proof.WeightGrad11
public import proofs.«01_k».proof.Proof.WeightGrad12
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal (hReferenceIdeal := Cert.ReferenceIdeal.Gen.facts) := fun m ρ _ =>
  (θ_run _ _ _).mono (fun r h => ⟨fun c => by
    obtain ⟨-, -, -, -, -, -, h0, h1, h2, h3, h4, h5⟩ := h c
    exact ⟨h0, h1, h2, h3, h4, h5⟩, sem_eq_zero_of_no_sems (by decide) r.2⟩) (Cert.ReferenceIdeal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Pre_finite.Gen.facts,
    Cert.KernelIdeal.Attn.frame_kernel, fun m ρ _ => Cert.KernelIdeal.Attn.frame_main m ρ, fun m ρ _ => Cert.KernelIdeal.Attn.frame_main m ρ,
    frame_reference, fun m ρ _ => frame_reference m ρ trivial,
    Cert.Kernel2Ideal.Ffn.frame_kernel, Cert.Kernel2Ideal.Ffn.frame_ideal, Cert.Kernel2Ideal.Ffn.frame_reference,
    Cert.Kernel3Ideal.Ffn.frame_kernel, Cert.Kernel3Ideal.Ffn.frame_ideal, Cert.Kernel3Ideal.Ffn.frame_reference,
    Cert.Kernel4Ideal.Ffn.frame_kernel, Cert.Kernel4Ideal.Ffn.frame_ideal, Cert.Kernel4Ideal.Ffn.frame_reference,
    Cert.Kernel5Ideal.Ffn.frame_kernel, Cert.Kernel5Ideal.Ffn.frame_ideal, Cert.Kernel5Ideal.Ffn.frame_reference,
    Cert.Kernel6Ideal.Ffn.frame_kernel, Cert.Kernel6Ideal.Ffn.frame_ideal, Cert.Kernel6Ideal.Ffn.frame_reference,
    Cert.Kernel7Ideal.Ffn.frame_kernel, Cert.Kernel7Ideal.Ffn.frame_ideal, Cert.Kernel7Ideal.Ffn.frame_reference,
    Cert.Kernel8Ideal.Ffn.frame_kernel, Cert.Kernel8Ideal.Ffn.frame_ideal, Cert.Kernel8Ideal.Ffn.frame_reference,
    Cert.Kernel9Ideal.Ffn.frame_kernel, Cert.Kernel9Ideal.Ffn.frame_ideal, Cert.Kernel9Ideal.Ffn.frame_reference,
    Cert.Kernel10Ideal.Ffn.frame_kernel, Cert.Kernel10Ideal.Ffn.frame_ideal, Cert.Kernel10Ideal.Ffn.frame_reference,
    Cert.Kernel11Ideal.Ffn.frame_kernel, Cert.Kernel11Ideal.Ffn.frame_ideal, Cert.Kernel11Ideal.Ffn.frame_reference,
    Cert.Kernel12Ideal.Ffn.frame_kernel, Cert.Kernel12Ideal.Ffn.frame_ideal, Cert.Kernel12Ideal.Ffn.frame_reference,
    Cert.Kernel13Ideal.Ffn.frame_kernel, Cert.Kernel13Ideal.Ffn.frame_ideal, Cert.Kernel13Ideal.Ffn.frame_reference,
    Cert.Kernel14Ideal.Ffn.frame_kernel, Cert.Kernel14Ideal.Ffn.frame_ideal, Cert.Kernel14Ideal.Ffn.frame_reference,
    Cert.Kernel15Ideal.Ffn.frame_kernel, Cert.Kernel15Ideal.Ffn.frame_ideal, Cert.Kernel15Ideal.Ffn.frame_reference,
    Cert.Kernel16Ideal.Ffn.frame_kernel, Cert.Kernel16Ideal.Ffn.frame_ideal, Cert.Kernel16Ideal.Ffn.frame_reference,
    Cert.Kernel17Ideal.Ffn.frame_kernel, Cert.Kernel17Ideal.Ffn.frame_ideal, Cert.Kernel17Ideal.Ffn.frame_reference,
    Cert.Kernel18Ideal.Ffn.frame_kernel, Cert.Kernel18Ideal.Ffn.frame_ideal, Cert.Kernel18Ideal.Ffn.frame_reference,
    Cert.Kernel19Ideal.Ffn.frame_kernel, Cert.Kernel19Ideal.Ffn.frame_ideal, Cert.Kernel19Ideal.Ffn.frame_reference,
    Cert.Kernel20Ideal.Ffn.frame_kernel, Cert.Kernel20Ideal.Ffn.frame_ideal, Cert.Kernel20Ideal.Ffn.frame_reference,
    Cert.Kernel21Ideal.Ffn.frame_kernel, Cert.Kernel21Ideal.Ffn.frame_ideal, Cert.Kernel21Ideal.Ffn.frame_reference,
    Cert.Kernel22Ideal.Ffn.frame_kernel, Cert.Kernel22Ideal.Ffn.frame_ideal, Cert.Kernel22Ideal.Ffn.frame_reference,
    IdealRules.named_const.statement _ _ _ _ _ rfl, Cert.KernelIdeal.Attn.algebraic,
    trivial, Cert.Kernel2Ideal.Ffn.algebraic, trivial, Cert.Kernel3Ideal.Ffn.algebraic, trivial, Cert.Kernel4Ideal.Ffn.algebraic,
    trivial, Cert.Kernel5Ideal.Ffn.algebraic,
    trivial, Cert.Kernel6Ideal.Ffn.algebraic,
    trivial, Cert.Kernel7Ideal.Ffn.algebraic,
    trivial, Cert.Kernel8Ideal.Ffn.algebraic,
    trivial, Cert.Kernel9Ideal.Ffn.algebraic,
    trivial, Cert.Kernel10Ideal.Ffn.algebraic,
    trivial, Cert.Kernel11Ideal.Ffn.algebraic,
    trivial, Cert.Kernel12Ideal.Ffn.algebraic,
    trivial, Cert.Kernel13Ideal.Ffn.algebraic,
    trivial, Cert.Kernel14Ideal.Ffn.algebraic,
    trivial, Cert.Kernel15Ideal.Ffn.algebraic,
    trivial, Cert.Kernel16Ideal.Ffn.algebraic,
    trivial, Cert.Kernel17Ideal.Ffn.algebraic,
    trivial, Cert.Kernel18Ideal.Ffn.algebraic,
    trivial, Cert.Kernel19Ideal.Ffn.algebraic,
    trivial, Cert.Kernel20Ideal.Ffn.algebraic,
    trivial, Cert.Kernel21Ideal.Ffn.algebraic,
    trivial, Cert.Kernel22Ideal.Ffn.algebraic⟩

end Cert.Proof

end
